-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v81) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v26) = v0 c
          ∧ r.2.mem ((c.tc : Thread Cert.ProjRefIdeal.nD Cert.ProjRefIdeal.τ).loc Cert.ProjRefIdeal.main_v27) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)) →
    ∃ (v0 : (c : Dev Cert.MlstmIdeal.nD) → Buf (Elt Ideal) ((c.tc : Thread Cert.MlstmIdeal.nD Cert.MlstmIdeal.τ).loc Cert.MlstmIdeal.main_v10)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v10) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v76) = v0 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hAda : Cert.Ada.Facts) (hAdaIdeal : Cert.AdaIdeal.Facts) (hAdaRefIdeal : Cert.AdaRefIdeal.Facts) (hMlstm : Cert.Mlstm.Facts) (hMlstmIdeal : Cert.MlstmIdeal.Facts) (hMlstmRefIdeal : Cert.MlstmRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Ada (hAda := hAda)
    ∧ quiescent_AdaIdeal (hAdaIdeal := hAdaIdeal)
    ∧ quiescent_AdaRefIdeal (hAdaRefIdeal := hAdaRefIdeal)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Ada_AdaIdeal
    ∧ algebraic_AdaIdeal_AdaRefIdeal (hAdaIdeal := hAdaIdeal) (hAdaRefIdeal := hAdaRefIdeal)
    ∧ preserves_Mlstm_MlstmIdeal
    ∧ algebraic_MlstmIdeal_MlstmRefIdeal (hMlstmIdeal := hMlstmIdeal) (hMlstmRefIdeal := hMlstmRefIdeal)
-- ==== Ffn.lean ====
abbrev S8x2048x1024 : Shape := ⟨3, ![8, 2048, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S1024x2816 : Shape := ⟨2, ![1024, 2816]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S8x2048x1024 : Shape := ⟨3, ![8, 2048, 1024]⟩
abbrev S8x9x1024 : Shape := ⟨3, ![8, 9, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x5632 : Shape := ⟨3, ![8, 2048, 5632]⟩
abbrev S8x2048x2816 : Shape := ⟨3, ![8, 2048, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x1x1024, .f32⟩
  | .hbm, ⟨36, _⟩ => ⟨S8x1024, .f32⟩
  | .hbm, ⟨37, _⟩ => ⟨S8x1x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x5632, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Merge.lean ====
abbrev S8x2048x1024 : Shape := ⟨3, ![8, 2048, 1024]⟩
abbrev S8x9x1024 : Shape := ⟨3, ![8, 9, 1024]⟩
abbrev S8x2048x10240 : Shape := ⟨3, ![8, 2048, 10240]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x9x1024 : Shape := ⟨3, ![1, 9, 1024]⟩
abbrev S1024x2816 : Shape := ⟨2, ![1024, 2816]⟩
abbrev S512x2816 : Shape := ⟨2, ![512, 2816]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 20
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x9x1024, .f32⟩
  | .hbm, ⟨2, _⟩ => ⟨S8x2048x1024, .bf16⟩
  | .hbm, ⟨3, _⟩ => ⟨S8x2048x1024, .bf16⟩
  | .hbm, ⟨4, _⟩ => ⟨S8x2048x10240, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x5632, .bf16⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MergeRefIdeal.lean ====
abbrev S8x2048x1024 : Shape := ⟨3, ![8, 2048, 1024]⟩
abbrev S8x9x1024 : Shape := ⟨3, ![8, 9, 1024]⟩
abbrev S8x2048x10240 : Shape := ⟨3, ![8, 2048, 10240]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x1x1024 : Shape := ⟨3, ![8, 1, 1024]⟩
abbrev S8x1024 : Shape := ⟨2, ![8, 1024]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 114
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9x1024, .f32⟩
  | .hbm, ⟨2, _⟩ => ⟨S8x2048x1024, .bf16⟩
  | .hbm, ⟨3, _⟩ => ⟨S8x2048x1024, .bf16⟩
  | .hbm, ⟨4, _⟩ => ⟨S8x2048x10240, .bf16⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1024, .f32⟩
  | .hbm, ⟨12, _⟩ => ⟨S8x2048x1024, .bf16⟩
  | .hbm, ⟨13, _⟩ => ⟨S8x2048x1024, .f32⟩
  | .hbm, ⟨14, _⟩ => ⟨S8x2048x1024, .bf16⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S_, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x1x1024, .f32⟩
  | .hbm, ⟨40, _⟩ => ⟨S8x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S8x2048x1, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S8x1x1024, .f32⟩
  | .hbm, ⟨63, _⟩ => ⟨S8x1024, .f32⟩
  | .hbm, ⟨64, _⟩ => ⟨S8x1x1024, .f32⟩
  | .hbm, ⟨65, _⟩ => ⟨S8x1024, .f32⟩
  | .hbm, ⟨66, _⟩ => ⟨S8x1x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x2048x1024, .f32⟩
  | .hbm, ⟨71, _⟩ => ⟨S8x2048x1024, .f32⟩
  | .hbm, ⟨72, _⟩ => ⟨S8x1x1024, .f32⟩
  | .hbm, ⟨73, _⟩ => ⟨S8x2048x1024, .f32⟩
  | .hbm, ⟨74, _⟩ => ⟨S8x2048x1024, .f32⟩
  | .hbm, ⟨75, _⟩ => ⟨S8x1x1024, .f32⟩
  | .hbm, ⟨76, _⟩ => ⟨S8x1024, .f32⟩
  | .hbm, ⟨77, _⟩ => ⟨S8x1x1024, .f32⟩
  | .hbm, ⟨78, _⟩ => ⟨S_, .f32⟩
  | .hbm, ⟨79, _⟩ => ⟨S8x1x1024, .f32⟩
  | .hbm, ⟨80, _⟩ => ⟨S8x1x1024, .f32⟩
  | .hbm, ⟨81, _⟩ => ⟨S8x2048x5632, .f32⟩
  | .hbm, ⟨82, _⟩ => ⟨S8x2048x2816, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S_, .f32⟩
  | .hbm, ⟨87, _⟩ => ⟨S8x2048x2816, .f32⟩
  | .hbm, ⟨88, _⟩ => ⟨S8x2048x2816, .f32⟩
  | .hbm, ⟨89, _⟩ => ⟨S_, .f32⟩
  | .hbm, ⟨90, _⟩ => ⟨S8x2048x2816, .f32⟩
  | .hbm, ⟨91, _⟩ => ⟨S8x2048x2816, .f32⟩
  | .hbm, ⟨92, _⟩ => ⟨S8x2048x2816, .f32⟩
  | .hbm, ⟨93, _⟩ => ⟨S8x2048x2816, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048, .f32⟩
  | .hbm, ⟨101, _⟩ => ⟨S8x2048x1, .f32⟩
  | .hbm, ⟨102, _⟩ => ⟨S_, .f32⟩
  | .hbm, ⟨103, _⟩ => ⟨S8x2048x1, .f32⟩
  | .hbm, ⟨104, _⟩ => ⟨S8x2048x1, .f32⟩
  | .hbm, ⟨105, _⟩ => ⟨S_, .f32⟩
  | .hbm, ⟨106, _⟩ => ⟨S8x2048x1, .f32⟩
  | .hbm, ⟨107, _⟩ => ⟨S8x2048x1, .f32⟩
  | .hbm, ⟨108, _⟩ => ⟨S8x2048x1, .f32⟩
  | .hbm, ⟨109, _⟩ => ⟨S8x2048x1024, .f32⟩
  | .hbm, ⟨110, _⟩ => ⟨S8x2048x1024, .f32⟩
  | .hbm, ⟨111, _⟩ => ⟨S1x1x1024, .f32⟩
  | .hbm, ⟨112, _⟩ => ⟨S8x2048x1024, .f32⟩
  | .hbm, ⟨113, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]
-- ==== Proj.lean ====
abbrev S8x2048x1024 : Shape := ⟨3, ![8, 2048, 1024]⟩
abbrev S8x9x1024 : Shape := ⟨3, ![8, 9, 1024]⟩
abbrev S1024 : Shape := ⟨1, ![1024]⟩
abbrev S1024x10240 : Shape := ⟨2, ![1024, 10240]⟩
abbrev S1024x128 : Shape := ⟨2, ![1024, 128]⟩
abbrev S1x1024 : Shape := ⟨2, ![1, 1024]⟩
abbrev S8x2048x10240 : Shape := ⟨3, ![8, 2048, 10240]⟩
abbrev S8x2048x128 : Shape := ⟨3, ![8, 2048, 128]⟩
abbrev S1x2048x1024 : Shape := ⟨3, ![1, 2048, 1024]⟩
abbrev S1x9x1024 : Shape := ⟨3, ![1, 9, 1024]⟩
abbrev S1024x1024 : Shape := ⟨2, ![1024, 1024]⟩
abbrev S1x2048x128 : Shape := ⟨3, ![1, 2048, 128]⟩
abbrev S2048x1024 : Shape := ⟨2, ![2048, 1024]⟩
abbrev S1x1x1024 : Shape := ⟨3, ![1, 1, 1024]⟩
abbrev S2048 : Shape := ⟨1, ![2048]⟩
abbrev S2048x1 : Shape := ⟨2, ![2048, 1]⟩
abbrev S2048x128 : Shape := ⟨2, ![2048, 128]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x9x1024, .f32⟩
  | .hbm, ⟨2, _⟩ => ⟨S1024, .f32⟩
  | .hbm, ⟨3, _⟩ => ⟨S1024x10240, .f32⟩
  | .hbm, ⟨4, _⟩ => ⟨S1024x128, .f32⟩
  | .hbm, ⟨5, _⟩ => ⟨S1024x10240, .bf16⟩
  | .hbm, ⟨6, _⟩ => ⟨S1024x128, .bf16⟩
  | .hbm, ⟨7, _⟩ => ⟨S1x1024, .f32⟩
  | .hbm, ⟨8, _⟩ => ⟨S8x2048x10240, .bf16⟩
  | .hbm, ⟨9, _⟩ => ⟨S8x2048x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x128, .f32⟩
  | .local _ .vmem, ⟨11, _⟩ => ⟨S1x2048x128, .f32⟩
  | .local _ .vmem, ⟨12, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjRefIdeal.lean ====
abbrev S8x2048x1024 : Shape := ⟨3, ![8, 2048, 1024]⟩
abbrev S8x9x1024 : Shape := ⟨3, ![8, 9, 1024]⟩
abbrev S1024 : Shape := ⟨1, ![1024]⟩
abbrev S1024x10240 : Shape := ⟨2, ![1024, 10240]⟩
abbrev S1024x128 : Shape := ⟨2, ![1024, 128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x2048x10240 : Shape := ⟨3, ![8, 2048, 10240]⟩
abbrev S8x2048x128 : Shape := ⟨3, ![8, 2048, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x9x1024, .f32⟩
  | .hbm, ⟨2, _⟩ => ⟨S1024, .f32⟩
  | .hbm, ⟨3, _⟩ => ⟨S1024x10240, .f32⟩
  | .hbm, ⟨4, _⟩ => ⟨S1024x128, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x10240, .f32⟩
  | .hbm, ⟨35, _⟩ => ⟨S8x2048x10240, .bf16⟩
  | .hbm, ⟨36, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Ada.lean ====
abbrev S8x1024 : Shape := ⟨2, ![8, 1024]⟩
abbrev S1024x9216 : Shape := ⟨2, ![1024, 9216]⟩
abbrev S9216 : Shape := ⟨1, ![9216]⟩
abbrev S1x9216 : Shape := ⟨2, ![1, 9216]⟩
abbrev S8x9216 : Shape := ⟨2, ![8, 9216]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S8x9216, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x9216, .f32⟩
  | .hbm, ⟨13, _⟩ => ⟨S1x9216, .f32⟩
  | .hbm, ⟨14, _⟩ => ⟨S8x9216, .f32⟩
  | .hbm, ⟨15, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Mlstm.lean ====
abbrev S8x2048x10240 : Shape := ⟨3, ![8, 2048, 10240]⟩
abbrev S8x2048x4x8 : Shape := ⟨4, ![8, 2048, 4, 8]⟩
abbrev S128 : Shape := ⟨1, ![128]⟩
abbrev S8x8x2048x4 : Shape := ⟨4, ![8, 8, 2048, 4]⟩
abbrev S8x4x2x2048x4 : Shape := ⟨5, ![8, 4, 2, 2048, 4]⟩
abbrev S8x4x2048x2x4 : Shape := ⟨5, ![8, 4, 2048, 2, 4]⟩
abbrev S_ : Shape := ⟨0, ![]⟩
abbrev S8x4x2048x2x8 : Shape := ⟨5, ![8, 4, 2048, 2, 8]⟩
abbrev S8x4x2048x16 : Shape := ⟨4, ![8, 4, 2048, 16]⟩
abbrev S8x4x2048x128 : Shape := ⟨4, ![8, 4, 2048, 128]⟩
abbrev S8x16x128x4x8 : Shape := ⟨5, ![8, 16, 128, 4, 8]⟩
abbrev S8x8x16x4x128 : Shape := ⟨5, ![8, 8, 16, 4, 128]⟩
abbrev S8x8x16x8x128 : Shape := ⟨5, ![8, 8, 16, 8, 128]⟩
abbrev S1x128 : Shape := ⟨2, ![1, 128]⟩
abbrev S8x2048x1024 : Shape := ⟨3, ![8, 2048, 1024]⟩
abbrev S1x2048x256 : Shape := ⟨3, ![1, 2048, 256]⟩
abbrev S1x1x2048x128 : Shape := ⟨4, ![1, 1, 2048, 128]⟩
abbrev S1x2x16x8x128 : Shape := ⟨5, ![1, 2, 16, 8, 128]⟩
abbrev S2x16x128x128 : Shape := ⟨4, ![2, 16, 128, 128]⟩
abbrev S2x16x144x128 : Shape := ⟨4, ![2, 16, 144, 128]⟩
abbrev S4x16x128x128 : Shape := ⟨4, ![4, 16, 128, 128]⟩
abbrev S4x144x128 : Shape := ⟨3, ![4, 144, 128]⟩
abbrev S4x16x8x128 : Shape := ⟨4, ![4, 16, 8, 128]⟩
abbrev S128x128 : Shape := ⟨2, ![128, 128]⟩
abbrev S16x128 : Shape := ⟨2, ![16, 128]⟩
abbrev S1x128x128 : Shape := ⟨3, ![1, 128, 128]⟩
abbrev S1x1x128x128 : Shape := ⟨4, ![1, 1, 128, 128]⟩
abbrev S144x128 : Shape := ⟨2, ![144, 128]⟩
abbrev S1x1x144x128 : Shape := ⟨4, ![1, 1, 144, 128]⟩
abbrev S128x1 : Shape := ⟨2, ![128, 1]⟩
abbrev S1x1x16x8x128 : Shape := ⟨5, ![1, 1, 16, 8, 128]⟩
abbrev S16x8x128 : Shape := ⟨3, ![16, 8, 128]⟩
abbrev S8x128 : Shape := ⟨2, ![8, 128]⟩
abbrev S1x1x8x128 : Shape := ⟨4, ![1, 1, 8, 128]⟩
abbrev S1x1x1x8x128 : Shape := ⟨5, ![1, 1, 1, 8, 128]⟩
abbrev S256x128 : Shape := ⟨2, ![256, 128]⟩
abbrev S1x1 : Shape := ⟨2, ![1, 1]⟩
abbrev S1 : Shape := ⟨1, ![1]⟩
abbrev S1x144x128 : Shape := ⟨3, ![1, 144, 128]⟩
abbrev S144x256 : Shape := ⟨2, ![144, 256]⟩

abbrev nBuf : Space → Nat
  | .hbm => 20
  | .vmem => 20
  | .smem => 0
  | _ => 0

abbrev bufTy : (tb : Table) → Fin (tcTables nBuf tb) → BufTy
  | .hbm, ⟨0, _⟩ => ⟨S8x2048x10240, .bf16⟩
  | .hbm, ⟨1, _⟩ => ⟨S8x2048x4x8, .f32⟩
  | .hbm, ⟨2, _⟩ => ⟨S128, .f32⟩
  | .hbm, ⟨3, _⟩ => ⟨S8x8x2048x4, .f32⟩
  | .hbm, ⟨4, _⟩ => ⟨S8x4x2x2048x4, .f32⟩
  | .hbm, ⟨5, _⟩ => ⟨S8x4x2048x2x4, .f32⟩
  | .hbm, ⟨6, _⟩ => ⟨S_, .i32⟩
  | .hbm, ⟨7, _⟩ => ⟨S_, .f32⟩
  | .hbm, ⟨8, _⟩ => ⟨S8x4x2048x2x8, .f32⟩
  | .hbm, ⟨9, _⟩ => ⟨S8x4x2048x16, .f32⟩
  | .hbm, ⟨10, _⟩ => ⟨S_, .i32⟩
  | .hbm, ⟨11, _⟩ => ⟨S_, .f32⟩
  | .hbm, ⟨12, _⟩ => ⟨S8x4x2048x128, .f32⟩
  | .hbm, ⟨13, _⟩ => ⟨S8x16x128x4x8, .f32⟩
  | .hbm, ⟨14, _⟩ => ⟨S8x8x16x4x128, .f32⟩
  | .hbm, ⟨15, _⟩ => ⟨S_, .i32⟩
  | .hbm, ⟨16, _⟩ => ⟨S_, .f32⟩
  | .hbm, ⟨17, _⟩ => ⟨S8x8x16x8x128, .f32⟩
  | .hbm, ⟨18, _⟩ => ⟨S1x128, .f32⟩
  | .hbm, ⟨19, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x1x2048x128, .f32⟩
  | .local _ .vmem, ⟨9, _⟩ => ⟨S1x1x2048x128, .f32⟩
  | .local _ .vmem, ⟨10, _⟩ => ⟨S1x2x16x8x128, .f32⟩
  | .local _ .vmem, ⟨11, _⟩ => ⟨S1x2x16x8x128, .f32⟩
  | .local _ .vmem, ⟨12, _⟩ => ⟨S1x128, .f32⟩
  | .local _ .vmem, ⟨13, _⟩ => ⟨S1x2048x256, .bf16⟩
  | .local _ .vmem, ⟨14, _⟩ => ⟨S1x2048x256, .bf16⟩
  | .local _ .vmem, ⟨15, _⟩ => ⟨S2x16x128x128, .bf16⟩
  | .local _ .vmem, ⟨16, _⟩ => ⟨S2x16x144x128, .bf16⟩
  | .local _ .vmem, ⟨17, _⟩ => ⟨S4x16x128x128, .f32⟩
  | .local _ .vmem, ⟨18, _⟩ => ⟨S4x144x128, .f32⟩
  | .local _ .vmem, ⟨19, _⟩ => ⟨S4x16x8x128, .f32⟩
  | _, _ => ⟨S8x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_695 : BitVec 32 := 0#32
  let c4_i32 : BitVec 32 := 4#32
  let v1159 : BitVec 32 := Scalar.addi c0_i32_695 c4_i32
  let c1_i32 : BitVec 32 := 1#32
  ⟨c0_i32_695, v1159, c1_i32⟩
def k0_mult1 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let c0_i32_1402 : BitVec 32 := 0#32
  let v2281 : BitVec 32 := Scalar.addi v2280 c0_i32_1402
  let c128_i32 : BitVec 32 := 128#32
  let v2320 : BitVec 32 := Scalar.muli v2281 c128_i32
  v2320
def k0_off1 (k0_t1 : Fin k0_t1_loop.trips) (c0_i32_1402 : BitVec 32) : Fin 3 → Nat :=
  let c0_1438 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let c128_i32 : BitVec 32 := 128#32
  let v2320 : BitVec 32 := Scalar.muli v2281 c128_i32
  let v2321 : BitVec 32 := v2320
  let v2322 : Index := Scalar.indexCast v2321
  let c0_1439 : Index := 0#32
  ![0, v2322.toNat, 0]
def k0_off2 (k0_t1 : Fin k0_t1_loop.trips) (c0_i32_1402 : BitVec 32) : Fin 4 → Nat :=
  let c0_1440 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let v2325 : Index := Scalar.indexCast v2281
  let c0_1441 : Index := 0#32
  let c0_1442 : Index := 0#32
  ![0, v2325.toNat, 0, 0]
def k0_mult2 (k0_t1 : Fin k0_t1_loop.trips) : BitVec 32 :=
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let c0_i32_1404 : BitVec 32 := 0#32
  let v2283 : BitVec 32 := Scalar.addi v2282 c0_i32_1404
  let v2284 : BitVec 32 := Scalar.subi c15_i32 v2283
  let c128_i32_1444 : BitVec 32 := 128#32
  let v2329 : BitVec 32 := Scalar.muli v2284 c128_i32_1444
  v2329
def k0_off3 (k0_t1 : Fin k0_t1_loop.trips) (c0_i32_1404 : BitVec 32) : Fin 3 → Nat :=
  let c0_1445 : Index := 0#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let c128_i32_1444 : BitVec 32 := 128#32
  let v2329 : BitVec 32 := Scalar.muli v2284 c128_i32_1444
  let v2330 : BitVec 32 := v2329
  let v2331 : Index := Scalar.indexCast v2330
  let c0_1446 : Index := 0#32
  ![0, v2331.toNat, 0]
def k0_off4 (k0_t1 : Fin k0_t1_loop.trips) (c0_i32_1404 : BitVec 32) : Fin 4 → Nat :=
  let c0_1447 : Index := 0#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let v2334 : Index := Scalar.indexCast v2284
  let c0_1448 : Index := 0#32
  let c0_1449 : Index := 0#32
  ![0, v2334.toNat, 0, 0]
def k0_mult3 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let c0_i32_1406 : BitVec 32 := 0#32
  let v2286 : BitVec 32 := Scalar.addi v2285 c0_i32_1406
  let c128_i32_1451 : BitVec 32 := 128#32
  let v2338 : BitVec 32 := Scalar.muli v2286 c128_i32_1451
  v2338
def k0_off5 (k0_t1 : Fin k0_t1_loop.trips) (c0_i32_1406 : BitVec 32) : Fin 3 → Nat :=
  let c0_1452 : Index := 0#32
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let v2286 : BitVec 32 := Scalar.addi v2285 c0_i32_1406
  let c128_i32_1451 : BitVec 32 := 128#32
  let v2338 : BitVec 32 := Scalar.muli v2286 c128_i32_1451
  let v2339 : BitVec 32 := v2338
  let v2340 : Index := Scalar.indexCast v2339
  let c128_1453 : Index := 128#32
  ![0, v2340.toNat, 128]
def k0_off6 (k0_t1 : Fin k0_t1_loop.trips) (c0_i32_1406 : BitVec 32) : Fin 4 → Nat :=
  let c1_1454 : Index := 1#32
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let v2286 : BitVec 32 := Scalar.addi v2285 c0_i32_1406
  let v2343 : Index := Scalar.indexCast v2286
  let c0_1455 : Index := 0#32
  let c0_1456 : Index := 0#32
  ![1, v2343.toNat, 0, 0]
def k0_mult4 (k0_t1 : Fin k0_t1_loop.trips) : BitVec 32 :=
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let c0_i32_1408 : BitVec 32 := 0#32
  let v2288 : BitVec 32 := Scalar.addi v2287 c0_i32_1408
  let v2289 : BitVec 32 := Scalar.subi c15_i32_1409 v2288
  let c128_i32_1458 : BitVec 32 := 128#32
  let v2347 : BitVec 32 := Scalar.muli v2289 c128_i32_1458
  v2347
def k0_off7 (k0_t1 : Fin k0_t1_loop.trips) (c0_i32_1408 : BitVec 32) : Fin 3 → Nat :=
  let c0_1459 : Index := 0#32
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let v2288 : BitVec 32 := Scalar.addi v2287 c0_i32_1408
  let v2289 : BitVec 32 := Scalar.subi c15_i32_1409 v2288
  let c128_i32_1458 : BitVec 32 := 128#32
  let v2347 : BitVec 32 := Scalar.muli v2289 c128_i32_1458
  let v2348 : BitVec 32 := v2347
  let v2349 : Index := Scalar.indexCast v2348
  let c128_1460 : Index := 128#32
  ![0, v2349.toNat, 128]
def k0_off8 (k0_t1 : Fin k0_t1_loop.trips) (c0_i32_1408 : BitVec 32) : Fin 4 → Nat :=
  let c1_1461 : Index := 1#32
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let v2288 : BitVec 32 := Scalar.addi v2287 c0_i32_1408
  let v2289 : BitVec 32 := Scalar.subi c15_i32_1409 v2288
  let v2352 : Index := Scalar.indexCast v2289
  let c0_1462 : Index := 0#32
  let c0_1463 : Index := 0#32
  ![1, v2352.toNat, 0, 0]
def k0_mult5 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1410 : BitVec 32 := 4#32
  let v2290 : BitVec 32 := Scalar.muli arg15 c4_i32_1410
  let c1_i32_1411 : BitVec 32 := 1#32
  let v2291 : BitVec 32 := Scalar.addi v2290 c1_i32_1411
  let c128_i32_1465 : BitVec 32 := 128#32
  let v2356 : BitVec 32 := Scalar.muli v2291 c128_i32_1465
  v2356
def k0_mult6 (k0_t1 : Fin k0_t1_loop.trips) : BitVec 32 :=
  let c15_i32_1414 : BitVec 32 := 15#32
  let c0_i32_695 : BitVec 32 := 0#32
  let c1_i32 : BitVec 32 := 1#32
  let arg15 : BitVec 32 := Scf.iv c0_i32_695 c1_i32 k0_t1
  let c4_i32_1412 : BitVec 32 := 4#32
  let v2292 : BitVec 32 := Scalar.muli arg15 c4_i32_1412
  let c1_i32_1413 : BitVec 32 := 1#32
  let v2293 : BitVec 32 := Scalar.addi v2292 c1_i32_1413
  let v2294 : BitVec 32 := Scalar.subi c15_i32_1414 v2293
  let c128_i32_1472 : BitVec 32 := 128#32
  let v2365 : BitVec 32 := Scalar.muli v2294 c128_i32_1472
  v2365
def k0_mult7 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1415 : BitVec 32 := 4#32
  let v2295 : BitVec 32 := Scalar.muli arg15 c4_i32_1415
  let c1_i32_1416 : BitVec 32 := 1#32
  let v2296 : BitVec 32 := Scalar.addi v2295 c1_i32_1416
  let c128_i32_1479 : BitVec 32 := 128#32
  let v2374 : BitVec 32 := Scalar.muli v2296 c128_i32_1479
  v2374
def k0_mult8 (k0_t1 : Fin k0_t1_loop.trips) : BitVec 32 :=
  let c15_i32_1419 : BitVec 32 := 15#32
  let c0_i32_695 : BitVec 32 := 0#32
  let c1_i32 : BitVec 32 := 1#32
  let arg15 : BitVec 32 := Scf.iv c0_i32_695 c1_i32 k0_t1
  let c4_i32_1417 : BitVec 32 := 4#32
  let v2297 : BitVec 32 := Scalar.muli arg15 c4_i32_1417
  let c1_i32_1418 : BitVec 32 := 1#32
  let v2298 : BitVec 32 := Scalar.addi v2297 c1_i32_1418
  let v2299 : BitVec 32 := Scalar.subi c15_i32_1419 v2298
  let c128_i32_1486 : BitVec 32 := 128#32
  let v2383 : BitVec 32 := Scalar.muli v2299 c128_i32_1486
  v2383
def k0_mult9 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1420 : BitVec 32 := 4#32
  let v2300 : BitVec 32 := Scalar.muli arg15 c4_i32_1420
  let c2_i32 : BitVec 32 := 2#32
  let v2301 : BitVec 32 := Scalar.addi v2300 c2_i32
  let c128_i32_1493 : BitVec 32 := 128#32
  let v2392 : BitVec 32 := Scalar.muli v2301 c128_i32_1493
  v2392
def k0_mult10 (k0_t1 : Fin k0_t1_loop.trips) : BitVec 32 :=
  let c15_i32_1423 : BitVec 32 := 15#32
  let c0_i32_695 : BitVec 32 := 0#32
  let c1_i32 : BitVec 32 := 1#32
  let arg15 : BitVec 32 := Scf.iv c0_i32_695 c1_i32 k0_t1
  let c4_i32_1421 : BitVec 32 := 4#32
  let v2302 : BitVec 32 := Scalar.muli arg15 c4_i32_1421
  let c2_i32_1422 : BitVec 32 := 2#32
  let v2303 : BitVec 32 := Scalar.addi v2302 c2_i32_1422
  let v2304 : BitVec 32 := Scalar.subi c15_i32_1423 v2303
  let c128_i32_1500 : BitVec 32 := 128#32
  let v2401 : BitVec 32 := Scalar.muli v2304 c128_i32_1500
  v2401
def k0_mult11 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1424 : BitVec 32 := 4#32
  let v2305 : BitVec 32 := Scalar.muli arg15 c4_i32_1424
  let c2_i32_1425 : BitVec 32 := 2#32
  let v2306 : BitVec 32 := Scalar.addi v2305 c2_i32_1425
  let c128_i32_1507 : BitVec 32 := 128#32
  let v2410 : BitVec 32 := Scalar.muli v2306 c128_i32_1507
  v2410
def k0_mult12 (k0_t1 : Fin k0_t1_loop.trips) : BitVec 32 :=
  let c15_i32_1428 : BitVec 32 := 15#32
  let c0_i32_695 : BitVec 32 := 0#32
  let c1_i32 : BitVec 32 := 1#32
  let arg15 : BitVec 32 := Scf.iv c0_i32_695 c1_i32 k0_t1
  let c4_i32_1426 : BitVec 32 := 4#32
  let v2307 : BitVec 32 := Scalar.muli arg15 c4_i32_1426
  let c2_i32_1427 : BitVec 32 := 2#32
  let v2308 : BitVec 32 := Scalar.addi v2307 c2_i32_1427
  let v2309 : BitVec 32 := Scalar.subi c15_i32_1428 v2308
  let c128_i32_1514 : BitVec 32 := 128#32
  let v2419 : BitVec 32 := Scalar.muli v2309 c128_i32_1514
  v2419
def k0_mult13 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1429 : BitVec 32 := 4#32
  let v2310 : BitVec 32 := Scalar.muli arg15 c4_i32_1429
  let c3_i32 : BitVec 32 := 3#32
  let v2311 : BitVec 32 := Scalar.addi v2310 c3_i32
  let c128_i32_1521 : BitVec 32 := 128#32
  let v2428 : BitVec 32 := Scalar.muli v2311 c128_i32_1521
  v2428
def k0_mult14 (k0_t1 : Fin k0_t1_loop.trips) : BitVec 32 :=
  let c15_i32_1432 : BitVec 32 := 15#32
  let c0_i32_695 : BitVec 32 := 0#32
  let c1_i32 : BitVec 32 := 1#32
  let arg15 : BitVec 32 := Scf.iv c0_i32_695 c1_i32 k0_t1
  let c4_i32_1430 : BitVec 32 := 4#32
  let v2312 : BitVec 32 := Scalar.muli arg15 c4_i32_1430
  let c3_i32_1431 : BitVec 32 := 3#32
  let v2313 : BitVec 32 := Scalar.addi v2312 c3_i32_1431
  let v2314 : BitVec 32 := Scalar.subi c15_i32_1432 v2313
  let c128_i32_1528 : BitVec 32 := 128#32
  let v2437 : BitVec 32 := Scalar.muli v2314 c128_i32_1528
  v2437
def k0_mult15 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1433 : BitVec 32 := 4#32
  let v2315 : BitVec 32 := Scalar.muli arg15 c4_i32_1433
  let c3_i32_1434 : BitVec 32 := 3#32
  let v2316 : BitVec 32 := Scalar.addi v2315 c3_i32_1434
  let c128_i32_1535 : BitVec 32 := 128#32
  let v2446 : BitVec 32 := Scalar.muli v2316 c128_i32_1535
  v2446
def k0_mult16 (k0_t1 : Fin k0_t1_loop.trips) : BitVec 32 :=
  let c15_i32_1437 : BitVec 32 := 15#32
  let c0_i32_695 : BitVec 32 := 0#32
  let c1_i32 : BitVec 32 := 1#32
  let arg15 : BitVec 32 := Scf.iv c0_i32_695 c1_i32 k0_t1
  let c4_i32_1435 : BitVec 32 := 4#32
  let v2317 : BitVec 32 := Scalar.muli arg15 c4_i32_1435
  let c3_i32_1436 : BitVec 32 := 3#32
  let v2318 : BitVec 32 := Scalar.addi v2317 c3_i32_1436
  let v2319 : BitVec 32 := Scalar.subi c15_i32_1437 v2318
  let c128_i32_1542 : BitVec 32 := 128#32
  let v2455 : BitVec 32 := Scalar.muli v2319 c128_i32_1542
  v2455
def k0_mult17 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let c0_i32_1402 : BitVec 32 := 0#32
  let v2281 : BitVec 32 := Scalar.addi v2280 c0_i32_1402
  let c128_i32_1549 : BitVec 32 := 128#32
  let v2464 : BitVec 32 := Scalar.muli v2281 c128_i32_1549
  v2464
def k0_off9 (k0_t1 : Fin k0_t1_loop.trips) (c0_i32_1402 : BitVec 32) : Fin 4 → Nat :=
  let c0_1550 : Index := 0#32
  let c0_1551 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let c128_i32_1549 : BitVec 32 := 128#32
  let v2464 : BitVec 32 := Scalar.muli v2281 c128_i32_1549
  let v2465 : BitVec 32 := v2464
  let v2466 : Index := Scalar.indexCast v2465
  let c0_1552 : Index := 0#32
  ![0, 0, v2466.toNat, 0]
def k0_off10 (k0_t1 : Fin k0_t1_loop.trips) (c0_i32_1402 : BitVec 32) : Fin 5 → Nat :=
  let c0_1553 : Index := 0#32
  let c0_1554 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let v2469 : Index := Scalar.indexCast v2281
  let c0_1555 : Index := 0#32
  let c0_1556 : Index := 0#32
  ![0, 0, v2469.toNat, 0, 0]
def k0_off11 (k0_t1 : Fin k0_t1_loop.trips) (c0_i32_1402 : BitVec 32) : Fin 4 → Nat :=
  let c0_1557 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let v2477 : Index := Scalar.indexCast v2281
  let c0_1558 : Index := 0#32
  let c0_1559 : Index := 0#32
  ![0, v2477.toNat, 0, 0]
def k0_off12 (k0_t1 : Fin k0_t1_loop.trips) (c0_i32_1402 : BitVec 32) : Fin 4 → Nat :=
  let c0_1563 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let v2498 : Index := Scalar.indexCast v2281
  let c0_1564 : Index := 0#32
  let c0_1565 : Index := 0#32
  ![0, v2498.toNat, 0, 0]
def k0_mult18 (k0_t1 : Fin k0_t1_loop.trips) : BitVec 32 :=
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let c0_i32_1404 : BitVec 32 := 0#32
  let v2283 : BitVec 32 := Scalar.addi v2282 c0_i32_1404
  let v2284 : BitVec 32 := Scalar.subi c15_i32 v2283
  let c128_i32_1570 : BitVec 32 := 128#32
  let v2537 : BitVec 32 := Scalar.muli v2284 c128_i32_1570
  v2537
def k0_off13 (k0_t1 : Fin k0_t1_loop.trips) (c0_i32_1404 : BitVec 32) : Fin 4 → Nat :=
  let c0_1571 : Index := 0#32
  let c0_1572 : Index := 0#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let c128_i32_1570 : BitVec 32 := 128#32
  let v2537 : BitVec 32 := Scalar.muli v2284 c128_i32_1570
  let v2538 : BitVec 32 := v2537
  let v2539 : Index := Scalar.indexCast v2538
  let c0_1573 : Index := 0#32
  ![0, 0, v2539.toNat, 0]
def k0_off14 (k0_t1 : Fin k0_t1_loop.trips) (c0_i32_1404 : BitVec 32) : Fin 5 → Nat :=
  let c0_1574 : Index := 0#32
  let c0_1575 : Index := 0#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let v2542 : Index := Scalar.indexCast v2284
  let c0_1576 : Index := 0#32
  let c0_1577 : Index := 0#32
  ![0, 0, v2542.toNat, 0, 0]
def k0_off15 (k0_t1 : Fin k0_t1_loop.trips) (c0_i32_1404 : BitVec 32) : Fin 4 → Nat :=
  let c1_1578 : Index := 1#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let v2550 : Index := Scalar.indexCast v2284
  let c0_1579 : Index := 0#32
  let c0_1580 : Index := 0#32
  ![1, v2550.toNat, 0, 0]
def k0_off16 (k0_t1 : Fin k0_t1_loop.trips) (c0_i32_1404 : BitVec 32) : Fin 4 → Nat :=
  let c0_1584 : Index := 0#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let v2571 : Index := Scalar.indexCast v2284
  let c0_1585 : Index := 0#32
  let c0_1586 : Index := 0#32
  ![0, v2571.toNat, 0, 0]
def k0_mult19 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let c0_i32_1406 : BitVec 32 := 0#32
  let v2286 : BitVec 32 := Scalar.addi v2285 c0_i32_1406
  let c128_i32_1591 : BitVec 32 := 128#32
  let v2610 : BitVec 32 := Scalar.muli v2286 c128_i32_1591
  v2610
def k0_off17 (k0_t1 : Fin k0_t1_loop.trips) (c0_i32_1406 : BitVec 32) : Fin 5 → Nat :=
  let c0_1595 : Index := 0#32
  let c1_1596 : Index := 1#32
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let v2286 : BitVec 32 := Scalar.addi v2285 c0_i32_1406
  let v2615 : Index := Scalar.indexCast v2286
  let c0_1597 : Index := 0#32
  let c0_1598 : Index := 0#32
  ![0, 1, v2615.toNat, 0, 0]
def k0_off18 (k0_t1 : Fin k0_t1_loop.trips) (c0_i32_1406 : BitVec 32) : Fin 4 → Nat :=
  let c2_1599 : Index := 2#32
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let v2286 : BitVec 32 := Scalar.addi v2285 c0_i32_1406
  let v2623 : Index := Scalar.indexCast v2286
  let c0_1600 : Index := 0#32
  let c0_1601 : Index := 0#32
  ![2, v2623.toNat, 0, 0]
def k0_off19 (k0_t1 : Fin k0_t1_loop.trips) (c0_i32_1406 : BitVec 32) : Fin 4 → Nat :=
  let c1_1605 : Index := 1#32
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let v2286 : BitVec 32 := Scalar.addi v2285 c0_i32_1406
  let v2644 : Index := Scalar.indexCast v2286
  let c0_1606 : Index := 0#32
  let c0_1607 : Index := 0#32
  ![1, v2644.toNat, 0, 0]
def k0_mult20 (k0_t1 : Fin k0_t1_loop.trips) : BitVec 32 :=
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let c0_i32_1408 : BitVec 32 := 0#32
  let v2288 : BitVec 32 := Scalar.addi v2287 c0_i32_1408
  let v2289 : BitVec 32 := Scalar.subi c15_i32_1409 v2288
  let c128_i32_1612 : BitVec 32 := 128#32
  let v2683 : BitVec 32 := Scalar.muli v2289 c128_i32_1612
  v2683
def k0_off20 (k0_t1 : Fin k0_t1_loop.trips) (c0_i32_1408 : BitVec 32) : Fin 5 → Nat :=
  let c0_1616 : Index := 0#32
  let c1_1617 : Index := 1#32
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let v2288 : BitVec 32 := Scalar.addi v2287 c0_i32_1408
  let v2289 : BitVec 32 := Scalar.subi c15_i32_1409 v2288
  let v2688 : Index := Scalar.indexCast v2289
  let c0_1618 : Index := 0#32
  let c0_1619 : Index := 0#32
  ![0, 1, v2688.toNat, 0, 0]
def k0_off21 (k0_t1 : Fin k0_t1_loop.trips) (c0_i32_1408 : BitVec 32) : Fin 4 → Nat :=
  let c3_1620 : Index := 3#32
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let v2288 : BitVec 32 := Scalar.addi v2287 c0_i32_1408
  let v2289 : BitVec 32 := Scalar.subi c15_i32_1409 v2288
  let v2696 : Index := Scalar.indexCast v2289
  let c0_1621 : Index := 0#32
  let c0_1622 : Index := 0#32
  ![3, v2696.toNat, 0, 0]
def k0_off22 (k0_t1 : Fin k0_t1_loop.trips) (c0_i32_1408 : BitVec 32) : Fin 4 → Nat :=
  let c1_1626 : Index := 1#32
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let v2288 : BitVec 32 := Scalar.addi v2287 c0_i32_1408
  let v2289 : BitVec 32 := Scalar.subi c15_i32_1409 v2288
  let v2717 : Index := Scalar.indexCast v2289
  let c0_1627 : Index := 0#32
  let c0_1628 : Index := 0#32
  ![1, v2717.toNat, 0, 0]
def k0_mult21 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1410 : BitVec 32 := 4#32
  let v2290 : BitVec 32 := Scalar.muli arg15 c4_i32_1410
  let c1_i32_1411 : BitVec 32 := 1#32
  let v2291 : BitVec 32 := Scalar.addi v2290 c1_i32_1411
  let c128_i32_1633 : BitVec 32 := 128#32
  let v2756 : BitVec 32 := Scalar.muli v2291 c128_i32_1633
  v2756
def k0_mult22 (k0_t1 : Fin k0_t1_loop.trips) : BitVec 32 :=
  let c15_i32_1414 : BitVec 32 := 15#32
  let c0_i32_695 : BitVec 32 := 0#32
  let c1_i32 : BitVec 32 := 1#32
  let arg15 : BitVec 32 := Scf.iv c0_i32_695 c1_i32 k0_t1
  let c4_i32_1412 : BitVec 32 := 4#32
  let v2292 : BitVec 32 := Scalar.muli arg15 c4_i32_1412
  let c1_i32_1413 : BitVec 32 := 1#32
  let v2293 : BitVec 32 := Scalar.addi v2292 c1_i32_1413
  let v2294 : BitVec 32 := Scalar.subi c15_i32_1414 v2293
  let c128_i32_1654 : BitVec 32 := 128#32
  let v2829 : BitVec 32 := Scalar.muli v2294 c128_i32_1654
  v2829
def k0_mult23 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1415 : BitVec 32 := 4#32
  let v2295 : BitVec 32 := Scalar.muli arg15 c4_i32_1415
  let c1_i32_1416 : BitVec 32 := 1#32
  let v2296 : BitVec 32 := Scalar.addi v2295 c1_i32_1416
  let c128_i32_1675 : BitVec 32 := 128#32
  let v2902 : BitVec 32 := Scalar.muli v2296 c128_i32_1675
  v2902
def k0_mult24 (k0_t1 : Fin k0_t1_loop.trips) : BitVec 32 :=
  let c15_i32_1419 : BitVec 32 := 15#32
  let c0_i32_695 : BitVec 32 := 0#32
  let c1_i32 : BitVec 32 := 1#32
  let arg15 : BitVec 32 := Scf.iv c0_i32_695 c1_i32 k0_t1
  let c4_i32_1417 : BitVec 32 := 4#32
  let v2297 : BitVec 32 := Scalar.muli arg15 c4_i32_1417
  let c1_i32_1418 : BitVec 32 := 1#32
  let v2298 : BitVec 32 := Scalar.addi v2297 c1_i32_1418
  let v2299 : BitVec 32 := Scalar.subi c15_i32_1419 v2298
  let c128_i32_1696 : BitVec 32 := 128#32
  let v2975 : BitVec 32 := Scalar.muli v2299 c128_i32_1696
  v2975
def k0_mult25 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1420 : BitVec 32 := 4#32
  let v2300 : BitVec 32 := Scalar.muli arg15 c4_i32_1420
  let c2_i32 : BitVec 32 := 2#32
  let v2301 : BitVec 32 := Scalar.addi v2300 c2_i32
  let c128_i32_1717 : BitVec 32 := 128#32
  let v3048 : BitVec 32 := Scalar.muli v2301 c128_i32_1717
  v3048
def k0_mult26 (k0_t1 : Fin k0_t1_loop.trips) : BitVec 32 :=
  let c15_i32_1423 : BitVec 32 := 15#32
  let c0_i32_695 : BitVec 32 := 0#32
  let c1_i32 : BitVec 32 := 1#32
  let arg15 : BitVec 32 := Scf.iv c0_i32_695 c1_i32 k0_t1
  let c4_i32_1421 : BitVec 32 := 4#32
  let v2302 : BitVec 32 := Scalar.muli arg15 c4_i32_1421
  let c2_i32_1422 : BitVec 32 := 2#32
  let v2303 : BitVec 32 := Scalar.addi v2302 c2_i32_1422
  let v2304 : BitVec 32 := Scalar.subi c15_i32_1423 v2303
  let c128_i32_1738 : BitVec 32 := 128#32
  let v3121 : BitVec 32 := Scalar.muli v2304 c128_i32_1738
  v3121
def k0_mult27 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1424 : BitVec 32 := 4#32
  let v2305 : BitVec 32 := Scalar.muli arg15 c4_i32_1424
  let c2_i32_1425 : BitVec 32 := 2#32
  let v2306 : BitVec 32 := Scalar.addi v2305 c2_i32_1425
  let c128_i32_1759 : BitVec 32 := 128#32
  let v3194 : BitVec 32 := Scalar.muli v2306 c128_i32_1759
  v3194
def k0_mult28 (k0_t1 : Fin k0_t1_loop.trips) : BitVec 32 :=
  let c15_i32_1428 : BitVec 32 := 15#32
  let c0_i32_695 : BitVec 32 := 0#32
  let c1_i32 : BitVec 32 := 1#32
  let arg15 : BitVec 32 := Scf.iv c0_i32_695 c1_i32 k0_t1
  let c4_i32_1426 : BitVec 32 := 4#32
  let v2307 : BitVec 32 := Scalar.muli arg15 c4_i32_1426
  let c2_i32_1427 : BitVec 32 := 2#32
  let v2308 : BitVec 32 := Scalar.addi v2307 c2_i32_1427
  let v2309 : BitVec 32 := Scalar.subi c15_i32_1428 v2308
  let c128_i32_1780 : BitVec 32 := 128#32
  let v3267 : BitVec 32 := Scalar.muli v2309 c128_i32_1780
  v3267
def k0_mult29 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1429 : BitVec 32 := 4#32
  let v2310 : BitVec 32 := Scalar.muli arg15 c4_i32_1429
  let c3_i32 : BitVec 32 := 3#32
  let v2311 : BitVec 32 := Scalar.addi v2310 c3_i32
  let c128_i32_1801 : BitVec 32 := 128#32
  let v3340 : BitVec 32 := Scalar.muli v2311 c128_i32_1801
  v3340
def k0_mult30 (k0_t1 : Fin k0_t1_loop.trips) : BitVec 32 :=
  let c15_i32_1432 : BitVec 32 := 15#32
  let c0_i32_695 : BitVec 32 := 0#32
  let c1_i32 : BitVec 32 := 1#32
  let arg15 : BitVec 32 := Scf.iv c0_i32_695 c1_i32 k0_t1
  let c4_i32_1430 : BitVec 32 := 4#32
  let v2312 : BitVec 32 := Scalar.muli arg15 c4_i32_1430
  let c3_i32_1431 : BitVec 32 := 3#32
  let v2313 : BitVec 32 := Scalar.addi v2312 c3_i32_1431
  let v2314 : BitVec 32 := Scalar.subi c15_i32_1432 v2313
  let c128_i32_1822 : BitVec 32 := 128#32
  let v3413 : BitVec 32 := Scalar.muli v2314 c128_i32_1822
  v3413
def k0_mult31 (k0_t1 : Fin k0_t1_loop.trips) : BitVec 32 :=
  let c0_i32_695 : BitVec 32 := 0#32
  let c1_i32 : BitVec 32 := 1#32
  let arg15 : BitVec 32 := Scf.iv c0_i32_695 c1_i32 k0_t1
  let c4_i32_1433 : BitVec 32 := 4#32
  let v2315 : BitVec 32 := Scalar.muli arg15 c4_i32_1433
  let c3_i32_1434 : BitVec 32 := 3#32
  let v2316 : BitVec 32 := Scalar.addi v2315 c3_i32_1434
  let c128_i32_1843 : BitVec 32 := 128#32
  let v3486 : BitVec 32 := Scalar.muli v2316 c128_i32_1843
  v3486
def k0_mult32 (k0_t1 : Fin k0_t1_loop.trips) : BitVec 32 :=
  let c15_i32_1437 : BitVec 32 := 15#32
  let c0_i32_695 : BitVec 32 := 0#32
  let c1_i32 : BitVec 32 := 1#32
  let arg15 : BitVec 32 := Scf.iv c0_i32_695 c1_i32 k0_t1
  let c4_i32_1435 : BitVec 32 := 4#32
  let v2317 : BitVec 32 := Scalar.muli arg15 c4_i32_1435
  let c3_i32_1436 : BitVec 32 := 3#32
  let v2318 : BitVec 32 := Scalar.addi v2317 c3_i32_1436
  let v2319 : BitVec 32 := Scalar.subi c15_i32_1437 v2318
  let c128_i32_1864 : BitVec 32 := 128#32
  let v3559 : BitVec 32 := Scalar.muli v2319 c128_i32_1864
  v3559
def k0_off23 (k0_t1 : Fin k0_t1_loop.trips) (c0_i32_1402 : BitVec 32) : Fin 4 → Nat :=
  let c0_1925 : Index := 0#32
  let c0_i32_695 : BitVec 32 := 0#32
  let c1_i32 : BitVec 32 := 1#32
  let arg15 : BitVec 32 := Scf.iv c0_i32_695 c1_i32 k0_t1
  let c4_i32_1401 : BitVec 32 := 4#32
  let v2280 : BitVec 32 := Scalar.muli arg15 c4_i32_1401
  let v2281 : BitVec 32 := Scalar.addi v2280 c0_i32_1402
  let v3754 : Index := Scalar.indexCast v2281
  let c0_1926 : Index := 0#32
  let c0_1927 : Index := 0#32
  ![0, v3754.toNat, 0, 0]
def k0_off24 (k0_t1 : Fin k0_t1_loop.trips) (c0_i32_1404 : BitVec 32) : Fin 4 → Nat :=
  let c1_1928 : Index := 1#32
  let c15_i32 : BitVec 32 := 15#32
  let c0_i32_695 : BitVec 32 := 0#32
  let c1_i32 : BitVec 32 := 1#32
  let arg15 : BitVec 32 := Scf.iv c0_i32_695 c1_i32 k0_t1
  let c4_i32_1403 : BitVec 32 := 4#32
  let v2282 : BitVec 32 := Scalar.muli arg15 c4_i32_1403
  let v2283 : BitVec 32 := Scalar.addi v2282 c0_i32_1404
  let v2284 : BitVec 32 := Scalar.subi c15_i32 v2283
  let v3764 : Index := Scalar.indexCast v2284
  let c0_1929 : Index := 0#32
  let c0_1930 : Index := 0#32
  ![1, v3764.toNat, 0, 0]
def k0_off25 (k0_t1 : Fin k0_t1_loop.trips) (c0_i32_1406 : BitVec 32) : Fin 4 → Nat :=
  let c2_1931 : Index := 2#32
  let c0_i32_695 : BitVec 32 := 0#32
  let c1_i32 : BitVec 32 := 1#32
  let arg15 : BitVec 32 := Scf.iv c0_i32_695 c1_i32 k0_t1
  let c4_i32_1405 : BitVec 32 := 4#32
  let v2285 : BitVec 32 := Scalar.muli arg15 c4_i32_1405
  let v2286 : BitVec 32 := Scalar.addi v2285 c0_i32_1406
  let v3774 : Index := Scalar.indexCast v2286
  let c0_1932 : Index := 0#32
  let c0_1933 : Index := 0#32
  ![2, v3774.toNat, 0, 0]
def k0_off26 (k0_t1 : Fin k0_t1_loop.trips) (c0_i32_1408 : BitVec 32) : Fin 4 → Nat :=
  let c3_1934 : Index := 3#32
  let c15_i32_1409 : BitVec 32 := 15#32
  let c0_i32_695 : BitVec 32 := 0#32
  let c1_i32 : BitVec 32 := 1#32
  let arg15 : BitVec 32 := Scf.iv c0_i32_695 c1_i32 k0_t1
  let c4_i32_1407 : BitVec 32 := 4#32
  let v2287 : BitVec 32 := Scalar.muli arg15 c4_i32_1407
  let v2288 : BitVec 32 := Scalar.addi v2287 c0_i32_1408
  let v2289 : BitVec 32 := Scalar.subi c15_i32_1409 v2288
  let v3784 : Index := Scalar.indexCast v2289
  let c0_1935 : Index := 0#32
  let c0_1936 : Index := 0#32
  ![3, v3784.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x16x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlstmRefIdeal.lean ====
abbrev S8x2048x10240 : Shape := ⟨3, ![8, 2048, 10240]⟩
abbrev S8x2048x4x8 : Shape := ⟨4, ![8, 2048, 4, 8]⟩
abbrev S128 : Shape := ⟨1, ![128]⟩
abbrev S8x2048x1024 : Shape := ⟨3, ![8, 2048, 1024]⟩
abbrev S8x2048x8x128 : Shape := ⟨4, ![8, 2048, 8, 128]⟩
abbrev S_ : Shape := ⟨0, ![]⟩
abbrev S16x2048x8x128 : Shape := ⟨4, ![16, 2048, 8, 128]⟩
abbrev S8x2048x1x8 : Shape := ⟨4, ![8, 2048, 1, 8]⟩
abbrev S8x2048x8 : Shape := ⟨3, ![8, 2048, 8]⟩
abbrev S16x2048x8 : Shape := ⟨3, ![16, 2048, 8]⟩
abbrev S128x128 : Shape := ⟨2, ![128, 128]⟩
abbrev S16x8x128x128 : Shape := ⟨4, ![16, 8, 128, 128]⟩
abbrev S16x8x128 : Shape := ⟨3, ![16, 8, 128]⟩
abbrev S16x8 : Shape := ⟨2, ![16, 8]⟩
abbrev S16x16x128x8x128 : Shape := ⟨5, ![16, 16, 128, 8, 128]⟩
abbrev S16x16x8x128x128 : Shape := ⟨5, ![16, 16, 8, 128, 128]⟩
abbrev S16x16x128x8 : Shape := ⟨4, ![16, 16, 128, 8]⟩
abbrev S16x16x8x128 : Shape := ⟨4, ![16, 16, 8, 128]⟩
abbrev S1x16x8x128x128 : Shape := ⟨5, ![1, 16, 8, 128, 128]⟩
abbrev S1x16x8x128 : Shape := ⟨4, ![1, 16, 8, 128]⟩
abbrev S16x8x128x1 : Shape := ⟨4, ![16, 8, 128, 1]⟩
abbrev S16x8x1x128 : Shape := ⟨4, ![16, 8, 1, 128]⟩
abbrev S16x8x1 : Shape := ⟨3, ![16, 8, 1]⟩
abbrev S16x8x1x1 : Shape := ⟨4, ![16, 8, 1, 1]⟩
abbrev S8x2048x8x1 : Shape := ⟨4, ![8, 2048, 8, 1]⟩
abbrev S1x1x1x128 : Shape := ⟨4, ![1, 1, 1, 128]⟩

abbrev nBuf : Space → Nat
  | .hbm => 222
  | .vmem => 0
  | .smem => 0
  | _ => 0

abbrev hbmTy0_0 (i : Nat) : BufTy := match i % 128 with
  | 0 => ⟨S8x2048x10240, .bf16⟩
  | 1 => ⟨S8x2048x4x8, .f32⟩
  | 2 => ⟨S128, .f32⟩
  | 3 => ⟨S8x2048x1024, .bf16⟩
  | 4 => ⟨S8x2048x1024, .f32⟩
  | 5 => ⟨S8x2048x8x128, .f32⟩
  | 6 => ⟨S_, .f32⟩
  | 7 => ⟨S8x2048x8x128, .f32⟩
  | 8 => ⟨S8x2048x8x128, .f32⟩
  | 9 => ⟨S8x2048x1024, .bf16⟩
  | 10 => ⟨S8x2048x1024, .f32⟩
  | 11 => ⟨S8x2048x8x128, .f32⟩
  | 12 => ⟨S8x2048x1024, .bf16⟩
  | 13 => ⟨S8x2048x1024, .f32⟩
  | 14 => ⟨S8x2048x8x128, .f32⟩
  | 15 => ⟨S8x2048x8x128, .f32⟩
  | 16 => ⟨S16x2048x8x128, .f32⟩
  | 17 => ⟨S8x2048x8x128, .f32⟩
  | 18 => ⟨S16x2048x8x128, .f32⟩
  | 19 => ⟨S8x2048x8x128, .f32⟩
  | 20 => ⟨S16x2048x8x128, .f32⟩
  | 21 => ⟨S8x2048x1x8, .f32⟩
  | 22 => ⟨S8x2048x8, .f32⟩
  | 23 => ⟨S8x2048x1x8, .f32⟩
  | 24 => ⟨S8x2048x8, .f32⟩
  | 25 => ⟨S8x2048x8, .f32⟩
  | 26 => ⟨S16x2048x8, .f32⟩
  | 27 => ⟨S8x2048x1x8, .f32⟩
  | 28 => ⟨S8x2048x8, .f32⟩
  | 29 => ⟨S8x2048x1x8, .f32⟩
  | 30 => ⟨S8x2048x8, .f32⟩
  | 31 => ⟨S8x2048x8, .f32⟩
  | 32 => ⟨S16x2048x8, .f32⟩
  | 33 => ⟨S_, .i1⟩
  | 34 => ⟨S128x128, .i1⟩
  | 35 => ⟨S128x128, .i32⟩
  | 36 => ⟨S_, .i32⟩
  | 37 => ⟨S128x128, .i32⟩
  | 38 => ⟨S128x128, .i32⟩
  | 39 => ⟨S128x128, .i32⟩
  | 40 => ⟨S128x128, .i1⟩
  | 41 => ⟨S_, .i1⟩
  | 42 => ⟨S128x128, .i1⟩
  | 43 => ⟨S128x128, .i1⟩
  | 44 => ⟨S_, .f32⟩
  | 45 => ⟨S16x8x128x128, .f32⟩
  | 46 => ⟨S_, .f32⟩
  | 47 => ⟨S16x8x128, .f32⟩
  | 48 => ⟨S_, .f32⟩
  | 49 => ⟨S16x8, .f32⟩
  | 50 => ⟨S16x16x128x8x128, .f32⟩
  | 51 => ⟨S16x16x8x128x128, .f32⟩
  | 52 => ⟨S16x16x128x8x128, .f32⟩
  | 53 => ⟨S16x16x8x128x128, .f32⟩
  | 54 => ⟨S16x16x128x8x128, .f32⟩
  | 55 => ⟨S16x16x8x128x128, .f32⟩
  | 56 => ⟨S16x16x128x8, .f32⟩
  | 57 => ⟨S16x16x8x128, .f32⟩
  | 58 => ⟨S16x16x128x8, .f32⟩
  | 59 => ⟨S16x16x8x128, .f32⟩
  | 60 => ⟨S_, .f32⟩
  | 61 => ⟨S16x16x8x128x128, .f32⟩
  | 62 => ⟨S_, .i32⟩
  | 63 => ⟨S16x16x8x128x128, .f32⟩
  | 64 => ⟨S16x16x8x128x128, .f32⟩
  | 65 => ⟨S16x16x8x128x128, .f32⟩
  | 66 => ⟨S16x16x8x128, .f32⟩
  | 67 => ⟨S16x16x8x128, .f32⟩
  | 68 => ⟨S128x128, .i1⟩
  | 69 => ⟨S_, .i32⟩
  | 70 => ⟨S16x8x128x128, .f32⟩
  | 71 => ⟨S16x8x128, .f32⟩
  | 72 => ⟨S16x8, .f32⟩
  | 73 => ⟨S16x16x8x128x128, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x16x8x128x128, .f32⟩
  | 81 => ⟨S16x8x128x128, .f32⟩
  | 82 => ⟨S_, .i32⟩
  | 83 => ⟨S_, .i32⟩
  | 84 => ⟨S_, .i32⟩
  | 85 => ⟨S_, .i32⟩
  | 86 => ⟨S1x16x8x128x128, .f32⟩
  | 87 => ⟨S16x8x128x128, .f32⟩
  | 88 => ⟨S_, .i32⟩
  | 89 => ⟨S_, .i32⟩
  | 90 => ⟨S_, .i32⟩
  | 91 => ⟨S_, .i32⟩
  | 92 => ⟨S1x16x8x128x128, .f32⟩
  | 93 => ⟨S16x8x128x128, .f32⟩
  | 94 => ⟨S_, .i32⟩
  | 95 => ⟨S_, .i32⟩
  | 96 => ⟨S_, .i32⟩
  | 97 => ⟨S1x16x8x128, .f32⟩
  | 98 => ⟨S16x8x128, .f32⟩
  | 99 => ⟨S_, .i32⟩
  | 100 => ⟨S_, .i32⟩
  | 101 => ⟨S_, .i32⟩
  | 102 => ⟨S1x16x8x128, .f32⟩
  | 103 => ⟨S16x8x128, .f32⟩
  | 104 => ⟨S16x8x128x1, .f32⟩
  | 105 => ⟨S16x8x128, .f32⟩
  | 106 => ⟨S16x8x1x128, .f32⟩
  | 107 => ⟨S16x8x128x128, .f32⟩
  | 108 => ⟨S16x8x128x128, .f32⟩
  | 109 => ⟨S16x8x128x128, .f32⟩
  | 110 => ⟨S_, .f32⟩
  | 111 => ⟨S_, .f32⟩
  | 112 => ⟨S16x8x128x128, .i1⟩
  | 113 => ⟨S16x8x128x128, .f32⟩
  | 114 => ⟨S16x8x128x128, .f32⟩
  | 115 => ⟨S16x8x1, .f32⟩
  | 116 => ⟨S16x8x128, .f32⟩
  | 117 => ⟨S16x8x128, .f32⟩
  | 118 => ⟨S_, .f32⟩
  | 119 => ⟨S16x8x128, .f32⟩
  | 120 => ⟨S16x8x128, .f32⟩
  | 121 => ⟨S16x8x128x1, .f32⟩
  | 122 => ⟨S16x8x128x128, .f32⟩
  | 123 => ⟨S16x8x128x128, .f32⟩
  | 124 => ⟨S16x8x128x128, .f32⟩
  | 125 => ⟨S16x8x128x128, .f32⟩
  | 126 => ⟨S16x8x128x128, .f32⟩
  | 127 => ⟨S16x8x128, .f32⟩
  | _ => ⟨S8x2048x10240, .bf16⟩

abbrev hbmTy0_1 (i : Nat) : BufTy := match i % 128 with
  | 0 => ⟨S16x8x128, .f32⟩
  | 1 => ⟨S16x8x128x128, .f32⟩
  | 2 => ⟨S16x8x128x1, .f32⟩
  | 3 => ⟨S16x8x128x128, .f32⟩
  | 4 => ⟨S16x8x128x128, .f32⟩
  | 5 => ⟨S16x8x128x128, .f32⟩
  | 6 => ⟨S16x8x128x128, .f32⟩
  | 7 => ⟨S_, .f32⟩
  | 8 => ⟨S16x8x128, .f32⟩
  | 9 => ⟨S16x8x128, .f32⟩
  | 10 => ⟨S16x8x128, .f32⟩
  | 11 => ⟨S16x8x128, .f32⟩
  | 12 => ⟨S16x8x128, .f32⟩
  | 13 => ⟨S16x8x128, .f32⟩
  | 14 => ⟨S16x8x128, .f32⟩
  | 15 => ⟨S16x8x128, .f32⟩
  | 16 => ⟨S16x8x128x1, .f32⟩
  | 17 => ⟨S16x8x128x128, .f32⟩
  | 18 => ⟨S16x8x128x128, .f32⟩
  | 19 => ⟨S16x8x1, .f32⟩
  | 20 => ⟨S16x8, .f32⟩
  | 21 => ⟨S16x8x1, .f32⟩
  | 22 => ⟨S16x8x128, .f32⟩
  | 23 => ⟨S16x8x128, .f32⟩
  | 24 => ⟨S16x8x128, .f32⟩
  | 25 => ⟨S16x8, .f32⟩
  | 26 => ⟨S_, .f32⟩
  | 27 => ⟨S16x8, .f32⟩
  | 28 => ⟨S16x8, .f32⟩
  | 29 => ⟨S16x8x1, .f32⟩
  | 30 => ⟨S16x8x128, .f32⟩
  | 31 => ⟨S16x8x128, .f32⟩
  | 32 => ⟨S16x8x128, .f32⟩
  | 33 => ⟨S16x8x128x1, .f32⟩
  | 34 => ⟨S16x8x128x128, .f32⟩
  | 35 => ⟨S16x8x128x128, .f32⟩
  | 36 => ⟨S16x8, .f32⟩
  | 37 => ⟨S16x8, .f32⟩
  | 38 => ⟨S16x8, .f32⟩
  | 39 => ⟨S16x8x1x1, .f32⟩
  | 40 => ⟨S16x8x128x128, .f32⟩
  | 41 => ⟨S16x8x128x128, .f32⟩
  | 42 => ⟨S16x8x128x128, .f32⟩
  | 43 => ⟨S16x8x128x128, .f32⟩
  | 44 => ⟨S16x8x1, .f32⟩
  | 45 => ⟨S16x8x128, .f32⟩
  | 46 => ⟨S16x8x128, .f32⟩
  | 47 => ⟨S_, .f32⟩
  | 48 => ⟨S16x8x128, .f32⟩
  | 49 => ⟨S16x8x128, .f32⟩
  | 50 => ⟨S1x16x8x128x128, .f32⟩
  | 51 => ⟨S_, .i32⟩
  | 52 => ⟨S_, .i32⟩
  | 53 => ⟨S_, .i32⟩
  | 54 => ⟨S_, .i32⟩
  | 55 => ⟨S16x16x8x128x128, .f32⟩
  | 56 => ⟨S_, .i32⟩
  | 57 => ⟨S_, .i32⟩
  | 58 => ⟨S16x16x128x8x128, .f32⟩
  | 59 => ⟨S16x2048x8x128, .f32⟩
  | 60 => ⟨S8x2048x1024, .bf16⟩
  | 61 => ⟨S8x2048x1024, .f32⟩
  | 62 => ⟨S8x2048x8x128, .f32⟩
  | 63 => ⟨S8x2048x8x128, .f32⟩
  | 64 => ⟨S8x2048x8x128, .f32⟩
  | 65 => ⟨S8x2048x8x128, .f32⟩
  | 66 => ⟨S8x2048x8x128, .f32⟩
  | 67 => ⟨S8x2048x8x128, .f32⟩
  | 68 => ⟨S_, .f32⟩
  | 69 => ⟨S8x2048x8, .f32⟩
  | 70 => ⟨S8x2048x8x1, .f32⟩
  | 71 => ⟨S_, .f32⟩
  | 72 => ⟨S8x2048x8x1, .f32⟩
  | 73 => ⟨S8x2048x8x1, .f32⟩
  | 74 => ⟨S_, .f32⟩
  | 75 => ⟨S8x2048x8x1, .f32⟩
  | 76 => ⟨S8x2048x8x1, .f32⟩
  | 77 => ⟨S8x2048x8x1, .f32⟩
  | 78 => ⟨S8x2048x8x128, .f32⟩
  | 79 => ⟨S8x2048x8x128, .f32⟩
  | 80 => ⟨S1x1x1x128, .f32⟩
  | 81 => ⟨S8x2048x8x128, .f32⟩
  | 82 => ⟨S8x2048x8x128, .f32⟩
  | 83 => ⟨S8x2048x8x128, .f32⟩
  | 84 => ⟨S8x2048x8x128, .f32⟩
  | 85 => ⟨S_, .f32⟩
  | 86 => ⟨S8x2048x8x128, .f32⟩
  | 87 => ⟨S8x2048x8x128, .f32⟩
  | 88 => ⟨S_, .f32⟩
  | 89 => ⟨S8x2048x8x128, .f32⟩
  | 90 => ⟨S8x2048x8x128, .f32⟩
  | 91 => ⟨S8x2048x8x128, .f32⟩
  | 92 => ⟨S8x2048x1024, .f32⟩
  | 93 => ⟨S8x2048x1024, .bf16⟩
  | _ => ⟨S8x2048x10240, .bf16⟩

abbrev hbmTy (i : Nat) : BufTy := match i / 128 with
  | 0 => hbmTy0_0 i
  | 1 => hbmTy0_1 i
  | _ => ⟨S8x2048x10240, .bf16⟩

abbrev bufTy : (tb : Table) → Fin (tcTables nBuf tb) → BufTy
  | .hbm, ⟨i, _⟩ => hbmTy i
  | _, _ => ⟨S8x2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_c : Ref sig .tc := ⟨.hbm, 33, rfl⟩
abbrev main_v29 : Ref sig .tc := ⟨.hbm, 34, rfl⟩
abbrev main_call5_v0 : Ref sig .tc := ⟨.hbm, 35, rfl⟩
abbrev main_call5_c : Ref sig .tc := ⟨.hbm, 36, rfl⟩
abbrev main_call5_v1 : Ref sig .tc := ⟨.hbm, 37, rfl⟩
abbrev main_call5_v2 : Ref sig .tc := ⟨.hbm, 38, rfl⟩
abbrev main_call5_v3 : Ref sig .tc := ⟨.hbm, 39, rfl⟩
abbrev main_call5_v4 : Ref sig .tc := ⟨.hbm, 40, rfl⟩
abbrev main_call5_c_0 : Ref sig .tc := ⟨.hbm, 41, rfl⟩
abbrev main_call5_v5 : Ref sig .tc := ⟨.hbm, 42, rfl⟩
abbrev main_v30 : Ref sig .tc := ⟨.hbm, 43, rfl⟩
abbrev main_cst_0 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_c_4 : Ref sig .tc := ⟨.hbm, 62, rfl⟩
abbrev main_v45_0 : Ref sig .tc := ⟨.hbm, 63, rfl⟩
abbrev main_v45_1 : Ref sig .tc := ⟨.hbm, 64, rfl⟩
abbrev main_v45_2 : Ref sig .tc := ⟨.hbm, 65, rfl⟩
abbrev main_v45_3 : Ref sig .tc := ⟨.hbm, 66, rfl⟩
abbrev main_v45_4 : Ref sig .tc := ⟨.hbm, 67, rfl⟩
abbrev main_v45_5 : Ref sig .tc := ⟨.hbm, 68, rfl⟩
abbrev main_v45_6 : Ref sig .tc := ⟨.hbm, 69, rfl⟩
abbrev main_v45_7 : Ref sig .tc := ⟨.hbm, 70, rfl⟩
abbrev main_v45_8 : Ref sig .tc := ⟨.hbm, 71, rfl⟩
abbrev main_v45_9 : Ref sig .tc := ⟨.hbm, 72, rfl⟩
abbrev main_v45_10 : Ref sig .tc := ⟨.hbm, 73, rfl⟩
abbrev main_while0c_c_20 : Ref sig .tc := ⟨.hbm, 74, rfl⟩
abbrev main_while0c_v77 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_call6_c_2 : Ref sig .tc := ⟨.hbm, 79, rfl⟩
abbrev main_while0b_call6_v0 : Ref sig .tc := ⟨.hbm, 80, rfl⟩
abbrev main_while0b_v77 : Ref sig .tc := ⟨.hbm, 81, rfl⟩
abbrev main_while0b_call7_c : Ref sig .tc := ⟨.hbm, 82, rfl⟩
abbrev main_while0b_call7_c_0 : Ref sig .tc := ⟨.hbm, 83, rfl⟩
abbrev main_while0b_call7_c_1 : Ref sig .tc := ⟨.hbm, 84, rfl⟩
abbrev main_while0b_call7_c_2 : Ref sig .tc := ⟨.hbm, 85, rfl⟩
abbrev main_while0b_call7_v0 : Ref sig .tc := ⟨.hbm, 86, rfl⟩
abbrev main_while0b_v78 : Ref sig .tc := ⟨.hbm, 87, rfl⟩
abbrev main_while0b_call8_c : Ref sig .tc := ⟨.hbm, 88, rfl⟩
abbrev main_while0b_call8_c_0 : Ref sig .tc := ⟨.hbm, 89, rfl⟩
abbrev main_while0b_call8_c_1 : Ref sig .tc := ⟨.hbm, 90, rfl⟩
abbrev main_while0b_call8_c_2 : Ref sig .tc := ⟨.hbm, 91, rfl⟩
abbrev main_while0b_call8_v0 : Ref sig .tc := ⟨.hbm, 92, rfl⟩
abbrev main_while0b_v79 : Ref sig .tc := ⟨.hbm, 93, rfl⟩
abbrev main_while0b_call9_c : Ref sig .tc := ⟨.hbm, 94, rfl⟩
abbrev main_while0b_call9_c_0 : Ref sig .tc := ⟨.hbm, 95, rfl⟩
abbrev main_while0b_call9_c_1 : Ref sig .tc := ⟨.hbm, 96, rfl⟩
abbrev main_while0b_call9_v0 : Ref sig .tc := ⟨.hbm, 97, rfl⟩
abbrev main_while0b_v80 : Ref sig .tc := ⟨.hbm, 98, rfl⟩
abbrev main_while0b_call10_c : Ref sig .tc := ⟨.hbm, 99, rfl⟩
abbrev main_while0b_call10_c_0 : Ref sig .tc := ⟨.hbm, 100, rfl⟩
abbrev main_while0b_call10_c_1 : Ref sig .tc := ⟨.hbm, 101, rfl⟩
abbrev main_while0b_call10_v0 : Ref sig .tc := ⟨.hbm, 102, rfl⟩
abbrev main_while0b_v81 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_cst_20 : Ref sig .tc := ⟨.hbm, 110, rfl⟩
abbrev main_while0b_call11_v0 : Ref sig .tc := ⟨.hbm, 111, rfl⟩
abbrev main_while0b_call11_v1 : Ref sig .tc := ⟨.hbm, 112, rfl⟩
abbrev main_while0b_call11_v2 : Ref sig .tc := ⟨.hbm, 113, rfl⟩
abbrev main_while0b_v88 : Ref sig .tc := ⟨.hbm, 114, rfl⟩
abbrev main_while0b_v89 : Ref sig .tc := ⟨.hbm, 115, rfl⟩
abbrev main_while0b_v90 : Ref sig .tc := ⟨.hbm, 116, rfl⟩
abbrev main_while0b_v91 : Ref sig .tc := ⟨.hbm, 117, rfl⟩
abbrev main_while0b_cst_21 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_cst_22 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_cst_23 : Ref sig .tc := ⟨.hbm, 154, rfl⟩
abbrev main_while0b_v126 : Ref sig .tc := ⟨.hbm, 155, rfl⟩
abbrev main_while0b_v127 : Ref sig .tc := ⟨.hbm, 156, rfl⟩
abbrev main_while0b_v128 : Ref sig .tc := ⟨.hbm, 157, rfl⟩
abbrev main_while0b_v129 : Ref sig .tc := ⟨.hbm, 158, rfl⟩
abbrev main_while0b_v130 : Ref sig .tc := ⟨.hbm, 159, rfl⟩
abbrev main_while0b_v131 : Ref sig .tc := ⟨.hbm, 160, rfl⟩
abbrev main_while0b_v132 : Ref sig .tc := ⟨.hbm, 161, rfl⟩
abbrev main_while0b_v133 : Ref sig .tc := ⟨.hbm, 162, rfl⟩
abbrev main_while0b_v134 : Ref sig .tc := ⟨.hbm, 163, rfl⟩
abbrev main_while0b_v135 : Ref sig .tc := ⟨.hbm, 164, rfl⟩
abbrev main_while0b_v136 : Ref sig .tc := ⟨.hbm, 165, rfl⟩
abbrev main_while0b_v137 : Ref sig .tc := ⟨.hbm, 166, rfl⟩
abbrev main_while0b_v138 : Ref sig .tc := ⟨.hbm, 167, rfl⟩
abbrev main_while0b_v139 : Ref sig .tc := ⟨.hbm, 168, rfl⟩
abbrev main_while0b_v140 : Ref sig .tc := ⟨.hbm, 169, rfl⟩
abbrev main_while0b_v141 : Ref sig .tc := ⟨.hbm, 170, rfl⟩
abbrev main_while0b_v142 : Ref sig .tc := ⟨.hbm, 171, rfl⟩
abbrev main_while0b_v143 : Ref sig .tc := ⟨.hbm, 172, rfl⟩
abbrev main_while0b_v144 : Ref sig .tc := ⟨.hbm, 173, rfl⟩
abbrev main_while0b_v145 : Ref sig .tc := ⟨.hbm, 174, rfl⟩
abbrev main_while0b_cst_24 : Ref sig .tc := ⟨.hbm, 175, rfl⟩
abbrev main_while0b_v146 : Ref sig .tc := ⟨.hbm, 176, rfl⟩
abbrev main_while0b_v147 : Ref sig .tc := ⟨.hbm, 177, rfl⟩
abbrev main_while0b_call12_v0 : Ref sig .tc := ⟨.hbm, 178, rfl⟩
abbrev main_while0b_call12_c : Ref sig .tc := ⟨.hbm, 179, rfl⟩
abbrev main_while0b_call12_c_0 : Ref sig .tc := ⟨.hbm, 180, rfl⟩
abbrev main_while0b_call12_c_1 : Ref sig .tc := ⟨.hbm, 181, rfl⟩
abbrev main_while0b_call12_c_2 : Ref sig .tc := ⟨.hbm, 182, rfl⟩
abbrev main_while0b_v148 : Ref sig .tc := ⟨.hbm, 183, rfl⟩
abbrev main_while0b_c_25 : Ref sig .tc := ⟨.hbm, 184, rfl⟩
abbrev main_while0b_v149 : Ref sig .tc := ⟨.hbm, 185, rfl⟩
abbrev main_v46 : Ref sig .tc := ⟨.hbm, 186, rfl⟩
abbrev main_v47 : Ref sig .tc := ⟨.hbm, 187, rfl⟩
abbrev main_v48 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_v52 : Ref sig .tc := ⟨.hbm, 192, rfl⟩
abbrev main_v53 : Ref sig .tc := ⟨.hbm, 193, rfl⟩
abbrev main_v54 : Ref sig .tc := ⟨.hbm, 194, rfl⟩
abbrev main_v55 : Ref sig .tc := ⟨.hbm, 195, rfl⟩
abbrev main_cst_5 : Ref sig .tc := ⟨.hbm, 196, rfl⟩
abbrev main_v56 : Ref sig .tc := ⟨.hbm, 197, rfl⟩
abbrev main_v57 : Ref sig .tc := ⟨.hbm, 198, rfl⟩
abbrev main_cst_6 : Ref sig .tc := ⟨.hbm, 199, rfl⟩
abbrev main_v58 : Ref sig .tc := ⟨.hbm, 200, rfl⟩
abbrev main_v59 : Ref sig .tc := ⟨.hbm, 201, rfl⟩
abbrev main_cst_7 : Ref sig .tc := ⟨.hbm, 202, rfl⟩
abbrev main_v60 : Ref sig .tc := ⟨.hbm, 203, rfl⟩
abbrev main_v61 : Ref sig .tc := ⟨.hbm, 204, rfl⟩
abbrev main_v62 : Ref sig .tc := ⟨.hbm, 205, rfl⟩
abbrev main_v63 : Ref sig .tc := ⟨.hbm, 206, rfl⟩
abbrev main_v64 : Ref sig .tc := ⟨.hbm, 207, rfl⟩
abbrev main_v65 : Ref sig .tc := ⟨.hbm, 208, rfl⟩
abbrev main_v66 : Ref sig .tc := ⟨.hbm, 209, rfl⟩
abbrev main_v67 : Ref sig .tc := ⟨.hbm, 210, rfl⟩
abbrev main_v68 : Ref sig .tc := ⟨.hbm, 211, rfl⟩
abbrev main_v69 : Ref sig .tc := ⟨.hbm, 212, rfl⟩
abbrev main_cst_8 : Ref sig .tc := ⟨.hbm, 213, rfl⟩
abbrev main_v70 : Ref sig .tc := ⟨.hbm, 214, rfl⟩
abbrev main_v71 : Ref sig .tc := ⟨.hbm, 215, rfl⟩
abbrev main_cst_9 : Ref sig .tc := ⟨.hbm, 216, rfl⟩
abbrev main_v72 : Ref sig .tc := ⟨.hbm, 217, rfl⟩
abbrev main_v73 : Ref sig .tc := ⟨.hbm, 218, rfl⟩
abbrev main_v74 : Ref sig .tc := ⟨.hbm, 219, rfl⟩
abbrev main_v75 : Ref sig .tc := ⟨.hbm, 220, rfl⟩
abbrev main_v76 : Ref sig .tc := ⟨.hbm, 221, rfl⟩

abbrev nD : Nat := 1
abbrev τ : Topo := Topo.v7x

variable {F : FTy → Type} [FloatOps F]

abbrev main_while0_count : Scf.Loop 32 := ⟨0#32, 16#32, 1#32⟩
-- ==== Proof.Block.lean ====
/-
  The mathematics of one feed-forward half-step, one token at a time, over the extended reals. A token is a row of 1024
  numbers. Both the kernel and the reference are read down to these functions.
-/
module

public import Idealize.ShloMosaic.Lib.Pointwise

@[expose] public section

noncomputable section

namespace Layer

open Idealize.ShloMosaic

/-- A row scaled by the reciprocal root of its mean square, then by the weights `w`. -/
def rms (r w : Fin 1024 → EReal) (k : Fin 1024) : EReal :=
  r k * Ideal.rsqrt (Ideal.div (∑ j : Fin 1024, r j * r j) (Ideal.ofBits .f32 0x44800000#32)
    + Ideal.ofBits .f32 0x358637BD#32) * w k

/-- The normalised row, scaled by `1 + sc` and shifted by `sh`. -/
def modulated (r w sh sc : Fin 1024 → EReal) (k : Fin 1024) : EReal :=
  rms r w k * (1 + sc k) + sh k

/-- The logistic function, as it is computed. -/
def logi (g : EReal) : EReal := Ideal.div 1 (1 + Ideal.exp (-g))

/-- The hidden row of the gated feed-forward layer: `g · logi g · u` with `g`, `u` the two projections of `h`. -/
def hiddenRow (h : Fin 1024 → EReal) (wg wu : Fin 1024 → Fin 2816 → EReal) (q : Fin 2816) : EReal :=
  (∑ k : Fin 1024, h k * wg k q) * logi (∑ k : Fin 1024, h k * wg k q) * ∑ k : Fin 1024, h k * wu k q

/-- A row plus half the gate times the down projection of the hidden row. -/
def halfStep (r gate : Fin 1024 → EReal) (a : Fin 2816 → EReal) (wo : Fin 2816 → Fin 1024 → EReal) (n : Fin 1024) : EReal :=
  r n + Ideal.ofBits .f32 0x3F000000#32 * gate n * ∑ q : Fin 2816, a q * wo q n

/-- The residual row after the gated merge of the two mixers' outputs `hm`, `hg`, gated by the logistics of `gm`, `gg`. -/
def mergedRow (r gate gm gg hm hg : Fin 1024 → EReal) (bm bg wo : Fin 1024 → Fin 1024 → EReal) (n : Fin 1024) : EReal :=
  r n + gate n * ∑ k, (logi (gm k) * (∑ j, hm j * bm j k) + logi (gg k) * ∑ j, hg j * bg j k) * wo k n

/-- The whole half-step: token `(b, s)` from its own row, its batch's three modulation rows and the weights. -/
def halfStepAll (x : (⟨3, ![8, 2048, 1024]⟩ : Shape).Idx → EReal) (md : (⟨3, ![8, 9, 1024]⟩ : Shape).Idx → EReal)
    (nw : (⟨1, ![1024]⟩ : Shape).Idx → EReal) (wi : (⟨2, ![1024, 5632]⟩ : Shape).Idx → EReal)
    (wo : (⟨2, ![2816, 1024]⟩ : Shape).Idx → EReal) : (⟨3, ![8, 2048, 1024]⟩ : Shape).Idx → EReal := fun i =>
  halfStep (fun n => x (ix3 (i 0) (i 1) n)) (fun n => md (ix3 (i 0) 2 n))
    (hiddenRow (modulated (fun n => x (ix3 (i 0) (i 1) n)) (fun n => nw (ix1 n)) (fun n => md (ix3 (i 0) 0 n))
        (fun n => md (ix3 (i 0) 1 n)))
      (fun k q => wi (ix2 k ⟨q.val, by omega⟩)) (fun k q => wi (ix2 k ⟨2816 + q.val, by omega⟩)))
    (fun q n => wo (ix2 q n)) (i 2)

/-- The row after the merge, the second half-step and the final norm. -/
def tailRow (r sh sc gate w nf : Fin 1024 → EReal) (wg wu : Fin 1024 → Fin 2816 → EReal) (wo : Fin 2816 → Fin 1024 → EReal)
    (n : Fin 1024) : EReal :=
  rms (halfStep r gate (hiddenRow (modulated r w sh sc) wg wu) wo) nf n

/-- The end of the layer: the gated merge, the second half-step and the final norm, token by token. The merge gates are
columns 8192 to 10239 of the projection. -/
def tailAll (x : (⟨3, ![8, 2048, 1024]⟩ : Shape).Idx → EReal) (md : (⟨3, ![8, 9, 1024]⟩ : Shape).Idx → EReal)
    (hm hg : (⟨3, ![8, 2048, 1024]⟩ : Shape).Idx → EReal) (pr : (⟨3, ![8, 2048, 10240]⟩ : Shape).Idx → EReal)
    (bm bg wo : (⟨2, ![1024, 1024]⟩ : Shape).Idx → EReal)
    (nw : (⟨1, ![1024]⟩ : Shape).Idx → EReal) (wi : (⟨2, ![1024, 5632]⟩ : Shape).Idx → EReal)
    (wd : (⟨2, ![2816, 1024]⟩ : Shape).Idx → EReal) (nf : (⟨1, ![1024]⟩ : Shape).Idx → EReal) :
    (⟨3, ![8, 2048, 1024]⟩ : Shape).Idx → EReal := fun i =>
  tailRow (mergedRow (fun n => x (ix3 (i 0) (i 1) n)) (fun n => md (ix3 (i 0) 5 n))
      (fun k => pr (ix3 (i 0) (i 1) ⟨8192 + k.val, by omega⟩)) (fun k => pr (ix3 (i 0) (i 1) ⟨9216 + k.val, by omega⟩))
      (fun j => hm (ix3 (i 0) (i 1) j)) (fun j => hg (ix3 (i 0) (i 1) j))
      (fun j k => bm (ix2 j k)) (fun j k => bg (ix2 j k)) (fun k n => wo (ix2 k n)))
    (fun n => md (ix3 (i 0) 6 n)) (fun n => md (ix3 (i 0) 7 n)) (fun n => md (ix3 (i 0) 8 n))
    (fun n => nw (ix1 n)) (fun n => nf (ix1 n))
    (fun k q => wi (ix2 k ⟨q.val, by omega⟩)) (fun k q => wi (ix2 k ⟨2816 + q.val, by omega⟩)) (fun q n => wd (ix2 q n)) (i 2)

/-- The mixers' input projected: token `(b, s)`, normalised, scaled by `1 +` modulation row 4 and shifted by row 3, times
the `N` columns of `w`. -/
def projAll (N : Nat) (x : (⟨3, ![8, 2048, 1024]⟩ : Shape).Idx → EReal) (md : (⟨3, ![8, 9, 1024]⟩ : Shape).Idx → EReal)
    (nw : (⟨1, ![1024]⟩ : Shape).Idx → EReal) (w : (⟨2, ![1024, N]⟩ : Shape).Idx → EReal) :
    (⟨3, ![8, 2048, N]⟩ : Shape).Idx → EReal := fun i =>
  ∑ k : Fin 1024, modulated (fun n => x (ix3 (i 0) (i 1) n)) (fun n => nw (ix1 n)) (fun n => md (ix3 (i 0) 3 n))
    (fun n => md (ix3 (i 0) 4 n)) k * w (ix2 k (i 2))

/-- The modulation rows: `c · logi c` times the weights, plus the bias. -/
def rowsAll (cd : (⟨2, ![8, 1024]⟩ : Shape).Idx → EReal) (w : (⟨2, ![1024, 9216]⟩ : Shape).Idx → EReal)
    (b : (⟨1, ![9216]⟩ : Shape).Idx → EReal) : (⟨2, ![8, 9216]⟩ : Shape).Idx → EReal := fun i =>
  (∑ k : Fin 1024, cd (ix2 (i 0) k) * logi (cd (ix2 (i 0) k)) * w (ix2 k (i 1))) + b (ix1 (i 1))

end Layer

end
-- ==== Proof.FfnPoint.lean ====
/-
  The feed-forward kernel at one grid point: what its body leaves in the output block, element by element.
-/
module

public import proofs.«01_k».proof.Proof.Block
public import proofs.«01_k».proof.Proof.Gen.FfnIdeal.Value
public import Idealize.ShloMosaic.Lib.Pointwise

@[expose] public section

set_option maxRecDepth 16384

noncomputable section

namespace Cert.FfnIdeal.Point

open Cert.FfnIdeal Cert.FfnIdeal.Gen Idealize.ShloMosaic Idealize.ShloMosaic.TcCoe Idealize.SL.Sem Layer

/-- The hidden rows of the block: what the scratch array holds once all its column pieces are stored. -/
def act (h : FVec Ideal S512x1024 .bf16) (wg wu : Vec Ideal S1024x2816 .bf16) : Vec Ideal S512x2816 .bf16 :=
  fun i => hiddenRow (fun k => h (ix2 (i 0) k)) (fun k q => wg (ix2 k q)) (fun k q => wu (ix2 k q)) (i 1)

theorem pay4_apply (x : Vec Ideal S1x512x1024 .f32) (sh sc : Vec Ideal S1x1x1024 .f32) (w : Vec Ideal S1x1024 .f32)
    (p : Fin 512) (k : Fin 1024) :
    k0_pay4 x sh sc w (ix2 p k)
      = modulated (fun j => x (ix3 0 p j)) (fun j => w (ix2 0 j)) (fun j => sh (ix3 0 0 j)) (fun j => sc (ix3 0 0 j)) k := by
  pointwise [k0_pay4, k0_pay2, modulated, rms]

/-- Where column piece `[0, o]` of width `n` puts its element `x`. -/
theorem emb_col (o n : Nat) (inb : ∀ a, (![0, o] : Fin 2 → Nat) a + (![512, n] : Fin 2 → Nat) a ≤ S512x2816.size a)
    (x : (Rect.unit (s := S512x2816) ![0, o] ![512, n] inb).shape.Idx) :
    (Rect.unit (s := S512x2816) ![0, o] ![512, n] inb).emb x
      = ix2 ⟨(x 0).val, (x 0).isLt⟩ ⟨o + (x 1).val, lt_of_lt_of_le (Nat.add_lt_add_left (x 1).isLt o) (inb 1)⟩ := by
  funext a
  apply Fin.ext
  match a with
  | ⟨0, _⟩ => show 0 + 1 * (x 0).val = (x 0).val; omega
  | ⟨1, _⟩ => show o + 1 * (x 1).val = o + (x 1).val; omega

/-- Every column piece the body stores is a piece of `act`. -/
theorem canon_act (h : FVec Ideal S512x1024 .bf16) (wg wu : Vec Ideal S1024x2816 .bf16) (y : S512x2816.Idx) :
    View.canon (Val := Elt Ideal) (s := S512x2816) (e := .bf16)
        [⟨Rect.unit ![0, 2560] ![512, 256] inb_S512x2816_S512x256_0_2560,
            k0_pay14 h
              (View.ld wg (Rect.unit ![0, 2560] ![1024, 256] inb_S1024x2816_S1024x256_0_2560))
              (View.ld wu (Rect.unit ![0, 2560] ![1024, 256] inb_S1024x2816_S1024x256_0_2560))⟩,
          ⟨Rect.unit ![0, 2048] ![512, 512] inb_S512x2816_S512x512_0_2048,
            k0_pay13 h
              (k0_pay12 h (View.ld wg (Rect.unit ![0, 2048] ![1024, 512] inb_S1024x2816_S1024x512_0_2048)))
              (View.ld wu (Rect.unit ![0, 2048] ![1024, 512] inb_S1024x2816_S1024x512_0_2048))⟩,
          ⟨Rect.unit ![0, 1536] ![512, 512] inb_S512x2816_S512x512_0_1536,
            k0_pay11 h
              (View.ld wg (Rect.unit ![0, 1536] ![1024, 512] inb_S1024x2816_S1024x512_0_1536))
              (View.ld wu (Rect.unit ![0, 1536] ![1024, 512] inb_S1024x2816_S1024x512_0_1536))⟩,
          ⟨Rect.unit ![0, 1024] ![512, 512] inb_S512x2816_S512x512_0_1024,
            k0_pay10 h
              (k0_pay9 h (View.ld wg (Rect.unit ![0, 1024] ![1024, 512] inb_S1024x2816_S1024x512_0_1024)))
              (View.ld wu (Rect.unit ![0, 1024] ![1024, 512] inb_S1024x2816_S1024x512_0_1024))⟩,
          ⟨Rect.unit ![0, 512] ![512, 512] inb_S512x2816_S512x512_0_512,
            k0_pay8 h
              (View.ld wg (Rect.unit ![0, 512] ![1024, 512] inb_S1024x2816_S1024x512_0_512))
              (View.ld wu (Rect.unit ![0, 512] ![1024, 512] inb_S1024x2816_S1024x512_0_512))⟩,
          ⟨Rect.unit ![0, 0] ![512, 512] inb_S512x2816_S512x512_0_0,
            k0_pay8 h (View.ld wg (Rect.unit ![0, 0] ![1024, 512] inb_S1024x2816_S1024x512_0_0))
              (View.ld wu (Rect.unit ![0, 0] ![1024, 512] inb_S1024x2816_S1024x512_0_0))⟩] y
      = act h wg wu y := by
  refine View.canon_apply_of_pieces (act h wg wu) _ ?_ y ?_
  · simp only [List.forall_mem_cons]
    refine ⟨?_, ?_, ?_, ?_, ?_, ?_, by simp⟩
    all_goals
      intro x
      rw [emb_col]
      pointwise [k0_pay14, k0_pay13, k0_pay12, k0_pay11, k0_pay10, k0_pay9, k0_pay8, act, hiddenRow, logi, zero_sub]
  · idx_vars y
    simp only [List.mem_cons, List.not_mem_nil, or_false, exists_eq_or_imp, exists_eq_left, Rect.mem_set_unit]
    have h0 := y0.isLt
    have h1 := y1.isLt
    simp only [Fin.forall_fin_two, Fin.isValue, Matrix.cons_val_zero, Matrix.cons_val_one]
    show (_ ≤ y0.val ∧ y0.val < _) ∧ (_ ≤ y1.val ∧ y1.val < _) ∨ (_ ≤ y0.val ∧ y0.val < _) ∧ (_ ≤ y1.val ∧ y1.val < _)
      ∨ (_ ≤ y0.val ∧ y0.val < _) ∧ (_ ≤ y1.val ∧ y1.val < _) ∨ (_ ≤ y0.val ∧ y0.val < _) ∧ (_ ≤ y1.val ∧ y1.val < _)
      ∨ (_ ≤ y0.val ∧ y0.val < _) ∧ (_ ≤ y1.val ∧ y1.val < _) ∨ (_ ≤ y0.val ∧ y0.val < _) ∧ (_ ≤ y1.val ∧ y1.val < _)
    omega

/-- The output block of a point, from the point's input blocks: row `p` of the block is one token. -/
def outBlk (x0 : Vec Ideal S1x512x1024 .f32) (x1 : Vec Ideal S1x9x1024 .f32) (x2 : Vec Ideal S1x1024 .f32)
    (x3 x4 : Vec Ideal S1024x2816 .bf16) (x5 : Vec Ideal S2816x1024 .bf16) : Vec Ideal S1x512x1024 .f32 := fun j =>
  halfStep (fun n => x0 (ix3 0 (j 1) n)) (fun n => x1 (ix3 0 2 n))
    (hiddenRow (modulated (fun n => x0 (ix3 0 (j 1) n)) (fun n => x2 (ix2 0 n)) (fun n => x1 (ix3 0 0 n)) (fun n => x1 (ix3 0 1 n)))
      (fun k q => x3 (ix2 k q)) (fun k q => x4 (ix2 k q)))
    (fun q n => x5 (ix2 q n)) (j 2)

theorem out_A (c : Dev nD) (i : grid0.Coords) (a0 : Memref sig .tc .vmem S1x512x1024 .f32) (h0 : a0.IsWhole)
    (a1 : Memref sig .tc .vmem S1x9x1024 .f32) (h1 : a1.IsWhole) (a2 : Memref sig .tc .vmem S1x1024 .f32) (h2 : a2.IsWhole)
    (a3 : Memref sig .tc .vmem S1024x2816 .bf16) (h3 : a3.IsWhole) (a4 : Memref sig .tc .vmem S1024x2816 .bf16) (h4 : a4.IsWhole)
    (a5 : Memref sig .tc .vmem S2816x1024 .bf16) (h5 : a5.IsWhole) (a6 : Memref sig .tc .vmem S1x1024 .f32) (h6 : a6.IsWhole)
    (a7 : Memref sig .tc .vmem S1x512x1024 .f32) (h7 : a7.IsWhole) (a8 : Memref sig .tc .vmem S512x2816 .bf16) (h8 : a8.IsWhole)
    (x0 : Vec Ideal S1x512x1024 .f32) (x1 : Vec Ideal S1x9x1024 .f32) (x2 : Vec Ideal S1x1024 .f32)
    (x3 x4 : Vec Ideal S1024x2816 .bf16) (x5 : Vec Ideal S2816x1024 .bf16) (x6 : Vec Ideal S1x1024 .f32) :
    out0_A_7 c i a0 h0 a1 h1 a2 h2 a3 h3 a4 h4 a5 h5 a6 h6 a7 h7 a8 h8 x0 x1 x2 x3 x4 x5 x6
      = outBlk x0 x1 x2 x3 x4 x5 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_7
  rw [View.read_writes_eq_canon _ _ _ (cover0_A_7 c i a0 h0 a1 h1 a2 h2 a3 h3 a4 h4 a5 h5 a6 h6 a7 h7 a8 h8 x0 x1 x2 x3 x4 x5 x6)]
  unfold kernelRun0_A
  dsimp only
  sl_unfold_words
  rw [View.canon_unit_zero hz3]
  simp only [View.readAt_eq_ld, h0.read_unread, h1.read_unread, h2.read_unread, h3.read_unread, h4.read_unread, h5.read_unread,
    View.ld_unit_zero (S := S1x512x1024) hz3, View.ld_unit_zero (S := S1x1024) hz2, View.ld_unit_zero (S := S2816x1024) hz2]
  rw [View.readCov_eq_canon']
  funext j
  idx_vars j
  refine (congrFun (congrArg (fun a => k0_pay1 _ _ a x5) (funext fun y => canon_act (k0_pay4 x0
    (View.ld x1 (Rect.unit ![0, 0, 0] ![1, 1, 1024] inb_S1x9x1024_S1x1x1024_0_0_0))
    (View.ld x1 (Rect.unit ![0, 1, 0] ![1, 1, 1024] inb_S1x9x1024_S1x1x1024_0_1_0)) x2) x3 x4 _)) _).trans ?_
  pointwise [k0_pay1, k0_pay2, k0_pay15, k0_pay3, act, outBlk, halfStep, pay4_apply]

end Cert.FfnIdeal.Point

end
-- ==== Proof.FfnValue.lean ====
/-
  The feed-forward half-step: the kernel's result array, and the reference's, are one function of the arguments.
-/
module

public import proofs.«01_k».proof.Proof.FfnPoint
public import proofs.«01_k».proof.Proof.Gen.FfnRefIdeal.Read
public import Idealize.ShloMosaic.Lib.StableHlo.ReadAt

@[expose] public section

set_option maxRecDepth 16384

noncomputable section

namespace Cert.FfnIdeal.Point

open Cert.FfnIdeal Cert.FfnIdeal.Gen Idealize.ShloMosaic Idealize.ShloMosaic.TcCoe Idealize.SL.Sem Layer

variable (m : (ℓ : Loc nD τ sig) → Buf (Elt Ideal) ℓ) (ρ : Dev nD → PrngReg)

/-- Where the windows' blocks lie: batch `t / 4`, tile `t % 4` of 512 tokens; the weights are whole, halved by columns. -/
theorem idx : ∀ t : Fin cfg0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 1)
    ∧ (win0_5.index t 0 = 0 ∧ win0_5.index t 1 = 0)
    ∧ (win0_7.index t 0 = t.val / 4 ∧ win0_7.index t 1 = t.val % 4 ∧ win0_7.index t 2 = 0) :=
  (by decide +kernel : ∀ t : Fin grid0.N, _)

theorem lt32 (t : Fin cfg0.N) : t.val < 32 := lt_of_lt_of_eq t.isLt N_0

theorem V_2 (c : Dev nD) (k : Fin 1024) : V m c main_v2 (ix2 0 k) = m ((c : Thread nD τ).loc main_arg2) (ix1 k) := by
  unfold V
  after_reads_at

theorem V_0 (c : Dev nD) (k : Fin 1024) (q : Fin 5632) : V m c main_v0 (ix2 k q) = m ((c : Thread nD τ).loc main_arg3) (ix2 k q) := by
  unfold V
  after_reads_at

theorem V_1 (c : Dev nD) (q : Fin 2816) (k : Fin 1024) : V m c main_v1 (ix2 q k) = m ((c : Thread nD τ).loc main_arg4) (ix2 q k) := by
  unfold V
  after_reads_at

theorem blk0 (c : Dev nD) (t : Fin cfg0.N) (p : Fin 512) (n : Fin 1024) :
    (iblk m c 0 t : Vec Ideal S1x512x1024 .f32) (ix3 0 p n)
      = m ((c : Thread nD τ).loc main_arg0)
          (ix3 ⟨t.val / 4, by have := lt32 t; omega⟩ ⟨t.val % 4 * 512 + p.val, by have := p.isLt; omega⟩ n) := by
  have hi := (idx t).1
  unfold iblk
  rw [View.read_apply]
  refine (congrFun (V_main_arg0 m c) _).trans (congrArg _ ?_)
  funext a
  apply Fin.ext
  match a with
  | ⟨0, _⟩ => show win0_0.index t 0 * 1 + 1 * 0 = t.val / 4; rw [hi.1]; omega
  | ⟨1, _⟩ => show win0_0.index t 1 * 512 + 1 * p.val = t.val % 4 * 512 + p.val; rw [hi.2.1]; omega
  | ⟨2, _⟩ => show win0_0.index t 2 * 1024 + 1 * n.val = n.val; rw [hi.2.2]; omega

theorem blk1 (c : Dev nD) (t : Fin cfg0.N) (p : Fin 9) (n : Fin 1024) :
    (iblk m c 1 t : Vec Ideal S1x9x1024 .f32) (ix3 0 p n)
      = m ((c : Thread nD τ).loc main_arg1) (ix3 ⟨t.val / 4, by have := lt32 t; omega⟩ p n) := by
  have hi := (idx t).2.1
  unfold iblk
  rw [View.read_apply]
  refine (congrFun (V_main_arg1 m c) _).trans (congrArg _ ?_)
  funext a
  apply Fin.ext
  match a with
  | ⟨0, _⟩ => show win0_1.index t 0 * 1 + 1 * 0 = t.val / 4; rw [hi.1]; omega
  | ⟨1, _⟩ => show win0_1.index t 1 * 9 + 1 * p.val = p.val; rw [hi.2.1]; omega
  | ⟨2, _⟩ => show win0_1.index t 2 * 1024 + 1 * n.val = n.val; rw [hi.2.2]; omega

theorem blk2 (c : Dev nD) (t : Fin cfg0.N) (n : Fin 1024) :
    (iblk m c 2 t : Vec Ideal S1x1024 .f32) (ix2 0 n) = m ((c : Thread nD τ).loc main_arg2) (ix1 n) := by
  have hi := (idx t).2.2.1
  unfold iblk
  rw [View.read_apply]
  refine Eq.trans (congrArg (V m c main_v2) ?_) (V_2 m c n)
  funext a
  apply Fin.ext
  match a with
  | ⟨0, _⟩ => show win0_2.index t 0 * 1 + 1 * 0 = 0; rw [hi.1]
  | ⟨1, _⟩ => show win0_2.index t 1 * 1024 + 1 * n.val = n.val; rw [hi.2]; omega

theorem blk3 (c : Dev nD) (t : Fin cfg0.N) (k : Fin 1024) (q : Fin 2816) :
    (iblk m c 3 t : Vec Ideal S1024x2816 .bf16) (ix2 k q) = m ((c : Thread nD τ).loc main_arg3) (ix2 k ⟨q.val, by omega⟩) := by
  have hi := (idx t).2.2.2.1
  unfold iblk
  rw [View.read_apply]
  refine Eq.trans (congrArg (V m c main_v0) ?_) (V_0 m c k ⟨q.val, by omega⟩)
  funext a
  apply Fin.ext
  match a with
  | ⟨0, _⟩ => show win0_3.index t 0 * 1024 + 1 * k.val = k.val; rw [hi.1]; omega
  | ⟨1, _⟩ => show win0_3.index t 1 * 2816 + 1 * q.val = q.val; rw [hi.2]; omega

theorem blk4 (c : Dev nD) (t : Fin cfg0.N) (k : Fin 1024) (q : Fin 2816) :
    (iblk m c 4 t : Vec Ideal S1024x2816 .bf16) (ix2 k q) = m ((c : Thread nD τ).loc main_arg3) (ix2 k ⟨2816 + q.val, by omega⟩) := by
  have hi := (idx t).2.2.2.2.1
  unfold iblk
  rw [View.read_apply]
  refine Eq.trans (congrArg (V m c main_v0) ?_) (V_0 m c k ⟨2816 + q.val, by omega⟩)
  funext a
  apply Fin.ext
  match a with
  | ⟨0, _⟩ => show win0_4.index t 0 * 1024 + 1 * k.val = k.val; rw [hi.1]; omega
  | ⟨1, _⟩ => show win0_4.index t 1 * 2816 + 1 * q.val = 2816 + q.val; rw [hi.2]; omega

theorem blk5 (c : Dev nD) (t : Fin cfg0.N) (q : Fin 2816) (n : Fin 1024) :
    (iblk m c 5 t : Vec Ideal S2816x1024 .bf16) (ix2 q n) = m ((c : Thread nD τ).loc main_arg4) (ix2 q n) := by
  have hi := (idx t).2.2.2.2.2.1
  unfold iblk
  rw [View.read_apply]
  refine Eq.trans (congrArg (V m c main_v1) ?_) (V_1 m c q n)
  funext a
  apply Fin.ext
  match a with
  | ⟨0, _⟩ => show win0_5.index t 0 * 2816 + 1 * q.val = q.val; rw [hi.1]; omega
  | ⟨1, _⟩ => show win0_5.index t 1 * 1024 + 1 * n.val = n.val; rw [hi.2]; omega

/-- The result array of the kernel. -/
abbrev result (c : Dev nD) : Buf (Elt Ideal) ((c : Thread nD τ).loc main_v4) :=
  halfStepAll (m ((c : Thread nD τ).loc main_arg0)) (m ((c : Thread nD τ).loc main_arg1)) (m ((c : Thread nD τ).loc main_arg2))
    (m ((c : Thread nD τ).loc main_arg3)) (m ((c : Thread nD τ).loc main_arg4))

theorem out_eq (c : Dev nD) (t : Fin cfg0.N) (p : Fin 512) (n : Fin 1024) :
    outBlk (iblk m c 0 t) (iblk m c 1 t) (iblk m c 2 t) (iblk m c 3 t) (iblk m c 4 t) (iblk m c 5 t) (ix3 0 p n)
      = result m c (ix3 ⟨t.val / 4, by have := lt32 t; omega⟩ ⟨t.val % 4 * 512 + p.val, by have := p.isLt; omega⟩ n) := by
  unfold outBlk result halfStepAll
  pointwise [blk0, blk1, blk2, blk3, blk4, blk5]

/-- What point `t` writes back is its block of the result. -/
theorem flushed_eq (c : Dev nD) (t : Fin cfg0.N) :
    (dats m 0 c).flushed 7 t = ((cfg0.win 7).blk t).view.read (Elt Ideal) (result m c) := by
  rw [Value.flushed7_A, out_A]
  funext j
  have hi := (idx t).2.2.2.2.2.2
  rw [View.read_apply]
  have hp : (j 1).val < 512 := (j 1).isLt
  have hn : (j 2).val < 1024 := (j 2).isLt
  have hj : (show S1x512x1024.Idx from j) = ix3 0 ⟨(j 1).val, hp⟩ ⟨(j 2).val, hn⟩ := by
    funext a
    apply Fin.ext
    match a with
    | ⟨0, _⟩ => show (j 0).val = 0; have : (j 0).val < 1 := (j 0).isLt; omega
    | ⟨1, _⟩ => rfl
    | ⟨2, _⟩ => rfl
  have e : ((cfg0.win 7).blk t).view.emb j
      = ix3 ⟨t.val / 4, by have := lt32 t; omega⟩ ⟨t.val % 4 * 512 + (j 1).val, by omega⟩
          ⟨(j 2).val, hn⟩ := by
    funext a
    apply Fin.ext
    match a with
    | ⟨0, _⟩ => show win0_7.index t 0 * 1 + 1 * (j 0).val = t.val / 4; rw [hi.1]; have : (j 0).val < 1 := (j 0).isLt; omega
    | ⟨1, _⟩ => show win0_7.index t 1 * 512 + 1 * (j 1).val = t.val % 4 * 512 + (j 1).val; rw [hi.2.1]; omega
    | ⟨2, _⟩ => show win0_7.index t 2 * 1024 + 1 * (j 2).val = (j 2).val; rw [hi.2.2]; omega
  rw [e]
  exact (congrArg (outBlk (iblk m c 0 t) (iblk m c 1 t) (iblk m c 2 t) (iblk m c 3 t) (iblk m c 4 t) (iblk m c 5 t)) hj).trans
    (out_eq m c t ⟨(j 1).val, hp⟩ ⟨(j 2).val, hn⟩)

/-- Every index of the result array lies in the block of the point of its batch and tile. -/
theorem final (c : Dev nD) : (dats m 0 c).arrAt 7 cfg0.N = result m c :=
  (dats m 0 c).arrAt_eq_of_cover 7 (result m c) (fun t _ => flushed_eq m c t) fun i => by
    have h0 : (i 0 : Nat) < 8 := (i 0).isLt
    have h1 : (i 1 : Nat) < 2048 := (i 1).isLt
    have h2 : (i 2 : Nat) < 1024 := (i 2).isLt
    have hN : cfg0.N = 32 := N_0
    obtain ⟨t, ht⟩ : ∃ t : Fin cfg0.N, t.val = (i 0 : Nat) * 4 + (i 1 : Nat) / 512 := ⟨⟨_, by omega⟩, rfl⟩
    have hi := (idx t).2.2.2.2.2.2
    refine ⟨t, flush0_7 t, ?_⟩
    show i ∈ ((View.whole main_v4).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [hi.1]; omega
    | ⟨1, _⟩ => show win0_7.index t 1 * 512 ≤ (i 1 : Nat) ∧ (i 1 : Nat) < win0_7.index t 1 * 512 + 512
                rw [hi.2.1]; omega
    | ⟨2, _⟩ => show win0_7.index t 2 * 1024 ≤ (i 2 : Nat) ∧ (i 2 : Nat) < win0_7.index t 2 * 1024 + 1024
                rw [hi.2.2]; omega

end Cert.FfnIdeal.Point

namespace Cert.FfnRefIdeal.Point

open Cert.FfnRefIdeal Cert.FfnRefIdeal.Read Idealize.ShloMosaic Layer

variable (x0 : FVec Ideal S8x2048x1024 .f32) (x1 : FVec Ideal S8x9x1024 .f32) (x2 : FVec Ideal S1024 .f32)
  (x3 : FVec Ideal S1024x5632 .f32) (x4 : FVec Ideal S2816x1024 .f32)

/-- The reference's normalised and modulated input. -/
theorem ref_modulated (b : Fin 8) (s : Fin 2048) (k : Fin 1024) :
    val_main_v24 (F := Ideal) x0 x1 x2 (ix3 b s k)
      = modulated (fun n => x0 (ix3 b s n)) (fun n => x2 (ix1 n)) (fun n => x1 (ix3 b 0 n)) (fun n => x1 (ix3 b 1 n)) k := by
  pointwise [val_main_v24, val_main_v23, val_main_v22, val_main_v21, val_main_v20, val_main_v19, val_main_v18, val_main_cst_2,
    val_main_v17, val_main_v16, val_main_v15, val_main_v14, val_main_v13, val_main_v12, val_main_v11, val_main_v10, val_main_v9,
    val_main_v8, val_main_v7, val_main_v6, val_main_v5, val_main_cst_1, val_main_v4, val_main_v3, val_main_cst_0, val_main_v2,
    val_main_v1, val_main_cst, val_main_v0, modulated, rms]

/-- The reference's gated hidden activations. -/
theorem ref_hidden (b : Fin 8) (s : Fin 2048) (q : Fin 2816) :
    val_main_v34 (F := Ideal) x0 x1 x2 x3 (ix3 b s q)
      = hiddenRow (modulated (fun n => x0 (ix3 b s n)) (fun n => x2 (ix1 n)) (fun n => x1 (ix3 b 0 n)) (fun n => x1 (ix3 b 1 n)))
          (fun k q => x3 (ix2 k ⟨q.val, by omega⟩)) (fun k q => x3 (ix2 k ⟨2816 + q.val, by omega⟩)) q := by
  pointwise [val_main_v34, val_main_v33, val_main_call0_v5, val_main_call0_v4, val_main_call0_cst_0, val_main_call0_v3,
    val_main_call0_v2, val_main_call0_cst, val_main_call0_v1, val_main_call0_v0, val_main_v32, val_main_v31, val_main_v30,
    ref_modulated, hiddenRow, logi]

/-- The reference's result is the half-step, token by token. -/
theorem ref_eq : val_main_v38 (F := Ideal) x0 x1 x2 x3 x4 = halfStepAll x0 x1 x2 x3 x4 := by
  funext i
  idx_vars i
  pointwise [val_main_v38, val_main_v37, val_main_v36, val_main_v35, val_main_v29, val_main_v28, val_main_cst_3, val_main_v27,
    val_main_v26, val_main_v25, ref_hidden, halfStepAll, halfStep]

end Cert.FfnRefIdeal.Point

end
-- ==== Proof.MergePoint.lean ====
/-
  The merge kernel at one grid point: what its body leaves in the output block, element by element.
-/
module

public import proofs.«01_k».proof.Proof.Block
public import proofs.«01_k».proof.Proof.Gen.MergeIdeal.Value
public import Idealize.ShloMosaic.Lib.Pointwise

@[expose] public section

set_option maxRecDepth 16384

noncomputable section

namespace Cert.MergeIdeal.Point

open Cert.MergeIdeal Cert.MergeIdeal.Gen Idealize.ShloMosaic Idealize.ShloMosaic.TcCoe Idealize.SL.Sem Layer

/-- The hidden rows of the block: what the scratch array holds once all its column pieces are stored. -/
def act (h : FVec Ideal S512x1024 .f32) (wg wu : Vec Ideal S1024x2816 .bf16) : Vec Ideal S512x2816 .bf16 :=
  fun i => hiddenRow (fun k => h (ix2 (i 0) k)) (fun k q => wg (ix2 k q)) (fun k q => wu (ix2 k q)) (i 1)

/-- The block's residual rows after the gated merge. -/
def mrg (x0 : Vec Ideal S1x512x1024 .f32) (x1 : Vec Ideal S1x9x1024 .f32) (x2 x3 x4 x5 : Vec Ideal S1x512x1024 .bf16)
    (x6 x7 x8 : Vec Ideal S1024x1024 .bf16) (p : Fin 512) : Fin 1024 → EReal :=
  mergedRow (fun n => x0 (ix3 0 p n)) (fun n => x1 (ix3 0 5 n)) (fun n => x4 (ix3 0 p n)) (fun n => x5 (ix3 0 p n))
    (fun n => x2 (ix3 0 p n)) (fun n => x3 (ix3 0 p n)) (fun j k => x6 (ix2 j k)) (fun j k => x7 (ix2 j k)) (fun k n => x8 (ix2 k n))

theorem pay8_apply (g : Vec Ideal S1x1x1024 .f32) (x0 : Vec Ideal S1x512x1024 .f32) (x2 x3 x4 x5 : Vec Ideal S1x512x1024 .bf16)
    (x6 x7 x8 : Vec Ideal S1024x1024 .bf16) (p : Fin 512) (n : Fin 1024) :
    k0_pay8 (k0_pay3 g) (k0_pay4 x4 x2 x6) (k0_pay5 x5) (k0_pay6 x3) (k0_pay7 x7) x0 x8 (ix2 p n)
      = mergedRow (fun n => x0 (ix3 0 p n)) (fun n => g (ix3 0 0 n)) (fun n => x4 (ix3 0 p n)) (fun n => x5 (ix3 0 p n))
          (fun n => x2 (ix3 0 p n)) (fun n => x3 (ix3 0 p n)) (fun j k => x6 (ix2 j k)) (fun j k => x7 (ix2 j k))
          (fun k n => x8 (ix2 k n)) n := by
  pointwise [k0_pay8, k0_pay3, k0_pay4, k0_pay5, k0_pay6, k0_pay7, mergedRow, logi, zero_sub]

theorem pay10_apply (v1 : FVec Ideal S1x1024 .f32) (v17 v27 : FVec Ideal S512x1024 .f32) (v29 : FVec Ideal S512x1024 .bf16)
    (v31 : FVec Ideal S1024x1024 .bf16) (v35 : Vec Ideal S1x512x1024 .f32) (v38 : Vec Ideal S1024x1024 .bf16)
    (sh sc : Vec Ideal S1x1x1024 .f32) (w : Vec Ideal S1x1024 .f32) (p : Fin 512) (k : Fin 1024) :
    k0_pay10 v1 v17 v27 v29 v31 v35 v38 sh sc w (ix2 p k)
      = modulated (fun n => k0_pay8 v1 v17 v27 v29 v31 v35 v38 (ix2 p n)) (fun j => w (ix2 0 j)) (fun j => sh (ix3 0 0 j))
          (fun j => sc (ix3 0 0 j)) k := by
  pointwise [k0_pay10, modulated, rms]

theorem pay2_apply (r : FVec Ideal S512x1024 .f32) (g : Vec Ideal S1x1x1024 .f32) (a : Vec Ideal S512x2816 .bf16)
    (wd : Vec Ideal S2816x1024 .bf16) (nf : Vec Ideal S1x1024 .f32) (p : Fin 512) (n : Fin 1024) :
    k0_pay2 r (k0_pay9 g) a wd nf (ix3 0 p n)
      = rms (halfStep (fun n => r (ix2 p n)) (fun n => g (ix3 0 0 n)) (fun q => a (ix2 p q)) (fun q n => wd (ix2 q n)))
          (fun n => nf (ix2 0 n)) n := by
  pointwise [k0_pay2, k0_pay9, rms, halfStep]

/-- Where column piece `[0, o]` of width `n` puts its element `x`. -/
theorem emb_col (o n : Nat) (inb : ∀ a, (![0, o] : Fin 2 → Nat) a + (![512, n] : Fin 2 → Nat) a ≤ S512x2816.size a)
    (x : (Rect.unit (s := S512x2816) ![0, o] ![512, n] inb).shape.Idx) :
    (Rect.unit (s := S512x2816) ![0, o] ![512, n] inb).emb x
      = ix2 ⟨(x 0).val, (x 0).isLt⟩ ⟨o + (x 1).val, lt_of_lt_of_le (Nat.add_lt_add_left (x 1).isLt o) (inb 1)⟩ := by
  funext a
  apply Fin.ext
  match a with
  | ⟨0, _⟩ => show 0 + 1 * (x 0).val = (x 0).val; omega
  | ⟨1, _⟩ => show o + 1 * (x 1).val = o + (x 1).val; omega

/-- Every column piece the body stores is a piece of `act`. -/
theorem canon_act (h : FVec Ideal S512x1024 .f32) (wg wu : Vec Ideal S1024x2816 .bf16) (y : S512x2816.Idx) :
    View.canon (Val := Elt Ideal) (s := S512x2816) (e := .bf16)
        [⟨Rect.unit ![0, 2560] ![512, 256] inb_S512x2816_S512x256_0_2560,
            k0_pay1 (k0_pay19 (k0_pay11 h) (View.ld wg (Rect.unit ![0, 2560] ![1024, 256] inb_S1024x2816_S1024x256_0_2560))
              (View.ld wu (Rect.unit ![0, 2560] ![1024, 256] inb_S1024x2816_S1024x256_0_2560)))⟩,
          ⟨Rect.unit ![0, 2048] ![512, 512] inb_S512x2816_S512x512_0_2048,
            k0_pay18 (k0_pay11 h) (View.ld wg (Rect.unit ![0, 2048] ![1024, 512] inb_S1024x2816_S1024x512_0_2048))
              (View.ld wu (Rect.unit ![0, 2048] ![1024, 512] inb_S1024x2816_S1024x512_0_2048))⟩,
          ⟨Rect.unit ![0, 1536] ![512, 512] inb_S512x2816_S512x512_0_1536,
            k0_pay17 (k0_pay16 (k0_pay11 h) (View.ld wg (Rect.unit ![0, 1536] ![1024, 512] inb_S1024x2816_S1024x512_0_1536))
              (View.ld wu (Rect.unit ![0, 1536] ![1024, 512] inb_S1024x2816_S1024x512_0_1536)))⟩,
          ⟨Rect.unit ![0, 1024] ![512, 512] inb_S512x2816_S512x512_0_1024,
            k0_pay15 (k0_pay11 h) (View.ld wg (Rect.unit ![0, 1024] ![1024, 512] inb_S1024x2816_S1024x512_0_1024))
              (View.ld wu (Rect.unit ![0, 1024] ![1024, 512] inb_S1024x2816_S1024x512_0_1024))⟩,
          ⟨Rect.unit ![0, 512] ![512, 512] inb_S512x2816_S512x512_0_512,
            k0_pay14 (k0_pay13 h (View.ld wg (Rect.unit ![0, 512] ![1024, 512] inb_S1024x2816_S1024x512_0_512))
              (View.ld wu (Rect.unit ![0, 512] ![1024, 512] inb_S1024x2816_S1024x512_0_512)))⟩,
          ⟨Rect.unit ![0, 0] ![512, 512] inb_S512x2816_S512x512_0_0,
            k0_pay12 h (View.ld wg (Rect.unit ![0, 0] ![1024, 512] inb_S1024x2816_S1024x512_0_0))
              (View.ld wu (Rect.unit ![0, 0] ![1024, 512] inb_S1024x2816_S1024x512_0_0))⟩] y
      = act h wg wu y := by
  refine View.canon_apply_of_pieces (act h wg wu) _ ?_ y ?_
  · simp only [List.forall_mem_cons]
    refine ⟨?_, ?_, ?_, ?_, ?_, ?_, by simp⟩
    all_goals
      intro x
      rw [emb_col]
      pointwise [k0_pay1, k0_pay19, k0_pay18, k0_pay17, k0_pay16, k0_pay15, k0_pay14, k0_pay13, k0_pay12, k0_pay11, act, hiddenRow, logi, zero_sub]
  · idx_vars y
    simp only [List.mem_cons, List.not_mem_nil, or_false, exists_eq_or_imp, exists_eq_left, Rect.mem_set_unit]
    have h0 := y0.isLt
    have h1 := y1.isLt
    simp only [Fin.forall_fin_two, Fin.isValue, Matrix.cons_val_zero, Matrix.cons_val_one]
    show (_ ≤ y0.val ∧ y0.val < _) ∧ (_ ≤ y1.val ∧ y1.val < _) ∨ (_ ≤ y0.val ∧ y0.val < _) ∧ (_ ≤ y1.val ∧ y1.val < _)
      ∨ (_ ≤ y0.val ∧ y0.val < _) ∧ (_ ≤ y1.val ∧ y1.val < _) ∨ (_ ≤ y0.val ∧ y0.val < _) ∧ (_ ≤ y1.val ∧ y1.val < _)
      ∨ (_ ≤ y0.val ∧ y0.val < _) ∧ (_ ≤ y1.val ∧ y1.val < _) ∨ (_ ≤ y0.val ∧ y0.val < _) ∧ (_ ≤ y1.val ∧ y1.val < _)
    omega

/-- The output block of a point, from the point's input blocks: row `p` of the block is one token. -/
def outBlk (x0 : Vec Ideal S1x512x1024 .f32) (x1 : Vec Ideal S1x9x1024 .f32) (x2 : Vec Ideal S1x512x1024 .bf16)
    (x3 : Vec Ideal S1x512x1024 .bf16) (x4 : Vec Ideal S1x512x1024 .bf16) (x5 : Vec Ideal S1x512x1024 .bf16)
    (x6 : Vec Ideal S1024x1024 .bf16) (x7 : Vec Ideal S1024x1024 .bf16) (x8 : Vec Ideal S1024x1024 .bf16)
    (x9 : Vec Ideal S1x1024 .f32) (x10 : Vec Ideal S1024x2816 .bf16) (x11 : Vec Ideal S1024x2816 .bf16)
    (x12 : Vec Ideal S2816x1024 .bf16) (x13 : Vec Ideal S1x1024 .f32) :
    Vec Ideal S1x512x1024 .f32 := fun j =>
  tailRow (mrg x0 x1 x2 x3 x4 x5 x6 x7 x8 (j 1)) (fun n => x1 (ix3 0 6 n)) (fun n => x1 (ix3 0 7 n)) (fun n => x1 (ix3 0 8 n))
    (fun n => x9 (ix2 0 n)) (fun n => x13 (ix2 0 n)) (fun k q => x10 (ix2 k q)) (fun k q => x11 (ix2 k q))
    (fun q n => x12 (ix2 q n)) (j 2)

theorem out_A (c : Dev nD) (i : grid0.Coords)
    (a0 : Memref sig .tc .vmem S1x512x1024 .f32) (h0 : a0.IsWhole)
    (a1 : Memref sig .tc .vmem S1x9x1024 .f32) (h1 : a1.IsWhole)
    (a2 : Memref sig .tc .vmem S1x512x1024 .bf16) (h2 : a2.IsWhole)
    (a3 : Memref sig .tc .vmem S1x512x1024 .bf16) (h3 : a3.IsWhole)
    (a4 : Memref sig .tc .vmem S1x512x1024 .bf16) (h4 : a4.IsWhole)
    (a5 : Memref sig .tc .vmem S1x512x1024 .bf16) (h5 : a5.IsWhole)
    (a6 : Memref sig .tc .vmem S1024x1024 .bf16) (h6 : a6.IsWhole)
    (a7 : Memref sig .tc .vmem S1024x1024 .bf16) (h7 : a7.IsWhole)
    (a8 : Memref sig .tc .vmem S1024x1024 .bf16) (h8 : a8.IsWhole)
    (a9 : Memref sig .tc .vmem S1x1024 .f32) (h9 : a9.IsWhole)
    (a10 : Memref sig .tc .vmem S1024x2816 .bf16) (h10 : a10.IsWhole)
    (a11 : Memref sig .tc .vmem S1024x2816 .bf16) (h11 : a11.IsWhole)
    (a12 : Memref sig .tc .vmem S2816x1024 .bf16) (h12 : a12.IsWhole)
    (a13 : Memref sig .tc .vmem S1x1024 .f32) (h13 : a13.IsWhole)
    (a14 : Memref sig .tc .vmem S1x512x1024 .f32) (h14 : a14.IsWhole)
    (a15 : Memref sig .tc .vmem S512x2816 .bf16) (h15 : a15.IsWhole)
    (x0 : Vec Ideal S1x512x1024 .f32) (x1 : Vec Ideal S1x9x1024 .f32) (x2 : Vec Ideal S1x512x1024 .bf16)
    (x3 : Vec Ideal S1x512x1024 .bf16) (x4 : Vec Ideal S1x512x1024 .bf16) (x5 : Vec Ideal S1x512x1024 .bf16)
    (x6 : Vec Ideal S1024x1024 .bf16) (x7 : Vec Ideal S1024x1024 .bf16) (x8 : Vec Ideal S1024x1024 .bf16)
    (x9 : Vec Ideal S1x1024 .f32) (x10 : Vec Ideal S1024x2816 .bf16) (x11 : Vec Ideal S1024x2816 .bf16)
    (x12 : Vec Ideal S2816x1024 .bf16) (x13 : Vec Ideal S1x1024 .f32) :
    out0_A_14 c i a0 h0 a1 h1 a2 h2 a3 h3 a4 h4 a5 h5 a6 h6 a7 h7 a8 h8 a9 h9 a10 h10 a11 h11 a12 h12 a13 h13 a14 h14 a15 h15
        x0 x1 x2 x3 x4 x5 x6 x7 x8 x9 x10 x11 x12 x13
      = outBlk x0 x1 x2 x3 x4 x5 x6 x7 x8 x9 x10 x11 x12 x13 := by
  have hz3 : (![0, 0, 0] : Fin 3 → Nat) = fun _ => 0 := funext fun a => by fin_cases a <;> rfl
  have hz2 : (![0, 0] : Fin 2 → Nat) = fun _ => 0 := funext fun a => by fin_cases a <;> rfl
  unfold out0_A_14
  rw [View.read_writes_eq_canon _ _ _ (cover0_A_14 c i a0 h0 a1 h1 a2 h2 a3 h3 a4 h4 a5 h5 a6 h6 a7 h7 a8 h8 a9 h9 a10 h10 a11 h11 a12 h12 a13 h13 a14 h14 a15 h15
    x0 x1 x2 x3 x4 x5 x6 x7 x8 x9 x10 x11 x12 x13)]
  unfold kernelRun0_A
  dsimp only
  sl_unfold_words
  rw [View.canon_unit_zero hz3]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread,
    View.ld_unit_zero (S := S1x512x1024) hz3, View.ld_unit_zero (S := S1x1024) hz2, View.ld_unit_zero (S := S2816x1024) hz2,
    View.ld_unit_zero (S := S1024x1024) hz2]
  rw [View.readCov_eq_canon']
  funext j
  idx_vars j
  obtain rfl : j0 = 0 := Subsingleton.elim _ _
  refine (congrFun (congrArg (fun a => k0_pay2 _ _ a x12 x13) (funext fun y => canon_act (k0_pay10 _ _ _ _ _ x0 x8
    (View.ld x1 (Rect.unit ![0, 6, 0] ![1, 1, 1024] inb_S1x9x1024_S1x1x1024_0_6_0))
    (View.ld x1 (Rect.unit ![0, 7, 0] ![1, 1, 1024] inb_S1x9x1024_S1x1x1024_0_7_0)) x9) x10 x11 _)) _).trans ?_
  pointwise [pay2_apply, pay10_apply, pay8_apply, act, outBlk, tailRow, mrg]

end Cert.MergeIdeal.Point

end
-- ==== Proof.MergeValue.lean ====
/-
  The end of the layer (gated merge, second half-step, final norm): the kernel's result array, and the reference's, are
  one function of the arguments.
-/
module

public import proofs.«01_k».proof.Proof.MergePoint
public import proofs.«01_k».proof.Proof.Gen.MergeRefIdeal.Read
public import Idealize.ShloMosaic.Lib.StableHlo.ReadAt

@[expose] public section

set_option maxRecDepth 16384

noncomputable section

namespace Cert.MergeIdeal.Point

open Cert.MergeIdeal Cert.MergeIdeal.Gen Idealize.ShloMosaic Idealize.ShloMosaic.TcCoe Idealize.SL.Sem Layer

variable (m : (ℓ : Loc nD τ sig) → Buf (Elt Ideal) ℓ) (ρ : Dev nD → PrngReg)

/-- Where the windows' blocks lie: batch `t / 4`, tile `t % 4` of 512 tokens; the weights are whole, `w_in` halved by columns. -/
theorem idx0 : ∀ t : Fin cfg0.N, win0_0.index t 0 = t.val / 4 ∧ win0_0.index t 1 = t.val % 4 ∧ win0_0.index t 2 = 0 :=
  (by decide +kernel : ∀ t : Fin grid0.N, _)

theorem idx1 : ∀ t : Fin cfg0.N, win0_1.index t 0 = t.val / 4 ∧ win0_1.index t 1 = 0 ∧ win0_1.index t 2 = 0 :=
  (by decide +kernel : ∀ t : Fin grid0.N, _)

theorem idx2 : ∀ t : Fin cfg0.N, win0_2.index t 0 = t.val / 4 ∧ win0_2.index t 1 = t.val % 4 ∧ win0_2.index t 2 = 0 :=
  (by decide +kernel : ∀ t : Fin grid0.N, _)

theorem idx3 : ∀ t : Fin cfg0.N, win0_3.index t 0 = t.val / 4 ∧ win0_3.index t 1 = t.val % 4 ∧ win0_3.index t 2 = 0 :=
  (by decide +kernel : ∀ t : Fin grid0.N, _)

theorem idx4 : ∀ t : Fin cfg0.N, win0_4.index t 0 = t.val / 4 ∧ win0_4.index t 1 = t.val % 4 ∧ win0_4.index t 2 = 8 :=
  (by decide +kernel : ∀ t : Fin grid0.N, _)

theorem idx5 : ∀ t : Fin cfg0.N, win0_5.index t 0 = t.val / 4 ∧ win0_5.index t 1 = t.val % 4 ∧ win0_5.index t 2 = 9 :=
  (by decide +kernel : ∀ t : Fin grid0.N, _)

theorem idx6 : ∀ t : Fin cfg0.N, win0_6.index t 0 = 0 ∧ win0_6.index t 1 = 0 :=
  (by decide +kernel : ∀ t : Fin grid0.N, _)

theorem idx7 : ∀ t : Fin cfg0.N, win0_7.index t 0 = 0 ∧ win0_7.index t 1 = 0 :=
  (by decide +kernel : ∀ t : Fin grid0.N, _)

theorem idx8 : ∀ t : Fin cfg0.N, win0_8.index t 0 = 0 ∧ win0_8.index t 1 = 0 :=
  (by decide +kernel : ∀ t : Fin grid0.N, _)

theorem idx9 : ∀ t : Fin cfg0.N, win0_9.index t 0 = 0 ∧ win0_9.index t 1 = 0 :=
  (by decide +kernel : ∀ t : Fin grid0.N, _)

theorem idx10 : ∀ t : Fin cfg0.N, win0_10.index t 0 = 0 ∧ win0_10.index t 1 = 0 :=
  (by decide +kernel : ∀ t : Fin grid0.N, _)

theorem idx11 : ∀ t : Fin cfg0.N, win0_11.index t 0 = 0 ∧ win0_11.index t 1 = 1 :=
  (by decide +kernel : ∀ t : Fin grid0.N, _)

theorem idx12 : ∀ t : Fin cfg0.N, win0_12.index t 0 = 0 ∧ win0_12.index t 1 = 0 :=
  (by decide +kernel : ∀ t : Fin grid0.N, _)

theorem idx13 : ∀ t : Fin cfg0.N, win0_13.index t 0 = 0 ∧ win0_13.index t 1 = 0 :=
  (by decide +kernel : ∀ t : Fin grid0.N, _)

theorem idx14 : ∀ t : Fin cfg0.N, win0_14.index t 0 = t.val / 4 ∧ win0_14.index t 1 = t.val % 4 ∧ win0_14.index t 2 = 0 :=
  (by decide +kernel : ∀ t : Fin grid0.N, _)

theorem lt32 (t : Fin cfg0.N) : t.val < 32 := lt_of_lt_of_eq t.isLt N_0

theorem V_v0 (c : Dev nD) (k : Fin 1024) (q : Fin 1024) :
    V m c main_v0 (ix2 k q) = m ((c : Thread nD τ).loc main_arg5) (ix2 k q) := by
  unfold V
  after_reads_at

theorem V_v1 (c : Dev nD) (k : Fin 1024) (q : Fin 1024) :
    V m c main_v1 (ix2 k q) = m ((c : Thread nD τ).loc main_arg6) (ix2 k q) := by
  unfold V
  after_reads_at

theorem V_v2 (c : Dev nD) (k : Fin 1024) (q : Fin 1024) :
    V m c main_v2 (ix2 k q) = m ((c : Thread nD τ).loc main_arg7) (ix2 k q) := by
  unfold V
  after_reads_at

theorem V_v3 (c : Dev nD) (k : Fin 1024) (q : Fin 5632) :
    V m c main_v3 (ix2 k q) = m ((c : Thread nD τ).loc main_arg9) (ix2 k q) := by
  unfold V
  after_reads_at

theorem V_v4 (c : Dev nD) (k : Fin 2816) (q : Fin 1024) :
    V m c main_v4 (ix2 k q) = m ((c : Thread nD τ).loc main_arg10) (ix2 k q) := by
  unfold V
  after_reads_at

theorem V_v5 (c : Dev nD) (k : Fin 1024) : V m c main_v5 (ix2 0 k) = m ((c : Thread nD τ).loc main_arg8) (ix1 k) := by
  unfold V
  after_reads_at

theorem V_v6 (c : Dev nD) (k : Fin 1024) : V m c main_v6 (ix2 0 k) = m ((c : Thread nD τ).loc main_arg11) (ix1 k) := by
  unfold V
  after_reads_at

theorem blk0 (c : Dev nD) (t : Fin cfg0.N) (p : Fin 512) (n : Fin 1024) :
    (iblk m c 0 t : Vec Ideal S1x512x1024 .f32) (ix3 0 p n)
      = m ((c : Thread nD τ).loc main_arg0) (ix3 ⟨t.val / 4, by have := lt32 t; omega⟩ ⟨t.val % 4 * 512 + p.val, by have := p.isLt; omega⟩ n) := by
  have hi := idx0 t
  unfold iblk
  rw [View.read_apply]
  refine (congrFun (V_main_arg0 m c) _).trans (congrArg _ ?_)
  funext a
  apply Fin.ext
  match a with
  | ⟨0, _⟩ => show win0_0.index t 0 * 1 + 1 * 0 = t.val / 4; rw [hi.1]; omega
  | ⟨1, _⟩ => show win0_0.index t 1 * 512 + 1 * p.val = t.val % 4 * 512 + p.val; rw [hi.2.1]; omega
  | ⟨2, _⟩ => show win0_0.index t 2 * 1024 + 1 * n.val = n.val; rw [hi.2.2]; omega

theorem blk1 (c : Dev nD) (t : Fin cfg0.N) (p : Fin 9) (n : Fin 1024) :
    (iblk m c 1 t : Vec Ideal S1x9x1024 .f32) (ix3 0 p n) = m ((c : Thread nD τ).loc main_arg1) (ix3 ⟨t.val / 4, by have := lt32 t; omega⟩ p n) := by
  have hi := idx1 t
  unfold iblk
  rw [View.read_apply]
  refine (congrFun (V_main_arg1 m c) _).trans (congrArg _ ?_)
  funext a
  apply Fin.ext
  match a with
  | ⟨0, _⟩ => show win0_1.index t 0 * 1 + 1 * 0 = t.val / 4; rw [hi.1]; omega
  | ⟨1, _⟩ => show win0_1.index t 1 * 9 + 1 * p.val = p.val; rw [hi.2.1]; omega
  | ⟨2, _⟩ => show win0_1.index t 2 * 1024 + 1 * n.val = n.val; rw [hi.2.2]; omega

theorem blk2 (c : Dev nD) (t : Fin cfg0.N) (p : Fin 512) (n : Fin 1024) :
    (iblk m c 2 t : Vec Ideal S1x512x1024 .bf16) (ix3 0 p n)
      = m ((c : Thread nD τ).loc main_arg2) (ix3 ⟨t.val / 4, by have := lt32 t; omega⟩ ⟨t.val % 4 * 512 + p.val, by have := p.isLt; omega⟩ n) := by
  have hi := idx2 t
  unfold iblk
  rw [View.read_apply]
  refine (congrFun (V_main_arg2 m c) _).trans (congrArg _ ?_)
  funext a
  apply Fin.ext
  match a with
  | ⟨0, _⟩ => show win0_2.index t 0 * 1 + 1 * 0 = t.val / 4; rw [hi.1]; omega
  | ⟨1, _⟩ => show win0_2.index t 1 * 512 + 1 * p.val = t.val % 4 * 512 + p.val; rw [hi.2.1]; omega
  | ⟨2, _⟩ => show win0_2.index t 2 * 1024 + 1 * n.val = n.val; rw [hi.2.2]; omega

theorem blk3 (c : Dev nD) (t : Fin cfg0.N) (p : Fin 512) (n : Fin 1024) :
    (iblk m c 3 t : Vec Ideal S1x512x1024 .bf16) (ix3 0 p n)
      = m ((c : Thread nD τ).loc main_arg3) (ix3 ⟨t.val / 4, by have := lt32 t; omega⟩ ⟨t.val % 4 * 512 + p.val, by have := p.isLt; omega⟩ n) := by
  have hi := idx3 t
  unfold iblk
  rw [View.read_apply]
  refine (congrFun (V_main_arg3 m c) _).trans (congrArg _ ?_)
  funext a
  apply Fin.ext
  match a with
  | ⟨0, _⟩ => show win0_3.index t 0 * 1 + 1 * 0 = t.val / 4; rw [hi.1]; omega
  | ⟨1, _⟩ => show win0_3.index t 1 * 512 + 1 * p.val = t.val % 4 * 512 + p.val; rw [hi.2.1]; omega
  | ⟨2, _⟩ => show win0_3.index t 2 * 1024 + 1 * n.val = n.val; rw [hi.2.2]; omega

theorem blk4 (c : Dev nD) (t : Fin cfg0.N) (p : Fin 512) (n : Fin 1024) :
    (iblk m c 4 t : Vec Ideal S1x512x1024 .bf16) (ix3 0 p n)
      = m ((c : Thread nD τ).loc main_arg4) (ix3 ⟨t.val / 4, by have := lt32 t; omega⟩ ⟨t.val % 4 * 512 + p.val, by have := p.isLt; omega⟩ ⟨8192 + n.val, by omega⟩) := by
  have hi := idx4 t
  unfold iblk
  rw [View.read_apply]
  refine (congrFun (V_main_arg4 m c) _).trans (congrArg _ ?_)
  funext a
  apply Fin.ext
  match a with
  | ⟨0, _⟩ => show win0_4.index t 0 * 1 + 1 * 0 = t.val / 4; rw [hi.1]; omega
  | ⟨1, _⟩ => show win0_4.index t 1 * 512 + 1 * p.val = t.val % 4 * 512 + p.val; rw [hi.2.1]; omega
  | ⟨2, _⟩ => show win0_4.index t 2 * 1024 + 1 * n.val = 8192 + n.val; rw [hi.2.2]; omega

theorem blk5 (c : Dev nD) (t : Fin cfg0.N) (p : Fin 512) (n : Fin 1024) :
    (iblk m c 5 t : Vec Ideal S1x512x1024 .bf16) (ix3 0 p n)
      = m ((c : Thread nD τ).loc main_arg4) (ix3 ⟨t.val / 4, by have := lt32 t; omega⟩ ⟨t.val % 4 * 512 + p.val, by have := p.isLt; omega⟩ ⟨9216 + n.val, by omega⟩) := by
  have hi := idx5 t
  unfold iblk
  rw [View.read_apply]
  refine (congrFun (V_main_arg4 m c) _).trans (congrArg _ ?_)
  funext a
  apply Fin.ext
  match a with
  | ⟨0, _⟩ => show win0_5.index t 0 * 1 + 1 * 0 = t.val / 4; rw [hi.1]; omega
  | ⟨1, _⟩ => show win0_5.index t 1 * 512 + 1 * p.val = t.val % 4 * 512 + p.val; rw [hi.2.1]; omega
  | ⟨2, _⟩ => show win0_5.index t 2 * 1024 + 1 * n.val = 9216 + n.val; rw [hi.2.2]; omega

theorem blk6 (c : Dev nD) (t : Fin cfg0.N) (k : Fin 1024) (q : Fin 1024) :
    (iblk m c 6 t : Vec Ideal S1024x1024 .bf16) (ix2 k q) = m ((c : Thread nD τ).loc main_arg5) (ix2 k q) := by
  have hi := idx6 t
  unfold iblk
  rw [View.read_apply]
  refine Eq.trans (congrArg (V m c main_v0) ?_) (V_v0 m c k q)
  funext a
  apply Fin.ext
  match a with
  | ⟨0, _⟩ => show win0_6.index t 0 * 1024 + 1 * k.val = k.val; rw [hi.1]; omega
  | ⟨1, _⟩ => show win0_6.index t 1 * 1024 + 1 * q.val = q.val; rw [hi.2]; omega

theorem blk7 (c : Dev nD) (t : Fin cfg0.N) (k : Fin 1024) (q : Fin 1024) :
    (iblk m c 7 t : Vec Ideal S1024x1024 .bf16) (ix2 k q) = m ((c : Thread nD τ).loc main_arg6) (ix2 k q) := by
  have hi := idx7 t
  unfold iblk
  rw [View.read_apply]
  refine Eq.trans (congrArg (V m c main_v1) ?_) (V_v1 m c k q)
  funext a
  apply Fin.ext
  match a with
  | ⟨0, _⟩ => show win0_7.index t 0 * 1024 + 1 * k.val = k.val; rw [hi.1]; omega
  | ⟨1, _⟩ => show win0_7.index t 1 * 1024 + 1 * q.val = q.val; rw [hi.2]; omega

theorem blk8 (c : Dev nD) (t : Fin cfg0.N) (k : Fin 1024) (q : Fin 1024) :
    (iblk m c 8 t : Vec Ideal S1024x1024 .bf16) (ix2 k q) = m ((c : Thread nD τ).loc main_arg7) (ix2 k q) := by
  have hi := idx8 t
  unfold iblk
  rw [View.read_apply]
  refine Eq.trans (congrArg (V m c main_v2) ?_) (V_v2 m c k q)
  funext a
  apply Fin.ext
  match a with
  | ⟨0, _⟩ => show win0_8.index t 0 * 1024 + 1 * k.val = k.val; rw [hi.1]; omega
  | ⟨1, _⟩ => show win0_8.index t 1 * 1024 + 1 * q.val = q.val; rw [hi.2]; omega

theorem blk9 (c : Dev nD) (t : Fin cfg0.N) (n : Fin 1024) :
    (iblk m c 9 t : Vec Ideal S1x1024 .f32) (ix2 0 n) = m ((c : Thread nD τ).loc main_arg8) (ix1 n) := by
  have hi := idx9 t
  unfold iblk
  rw [View.read_apply]
  refine Eq.trans (congrArg (V m c main_v5) ?_) (V_v5 m c n)
  funext a
  apply Fin.ext
  match a with
  | ⟨0, _⟩ => show win0_9.index t 0 * 1 + 1 * 0 = 0; rw [hi.1]
  | ⟨1, _⟩ => show win0_9.index t 1 * 1024 + 1 * n.val = n.val; rw [hi.2]; omega

theorem blk10 (c : Dev nD) (t : Fin cfg0.N) (k : Fin 1024) (q : Fin 2816) :
    (iblk m c 10 t : Vec Ideal S1024x2816 .bf16) (ix2 k q) = m ((c : Thread nD τ).loc main_arg9) (ix2 k ⟨q.val, by omega⟩) := by
  have hi := idx10 t
  unfold iblk
  rw [View.read_apply]
  refine Eq.trans (congrArg (V m c main_v3) ?_) (V_v3 m c k ⟨q.val, by omega⟩)
  funext a
  apply Fin.ext
  match a with
  | ⟨0, _⟩ => show win0_10.index t 0 * 1024 + 1 * k.val = k.val; rw [hi.1]; omega
  | ⟨1, _⟩ => show win0_10.index t 1 * 2816 + 1 * q.val = q.val; rw [hi.2]; omega

theorem blk11 (c : Dev nD) (t : Fin cfg0.N) (k : Fin 1024) (q : Fin 2816) :
    (iblk m c 11 t : Vec Ideal S1024x2816 .bf16) (ix2 k q) = m ((c : Thread nD τ).loc main_arg9) (ix2 k ⟨2816 + q.val, by omega⟩) := by
  have hi := idx11 t
  unfold iblk
  rw [View.read_apply]
  refine Eq.trans (congrArg (V m c main_v3) ?_) (V_v3 m c k ⟨2816 + q.val, by omega⟩)
  funext a
  apply Fin.ext
  match a with
  | ⟨0, _⟩ => show win0_11.index t 0 * 1024 + 1 * k.val = k.val; rw [hi.1]; omega
  | ⟨1, _⟩ => show win0_11.index t 1 * 2816 + 1 * q.val = 2816 + q.val; rw [hi.2]; omega

theorem blk12 (c : Dev nD) (t : Fin cfg0.N) (k : Fin 2816) (q : Fin 1024) :
    (iblk m c 12 t : Vec Ideal S2816x1024 .bf16) (ix2 k q) = m ((c : Thread nD τ).loc main_arg10) (ix2 k q) := by
  have hi := idx12 t
  unfold iblk
  rw [View.read_apply]
  refine Eq.trans (congrArg (V m c main_v4) ?_) (V_v4 m c k q)
  funext a
  apply Fin.ext
  match a with
  | ⟨0, _⟩ => show win0_12.index t 0 * 2816 + 1 * k.val = k.val; rw [hi.1]; omega
  | ⟨1, _⟩ => show win0_12.index t 1 * 1024 + 1 * q.val = q.val; rw [hi.2]; omega

theorem blk13 (c : Dev nD) (t : Fin cfg0.N) (n : Fin 1024) :
    (iblk m c 13 t : Vec Ideal S1x1024 .f32) (ix2 0 n) = m ((c : Thread nD τ).loc main_arg11) (ix1 n) := by
  have hi := idx13 t
  unfold iblk
  rw [View.read_apply]
  refine Eq.trans (congrArg (V m c main_v6) ?_) (V_v6 m c n)
  funext a
  apply Fin.ext
  match a with
  | ⟨0, _⟩ => show win0_13.index t 0 * 1 + 1 * 0 = 0; rw [hi.1]
  | ⟨1, _⟩ => show win0_13.index t 1 * 1024 + 1 * n.val = n.val; rw [hi.2]; omega

/-- The result array of the kernel. -/
abbrev result (c : Dev nD) : Buf (Elt Ideal) ((c : Thread nD τ).loc main_v7) :=
  tailAll (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

theorem out_eq (c : Dev nD) (t : Fin cfg0.N) (p : Fin 512) (n : Fin 1024) :
    outBlk (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (ix3 0 p n)
      = result m c (ix3 ⟨t.val / 4, by have := lt32 t; omega⟩ ⟨t.val % 4 * 512 + p.val, by have := p.isLt; omega⟩ n) := by
  unfold outBlk result tailAll mrg
  pointwise [blk0, blk1, blk2, blk3, blk4, blk5, blk6, blk7, blk8, blk9, blk10, blk11, blk12, blk13]

/-- What point `t` writes back is its block of the result. -/
theorem flushed_eq (c : Dev nD) (t : Fin cfg0.N) :
    (dats m 0 c).flushed 14 t = ((cfg0.win 14).blk t).view.read (Elt Ideal) (result m c) := by
  rw [Value.flushed14_A, out_A]
  funext j
  have hi := idx14 t
  rw [View.read_apply]
  have hp : (j 1).val < 512 := (j 1).isLt
  have hn : (j 2).val < 1024 := (j 2).isLt
  have hj : (show S1x512x1024.Idx from j) = ix3 0 ⟨(j 1).val, hp⟩ ⟨(j 2).val, hn⟩ := by
    funext a
    apply Fin.ext
    match a with
    | ⟨0, _⟩ => show (j 0).val = 0; have : (j 0).val < 1 := (j 0).isLt; omega
    | ⟨1, _⟩ => rfl
    | ⟨2, _⟩ => rfl
  have e : ((cfg0.win 14).blk t).view.emb j
      = ix3 ⟨t.val / 4, by have := lt32 t; omega⟩ ⟨t.val % 4 * 512 + (j 1).val, by omega⟩
          ⟨(j 2).val, hn⟩ := by
    funext a
    apply Fin.ext
    match a with
    | ⟨0, _⟩ => show win0_14.index t 0 * 1 + 1 * (j 0).val = t.val / 4; rw [hi.1]; have : (j 0).val < 1 := (j 0).isLt; omega
    | ⟨1, _⟩ => show win0_14.index t 1 * 512 + 1 * (j 1).val = t.val % 4 * 512 + (j 1).val; rw [hi.2.1]; omega
    | ⟨2, _⟩ => show win0_14.index t 2 * 1024 + 1 * (j 2).val = (j 2).val; rw [hi.2.2]; omega
  rw [e]
  exact (congrArg (outBlk (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)) hj).trans
    (out_eq m c t ⟨(j 1).val, hp⟩ ⟨(j 2).val, hn⟩)

/-- Every index of the result array lies in the block of the point of its batch and tile. -/
theorem final (c : Dev nD) : (dats m 0 c).arrAt 14 cfg0.N = result m c :=
  (dats m 0 c).arrAt_eq_of_cover 14 (result m c) (fun t _ => flushed_eq m c t) fun i => by
    have h0 : (i 0 : Nat) < 8 := (i 0).isLt
    have h1 : (i 1 : Nat) < 2048 := (i 1).isLt
    have h2 : (i 2 : Nat) < 1024 := (i 2).isLt
    have hN : cfg0.N = 32 := N_0
    obtain ⟨t, ht⟩ : ∃ t : Fin cfg0.N, t.val = (i 0 : Nat) * 4 + (i 1 : Nat) / 512 := ⟨⟨_, by omega⟩, rfl⟩
    have hi := idx14 t
    refine ⟨t, flush0_14 t, ?_⟩
    show i ∈ ((View.whole main_v7).slice (win0_14.rect t)).set
    rw [View.set_slice_whole, Rect.mem_set_unit]
    intro a
    match a with
    | ⟨0, _⟩ => show win0_14.index t 0 * 1 ≤ (i 0 : Nat) ∧ (i 0 : Nat) < win0_14.index t 0 * 1 + 1
                rw [hi.1]; omega
    | ⟨1, _⟩ => show win0_14.index t 1 * 512 ≤ (i 1 : Nat) ∧ (i 1 : Nat) < win0_14.index t 1 * 512 + 512
                rw [hi.2.1]; omega
    | ⟨2, _⟩ => show win0_14.index t 2 * 1024 ≤ (i 2 : Nat) ∧ (i 2 : Nat) < win0_14.index t 2 * 1024 + 1024
                rw [hi.2.2]; omega

end Cert.MergeIdeal.Point

namespace Cert.MergeRefIdeal.Point

open Cert.MergeRefIdeal Cert.MergeRefIdeal.Read Idealize.ShloMosaic Layer

variable (x0 : FVec Ideal S8x2048x1024 .f32) (x1 : FVec Ideal S8x9x1024 .f32) (x2 x3 : FVec Ideal S8x2048x1024 .bf16)
  (x4 : FVec Ideal S8x2048x10240 .bf16) (x5 x6 x7 : FVec Ideal S1024x1024 .f32) (x8 : FVec Ideal S1024 .f32)
  (x9 : FVec Ideal S1024x5632 .f32) (x10 : FVec Ideal S2816x1024 .f32) (x11 : FVec Ideal S1024 .f32)

/-- The merged residual row of a token. -/
abbrev mrow (b : Fin 8) (s : Fin 2048) : Fin 1024 → EReal :=
  mergedRow (fun n => x0 (ix3 b s n)) (fun n => x1 (ix3 b 5 n))
    (fun k => x4 (ix3 b s ⟨8192 + k.val, by omega⟩)) (fun k => x4 (ix3 b s ⟨9216 + k.val, by omega⟩))
    (fun j => x2 (ix3 b s j)) (fun j => x3 (ix3 b s j))
    (fun j k => x5 (ix2 j k)) (fun j k => x6 (ix2 j k)) (fun k n => x7 (ix2 k n))

/-- The reference's residual stream after the merge. -/
theorem ref_merged (b : Fin 8) (s : Fin 2048) (n : Fin 1024) :
    val_main_v29 (F := Ideal) x0 x1 x2 x3 x4 x5 x6 x7 (ix3 b s n) = mrow x0 x1 x2 x3 x4 x5 x6 x7 b s n := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, mergedRow, logi]

/-- The reference's normalised and modulated input of the second half-step. -/
theorem ref_modulated (b : Fin 8) (s : Fin 2048) (k : Fin 1024) :
    val_main_v54 (F := Ideal) x0 x1 x2 x3 x4 x5 x6 x7 x8 (ix3 b s k)
      = modulated (mrow x0 x1 x2 x3 x4 x5 x6 x7 b s) (fun n => x8 (ix1 n)) (fun n => x1 (ix3 b 6 n)) (fun n => x1 (ix3 b 7 n)) k := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_3, val_main_cst_4, val_main_cst_5, val_main_cst_6, ref_merged, modulated, rms]

/-- The reference's gated hidden activations. -/
theorem ref_hidden (b : Fin 8) (s : Fin 2048) (q : Fin 2816) :
    val_main_v64 (F := Ideal) x0 x1 x2 x3 x4 x5 x6 x7 x8 x9 (ix3 b s q)
      = hiddenRow (modulated (mrow x0 x1 x2 x3 x4 x5 x6 x7 b s) (fun n => x8 (ix1 n)) (fun n => x1 (ix3 b 6 n)) (fun n => x1 (ix3 b 7 n)))
          (fun k q => x9 (ix2 k ⟨q.val, by omega⟩)) (fun k q => x9 (ix2 k ⟨2816 + q.val, by omega⟩)) q := by
  pointwise [val_main_v64, val_main_v63, val_main_call0_v5, val_main_call0_v4, val_main_call0_cst_0, val_main_call0_v3,
    val_main_call0_v2, val_main_call0_cst, val_main_call0_v1, val_main_call0_v0, val_main_v62, val_main_v61, val_main_v60,
    ref_modulated, hiddenRow, logi]

/-- The reference's residual stream after the second half-step. -/
theorem ref_half (b : Fin 8) (s : Fin 2048) (n : Fin 1024) :
    val_main_v68 (F := Ideal) x0 x1 x2 x3 x4 x5 x6 x7 x8 x9 x10 (ix3 b s n)
      = halfStep (mrow x0 x1 x2 x3 x4 x5 x6 x7 b s) (fun n => x1 (ix3 b 8 n))
          (hiddenRow (modulated (mrow x0 x1 x2 x3 x4 x5 x6 x7 b s) (fun n => x8 (ix1 n)) (fun n => x1 (ix3 b 6 n)) (fun n => x1 (ix3 b 7 n)))
            (fun k q => x9 (ix2 k ⟨q.val, by omega⟩)) (fun k q => x9 (ix2 k ⟨2816 + q.val, by omega⟩)))
          (fun q n => x10 (ix2 q n)) n := by
  pointwise [val_main_v68, val_main_v67, val_main_v66, val_main_v65, val_main_v59, val_main_v58, val_main_v57, val_main_v56, val_main_v55, val_main_cst_7, ref_merged, ref_hidden, halfStep]

/-- The reference's result is the end of the layer, token by token. -/
theorem ref_eq : val_main_v81 (F := Ideal) x0 x1 x2 x3 x4 x5 x6 x7 x8 x9 x10 x11 = tailAll x0 x1 x2 x3 x4 x5 x6 x7 x8 x9 x10 x11 := by
  funext i
  idx_vars i
  pointwise [val_main_v81, val_main_v80, val_main_v79, val_main_v78, val_main_v77, val_main_v76, val_main_v75, val_main_v74, val_main_v73, val_main_v72, val_main_v71, val_main_v70, val_main_v69, val_main_cst_8, val_main_cst_9, val_main_cst_10, ref_half, tailAll, tailRow, rms]

end Cert.MergeRefIdeal.Point

end
-- ==== Proof.ProjRun.lean ====
/-
  The projection kernel: what one call of its body leaves in the scratch array and in the two output blocks, and the
  run of the whole grid from that. The first point of each batch element computes the normalised, modulated tokens into
  the scratch array and the gate columns from them; every point multiplies the scratch array by one block of the wide
  weight matrix. So between points the scratch array holds the tokens of the current batch element.
-/
module

public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.TableIdle
public import Idealize.ShloMosaic.Lib.Pipeline.Value
public import Idealize.ShloMosaic.Lib.Claim

@[expose] public section

set_option maxRecDepth 16384

noncomputable section

namespace Cert.ProjIdeal.Run

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tokens of one batch element, normalised and modulated. -/
def hid (x0 : Vec F S1x2048x1024 .f32) (x1 : Vec F S1x9x1024 .f32) (x2 : Vec F S1x1024 .f32) : Vec F S2048x1024 .bf16 :=
  k0_pay3 (View.ld x1 (Rect.unit ![0, 3, 0] S1x1x1024.size inb_S1x9x1024_S1x1x1024_0_3_0))
    (View.ld x1 (Rect.unit ![0, 4, 0] S1x1x1024.size inb_S1x9x1024_S1x1x1024_0_4_0)) x0 x2

/-- Their gate columns. -/
def gates (x0 : Vec F S1x2048x1024 .f32) (x1 : Vec F S1x9x1024 .f32) (x2 : Vec F S1x1024 .f32) (x4 : Vec F S1024x128 .bf16) :
    Vec F S1x2048x128 .f32 :=
  k0_pay4 (View.ld x1 (Rect.unit ![0, 3, 0] S1x1x1024.size inb_S1x9x1024_S1x1x1024_0_3_0))
    (View.ld x1 (Rect.unit ![0, 4, 0] S1x1x1024.size inb_S1x9x1024_S1x1x1024_0_4_0)) x0 x2 x4

theorem zero2 : (![0, 0] : Fin 2 → Nat) = fun _ => 0 := funext fun a => by fin_cases a <;> rfl
theorem zero3 : (![0, 0, 0] : Fin 3 → Nat) = fun _ => 0 := funext fun a => by fin_cases a <;> rfl

/-- A buffer one store covers holds what was stored. -/
theorem read_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton.mpr rfl, View.mem_set_unit_zero h inb y⟩, View.canon_unit_zero h]

set_option maxHeartbeats 1000000 in
/-- The body at the first point of a batch element. -/
theorem body_first (c : Dev nD) (i : grid0.Coords) (arg3 : Memref sig .tc .vmem S1x2048x1024 .f32) (harg3 : arg3.IsWhole) (arg4 : Memref sig .tc .vmem S1x9x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x2048x1024 .bf16) (harg8 : arg8.IsWhole) (arg9 : Memref sig .tc .vmem S1x2048x128 .f32) (harg9 : arg9.IsWhole) (arg10 : Memref sig .tc .vmem S2048x1024 .bf16) (harg10 : arg10.IsWhole)
    (hc0 : k0_cond1 i = 1#1) (x0 : Vec F S1x2048x1024 .f32) (x1 : Vec F S1x9x1024 .f32) (x2 : Vec F S1x1024 .f32) (x3 : Vec F S1024x1024 .bf16) (x4 : Vec F S1024x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 (hid x0 x1 x2) x3) ∗ owns (c : Thread nD τ) arg9 fullShare (gates x0 x1 x2 x4) ∗ owns (c : Thread nD τ) arg10 fullShare (hid x0 x1 x2)) -∗ K ⟨⟩))
      ⊢ wp frame (wpE (defs₀ (F := F)) Variants.none c none) E (cc0_proj i arg3 harg3 arg4 harg4 arg5 harg5 arg6 harg6 arg7 harg7 arg8 harg8 arg9 harg9 arg10 harg10) K := by
  simp only [cc0_proj_eq_skeleton]; unfold cc0_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4;
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_words
    rw [read_whole _ _ zero3]
    simp only [View.readCov_unit_zero (S := S2048x1024) _ zero2, View.readAt_eq_ld, harg3.read_unread, harg4.read_unread, harg5.read_unread, harg6.read_unread, harg7.read_unread, harg8.read_unread, harg9.read_unread, harg10.read_unread, View.ld_unit_zero (S := S1x2048x1024) zero3, View.ld_unit_zero (S := S1x1024) zero2, View.ld_unit_zero (S := S1024x1024) zero2, View.ld_unit_zero (S := S1024x128) zero2, View.ld_unit_zero (S := S2048x1024) zero2, hid]
  isplitl [H6]
  · iexists _; isplitr; swap; · iexact H6
    ipureintro
    sl_unfold_words
    rw [read_whole _ _ zero3]
    simp only [View.readAt_eq_ld, harg3.read_unread, harg4.read_unread, harg5.read_unread, harg6.read_unread, harg7.read_unread, harg8.read_unread, harg9.read_unread, harg10.read_unread, View.ld_unit_zero (S := S1x2048x1024) zero3, View.ld_unit_zero (S := S1x1024) zero2, View.ld_unit_zero (S := S1024x1024) zero2, View.ld_unit_zero (S := S1024x128) zero2, View.ld_unit_zero (S := S2048x1024) zero2, gates]
  iexists _; isplitr; swap; · iexact HS0
  ipureintro
  sl_unfold_words
  rw [read_whole _ _ zero2]
  simp only [View.readAt_eq_ld, harg3.read_unread, harg4.read_unread, harg5.read_unread, harg6.read_unread, harg7.read_unread, harg8.read_unread, harg9.read_unread, harg10.read_unread, View.ld_unit_zero (S := S1x2048x1024) zero3, View.ld_unit_zero (S := S1x1024) zero2, View.ld_unit_zero (S := S1024x1024) zero2, View.ld_unit_zero (S := S1024x128) zero2, View.ld_unit_zero (S := S2048x1024) zero2, hid]

set_option maxHeartbeats 1000000 in
/-- The body at a later point of a batch element. -/
theorem body_later (c : Dev nD) (i : grid0.Coords) (arg3 : Memref sig .tc .vmem S1x2048x1024 .f32) (harg3 : arg3.IsWhole) (arg4 : Memref sig .tc .vmem S1x9x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x128 .bf16) (harg7 : arg7.IsWhole) (arg8 : Memref sig .tc .vmem S1x2048x1024 .bf16) (harg8 : arg8.IsWhole) (arg9 : Memref sig .tc .vmem S1x2048x128 .f32) (harg9 : arg9.IsWhole) (arg10 : Memref sig .tc .vmem S2048x1024 .bf16) (harg10 : arg10.IsWhole)
    (hc0 : ¬ k0_cond1 i = 1#1) (x0 : Vec F S1x2048x1024 .f32) (x1 : Vec F S1x9x1024 .f32) (x2 : Vec F S1x1024 .f32) (x3 : Vec F S1024x1024 .bf16) (x4 : Vec F S1024x128 .bf16) (g : Vec F S1x2048x128 .f32) (h : Vec F S2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare g ∗ owns (c : Thread nD τ) arg10 fullShare h
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay1 h x3) ∗ owns (c : Thread nD τ) arg9 fullShare g ∗ owns (c : Thread nD τ) arg10 fullShare h) -∗ K ⟨⟩))
      ⊢ wp frame (wpE (defs₀ (F := F)) Variants.none c none) E (cc0_proj i arg3 harg3 arg4 harg4 arg5 harg5 arg6 harg6 arg7 harg7 arg8 harg8 arg9 harg9 arg10 harg10) K := by
  simp only [cc0_proj_eq_skeleton]; unfold cc0_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    sl_unfold_words
    rw [read_whole _ _ zero3]
    simp only [View.readAt_eq_ld, harg3.read_unread, harg4.read_unread, harg5.read_unread, harg6.read_unread, harg7.read_unread, harg8.read_unread, harg9.read_unread, harg10.read_unread, View.ld_unit_zero (S := S1x2048x1024) zero3, View.ld_unit_zero (S := S1x1024) zero2, View.ld_unit_zero (S := S1024x1024) zero2, View.ld_unit_zero (S := S1024x128) zero2, View.ld_unit_zero (S := S2048x1024) zero2]
  isplitl [H6]
  · iexists _; isplitr; · ipureintro; exact harg9.read_unread _
    iexact H6
  iexists _; isplitr; · ipureintro; exact harg10.read_unread _
  iexact HS0

/-! ## The grid's data -/

/-- The first point of `t`'s batch element. -/
def first (t : Fin cfg0.N) : Fin cfg0.N := ⟨t.val / 10 * 10, by have := t.isLt; omega⟩

/-- The tokens of `t`'s batch element, normalised and modulated. -/
def hidAt (c : Dev nD) (t : Fin cfg0.N) : Vec F S2048x1024 .bf16 :=
  hid (iblk m c 0 (first t)) (iblk m c 1 (first t)) (iblk m c 2 (first t))

/-- The gate columns of `t`'s batch element. -/
def gatesAt (c : Dev nD) (t : Fin cfg0.N) : Vec F S1x2048x128 .f32 :=
  gates (iblk m c 0 (first t)) (iblk m c 1 (first t)) (iblk m c 2 (first t)) (iblk m c 4 (first t))

abbrev scratch : Memref sig .tc .vmem S2048x1024 .bf16 := Memref.whole cc0_scratch0

theorem N80 : cfg0.N = 80 := N_0

theorem cond_iff (t : Fin cfg0.N) : k0_cond1 (grid0.coords t) = 1#1 ↔ t.val % 10 = 0 := by
  have ht : t.val < 80 := Nat.lt_of_lt_of_eq t.isLt N_0
  have e2 : (grid0.coords t 2).val = t.val / 1 % 10 := Pipeline.Grid.coords_val t 2 (by decide) rfl
  simp only [k0_cond1, e2]
  word_cmp

/-- The scoped rest of the region: the scratch array at some contents, and the generator register. -/
theorem rest_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- Before point `n`: inside a batch element the scratch array holds its tokens, at its first point anything. -/
def carried (c : Dev nD) (n : Fin (cfg0.N + 1)) : sProp 𝕄 :=
  iprop((∃ d, iprop(⌜∀ h : n.val % 10 ≠ 0, d = hidAt m c ⟨n.val - 1, by have := n.isLt; omega⟩⌝
    ∗ owns (c : Thread nD τ) scratch fullShare d)) ∗ (∃ r, prngReg c r))

/-- The data of the pipeline: each input's buffer at its block, the wide output's at the product of the tokens with the
    point's weight block, the gate output's at the gate columns, the scratch array as `carried` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay1 (hidAt m c t) (iblk m c 3 t)
    | ⟨6, _⟩ => gatesAt m c t
  Φ n := carried m c n
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay1 (hidAt m c t) (iblk m c 3 t) := by dsimp only [dats]
theorem after_6 (c : Dev nD) (t : Fin cfg0.N) : (dats m 0 c).after 6 t = gatesAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Inside a batch element the first point is the same one. -/
theorem first_pred (t : Fin cfg0.N) (h : t.val % 10 ≠ 0) : first ⟨t.val - 1, by have := t.isLt; omega⟩ = first t :=
  Fin.ext (by show (t.val - 1) / 10 * 10 = t.val / 10 * 10; omega)

theorem first_self (t : Fin cfg0.N) (h : t.val % 10 = 0) : first t = t := Fin.ext (by show t.val / 10 * 10 = t.val; omega)

/-- The gate output is written at the first point of a batch element only. -/
theorem idle_6 (t : Fin cfg0.N) : cfg0.idle 6 (grid0.coords t) = !decide (t.val % 10 = 0) := by
  show (!(k0_cond1 (grid0.coords t) == 1#1)) = _
  congr 1
  rw [Bool.eq_iff_iff, beq_iff_eq, decide_eq_true_eq, cond_iff]

theorem fresh_6 (n : Nat) (h : n ≤ cfg0.N) : cfg0.fresh 6 n = decide (n % 10 = 0) :=
  cfg0.fresh_tab 6 (fun n => decide (n % 10 = 0)) rfl (fun t => by
    have hf : (cfg0.win 6).flush t = decide (t.val % 10 = 9) := by rw [Bool.eq_iff_iff, decide_eq_true_eq, flush0_6]
    rw [hf, show cfg0.idle 6 (cfg0.grid.coords t) = _ from idle_6 t, Bool.eq_iff_iff]
    simp only [decide_eq_true_eq, Bool.or_eq_true, Bool.and_eq_true, Bool.not_eq_true', decide_eq_false_iff_not]
    omega) n h

/-- Inside a batch element the gate output's buffer keeps the gate columns. -/
theorem before_6 (c : Dev nD) (t : Fin cfg0.N) (h : t.val % 10 ≠ 0) (d) : (dats m 0 c).before 6 t d = gatesAt m c t := by
  rw [(dats m 0 c).before_out_traj 6 rfl (fun _ _ => rfl) (fun t _ hi _ => by
    have h' : t.val % 10 ≠ 0 := by
      rw [show cfg0.idle 6 (cfg0.grid.coords t) = _ from idle_6 t] at hi
      simpa using hi
    rw [after_6, after_6]
    unfold gatesAt
    rw [first_pred t h']) t.val t rfl d, fresh_6 _ (Nat.le_of_lt t.isLt), if_neg (by simpa using h), after_6]
  unfold gatesAt
  rw [first_pred t h]

theorem leaves_first (c : Dev nD) (t : Fin cfg0.N) (h : t.val % 10 = 0) :
    (dats m 0 c).leavesExact 6 t = owns (c : Thread nD τ) (st0_6 t) fullShare (gatesAt m c t) := by
  unfold Dat.leavesExact
  rw [show cfg0.idle 6 (cfg0.grid.coords t) = false from (idle_6 t).trans (by simp [h]), after_6]

theorem leaves_later (c : Dev nD) (t : Fin cfg0.N) (h : t.val % 10 ≠ 0) :
    owns (c : Thread nD τ) (st0_6 t) fullShare (gatesAt m c t) ⊢ (dats m 0 c).leavesExact 6 t := by
  unfold Dat.leavesExact
  rw [show cfg0.idle 6 (cfg0.grid.coords t) = true from (idle_6 t).trans (by simp [h]), after_6]
  cases (cfg0.win 6).flush t
  · simp only [before_6 m c t h]
    iintro H
    iexists (gatesAt m c t)
    iexact H
  · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = carried m c t.succ from rfl, show (dats m 0 c).Φ t.castSucc = carried m c t.castSucc from rfl,
    show (dats m 0 c).owesAt () t.succ = (dats m 0 c).owesAt () t.castSucc from rfl,
    after_0, after_1, after_2, after_3, after_4, after_5]
  unfold carried
  by_cases h0 : t.val % 10 = 0
  · rw [leaves_first m c t h0]
    iintro ⟨⟨⟨%ds, -, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) _ _ _ _ _ _ _ _ _ _ _ _ _ _ _ _ ((cond_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    iintro ⟨H0, H1, H2, H3, H4, H5, H6, HS0⟩
    isplitl [HS0 Hg]
    · isplitl [HS0]
      · iexists _; isplitr; swap; · iexact HS0
        ipureintro
        intro _
        show _ = hidAt m c ⟨t.val + 1 - 1, _⟩
        unfold hidAt
        rw [show (⟨t.val + 1 - 1, by have := t.isLt; omega⟩ : Fin cfg0.N) = t from Fin.ext (by simp), first_self t h0]
      iexact Hg
    isplitl [Ho]; · iexact Ho
    isplitl [H0]; · iexact H0
    isplitl [H1]; · iexact H1
    isplitl [H2]; · iexact H2
    isplitl [H3]; · iexact H3
    isplitl [H4]; · iexact H4
    unfold hidAt gatesAt
    rw [first_self t h0]
    isplitl [H5]; · iexact H5
    iexact H6
  · simp only [before_6 m c t h0]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩, ⟨%d6, H6⟩⟩
    have hd : ds = hidAt m c t := (hds h0).trans (by
      unfold hidAt; rw [show first ⟨t.castSucc.val - 1, _⟩ = first t from first_pred t h0])
    subst hd
    iapply (body_later c (grid0.coords t) _ _ _ _ _ _ _ _ _ _ _ _ _ _ _ _ (fun h => h0 ((cond_iff t).mp h)) (iblk m c 0 t) (iblk m c 1 t) (iblk m c 2 t) (iblk m c 3 t) (iblk m c 4 t) (gatesAt m c t) (hidAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexists _; isplitr; swap; · iexact HS0
        ipureintro
        intro _
        rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves_later m c t h0)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem rest_in (c : Dev nD) : (Pipeline.ΦA spec0 c : sProp 𝕄) ⊢ (dats m 0 c).Φ 0 := by
  rw [rest_eq, show (dats m 0 c).Φ 0 = carried m c 0 from rfl]
  unfold carried
  iintro ⟨⟨%d, H⟩, Hg⟩
  isplitl [H]
  · iexists d; isplitr; swap; · iexact H
    ipureintro; intro h; exact absurd rfl h
  iexact Hg

theorem rest_out (c : Dev nD) : (dats m 0 c).Φ (Fin.last cfg0.N) ⊢ (Pipeline.ΦA spec0 c : sProp 𝕄) := by
  rw [rest_eq, show (dats m 0 c).Φ (Fin.last cfg0.N) = carried m c (Fin.last cfg0.N) from rfl]
  unfold carried
  iintro ⟨⟨%d, -, H⟩, Hg⟩
  isplitl [H]
  · iexists d; iexact H
  iexact Hg

/-! ## The run and the frame -/

set_option backward.isDefEq.respectTransparency.types false in
/-- Every execution ends, with each array of the pipeline as `dats` says and every semaphore counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := rest_in m) (hout := rest_out m)

/-- Every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- Every execution ends with the two result arrays as the pipeline's data say, the arguments unchanged. -/
theorem run_values : θ_run defs (onTc (τ := τ) (main (F := F))) ⟨m, fun _ => 0, ρ⟩ (fun r => ∀ c : Dev nD,
      r.2.mem ((c.tc : Thread nD τ).loc main_v3_0) = (dats m 0 c).arrAt 5 cfg0.N
      ∧ r.2.mem ((c.tc : Thread nD τ).loc main_v3_1) = (dats m 0 c).arrAt 6 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c => ⟨(h.2.1 c).1 5, (h.2.1 c).1 6, h.1.1 c⟩) (θ_run_and (frame m ρ) (run_all m ρ))

end Cert.ProjIdeal.Run

end
-- ==== Proof.ProjValue.lean ====
/-
  The projection kernel: its two result arrays, and the reference's, are the same functions of the arguments.
-/
module

public import proofs.«01_k».proof.Proof.Block
public import proofs.«01_k».proof.Proof.ProjRun
public import proofs.«01_k».proof.Proof.Gen.ProjRefIdeal.Read
public import Idealize.ShloMosaic.Lib.Pointwise
public import Idealize.ShloMosaic.Lib.StableHlo.ReadAt

@[expose] public section

set_option maxRecDepth 16384

noncomputable section

namespace Cert.ProjIdeal.Point

open Cert.ProjIdeal Cert.ProjIdeal.Gen Cert.ProjIdeal.Run Idealize.ShloMosaic Idealize.ShloMosaic.TcCoe Idealize.SL.Sem Layer

variable (m : (ℓ : Loc nD τ sig) → Buf (Elt Ideal) ℓ) (ρ : Dev nD → PrngReg)

/-- The normalised and modulated rows that every column block of a batch is computed from. -/
theorem hid_apply (x0 : Vec Ideal S1x2048x1024 .f32) (x1 : Vec Ideal S1x9x1024 .f32) (x2 : Vec Ideal S1x1024 .f32)
    (s : Fin 2048) (k : Fin 1024) :
    hid x0 x1 x2 (ix2 s k)
      = modulated (fun n => x0 (ix3 0 s n)) (fun n => x2 (ix2 0 n)) (fun n => x1 (ix3 0 3 n)) (fun n => x1 (ix3 0 4 n)) k := by
  pointwise [hid, k0_pay3, k0_pay2, modulated, rms]

theorem gates_apply (x0 : Vec Ideal S1x2048x1024 .f32) (x1 : Vec Ideal S1x9x1024 .f32) (x2 : Vec Ideal S1x1024 .f32)
    (x4 : Vec Ideal S1024x128 .bf16) (s : Fin 2048) (q : Fin 128) :
    gates x0 x1 x2 x4 (ix3 0 s q)
      = ∑ k : Fin 1024, modulated (fun n => x0 (ix3 0 s n)) (fun n => x2 (ix2 0 n)) (fun n => x1 (ix3 0 3 n))
          (fun n => x1 (ix3 0 4 n)) k * x4 (ix2 k q) := by
  pointwise [gates, k0_pay4, k0_pay2, modulated, rms]

theorem wide_apply (h : Vec Ideal S2048x1024 .bf16) (w : Vec Ideal S1024x1024 .bf16) (s : Fin 2048) (q : Fin 1024) :
    k0_pay1 h w (ix3 0 s q) = ∑ k : Fin 1024, h (ix2 s k) * w (ix2 k q) := by
  pointwise [k0_pay1]

/-- Where the windows' blocks lie: batch `t / 10`, column block `t % 10`. -/
theorem idx : ∀ t : Fin cfg0.N,
    (win0_0.index t 0 = t.val / 10 ∧ win0_0.index t 1 = 0 ∧ win0_0.index t 2 = 0)
    ∧ (win0_1.index t 0 = t.val / 10 ∧ win0_1.index t 1 = 0 ∧ win0_1.index t 2 = 0)
    ∧ (win0_2.index t 0 = 0 ∧ win0_2.index t 1 = 0)
    ∧ (win0_3.index t 0 = 0 ∧ win0_3.index t 1 = t.val % 10)
    ∧ (win0_4.index t 0 = 0 ∧ win0_4.index t 1 = 0)
    ∧ (win0_5.index t 0 = t.val / 10 ∧ win0_5.index t 1 = 0 ∧ win0_5.index t 2 = t.val % 10)
    ∧ (win0_6.index t 0 = t.val / 10 ∧ win0_6.index t 1 = 0 ∧ win0_6.index t 2 = 0) :=
  (by decide +kernel : ∀ t : Fin grid0.N, _)

theorem lt80 (t : Fin cfg0.N) : t.val < 80 := lt_of_lt_of_eq t.isLt N_0

theorem V_2 (c : Dev nD) (k : Fin 1024) : V m c main_v2 (ix2 0 k) = m ((c : Thread nD τ).loc main_arg2) (ix1 k) := by
  unfold V
  after_reads_at

theorem V_0 (c : Dev nD) (k : Fin 1024) (q : Fin 10240) : V m c main_v0 (ix2 k q) = m ((c : Thread nD τ).loc main_arg3) (ix2 k q) := by
  unfold V
  after_reads_at

theorem V_1 (c : Dev nD) (k : Fin 1024) (q : Fin 128) : V m c main_v1 (ix2 k q) = m ((c : Thread nD τ).loc main_arg4) (ix2 k q) := by
  unfold V
  after_reads_at

theorem blk0 (c : Dev nD) (t : Fin cfg0.N) (s : Fin 2048) (n : Fin 1024) :
    (iblk m c 0 t : Vec Ideal S1x2048x1024 .f32) (ix3 0 s n)
      = m ((c : Thread nD τ).loc main_arg0) (ix3 ⟨t.val / 10, by have := lt80 t; omega⟩ s n) := by
  have hi := (idx t).1
  unfold iblk
  rw [View.read_apply]
  refine (congrFun (V_main_arg0 m c) _).trans (congrArg _ ?_)
  funext a
  apply Fin.ext
  match a with
  | ⟨0, _⟩ => show win0_0.index t 0 * 1 + 1 * 0 = t.val / 10; rw [hi.1]; omega
  | ⟨1, _⟩ => show win0_0.index t 1 * 2048 + 1 * s.val = s.val; rw [hi.2.1]; omega
  | ⟨2, _⟩ => show win0_0.index t 2 * 1024 + 1 * n.val = n.val; rw [hi.2.2]; omega

theorem blk1 (c : Dev nD) (t : Fin cfg0.N) (p : Fin 9) (n : Fin 1024) :
    (iblk m c 1 t : Vec Ideal S1x9x1024 .f32) (ix3 0 p n)
      = m ((c : Thread nD τ).loc main_arg1) (ix3 ⟨t.val / 10, by have := lt80 t; omega⟩ p n) := by
  have hi := (idx t).2.1
  unfold iblk
  rw [View.read_apply]
  refine (congrFun (V_main_arg1 m c) _).trans (congrArg _ ?_)
  funext a
  apply Fin.ext
  match a with
  | ⟨0, _⟩ => show win0_1.index t 0 * 1 + 1 * 0 = t.val / 10; rw [hi.1]; omega
  | ⟨1, _⟩ => show win0_1.index t 1 * 9 + 1 * p.val = p.val; rw [hi.2.1]; omega
  | ⟨2, _⟩ => show win0_1.index t 2 * 1024 + 1 * n.val = n.val; rw [hi.2.2]; omega

theorem blk2 (c : Dev nD) (t : Fin cfg0.N) (n : Fin 1024) :
    (iblk m c 2 t : Vec Ideal S1x1024 .f32) (ix2 0 n)
      = m ((c : Thread nD τ).loc main_arg2) (ix1 n) := by
  have hi := (idx t).2.2.1
  unfold iblk
  rw [View.read_apply]
  refine Eq.trans (congrArg (V m c main_v2) ?_) (V_2 m c n)
  funext a
  apply Fin.ext
  match a with
  | ⟨0, _⟩ => show win0_2.index t 0 * 1 + 1 * 0 = 0; rw [hi.1]
  | ⟨1, _⟩ => show win0_2.index t 1 * 1024 + 1 * n.val = n.val; rw [hi.2]; omega

theorem blk3 (c : Dev nD) (t : Fin cfg0.N) (k : Fin 1024) (q : Fin 1024) :
    (iblk m c 3 t : Vec Ideal S1024x1024 .bf16) (ix2 k q)
      = m ((c : Thread nD τ).loc main_arg3) (ix2 k ⟨t.val % 10 * 1024 + q.val, by have := q.isLt; omega⟩) := by
  have hi := (idx t).2.2.2.1
  unfold iblk
  rw [View.read_apply]
  refine Eq.trans (congrArg (V m c main_v0) ?_) (V_0 m c k ⟨t.val % 10 * 1024 + q.val, by have := q.isLt; omega⟩)
  funext a
  apply Fin.ext
  match a with
  | ⟨0, _⟩ => show win0_3.index t 0 * 1024 + 1 * k.val = k.val; rw [hi.1]; omega
  | ⟨1, _⟩ => show win0_3.index t 1 * 1024 + 1 * q.val = t.val % 10 * 1024 + q.val; rw [hi.2]; omega

theorem blk4 (c : Dev nD) (t : Fin cfg0.N) (k : Fin 1024) (q : Fin 128) :
    (iblk m c 4 t : Vec Ideal S1024x128 .bf16) (ix2 k q)
      = m ((c : Thread nD τ).loc main_arg4) (ix2 k q) := by
  have hi := (idx t).2.2.2.2.1
  unfold iblk
  rw [View.read_apply]
  refine Eq.trans (congrArg (V m c main_v1) ?_) (V_1 m c k q)
  funext a
  apply Fin.ext
  match a with
  | ⟨0, _⟩ => show win0_4.index t 0 * 1024 + 1 * k.val = k.val; rw [hi.1]; omega
  | ⟨1, _⟩ => show win0_4.index t 1 * 128 + 1 * q.val = q.val; rw [hi.2]; omega

/-- The two result arrays of the kernel: the wide projection and the gate logits. -/
abbrev wide (c : Dev nD) : Buf (Elt Ideal) ((c : Thread nD τ).loc main_v3_0) :=
  projAll 10240 (m ((c : Thread nD τ).loc main_arg0)) (m ((c : Thread nD τ).loc main_arg1)) (m ((c : Thread nD τ).loc main_arg2))
    (m ((c : Thread nD τ).loc main_arg3))

abbrev narrow (c : Dev nD) : Buf (Elt Ideal) ((c : Thread nD τ).loc main_v3_1) :=
  projAll 128 (m ((c : Thread nD τ).loc main_arg0)) (m ((c : Thread nD τ).loc main_arg1)) (m ((c : Thread nD τ).loc main_arg2))
    (m ((c : Thread nD τ).loc main_arg4))

/-- The first point of a batch reads the same batch. -/
theorem first_div (t : Fin cfg0.N) : (first t).val / 10 = t.val / 10 := by
  show t.val / 10 * 10 / 10 = t.val / 10
  omega

theorem wide_eq (c : Dev nD) (t : Fin cfg0.N) (s : Fin 2048) (q : Fin 1024) :
    k0_pay1 (hidAt m c t) (iblk m c 3 t) (ix3 0 s q) = wide m c (ix3 ⟨t.val / 10, by have := lt80 t; omega⟩ s ⟨t.val % 10 * 1024 + q.val, by have := q.isLt; omega⟩) := by
  rw [wide_apply]
  unfold wide projAll hidAt
  pointwise [hid_apply, blk0, blk1, blk2, blk3, first_div]

theorem narrow_eq (c : Dev nD) (t : Fin cfg0.N) (s : Fin 2048) (q : Fin 128) :
    gatesAt m c t (ix3 0 s q) = narrow m c (ix3 ⟨t.val / 10, by have := lt80 t; omega⟩ s q) := by
  unfold narrow projAll gatesAt
  rw [gates_apply]
  pointwise [blk0, blk1, blk2, blk4, first_div]

/-- What point `t` writes back through window 5 is its block of the result. -/
theorem flushed_5 (c : Dev nD) (t : Fin cfg0.N) :
    (dats m 0 c).flushed 5 t = ((cfg0.win 5).blk t).view.read (Elt Ideal) (wide m c) := by
  show (cfg0.win 5).cut (grid0.coords t) ((dats m 0 c).after 5 t) = _
  rw [after_5]
  funext j
  have hi := (idx t).2.2.2.2.2.1
  rw [View.read_apply]
  have hs : (j 1).val < 2048 := (j 1).isLt
  have hq : (j 2).val < 1024 := (j 2).isLt
  have hj : (show S1x2048x1024.Idx from j) = ix3 0 ⟨(j 1).val, hs⟩ ⟨(j 2).val, hq⟩ := by
    funext a
    apply Fin.ext
    match a with
    | ⟨0, _⟩ => show (j 0).val = 0; have : (j 0).val < 1 := (j 0).isLt; omega
    | ⟨1, _⟩ => rfl
    | ⟨2, _⟩ => rfl
  have e : ((cfg0.win 5).blk t).view.emb j = ix3 ⟨t.val / 10, by have := lt80 t; omega⟩ ⟨(j 1).val, hs⟩ ⟨t.val % 10 * 1024 + (j 2).val, by omega⟩ := by
    funext a
    apply Fin.ext
    match a with
    | ⟨0, _⟩ => show win0_5.index t 0 * 1 + 1 * (j 0).val = t.val / 10; rw [hi.1]; have : (j 0).val < 1 := (j 0).isLt; omega
    | ⟨1, _⟩ => show win0_5.index t 1 * 2048 + 1 * (j 1).val = (j 1).val; rw [hi.2.1]; omega
    | ⟨2, _⟩ => show win0_5.index t 2 * 1024 + 1 * (j 2).val = t.val % 10 * 1024 + (j 2).val; rw [hi.2.2]; omega
  rw [e]
  exact (congrArg (k0_pay1 (hidAt m c t) (iblk m c 3 t)) hj).trans (wide_eq m c t ⟨(j 1).val, hs⟩ ⟨(j 2).val, hq⟩)

theorem final_5 (c : Dev nD) : (dats m 0 c).arrAt 5 cfg0.N = wide m c :=
  (dats m 0 c).arrAt_eq_of_cover 5 (wide m c) (fun t _ => flushed_5 m c t) fun i => by
    have h0 : (i 0 : Nat) < 8 := (i 0).isLt
    have h1 : (i 1 : Nat) < 2048 := (i 1).isLt
    have h2 : (i 2 : Nat) < 10240 := (i 2).isLt
    have hN : cfg0.N = 80 := N_0
    obtain ⟨t, ht⟩ : ∃ t : Fin cfg0.N, t.val = (i 0 : Nat) * 10 + (i 2 : Nat) / 1024 := ⟨⟨_, by omega⟩, rfl⟩
    have hi := (idx t).2.2.2.2.2.1
    refine ⟨t, flush0_5 t, ?_⟩
    show i ∈ ((View.whole main_v3_0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [hi.1]; omega
    | ⟨1, _⟩ => show win0_5.index t 1 * 2048 ≤ (i 1 : Nat) ∧ (i 1 : Nat) < win0_5.index t 1 * 2048 + 2048
                rw [hi.2.1]; omega
    | ⟨2, _⟩ => show win0_5.index t 2 * 1024 ≤ (i 2 : Nat) ∧ (i 2 : Nat) < win0_5.index t 2 * 1024 + 1024
                rw [hi.2.2]; omega

/-- What point `t` writes back through window 6 is its block of the result. -/
theorem flushed_6 (c : Dev nD) (t : Fin cfg0.N) :
    (dats m 0 c).flushed 6 t = ((cfg0.win 6).blk t).view.read (Elt Ideal) (narrow m c) := by
  show (cfg0.win 6).cut (grid0.coords t) ((dats m 0 c).after 6 t) = _
  rw [after_6]
  funext j
  have hi := (idx t).2.2.2.2.2.2
  rw [View.read_apply]
  have hs : (j 1).val < 2048 := (j 1).isLt
  have hq : (j 2).val < 128 := (j 2).isLt
  have hj : (show S1x2048x128.Idx from j) = ix3 0 ⟨(j 1).val, hs⟩ ⟨(j 2).val, hq⟩ := by
    funext a
    apply Fin.ext
    match a with
    | ⟨0, _⟩ => show (j 0).val = 0; have : (j 0).val < 1 := (j 0).isLt; omega
    | ⟨1, _⟩ => rfl
    | ⟨2, _⟩ => rfl
  have e : ((cfg0.win 6).blk t).view.emb j = ix3 ⟨t.val / 10, by have := lt80 t; omega⟩ ⟨(j 1).val, hs⟩ ⟨(j 2).val, by omega⟩ := by
    funext a
    apply Fin.ext
    match a with
    | ⟨0, _⟩ => show win0_6.index t 0 * 1 + 1 * (j 0).val = t.val / 10; rw [hi.1]; have : (j 0).val < 1 := (j 0).isLt; omega
    | ⟨1, _⟩ => show win0_6.index t 1 * 2048 + 1 * (j 1).val = (j 1).val; rw [hi.2.1]; omega
    | ⟨2, _⟩ => show win0_6.index t 2 * 128 + 1 * (j 2).val = (j 2).val; rw [hi.2.2]; omega
  rw [e]
  exact (congrArg (gatesAt m c t) hj).trans (narrow_eq m c t ⟨(j 1).val, hs⟩ ⟨(j 2).val, hq⟩)

theorem final_6 (c : Dev nD) : (dats m 0 c).arrAt 6 cfg0.N = narrow m c :=
  (dats m 0 c).arrAt_eq_of_cover 6 (narrow m c) (fun t _ => flushed_6 m c t) fun i => by
    have h0 : (i 0 : Nat) < 8 := (i 0).isLt
    have h1 : (i 1 : Nat) < 2048 := (i 1).isLt
    have h2 : (i 2 : Nat) < 128 := (i 2).isLt
    have hN : cfg0.N = 80 := N_0
    obtain ⟨t, ht⟩ : ∃ t : Fin cfg0.N, t.val = (i 0 : Nat) * 10 + 9 := ⟨⟨_, by omega⟩, rfl⟩
    have hi := (idx t).2.2.2.2.2.2
    refine ⟨t, (flush0_6 t).mpr (by omega), ?_⟩
    show i ∈ ((View.whole main_v3_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [hi.1]; omega
    | ⟨1, _⟩ => show win0_6.index t 1 * 2048 ≤ (i 1 : Nat) ∧ (i 1 : Nat) < win0_6.index t 1 * 2048 + 2048
                rw [hi.2.1]; omega
    | ⟨2, _⟩ => show win0_6.index t 2 * 128 ≤ (i 2 : Nat) ∧ (i 2 : Nat) < win0_6.index t 2 * 128 + 128
                rw [hi.2.2]; omega

end Cert.ProjIdeal.Point

namespace Cert.ProjRefIdeal.Point

open Cert.ProjRefIdeal Cert.ProjRefIdeal.Read Idealize.ShloMosaic Layer

variable (x0 : FVec Ideal S8x2048x1024 .f32) (x1 : FVec Ideal S8x9x1024 .f32) (x2 : FVec Ideal S1024 .f32)
  (x3 : FVec Ideal S1024x10240 .f32) (x4 : FVec Ideal S1024x128 .f32)

/-- The reference's normalised and modulated input. -/
theorem ref_modulated (b : Fin 8) (s : Fin 2048) (k : Fin 1024) :
    val_main_v24 (F := Ideal) x0 x1 x2 (ix3 b s k)
      = modulated (fun n => x0 (ix3 b s n)) (fun n => x2 (ix1 n)) (fun n => x1 (ix3 b 3 n)) (fun n => x1 (ix3 b 4 n)) k := by
  pointwise [val_main_v24, val_main_v23, val_main_v22, val_main_v21, val_main_v20, val_main_v19, val_main_v18, val_main_cst_2,
    val_main_v17, val_main_v16, val_main_v15, val_main_v14, val_main_v13, val_main_v12, val_main_v11, val_main_v10, val_main_v9,
    val_main_v8, val_main_v7, val_main_v6, val_main_v5, val_main_cst_1, val_main_v4, val_main_v3, val_main_cst_0, val_main_v2,
    val_main_v1, val_main_cst, val_main_v0, modulated, rms]

theorem ref_wide : val_main_v26 (F := Ideal) x0 x1 x2 x3 = projAll 10240 x0 x1 x2 x3 := by
  funext i
  idx_vars i
  pointwise [val_main_v26, val_main_v25, ref_modulated, projAll]

theorem ref_narrow : val_main_v27 (F := Ideal) x0 x1 x2 x4 = projAll 128 x0 x1 x2 x4 := by
  funext i
  idx_vars i
  pointwise [val_main_v27, ref_modulated, projAll]

end Cert.ProjRefIdeal.Point

end
-- ==== Proof.AdaValue.lean ====
/-
  The modulation kernel: its result array, and the reference's, are one function of the arguments.
-/
module

public import proofs.«01_k».proof.Proof.Block
public import proofs.«01_k».proof.Proof.Gen.AdaIdeal.Value
public import proofs.«01_k».proof.Proof.Gen.AdaRefIdeal.Read
public import Idealize.ShloMosaic.Lib.Pointwise
public import Idealize.ShloMosaic.Lib.StableHlo.ReadAt

@[expose] public section

set_option maxRecDepth 16384

noncomputable section

namespace Cert.AdaIdeal.Point

open Cert.AdaIdeal Cert.AdaIdeal.Gen Idealize.ShloMosaic Idealize.ShloMosaic.TcCoe Idealize.SL.Sem Layer

variable (m : (ℓ : Loc nD τ sig) → Buf (Elt Ideal) ℓ) (ρ : Dev nD → PrngReg)

/-- The output block of a point, from the point's input blocks. -/
theorem out_apply (x0 : Vec Ideal S8x1024 .f32) (x1 : Vec Ideal S1024x1024 .f32) (x2 : Vec Ideal S1x1024 .f32)
    (b : Fin 8) (q : Fin 1024) :
    out0_3 x0 x1 x2 (ix2 b q)
      = (∑ k : Fin 1024, x0 (ix2 b k) * logi (x0 (ix2 b k)) * x1 (ix2 k q)) + x2 (ix2 0 q) := by
  have hz : (![0, 0] : Fin 2 → Nat) = fun _ => 0 := funext fun a => by fin_cases a <;> rfl
  unfold out0_3
  rw [View.canon_unit_zero hz, View.ld_unit_zero (S := S8x1024) hz, View.ld_unit_zero (S := S1024x1024) hz,
    View.ld_unit_zero (S := S1x1024) hz]
  pointwise [k0_pay1, logi, zero_sub]

/-- Where the windows' blocks lie: column block `t`. -/
theorem idx : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) :=
  (by decide +kernel : ∀ t : Fin grid0.N, _)

theorem lt9 (t : Fin cfg0.N) : t.val < 9 := lt_of_lt_of_eq t.isLt N_0

theorem V_0 (c : Dev nD) (q : Fin 9216) : V m c main_v0 (ix2 0 q) = m ((c : Thread nD τ).loc main_arg2) (ix1 q) := by
  unfold V
  after_reads_at

theorem blk0 (c : Dev nD) (t : Fin cfg0.N) (b : Fin 8) (k : Fin 1024) :
    (iblk m c 0 t : Vec Ideal S8x1024 .f32) (ix2 b k)
      = m ((c : Thread nD τ).loc main_arg0) (ix2 b k) := by
  have hi := (idx t).1
  unfold iblk
  rw [View.read_apply]
  refine (congrFun (V_main_arg0 m c) _).trans (congrArg _ ?_)
  funext a
  apply Fin.ext
  match a with
  | ⟨0, _⟩ => show win0_0.index t 0 * 8 + 1 * b.val = b.val; rw [hi.1]; omega
  | ⟨1, _⟩ => show win0_0.index t 1 * 1024 + 1 * k.val = k.val; rw [hi.2]; omega

theorem blk1 (c : Dev nD) (t : Fin cfg0.N) (k : Fin 1024) (q : Fin 1024) :
    (iblk m c 1 t : Vec Ideal S1024x1024 .f32) (ix2 k q)
      = m ((c : Thread nD τ).loc main_arg1) (ix2 k ⟨t.val * 1024 + q.val, by have := lt9 t; have := q.isLt; omega⟩) := by
  have hi := (idx t).2.1
  unfold iblk
  rw [View.read_apply]
  refine (congrFun (V_main_arg1 m c) _).trans (congrArg _ ?_)
  funext a
  apply Fin.ext
  match a with
  | ⟨0, _⟩ => show win0_1.index t 0 * 1024 + 1 * k.val = k.val; rw [hi.1]; omega
  | ⟨1, _⟩ => show win0_1.index t 1 * 1024 + 1 * q.val = t.val * 1024 + q.val; rw [hi.2]; omega

theorem blk2 (c : Dev nD) (t : Fin cfg0.N) (q : Fin 1024) :
    (iblk m c 2 t : Vec Ideal S1x1024 .f32) (ix2 0 q)
      = m ((c : Thread nD τ).loc main_arg2) (ix1 ⟨t.val * 1024 + q.val, by have := lt9 t; have := q.isLt; omega⟩) := by
  have hi := (idx t).2.2.1
  unfold iblk
  rw [View.read_apply]
  refine Eq.trans (congrArg (V m c main_v0) ?_) (V_0 m c ⟨t.val * 1024 + q.val, by have := lt9 t; have := q.isLt; omega⟩)
  funext a
  apply Fin.ext
  match a with
  | ⟨0, _⟩ => show win0_2.index t 0 * 1 + 1 * 0 = 0; rw [hi.1]
  | ⟨1, _⟩ => show win0_2.index t 1 * 1024 + 1 * q.val = t.val * 1024 + q.val; rw [hi.2]; omega

/-- The result array of the kernel. -/
abbrev result (c : Dev nD) : Buf (Elt Ideal) ((c : Thread nD τ).loc main_v1) :=
  rowsAll (m ((c : Thread nD τ).loc main_arg0)) (m ((c : Thread nD τ).loc main_arg1)) (m ((c : Thread nD τ).loc main_arg2))

theorem out_eq (c : Dev nD) (t : Fin cfg0.N) (b : Fin 8) (q : Fin 1024) :
    out0_3 (iblk m c 0 t) (iblk m c 1 t) (iblk m c 2 t) (ix2 b q) = result m c (ix2 b ⟨t.val * 1024 + q.val, by have := lt9 t; have := q.isLt; omega⟩) := by
  rw [out_apply]
  unfold result rowsAll
  pointwise [blk0, blk1, blk2]

/-- What point `t` writes back is its block of the result. -/
theorem flushed_eq (c : Dev nD) (t : Fin cfg0.N) :
    (dats m 0 c).flushed 3 t = ((cfg0.win 3).blk t).view.read (Elt Ideal) (result m c) := by
  rw [Value.flushed3]
  funext j
  have hi := (idx t).2.2.2
  rw [View.read_apply]
  have hb : (j 0).val < 8 := (j 0).isLt
  have hq : (j 1).val < 1024 := (j 1).isLt
  have hj : (show S8x1024.Idx from j) = ix2 ⟨(j 0).val, hb⟩ ⟨(j 1).val, hq⟩ := by
    funext a
    apply Fin.ext
    match a with
    | ⟨0, _⟩ => rfl
    | ⟨1, _⟩ => rfl
  have e : ((cfg0.win 3).blk t).view.emb j = ix2 ⟨(j 0).val, hb⟩ ⟨t.val * 1024 + (j 1).val, by have := lt9 t; omega⟩ := by
    funext a
    apply Fin.ext
    match a with
    | ⟨0, _⟩ => show win0_3.index t 0 * 8 + 1 * (j 0).val = (j 0).val; rw [hi.1]; omega
    | ⟨1, _⟩ => show win0_3.index t 1 * 1024 + 1 * (j 1).val = t.val * 1024 + (j 1).val; rw [hi.2]; omega
  rw [e]
  exact (congrArg (out0_3 (iblk m c 0 t) (iblk m c 1 t) (iblk m c 2 t)) hj).trans (out_eq m c t ⟨(j 0).val, hb⟩ ⟨(j 1).val, hq⟩)

theorem final (c : Dev nD) : (dats m 0 c).arrAt 3 cfg0.N = result m c :=
  (dats m 0 c).arrAt_eq_of_cover 3 (result m c) (fun t _ => flushed_eq m c t) fun i => by
    have h0 : (i 0 : Nat) < 8 := (i 0).isLt
    have h1 : (i 1 : Nat) < 9216 := (i 1).isLt
    have hN : cfg0.N = 9 := N_0
    obtain ⟨t, ht⟩ : ∃ t : Fin cfg0.N, t.val = (i 1 : Nat) / 1024 := ⟨⟨_, by omega⟩, rfl⟩
    have hi := (idx t).2.2.2
    refine ⟨t, flush0_3 t, ?_⟩
    show i ∈ ((View.whole main_v1).slice (win0_3.rect t)).set
    rw [View.set_slice_whole, Rect.mem_set_unit]
    intro a
    match a with
    | ⟨0, _⟩ => show win0_3.index t 0 * 8 ≤ (i 0 : Nat) ∧ (i 0 : Nat) < win0_3.index t 0 * 8 + 8
                rw [hi.1]; omega
    | ⟨1, _⟩ => show win0_3.index t 1 * 1024 ≤ (i 1 : Nat) ∧ (i 1 : Nat) < win0_3.index t 1 * 1024 + 1024
                rw [hi.2]; omega

end Cert.AdaIdeal.Point

namespace Cert.AdaRefIdeal.Point

open Cert.AdaRefIdeal Cert.AdaRefIdeal.Read Idealize.ShloMosaic Layer

variable (x0 : FVec Ideal S8x1024 .f32) (x1 : FVec Ideal S1024x9216 .f32) (x2 : FVec Ideal S9216 .f32)

theorem ref_eq : val_main_v4 (F := Ideal) x0 x1 x2 = rowsAll x0 x1 x2 := by
  funext i
  idx_vars i
  pointwise [val_main_v4, val_main_v3, val_main_v2, val_main_v1, val_main_v0, val_main_call0_v5, val_main_call0_v4,
    val_main_call0_cst_0, val_main_call0_v3, val_main_call0_v2, val_main_call0_cst, val_main_call0_v1, val_main_call0_v0,
    rowsAll, logi]

end Cert.AdaRefIdeal.Point

end
-- ==== Proof.MlstmRun.lean ====
/-
  The mLSTM kernel: one call of its body, run once, with what it stores into the output block found by the run.
-/
module

public import proofs.«01_k».proof.Proof.Gen.MlstmIdeal.Skeleton
public import proofs.«01_k».proof.Proof.Gen.MlstmIdeal.Loops
public import proofs.«01_k».proof.Proof.Gen.MlstmIdeal.Frame

@[expose] public section

set_option maxRecDepth 16384

noncomputable section

namespace Cert.MlstmIdeal.Run

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 6000000 in
/-- What the body stores into the output block, from any contents of the output and scratch buffers, with its triple. -/
def bodyRun (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1x2048x128 .f32) (harg6 : arg6.IsWhole) (arg7 : Memref sig .tc .vmem S1x2x16x8x128 .f32) (harg7 : arg7.IsWhole) (arg8 : Memref sig .tc .vmem S1x128 .f32) (harg8 : arg8.IsWhole) (arg9 : Memref sig .tc .vmem S1x2048x256 .bf16) (harg9 : arg9.IsWhole) (arg10 : Memref sig .tc .vmem S2x16x128x128 .bf16) (harg10 : arg10.IsWhole) (arg11 : Memref sig .tc .vmem S2x16x144x128 .bf16) (harg11 : arg11.IsWhole) (arg12 : Memref sig .tc .vmem S4x16x128x128 .f32) (harg12 : arg12.IsWhole) (arg13 : Memref sig .tc .vmem S4x144x128 .f32) (harg13 : arg13.IsWhole) (arg14 : Memref sig .tc .vmem S4x16x8x128 .f32) (harg14 : arg14.IsWhole)
    (x0 : Vec F S1x2048x256 .bf16) (x1 : Vec F S1x2048x256 .bf16) (x2 : Vec F S1x2048x256 .bf16) (x3 : Vec F S1x2048x256 .bf16) (x4 : Vec F S1x1x2048x128 .f32) (x5 : Vec F S1x2x16x8x128 .f32) (x6 : Vec F S1x128 .f32)
    (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) :
    { L : List (View.Piece (Elt F) S1x2048x256 .bf16) // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14)
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (arg9.view.loc (c : Thread nD τ) ↦[arg9.view.set]{fullShare} (arg9.view.writes (Elt F) f_arg9 L)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
        ⊢ wp frame (wpE (defs₀ (F := F)) Variants.none c none) E (cc0_mlstm i arg2 harg2 arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_mlstm_eq_skeleton]; unfold cc0_mlstm_skel
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, HS0, HS1, HS2, HS3, HS4, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.MlstmIdeal.Run

end
-- ==== Proof.MlstmFrame.lean ====
/-
  The mLSTM kernel's frame: the run of the whole grid, from the run of one call of its body. The five scratch arrays hold
  anything between points, since every point fills them before it reads them; of the output block nothing is said here.
-/
module

public import proofs.«01_k».proof.Proof.MlstmRun
public import Idealize.ShloMosaic.Lib.Pipeline.Value
public import Idealize.ShloMosaic.Lib.Claim

@[expose] public section

set_option maxRecDepth 16384

noncomputable section

namespace Cert.MlstmIdeal.Run

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scr0 : Memref sig .tc .vmem S2x16x128x128 .bf16 := Memref.whole cc0_scratch0
abbrev scr1 : Memref sig .tc .vmem S2x16x144x128 .bf16 := Memref.whole cc0_scratch1
abbrev scr2 : Memref sig .tc .vmem S4x16x128x128 .f32 := Memref.whole cc0_scratch2
abbrev scr3 : Memref sig .tc .vmem S4x144x128 .f32 := Memref.whole cc0_scratch3
abbrev scr4 : Memref sig .tc .vmem S4x16x8x128 .f32 := Memref.whole cc0_scratch4

/-- The scoped rest of the region: the scratch arrays at some contents, and the generator register. -/
theorem rest_eq (c : Dev nD) :
    (Pipeline.ΦA spec0 c : sProp 𝕄) = iprop(iprop((∃ d, owns (c : Thread nD τ) scr0 fullShare d) ∗ (∃ d, owns (c : Thread nD τ) scr1 fullShare d)
      ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The only window of which nothing is said. -/
def fgt (w : Fin cfg0.W) : Bool := match w with
  | ⟨7, _⟩ => true
  | _ => false

/-- The data of the pipeline: each input's buffer at its block, the scratch arrays at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, rest_eq]
  unfold owns
  iintro ⟨⟨⟨⟨%d8, %f8, -, HS0⟩, ⟨%d9, %f9, -, HS1⟩, ⟨%d10, %f10, -, HS2⟩, ⟨%d11, %f11, -, HS3⟩, ⟨%d12, %f12, -, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, %f7, -, H7⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) f7 f8 f9 f10 f11 f12).2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _, _; isplitr; swap; · iexact H7
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every execution ends, each input array as it was and every semaphore counter at zero. -/
theorem run_all : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

/-- Every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 3 rfl).trans ((A_eq m c 3).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_all m ρ)

end Cert.MlstmIdeal.Run

end
-- ==== Proof.MlstmModel.lean ====
/-
  One chunk of one head in one direction, as the mLSTM kernel computes it: from the chunk's keys, transposed queries and
  transposed values, its gates and the running maximum, how the state changes and what the chunk's tokens read of it.
-/
module

public import proofs.«01_k».proof.Proof.Gen.MlstmIdeal.Skeleton

@[expose] public section

set_option maxRecDepth 16384

noncomputable section

namespace Cert.MlstmIdeal.Model

open Cert.MlstmIdeal Cert.MlstmIdeal.Gen
open Idealize.ShloMosaic Idealize.ShloMosaic.TcCoe

variable {F : FTy → Type} [FloatOps F]

/-- The data of one chunk: the positions a token sees, the difference of the gate columns, the input gate's row `i`, the
    cumulated forget gate's row `b`, its total `g`, the running maximum `m`, keys, transposed queries and values. -/
structure Chunk (F : FTy → Type) where
  mask : IVec S128x128 1
  d : FVec F S128x1 .f32
  i : FVec F S1x128 .f32
  b : FVec F S1x128 .f32
  g : FVec F S1x1 .f32
  m : FVec F S1x128 .f32
  k : FVec F S128x128 .bf16
  q : FVec F S128x128 .bf16
  v : FVec F S144x128 .bf16

namespace Chunk

variable (p : Chunk F)

/-- The log weights of the chunk's tokens for one another. -/
def dmat : FVec F S128x128 .f32 :=
  select p.mask (subf (broadcastTo S128x128 p.b broadcasts_S1x128_S128x128) (broadcastTo S128x128 p.d broadcasts_S128x1_S128x128))
    (broadcast S128x128 (Scalar.ofBits .f32 0xFF800000#32))

/-- The log weight of the state the chunk starts from. -/
def inter : FVec F S1x128 .f32 := addf p.b p.m

/-- The largest log weight of each token. -/
def mt : FVec F S1x128 .f32 :=
  maximumf p.inter (shapeCast S1x128 (multiReduction .maximumf [0] S128 p.dmat 0xFF800000#32 reduces_S128x128_S128_2 (.inl rfl) rfl)
    shapeCasts_S128_S1x128)

/-- The products of keys and queries. -/
def st : FVec F S128x128 .f32 :=
  matmul dot_S128x128_S128x128_S128x128_1_0_0_1_n_n none p.k p.q (constant S128x128 .f32 0x00000000#32)

/-- The weighted products. -/
def pst : FVec F S128x128 .bf16 :=
  truncf .bf16 (mulf (mulf p.st (broadcast S128x128 (Scalar.ofBits .f32 0x3DB504F3#32)))
    (exp (subf p.dmat (broadcastTo S128x128 p.mt broadcasts_S1x128_S128x128)))) bitsLt_bf16_f32

/-- The queries, weighted for the state. -/
def qw : FVec F S128x128 .bf16 :=
  truncf .bf16 (mulf (extf .f32 p.q bitsLt_bf16_f32)
    (broadcastTo S128x128 (mulf (exp (subf p.inter p.mt)) (broadcast S1x128 (Scalar.ofBits .f32 0x3DB504F3#32)))
      broadcasts_S1x128_S128x128)) bitsLt_bf16_f32

/-- Both, one above the other. -/
def rhs : FVec F S256x128 .bf16 :=
  concatenate S256x128 0 [⟨S128x128, p.pst⟩, ⟨S128x128, p.qw⟩] concatenates_S128x128_S128x128_S256x128_d0

/-- The least divisor. -/
def floor : FVec F S1x128 .f32 := exp (subf (broadcast S1x128 (Scalar.ofBits .f32 0x00000000#32)) p.mt)

/-- The log weights of the chunk's tokens in the state it leaves. -/
def a : FVec F S1x128 .f32 := addf (subf (broadcastTo S1x128 p.g broadcasts_S1x1_S1x128) p.b) p.i

/-- The running maximum after the chunk. -/
def mnew : FVec F S1x128 .f32 :=
  maximumf (addf (broadcastTo S1x128 p.g broadcasts_S1x1_S1x128) p.m)
    (broadcastTo S1x128 (shapeCast S1x1 (multiReduction .maximumf [1] S1 p.a 0xFF800000#32 reduces_S1x128_S1 (.inl rfl) rfl)
      shapeCasts_S1_S1x1) broadcasts_S1x1_S1x128)

/-- The weight of the old state in the new one. -/
def decay : FVec F S1x128 .f32 := exp (subf (addf (broadcastTo S1x128 p.g broadcasts_S1x1_S1x128) p.m) p.mnew)

/-- What the chunk's tokens add to the state. -/
def gain : FVec F S144x128 .f32 :=
  matmul dot_S144x128_S128x128_S144x128_1_0_0_1_n_n none
    (truncf .bf16 (mulf (extf .f32 p.v bitsLt_bf16_f32)
      (broadcastTo S144x128 (exp (subf p.a p.mnew)) broadcasts_S1x128_S144x128)) bitsLt_bf16_f32)
    p.k (constant S144x128 .f32 0x00000000#32)

/-- The state after the chunk. -/
def next (C : FVec F S144x128 .f32) : FVec F S144x128 .f32 :=
  addf (mulf (broadcastTo S144x128 p.decay broadcasts_S1x128_S144x128) C) p.gain

/-- Numerators, and below them the divisors. -/
def num (C : FVec F S144x128 .f32) : FVec F S144x128 .f32 :=
  matmul dot_S144x256_S256x128_S144x128_1_0_0_1_n_n none
    (concatenate S144x256 1 [⟨S144x128, p.v⟩, ⟨S144x128, truncf .bf16 C bitsLt_bf16_f32⟩] concatenates_S144x128_S144x128_S144x256_d1)
    p.rhs (constant S144x128 .f32 0x00000000#32)

/-- What the chunk's tokens read. -/
def out (C : FVec F S144x128 .f32) : FVec F S128x128 .f32 :=
  divf (extractStridedSlice S128x128 ![0, 0] (p.num C) slices_S144x128_o0_0_S128x128)
    (broadcastTo S128x128
      (maximumf (absf (extractStridedSlice S1x128 ![128, 0] (p.num C) slices_S144x128_o128_0_S1x128)) p.floor)
      broadcasts_S1x128_S128x128)

end Chunk

variable (kB : Vec F S1x128x128 .bf16) (qB : Vec F S1x1x128x128 .bf16) (vB : Vec F S1x1x144x128 .bf16)
  (cB : Vec F S1x1x128x128 .f32) (rB : Vec F S1x1x1x8x128 .f32) (mB : Vec F S1x1x8x128 .f32)

/-- The gate rows of a chunk. -/
def rows : FVec F S8x128 .f32 := shapeCast S8x128 rB shapeCasts_S1x1x1x8x128_S8x128

/-- The gate columns of a chunk. -/
def cols : FVec F S128x128 .f32 := shapeCast S128x128 cB shapeCasts_S1x1x128x128_S128x128

/-- The positions, along either axis. -/
def pos0 : IVec S128x128 32 := iota .tc S128x128 32 [0] iota_S128x128_d0_w32
def pos1 : IVec S128x128 32 := iota .tc S128x128 32 [1] iota_S128x128_d1_w32

/-- A chunk of the first head, forward. -/
def chunk0 : Chunk F where
  mask := cmpi .sle pos0 pos1
  d := subf (extractStridedSlice S128x1 ![0, 1] (cols cB) slices_S128x128_o0_1_S128x1) (extractStridedSlice S128x1 ![0, 0] (cols cB) slices_S128x128_o0_0_S128x1)
  i := extractStridedSlice S1x128 ![0, 0] (rows rB) slices_S8x128_o0_0_S1x128
  b := extractStridedSlice S1x128 ![1, 0] (rows rB) slices_S8x128_o1_0_S1x128
  g := extractStridedSlice S1x1 ![0, 127] (extractStridedSlice S1x128 ![1, 0] (rows rB) slices_S8x128_o1_0_S1x128) slices_S1x128_o0_127_S1x1
  m := extractStridedSlice S1x128 ![0, 0] (shapeCast S8x128 mB shapeCasts_S1x1x8x128_S8x128) slices_S8x128_o0_0_S1x128
  k := shapeCast S128x128 kB shapeCasts_S1x128x128_S128x128
  q := shapeCast S128x128 qB shapeCasts_S1x1x128x128_S128x128
  v := shapeCast S144x128 vB shapeCasts_S1x1x144x128_S144x128

/-- A chunk of the second head, forward. -/
def chunk2 : Chunk F := { chunk0 kB qB vB cB rB mB with
  d := subf (extractStridedSlice S128x1 ![0, 9] (cols cB) slices_S128x128_o0_9_S128x1) (extractStridedSlice S128x1 ![0, 8] (cols cB) slices_S128x128_o0_8_S128x1) }

/-- A chunk of the first head, backward. -/
def chunk1 : Chunk F where
  mask := cmpi .sge pos0 pos1
  d := subf (extractStridedSlice S128x1 ![0, 3] (cols cB) slices_S128x128_o0_3_S128x1) (extractStridedSlice S128x1 ![0, 2] (cols cB) slices_S128x128_o0_2_S128x1)
  i := extractStridedSlice S1x128 ![2, 0] (rows rB) slices_S8x128_o2_0_S1x128
  b := extractStridedSlice S1x128 ![3, 0] (rows rB) slices_S8x128_o3_0_S1x128
  g := extractStridedSlice S1x1 ![0, 0] (extractStridedSlice S1x128 ![3, 0] (rows rB) slices_S8x128_o3_0_S1x128) slices_S1x128_o0_0_S1x1
  m := extractStridedSlice S1x128 ![0, 0] (shapeCast S8x128 mB shapeCasts_S1x1x8x128_S8x128) slices_S8x128_o0_0_S1x128
  k := shapeCast S128x128 kB shapeCasts_S1x128x128_S128x128
  q := shapeCast S128x128 qB shapeCasts_S1x1x128x128_S128x128
  v := shapeCast S144x128 vB shapeCasts_S1x1x144x128_S144x128

/-- A chunk of the second head, backward. -/
def chunk3 : Chunk F := { chunk1 kB qB vB cB rB mB with
  d := subf (extractStridedSlice S128x1 ![0, 11] (cols cB) slices_S128x128_o0_11_S128x1) (extractStridedSlice S128x1 ![0, 10] (cols cB) slices_S128x128_o0_10_S128x1) }

end Cert.MlstmIdeal.Model

end
-- ==== Proof.MlstmSpec.lean ====
/-
  The mLSTM recurrence over chunks, for one head of one sequence, on extended reals: what a chunk's tokens read of the
  state, and the state they leave.
-/
module

public import Idealize.ShloMosaic.Lib.Pointwise

@[expose] public section

set_option maxRecDepth 16384

noncomputable section

namespace Mlstm

open Idealize.ShloMosaic

/-- The log weight of a token that is not seen. -/
def unseen : EReal := Ideal.ofBits .f32 0xFF800000#32

/-- The queries' factor. -/
def factor : EReal := Ideal.ofBits .f32 0x3DB504F3#32

/-- One chunk: queries, keys and values by token and feature, input gates, and forget gates cumulated in the chunk. -/
@[ext] structure Step where
  q : Fin 128 → Fin 128 → EReal
  k : Fin 128 → Fin 128 → EReal
  v : Fin 128 → Fin 128 → EReal
  i : Fin 128 → EReal
  b : Fin 128 → EReal

/-- The state: the matrix by key and value feature, the vector of the keys, the running maximum. -/
@[ext] structure Carry where
  C : Fin 128 → Fin 128 → EReal
  n : Fin 128 → EReal
  m : EReal

variable (see : Fin 128 → Fin 128 → Prop) [∀ s t, Decidable (see s t)] (last : Fin 128) (p : Step) (y : Carry)

/-- The log weight of token `s` for token `t`. -/
def logw (s t : Fin 128) : EReal := if see s t then p.b t - (p.b s - p.i s) else unseen

/-- The largest log weight for token `t`. -/
def top (m : EReal) (t : Fin 128) : EReal := max (p.b t + m) (Finset.univ.fold max unseen (fun s => logw see p s t))

/-- The weight of the state for token `t`. -/
def old (m : EReal) (t : Fin 128) : EReal := Ideal.exp (p.b t + m - top see p m t)

/-- The weighted product of token `t`'s query and token `s`'s key. -/
def pair (m : EReal) (t s : Fin 128) : EReal :=
  (∑ r, p.q t r * factor * p.k s r) * Ideal.exp (logw see p s t - top see p m t)

def num (t x : Fin 128) : EReal :=
  ∑ s, pair see p y.m t s * p.v s x + old see p y.m t * ∑ r, p.q t r * factor * y.C r x

def den (t : Fin 128) : EReal :=
  ∑ s, pair see p y.m t s + old see p y.m t * ∑ r, p.q t r * factor * y.n r

/-- What token `t` reads. -/
def out (t x : Fin 128) : EReal :=
  Ideal.div (num see p y t x) (max (max (den see p y t) (-(den see p y t))) (Ideal.exp (-(top see p y.m t))))

/-- The log weight of token `s` in the state the chunk leaves. -/
def gain (s : Fin 128) : EReal := p.b last - p.b s + p.i s

/-- The running maximum the chunk leaves. -/
def mnew (m : EReal) : EReal := max (p.b last + m) (Finset.univ.fold max unseen (gain last p))

/-- The weight of the state in the one the chunk leaves. -/
def keep (m : EReal) : EReal := Ideal.exp (p.b last + m - mnew last p m)

/-- The state the chunk leaves. -/
def next : Carry where
  C r x := keep last p y.m * y.C r x + ∑ s, p.k s r * Ideal.exp (gain last p s - mnew last p y.m) * p.v s x
  n r := keep last p y.m * y.n r + ∑ s, p.k s r * Ideal.exp (gain last p s - mnew last p y.m)
  m := mnew last p y.m

/-- The state before chunk `j`. -/
def state (p : Nat → Step) : Nat → Carry
  | 0 => ⟨fun _ _ => 0, fun _ => 0, 0⟩
  | j + 1 => next last (p j) (state p j)

/-! ### The same chunk, its tokens in another order -/

/-- The chunk with its tokens in the order `σ`. -/
def Step.perm (σ : Equiv.Perm (Fin 128)) : Step where
  q t := p.q (σ t)
  k t := p.k (σ t)
  v t := p.v (σ t)
  i t := p.i (σ t)
  b t := p.b (σ t)

section Perm

variable (σ : Equiv.Perm (Fin 128)) (see' : Fin 128 → Fin 128 → Prop) [∀ s t, Decidable (see' s t)]
  (hs : ∀ s t, see' s t ↔ see (σ s) (σ t)) (last' : Fin 128) (hl : σ last' = last)

theorem fold_perm (z : EReal) (f : Fin 128 → EReal) :
    Finset.univ.fold max z (fun s => f (σ s)) = Finset.univ.fold max z f := by
  conv_rhs => rw [← Finset.map_univ_equiv σ, Finset.fold_map]
  rfl

include hs

theorem logw_perm (s t : Fin 128) : logw see' (p.perm σ) s t = logw see p (σ s) (σ t) := by
  unfold logw; rw [if_congr (hs s t) rfl rfl]; rfl

theorem top_perm (m : EReal) (t : Fin 128) : top see' (p.perm σ) m t = top see p m (σ t) := by
  unfold top
  rw [show (fun s => logw see' (p.perm σ) s t) = fun s => (fun u => logw see p u (σ t)) (σ s) from
    funext fun s => logw_perm see p σ see' hs s t, fold_perm σ unseen (fun u => logw see p u (σ t))]
  rfl

theorem old_perm (m : EReal) (t : Fin 128) : old see' (p.perm σ) m t = old see p m (σ t) := by
  unfold old; rw [top_perm see p σ see' hs]; rfl

theorem pair_perm (m : EReal) (t s : Fin 128) : pair see' (p.perm σ) m t s = pair see p m (σ t) (σ s) := by
  unfold pair; rw [top_perm see p σ see' hs, logw_perm see p σ see' hs]; rfl

theorem num_perm (t x : Fin 128) : num see' (p.perm σ) y t x = num see p y (σ t) x := by
  unfold num
  rw [old_perm see p σ see' hs]
  simp only [pair_perm see p σ see' hs]
  exact congrArg (· + _) (Equiv.sum_comp σ fun s => pair see p y.m (σ t) s * p.v s x)

theorem den_perm (t : Fin 128) : den see' (p.perm σ) y t = den see p y (σ t) := by
  unfold den
  rw [old_perm see p σ see' hs]
  simp only [pair_perm see p σ see' hs]
  exact congrArg (· + _) (Equiv.sum_comp σ fun s => pair see p y.m (σ t) s)

theorem out_perm (t x : Fin 128) : out see' (p.perm σ) y t x = out see p y (σ t) x := by
  unfold out
  rw [num_perm see p y σ see' hs, den_perm see p y σ see' hs, top_perm see p σ see' hs]

omit hs
include hl

theorem gain_perm (s : Fin 128) : gain last' (p.perm σ) s = gain last p (σ s) := by
  subst hl; rfl

theorem mnew_perm (m : EReal) : mnew last' (p.perm σ) m = mnew last p m := by
  unfold mnew
  rw [show gain last' (p.perm σ) = fun s => gain last p (σ s) from funext fun s => gain_perm last p σ last' hl s,
    fold_perm σ unseen (gain last p)]
  subst hl; rfl

theorem next_perm : next last' (p.perm σ) y = next last p y := by
  unfold next keep
  rw [mnew_perm last p σ last' hl]
  simp only [gain_perm last p σ last' hl]
  rw [show (p.perm σ).b last' = p.b last from by subst hl; rfl]
  congr 1
  · funext r x
    exact congrArg (_ + ·) (Equiv.sum_comp σ fun s => p.k s r * Ideal.exp (gain last p s - mnew last p y.m) * p.v s x)
  · funext r
    exact congrArg (_ + ·) (Equiv.sum_comp σ fun s => p.k s r * Ideal.exp (gain last p s - mnew last p y.m))

theorem state_perm (p : Nat → Step) (j : Nat) : state last' (fun j => (p j).perm σ) j = state last p j := by
  induction j with
  | zero => rfl
  | succ j ih => simp only [state]; rw [ih, next_perm last (p j) _ σ last' hl]

end Perm

/-! ### Sums times a factor -/

theorem mul_sum_of {ι : Type} (s : Finset ι) (c : EReal) (h0 : 0 ≤ c) (h1 : c ≠ ⊤) (f : ι → EReal) :
    c * ∑ j ∈ s, f j = ∑ j ∈ s, c * f j := by
  classical
  induction s using Finset.induction_on with
  | empty => simp
  | insert a s ha ih => rw [Finset.sum_insert ha, Finset.sum_insert ha, EReal.left_distrib_of_nonneg_of_ne_top h0 h1, ih]

theorem factor_nonneg : 0 ≤ factor := by
  unfold factor Ideal.ofBits Ideal.ieee
  simp only [show ((0x3DB504F3#32 : BitVec 32).extractLsb' 23 8).toNat = 123 from by decide,
    show ((0x3DB504F3#32 : BitVec 32).extractLsb' (8 + 23) 1 == 1#1) = false from by decide]
  norm_num

theorem factor_ne_top : factor ≠ ⊤ := by
  unfold factor Ideal.ofBits Ideal.ieee
  simp only [show ((0x3DB504F3#32 : BitVec 32).extractLsb' 23 8).toNat = 123 from by decide,
    show ((0x3DB504F3#32 : BitVec 32).extractLsb' (8 + 23) 1 == 1#1) = false from by decide]
  norm_num

theorem exp_nonneg (x : EReal) : 0 ≤ Ideal.exp x := by
  induction x with
  | bot => exact le_rfl
  | top => exact le_top
  | coe r => exact EReal.coe_nonneg.2 (Real.exp_pos r).le

theorem exp_ne_top (x : EReal) (h : x ≠ ⊤) : Ideal.exp x ≠ ⊤ := by
  induction x with
  | bot => exact EReal.zero_ne_top
  | top => exact absurd rfl h
  | coe r => exact EReal.coe_ne_top _

theorem sub_ne_top {x z : EReal} (h : x ≤ z) : x - z ≠ ⊤ := by
  induction x with
  | bot => rw [EReal.bot_sub]; exact bot_ne_top
  | top => rw [top_le_iff.1 h]; decide
  | coe r =>
    induction z with
    | bot => exact absurd h (by simp)
    | top => rw [EReal.sub_top]; exact bot_ne_top
    | coe s => exact EReal.coe_ne_top _

theorem old_nonneg (m : EReal) (t : Fin 128) : 0 ≤ old see p m t := exp_nonneg _

theorem old_ne_top (m : EReal) (t : Fin 128) : old see p m t ≠ ⊤ := exp_ne_top _ (sub_ne_top (le_max_left _ _))

end Mlstm

end
-- ==== Proof.MlstmPoint.lean ====
/-
  One chunk of the mLSTM kernel, element by element: it is a chunk of the recurrence. The kernel keeps the state
  transposed, by value feature and key feature, with the vector of the keys as a further row.
-/
module

public import proofs.«01_k».proof.Proof.MlstmModel
public import proofs.«01_k».proof.Proof.MlstmSpec

@[expose] public section

set_option maxRecDepth 16384

noncomputable section

namespace Cert.MlstmIdeal.Model

open Cert.MlstmIdeal Cert.MlstmIdeal.Gen
open Idealize.ShloMosaic Idealize.ShloMosaic.TcCoe

/-- Row `x` of the transposed state. -/
def row (x : Fin 128) : Fin 144 := ⟨x.val, by omega⟩

/-- The arrays of `P` hold the chunk `p`, with running maximum `m`. -/
structure Holds (P : Chunk Ideal) (see : Fin 128 → Fin 128 → Prop) [∀ s t, Decidable (see s t)] (last : Fin 128)
    (p : Mlstm.Step) (m : EReal) : Prop where
  logw : ∀ s t, P.dmat (ix2 s t) = Mlstm.logw see p s t
  b : ∀ t, P.b (ix2 0 t) = p.b t
  i : ∀ t, P.i (ix2 0 t) = p.i t
  g : P.g (ix2 0 0) = p.b last
  m : ∀ t, P.m (ix2 0 t) = m
  k : ∀ s r, P.k (ix2 s r) = p.k s r
  q : ∀ r t, P.q (ix2 r t) = p.q t r
  v : ∀ x s, P.v (ix2 (row x) s) = p.v s x
  one : ∀ s, P.v (ix2 128 s) = 1

/-- The array `M` holds the state `y`, transposed. -/
structure Keeps (M : FVec Ideal S144x128 .f32) (y : Mlstm.Carry) : Prop where
  C : ∀ x r, M (ix2 (row x) r) = y.C r x
  n : ∀ r, M (ix2 128 r) = y.n r

section

variable {P : Chunk Ideal} {see : Fin 128 → Fin 128 → Prop} [∀ s t, Decidable (see s t)] {last : Fin 128}
  {p : Mlstm.Step} {y : Mlstm.Carry} {M : FVec Ideal S144x128 .f32} (h : Holds P see last p y.m) (hM : Keeps M y)

include h

theorem mt_apply (t : Fin 128) : P.mt (ix2 0 t) = Mlstm.top see p y.m t := by
  have e : P.mt (ix2 0 t) = max (P.b (ix2 0 t) + P.m (ix2 0 t))
      (Finset.univ.fold max (Ideal.ofBits .f32 0xFF800000#32) (fun s => P.dmat (ix2 s t))) := by
    pointwise [Chunk.mt, Chunk.inter]
  rw [e, h.b, h.m]
  simp only [h.logw]
  rfl

theorem old_apply (t : Fin 128) : Ideal.exp (P.inter (ix2 0 t) - P.mt (ix2 0 t)) = Mlstm.old see p y.m t := by
  rw [mt_apply h, show P.inter (ix2 0 t) = P.b (ix2 0 t) + P.m (ix2 0 t) from rfl, h.b, h.m]
  rfl

theorem pst_apply (s t : Fin 128) : P.pst (ix2 s t) = Mlstm.pair see p y.m t s := by
  have e : P.pst (ix2 s t) = (∑ r, P.k (ix2 s r) * P.q (ix2 r t)) * Mlstm.factor * Ideal.exp (P.dmat (ix2 s t) - P.mt (ix2 0 t)) := by
    pointwise [Chunk.pst, Chunk.st, Mlstm.factor]
  rw [e, mt_apply h, h.logw, Mlstm.pair, mul_comm _ Mlstm.factor, Mlstm.mul_sum_of _ _ Mlstm.factor_nonneg Mlstm.factor_ne_top]
  congr 1
  refine Finset.sum_congr rfl fun r _ => ?_
  rw [h.k, h.q, mul_comm (p.q t r), mul_assoc, mul_comm (p.k s r)]

theorem qw_apply (r t : Fin 128) : P.qw (ix2 r t) = Mlstm.old see p y.m t * (p.q t r * Mlstm.factor) := by
  have e : P.qw (ix2 r t) = P.q (ix2 r t) * (Ideal.exp (P.inter (ix2 0 t) - P.mt (ix2 0 t)) * Mlstm.factor) := by
    pointwise [Chunk.qw, Mlstm.factor]
  rw [e, old_apply h, h.q, mul_left_comm]

theorem num_row (x : Fin 144) (t : Fin 128) :
    P.num M (ix2 x t) = ∑ s, Mlstm.pair see p y.m t s * P.v (ix2 x s)
      + Mlstm.old see p y.m t * ∑ r, p.q t r * Mlstm.factor * M (ix2 x r) := by
  have e : P.num M (ix2 x t) = ∑ s, P.v (ix2 x s) * P.pst (ix2 s t) + ∑ r, M (ix2 x r) * P.qw (ix2 r t) := by
    pointwise [Chunk.num, Chunk.rhs]
  rw [e, Mlstm.mul_sum_of _ _ (Mlstm.old_nonneg see p y.m t) (Mlstm.old_ne_top see p y.m t)]
  congr 1
  · exact Finset.sum_congr rfl fun s _ => by rw [pst_apply h, mul_comm]
  · exact Finset.sum_congr rfl fun r _ => by rw [qw_apply h, mul_comm, mul_assoc]

include hM

/-- What the chunk's tokens read. -/
theorem out_apply (x t : Fin 128) : P.out M (ix2 x t) = Mlstm.out see p y t x := by
  have e : P.out M (ix2 x t) = Ideal.div (P.num M (ix2 (row x) t))
      (max (max (P.num M (ix2 128 t)) (-(P.num M (ix2 128 t)))) (Ideal.exp (0 - P.mt (ix2 0 t)))) := by
    pointwise [Chunk.out, Chunk.floor]
    rfl
  rw [e, num_row h, num_row h, mt_apply h, zero_sub]
  simp only [h.v, h.one, hM.C, hM.n, mul_one]
  rfl

omit hM

theorem mnew_apply (r : Fin 128) : P.mnew (ix2 0 r) = Mlstm.mnew last p y.m := by
  have e : P.mnew (ix2 0 r) = max (P.g (ix2 0 0) + P.m (ix2 0 r)) (Finset.univ.fold max (Ideal.ofBits .f32 0xFF800000#32)
      (fun s => P.g (ix2 0 0) - P.b (ix2 0 s) + P.i (ix2 0 s))) := by
    pointwise [Chunk.mnew, Chunk.a]
  rw [e, h.g, h.m]
  simp only [h.b, h.i]
  rfl

theorem next_row (x : Fin 144) (r : Fin 128) :
    P.next M (ix2 x r) = Mlstm.keep last p y.m * M (ix2 x r)
      + ∑ s, p.k s r * Ideal.exp (Mlstm.gain last p s - Mlstm.mnew last p y.m) * P.v (ix2 x s) := by
  have e : P.next M (ix2 x r) = Ideal.exp (P.g (ix2 0 0) + P.m (ix2 0 r) - P.mnew (ix2 0 r)) * M (ix2 x r)
      + ∑ s, P.v (ix2 x s) * Ideal.exp (P.a (ix2 0 s) - P.mnew (ix2 0 s)) * P.k (ix2 s r) := by
    pointwise [Chunk.next, Chunk.gain, Chunk.decay]
  have ea : ∀ s, P.a (ix2 0 s) = Mlstm.gain last p s := fun s => by
    have e : P.a (ix2 0 s) = P.g (ix2 0 0) - P.b (ix2 0 s) + P.i (ix2 0 s) := by pointwise [Chunk.a]
    rw [e, h.g, h.b, h.i]; rfl
  rw [e]
  simp only [mnew_apply h, ea, h.g, h.m, h.k]
  refine congrArg (_ + ·) (Finset.sum_congr rfl fun s _ => ?_)
  rw [mul_comm, mul_comm (P.v _), mul_assoc]

include hM

/-- The state it leaves. -/
theorem next_keeps : Keeps (P.next M) (Mlstm.next last p y) where
  C x r := by rw [next_row h]; simp only [h.v, hM.C]; rfl
  n r := by rw [next_row h]; simp only [h.one, hM.n, mul_one]; rfl

end

end Cert.MlstmIdeal.Model

end
-- ==== Proof.MlstmScratch.lean ====
/-
  The mLSTM kernel's scratch arrays when its loop begins: the transposed queries, and the transposed values above a row of ones.
-/
module

public import proofs.«01_k».proof.Proof.MlstmRun
public import proofs.«01_k».proof.Proof.MlstmPoint
public import Idealize.ShloMosaic.Lib.Pipeline.ValueKit.Tiles

@[expose] public section

set_option maxRecDepth 16384

noncomputable section

namespace Cert.MlstmIdeal.Run

open Cert.MlstmIdeal Cert.MlstmIdeal.Gen Cert.MlstmIdeal.Model
open Idealize.ShloMosaic Idealize.ShloMosaic.TcCoe

/-- Token `t` of chunk `c`. -/
def tok (c : Fin 16) (t : Fin 128) : Fin 2048 := ⟨128 * c.val + t.val, by omega⟩

/-- Feature `r` of head `h` of the block. -/
def feat (h : Fin 2) (r : Fin 128) : Fin 256 := ⟨128 * h.val + r.val, by omega⟩

/-- What is read after writes that all agree with one function, where they cover. -/
theorem read_of_pieces {s : Shape} {e : EltTy} {sp : Space} (a : Memref sig .tc sp s e) (f : BufTy.Contents (Elt Ideal) a.view.ty)
    (L : List (View.Piece (Elt Ideal) s e)) (G : s.Idx → Elt Ideal e) (h : ∀ p ∈ L, ∀ x : p.1.shape.Idx, p.2 x = G (p.1.emb x))
    (y : s.Idx) (hc : ∃ p ∈ L, y ∈ p.1.set) : a.view.read (Elt Ideal) (a.view.writes (Elt Ideal) f L) y = G y :=
  (View.read_writes_apply_eq_canon _ _ _ _ hc).trans (View.canon_apply_of_pieces G L h y hc)

/-- The transposed queries. -/
def qtF (x : Vec Ideal S1x2048x256 .bf16) : Vec Ideal S2x16x128x128 .bf16 := fun j => x (ix3 0 (tok (j 1) (j 3)) (feat (j 0) (j 2)))

/-- The transposed values above a row of ones and rows of zeros. -/
def vtF (x : Vec Ideal S1x2048x256 .bf16) : Vec Ideal S2x16x144x128 .bf16 := fun j =>
  if h : (j 2).val < 128 then x (ix3 0 (tok (j 1) (j 3)) (feat (j 0) ⟨(j 2).val, h⟩)) else (FloatOps.sitofp (F := Ideal) FTy.f32 (BitVec.setWidth 32 (IntOp.cmpi .eq (BitVec.ofNat 32 ((j 2).val - 128)) 0#32)) : EReal)

theorem vtF_one (x : Vec Ideal S1x2048x256 .bf16) (h : Fin 2) (c : Fin 16) (t : Fin 128) : vtF x (ix4 h c 128 t) = 1 := by
  show (FloatOps.sitofp (F := Ideal) FTy.f32 (BitVec.setWidth 32 (IntOp.cmpi .eq (BitVec.ofNat 32 (128 - 128)) 0#32)) : EReal) = 1
  rw [show BitVec.setWidth 32 (IntOp.cmpi .eq (BitVec.ofNat 32 (128 - 128)) 0#32) = 1#32 from by decide]
  show (((1#32 : BitVec 32).toInt : ℝ) : EReal) = 1
  rw [show (1#32 : BitVec 32).toInt = 1 from by decide]
  simp

/-- The running maxima, by head and direction, and chunk. -/
def mK (p0 p1 p2 p3 : Nat → Mlstm.Step) (u : Fin 4) (c : Fin 16) : EReal :=
  match u with
  | 0 => (Mlstm.state 127 p0 c.val).m
  | 1 => (Mlstm.state 0 p1 (15 - c.val)).m
  | 2 => (Mlstm.state 127 p2 c.val).m
  | 3 => (Mlstm.state 0 p3 (15 - c.val)).m

/-- The same on all rows and lanes. -/
def mF (p0 p1 p2 p3 : Nat → Mlstm.Step) : Vec Ideal S4x16x8x128 .f32 := fun y => mK p0 p1 p2 p3 (y 0) (y 1)

/-- Chunk `c` of head `h`, from the blocks: queries, keys, values, and gate rows `a` (input) and `b` (forget). -/
def stepAt (x0 x1 x2 : Vec Ideal S1x2048x256 .bf16) (x5 : Vec Ideal S1x2x16x8x128 .f32) (h : Fin 2) (a b : Fin 8) (c : Fin 16) : Mlstm.Step where
  q t r := x0 (ix3 0 (tok c t) (feat h r))
  k t r := x1 (ix3 0 (tok c t) (feat h r))
  v t r := x2 (ix3 0 (tok c t) (feat h r))
  i t := x5 (ix5 0 h c a t)
  b t := x5 (ix5 0 h c b t)

/-- The chunks of head `h` in the order they are taken, forward and backward. -/
def stepF (x0 x1 x2 : Vec Ideal S1x2048x256 .bf16) (x5 : Vec Ideal S1x2x16x8x128 .f32) (h : Fin 2) (j : Nat) : Mlstm.Step :=
  if hj : j < 16 then stepAt x0 x1 x2 x5 h 0 1 ⟨j, hj⟩ else stepAt x0 x1 x2 x5 h 0 1 0
def stepB (x0 x1 x2 : Vec Ideal S1x2048x256 .bf16) (x5 : Vec Ideal S1x2x16x8x128 .f32) (h : Fin 2) (j : Nat) : Mlstm.Step :=
  if hj : j < 16 then stepAt x0 x1 x2 x5 h 2 3 ⟨15 - j, by omega⟩ else stepAt x0 x1 x2 x5 h 2 3 0

section

theorem emb_qt (h : Fin 2) (c : Fin 16) (inb) (x : S1x1x128x128.Idx) :
    (Rect.unit (s := S2x16x128x128) ![h.val, c.val, 0, 0] S1x1x128x128.size inb).emb x = ix4 h c (x 2) (x 3) := by
  funext a
  apply Fin.ext
  match a with
  | ⟨0, _⟩ => show h.val + 1 * (x 0).val = h.val; have : (x 0).val < 1 := (x 0).isLt; omega
  | ⟨1, _⟩ => show c.val + 1 * (x 1).val = c.val; have : (x 1).val < 1 := (x 1).isLt; omega
  | ⟨2, _⟩ => show 0 + 1 * (x 2).val = (x 2).val; omega
  | ⟨3, _⟩ => show 0 + 1 * (x 3).val = (x 3).val; omega

theorem pay_qt (h : Fin 2) (c : Fin 16) (X : Vec Ideal S1x2048x256 .bf16) (inb) (x : S1x1x128x128.Idx) :
    k0_pay367 (View.ld X (Rect.unit (s := S1x2048x256) ![0, 128 * c.val, 128 * h.val] S1x128x128.size inb)) x
      = qtF X (ix4 h c (x 2) (x 3)) := by
  have e : ∀ r t : Fin 128, View.ld X (Rect.unit (s := S1x2048x256) ![0, 128 * c.val, 128 * h.val] S1x128x128.size inb) (ix3 0 t r)
      = X (ix3 0 (tok c t) (feat h r)) := fun r t => View.ld_unit_apply_of X _ _ inb _ _ fun a => by
    match a with
    | ⟨0, _⟩ => rfl
    | ⟨1, _⟩ => rfl
    | ⟨2, _⟩ => rfl
  idx_vars x
  have e0 : k0_pay367 (View.ld X (Rect.unit (s := S1x2048x256) ![0, 128 * c.val, 128 * h.val] S1x128x128.size inb)) (ix4 x0 x1 x2 x3)
      = View.ld X (Rect.unit (s := S1x2048x256) ![0, 128 * c.val, 128 * h.val] S1x128x128.size inb) (ix3 0 x3 x2) := by
    generalize View.ld X (Rect.unit (s := S1x2048x256) ![0, 128 * c.val, 128 * h.val] S1x128x128.size inb) = Y
    pointwise [k0_pay367]
  rw [e0, e]
  rfl

variable (c : Dev nD) (arg2 : Memref sig .tc .vmem S1x2048x256 .bf16) (harg2 : arg2.IsWhole) (X : Vec Ideal S1x2048x256 .bf16)

theorem qt_pieces : ∀ p ∈ bodyRun.sl.HS0_32 c arg2 harg2 X, ∀ x : p.1.shape.Idx, p.2 x = qtF X (p.1.emb x) := by
  unfold bodyRun.sl.HS0_32
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by simp⟩
  · intro x
    refine Eq.trans ?_ ((pay_qt 1 15 X inb_S1x2048x256_S1x128x128_0_1920_128 x).trans (congrArg (qtF X) (emb_qt 1 15 inb_S2x16x128x128_S1x1x128x128_1_15_0_0 x).symm))
    exact congrFun (congrArg k0_pay367 (congrArg (fun Z => View.ld Z _) (harg2.read_unread X))) x
  · intro x
    refine Eq.trans ?_ ((pay_qt 1 14 X inb_S1x2048x256_S1x128x128_0_1792_128 x).trans (congrArg (qtF X) (emb_qt 1 14 inb_S2x16x128x128_S1x1x128x128_1_14_0_0 x).symm))
    exact congrFun (congrArg k0_pay367 (congrArg (fun Z => View.ld Z _) (harg2.read_unread X))) x
  · intro x
    refine Eq.trans ?_ ((pay_qt 1 13 X inb_S1x2048x256_S1x128x128_0_1664_128 x).trans (congrArg (qtF X) (emb_qt 1 13 inb_S2x16x128x128_S1x1x128x128_1_13_0_0 x).symm))
    exact congrFun (congrArg k0_pay367 (congrArg (fun Z => View.ld Z _) (harg2.read_unread X))) x
  · intro x
    refine Eq.trans ?_ ((pay_qt 1 12 X inb_S1x2048x256_S1x128x128_0_1536_128 x).trans (congrArg (qtF X) (emb_qt 1 12 inb_S2x16x128x128_S1x1x128x128_1_12_0_0 x).symm))
    exact congrFun (congrArg k0_pay367 (congrArg (fun Z => View.ld Z _) (harg2.read_unread X))) x
  · intro x
    refine Eq.trans ?_ ((pay_qt 1 11 X inb_S1x2048x256_S1x128x128_0_1408_128 x).trans (congrArg (qtF X) (emb_qt 1 11 inb_S2x16x128x128_S1x1x128x128_1_11_0_0 x).symm))
    exact congrFun (congrArg k0_pay367 (congrArg (fun Z => View.ld Z _) (harg2.read_unread X))) x
  · intro x
    refine Eq.trans ?_ ((pay_qt 1 10 X inb_S1x2048x256_S1x128x128_0_1280_128 x).trans (congrArg (qtF X) (emb_qt 1 10 inb_S2x16x128x128_S1x1x128x128_1_10_0_0 x).symm))
    exact congrFun (congrArg k0_pay367 (congrArg (fun Z => View.ld Z _) (harg2.read_unread X))) x
  · intro x
    refine Eq.trans ?_ ((pay_qt 1 9 X inb_S1x2048x256_S1x128x128_0_1152_128 x).trans (congrArg (qtF X) (emb_qt 1 9 inb_S2x16x128x128_S1x1x128x128_1_9_0_0 x).symm))
    exact congrFun (congrArg k0_pay367 (congrArg (fun Z => View.ld Z _) (harg2.read_unread X))) x
  · intro x
    refine Eq.trans ?_ ((pay_qt 1 8 X inb_S1x2048x256_S1x128x128_0_1024_128 x).trans (congrArg (qtF X) (emb_qt 1 8 inb_S2x16x128x128_S1x1x128x128_1_8_0_0 x).symm))
    exact congrFun (congrArg k0_pay367 (congrArg (fun Z => View.ld Z _) (harg2.read_unread X))) x
  · intro x
    refine Eq.trans ?_ ((pay_qt 1 7 X inb_S1x2048x256_S1x128x128_0_896_128 x).trans (congrArg (qtF X) (emb_qt 1 7 inb_S2x16x128x128_S1x1x128x128_1_7_0_0 x).symm))
    exact congrFun (congrArg k0_pay367 (congrArg (fun Z => View.ld Z _) (harg2.read_unread X))) x
  · intro x
    refine Eq.trans ?_ ((pay_qt 1 6 X inb_S1x2048x256_S1x128x128_0_768_128 x).trans (congrArg (qtF X) (emb_qt 1 6 inb_S2x16x128x128_S1x1x128x128_1_6_0_0 x).symm))
    exact congrFun (congrArg k0_pay367 (congrArg (fun Z => View.ld Z _) (harg2.read_unread X))) x
  · intro x
    refine Eq.trans ?_ ((pay_qt 1 5 X inb_S1x2048x256_S1x128x128_0_640_128 x).trans (congrArg (qtF X) (emb_qt 1 5 inb_S2x16x128x128_S1x1x128x128_1_5_0_0 x).symm))
    exact congrFun (congrArg k0_pay367 (congrArg (fun Z => View.ld Z _) (harg2.read_unread X))) x
  · intro x
    refine Eq.trans ?_ ((pay_qt 1 4 X inb_S1x2048x256_S1x128x128_0_512_128 x).trans (congrArg (qtF X) (emb_qt 1 4 inb_S2x16x128x128_S1x1x128x128_1_4_0_0 x).symm))
    exact congrFun (congrArg k0_pay367 (congrArg (fun Z => View.ld Z _) (harg2.read_unread X))) x
  · intro x
    refine Eq.trans ?_ ((pay_qt 1 3 X inb_S1x2048x256_S1x128x128_0_384_128 x).trans (congrArg (qtF X) (emb_qt 1 3 inb_S2x16x128x128_S1x1x128x128_1_3_0_0 x).symm))
    exact congrFun (congrArg k0_pay367 (congrArg (fun Z => View.ld Z _) (harg2.read_unread X))) x
  · intro x
    refine Eq.trans ?_ ((pay_qt 1 2 X inb_S1x2048x256_S1x128x128_0_256_128 x).trans (congrArg (qtF X) (emb_qt 1 2 inb_S2x16x128x128_S1x1x128x128_1_2_0_0 x).symm))
    exact congrFun (congrArg k0_pay367 (congrArg (fun Z => View.ld Z _) (harg2.read_unread X))) x
  · intro x
    refine Eq.trans ?_ ((pay_qt 1 1 X inb_S1x2048x256_S1x128x128_0_128_128 x).trans (congrArg (qtF X) (emb_qt 1 1 inb_S2x16x128x128_S1x1x128x128_1_1_0_0 x).symm))
    exact congrFun (congrArg k0_pay367 (congrArg (fun Z => View.ld Z _) (harg2.read_unread X))) x
  · intro x
    refine Eq.trans ?_ ((pay_qt 1 0 X inb_S1x2048x256_S1x128x128_0_0_128 x).trans (congrArg (qtF X) (emb_qt 1 0 inb_S2x16x128x128_S1x1x128x128_1_0_0_0 x).symm))
    exact congrFun (congrArg k0_pay367 (congrArg (fun Z => View.ld Z _) (harg2.read_unread X))) x
  · intro x
    refine Eq.trans ?_ ((pay_qt 0 15 X inb_S1x2048x256_S1x128x128_0_1920_0 x).trans (congrArg (qtF X) (emb_qt 0 15 inb_S2x16x128x128_S1x1x128x128_0_15_0_0 x).symm))
    exact congrFun (congrArg k0_pay367 (congrArg (fun Z => View.ld Z _) (harg2.read_unread X))) x
  · intro x
    refine Eq.trans ?_ ((pay_qt 0 14 X inb_S1x2048x256_S1x128x128_0_1792_0 x).trans (congrArg (qtF X) (emb_qt 0 14 inb_S2x16x128x128_S1x1x128x128_0_14_0_0 x).symm))
    exact congrFun (congrArg k0_pay367 (congrArg (fun Z => View.ld Z _) (harg2.read_unread X))) x
  · intro x
    refine Eq.trans ?_ ((pay_qt 0 13 X inb_S1x2048x256_S1x128x128_0_1664_0 x).trans (congrArg (qtF X) (emb_qt 0 13 inb_S2x16x128x128_S1x1x128x128_0_13_0_0 x).symm))
    exact congrFun (congrArg k0_pay367 (congrArg (fun Z => View.ld Z _) (harg2.read_unread X))) x
  · intro x
    refine Eq.trans ?_ ((pay_qt 0 12 X inb_S1x2048x256_S1x128x128_0_1536_0 x).trans (congrArg (qtF X) (emb_qt 0 12 inb_S2x16x128x128_S1x1x128x128_0_12_0_0 x).symm))
    exact congrFun (congrArg k0_pay367 (congrArg (fun Z => View.ld Z _) (harg2.read_unread X))) x
  · intro x
    refine Eq.trans ?_ ((pay_qt 0 11 X inb_S1x2048x256_S1x128x128_0_1408_0 x).trans (congrArg (qtF X) (emb_qt 0 11 inb_S2x16x128x128_S1x1x128x128_0_11_0_0 x).symm))
    exact congrFun (congrArg k0_pay367 (congrArg (fun Z => View.ld Z _) (harg2.read_unread X))) x
  · intro x
    refine Eq.trans ?_ ((pay_qt 0 10 X inb_S1x2048x256_S1x128x128_0_1280_0 x).trans (congrArg (qtF X) (emb_qt 0 10 inb_S2x16x128x128_S1x1x128x128_0_10_0_0 x).symm))
    exact congrFun (congrArg k0_pay367 (congrArg (fun Z => View.ld Z _) (harg2.read_unread X))) x
  · intro x
    refine Eq.trans ?_ ((pay_qt 0 9 X inb_S1x2048x256_S1x128x128_0_1152_0 x).trans (congrArg (qtF X) (emb_qt 0 9 inb_S2x16x128x128_S1x1x128x128_0_9_0_0 x).symm))
    exact congrFun (congrArg k0_pay367 (congrArg (fun Z => View.ld Z _) (harg2.read_unread X))) x
  · intro x
    refine Eq.trans ?_ ((pay_qt 0 8 X inb_S1x2048x256_S1x128x128_0_1024_0 x).trans (congrArg (qtF X) (emb_qt 0 8 inb_S2x16x128x128_S1x1x128x128_0_8_0_0 x).symm))
    exact congrFun (congrArg k0_pay367 (congrArg (fun Z => View.ld Z _) (harg2.read_unread X))) x
  · intro x
    refine Eq.trans ?_ ((pay_qt 0 7 X inb_S1x2048x256_S1x128x128_0_896_0 x).trans (congrArg (qtF X) (emb_qt 0 7 inb_S2x16x128x128_S1x1x128x128_0_7_0_0 x).symm))
    exact congrFun (congrArg k0_pay367 (congrArg (fun Z => View.ld Z _) (harg2.read_unread X))) x
  · intro x
    refine Eq.trans ?_ ((pay_qt 0 6 X inb_S1x2048x256_S1x128x128_0_768_0 x).trans (congrArg (qtF X) (emb_qt 0 6 inb_S2x16x128x128_S1x1x128x128_0_6_0_0 x).symm))
    exact congrFun (congrArg k0_pay367 (congrArg (fun Z => View.ld Z _) (harg2.read_unread X))) x
  · intro x
    refine Eq.trans ?_ ((pay_qt 0 5 X inb_S1x2048x256_S1x128x128_0_640_0 x).trans (congrArg (qtF X) (emb_qt 0 5 inb_S2x16x128x128_S1x1x128x128_0_5_0_0 x).symm))
    exact congrFun (congrArg k0_pay367 (congrArg (fun Z => View.ld Z _) (harg2.read_unread X))) x
  · intro x
    refine Eq.trans ?_ ((pay_qt 0 4 X inb_S1x2048x256_S1x128x128_0_512_0 x).trans (congrArg (qtF X) (emb_qt 0 4 inb_S2x16x128x128_S1x1x128x128_0_4_0_0 x).symm))
    exact congrFun (congrArg k0_pay367 (congrArg (fun Z => View.ld Z _) (harg2.read_unread X))) x
  · intro x
    refine Eq.trans ?_ ((pay_qt 0 3 X inb_S1x2048x256_S1x128x128_0_384_0 x).trans (congrArg (qtF X) (emb_qt 0 3 inb_S2x16x128x128_S1x1x128x128_0_3_0_0 x).symm))
    exact congrFun (congrArg k0_pay367 (congrArg (fun Z => View.ld Z _) (harg2.read_unread X))) x
  · intro x
    refine Eq.trans ?_ ((pay_qt 0 2 X inb_S1x2048x256_S1x128x128_0_256_0 x).trans (congrArg (qtF X) (emb_qt 0 2 inb_S2x16x128x128_S1x1x128x128_0_2_0_0 x).symm))
    exact congrFun (congrArg k0_pay367 (congrArg (fun Z => View.ld Z _) (harg2.read_unread X))) x
  · intro x
    refine Eq.trans ?_ ((pay_qt 0 1 X inb_S1x2048x256_S1x128x128_0_128_0 x).trans (congrArg (qtF X) (emb_qt 0 1 inb_S2x16x128x128_S1x1x128x128_0_1_0_0 x).symm))
    exact congrFun (congrArg k0_pay367 (congrArg (fun Z => View.ld Z _) (harg2.read_unread X))) x
  · intro x
    refine Eq.trans ?_ ((pay_qt 0 0 X inb_S1x2048x256_S1x128x128_0_0_0 x).trans (congrArg (qtF X) (emb_qt 0 0 inb_S2x16x128x128_S1x1x128x128_0_0_0_0 x).symm))
    exact congrFun (congrArg k0_pay367 (congrArg (fun Z => View.ld Z _) (harg2.read_unread X))) x

theorem qt_cover (y : S2x16x128x128.Idx) : ∃ p ∈ bodyRun.sl.HS0_32 c arg2 harg2 X, y ∈ p.1.set := by
  refine View.cover_of_tiled (bodyRun.sl.HS0_32 c arg2 harg2 X) S1x1x128x128.size ?_ y
  rfl

end

section

theorem emb_vt (h : Fin 2) (c : Fin 16) (inb) (x : S1x1x144x128.Idx) :
    (Rect.unit (s := S2x16x144x128) ![h.val, c.val, 0, 0] S1x1x144x128.size inb).emb x = ix4 h c (x 2) (x 3) := by
  funext a
  apply Fin.ext
  match a with
  | ⟨0, _⟩ => show h.val + 1 * (x 0).val = h.val; have : (x 0).val < 1 := (x 0).isLt; omega
  | ⟨1, _⟩ => show c.val + 1 * (x 1).val = c.val; have : (x 1).val < 1 := (x 1).isLt; omega
  | ⟨2, _⟩ => show 0 + 1 * (x 2).val = (x 2).val; omega
  | ⟨3, _⟩ => show 0 + 1 * (x 3).val = (x 3).val; omega

theorem pay_vt (h : Fin 2) (c : Fin 16) (X : Vec Ideal S1x2048x256 .bf16) (inb) (x : S1x1x144x128.Idx) :
    k0_pay368 (View.ld X (Rect.unit (s := S1x2048x256) ![0, 128 * c.val, 128 * h.val] S1x128x128.size inb)) x
      = vtF X (ix4 h c (x 2) (x 3)) := by
  have e : ∀ r t : Fin 128, View.ld X (Rect.unit (s := S1x2048x256) ![0, 128 * c.val, 128 * h.val] S1x128x128.size inb) (ix3 0 t r)
      = X (ix3 0 (tok c t) (feat h r)) := fun r t => View.ld_unit_apply_of X _ _ inb _ _ fun a => by
    match a with
    | ⟨0, _⟩ => rfl
    | ⟨1, _⟩ => rfl
    | ⟨2, _⟩ => rfl
  idx_vars x
  have hv : vtF X (ix4 h c x2 x3) = if h' : x2.val < 128 then X (ix3 0 (tok c x3) (feat h ⟨x2.val, h'⟩)) else (FloatOps.sitofp (F := Ideal) FTy.f32 (BitVec.setWidth 32 (IntOp.cmpi .eq (BitVec.ofNat 32 (x2.val - 128)) 0#32)) : EReal) := rfl
  have e0 : k0_pay368 (View.ld X (Rect.unit (s := S1x2048x256) ![0, 128 * c.val, 128 * h.val] S1x128x128.size inb)) (ix4 x0 x1 x2 x3)
      = if h' : x2.val < 128 then View.ld X (Rect.unit (s := S1x2048x256) ![0, 128 * c.val, 128 * h.val] S1x128x128.size inb) (ix3 0 x3 ⟨x2.val, h'⟩)
        else (FloatOps.sitofp (F := Ideal) FTy.f32 (BitVec.setWidth 32 (IntOp.cmpi .eq (BitVec.ofNat 32 (x2.val - 128)) 0#32)) : EReal) := by
    generalize View.ld X (Rect.unit (s := S1x2048x256) ![0, 128 * c.val, 128 * h.val] S1x128x128.size inb) = Y
    pointwise [k0_pay368, k0_pay366]
  rw [e0]
  refine Eq.trans ?_ hv.symm
  split
  · exact e _ _
  · rfl

variable (c : Dev nD) (arg4 : Memref sig .tc .vmem S1x2048x256 .bf16) (harg4 : arg4.IsWhole) (X : Vec Ideal S1x2048x256 .bf16)

theorem vt_pieces : ∀ p ∈ bodyRun.sl.HS1_32 c arg4 harg4 X, ∀ x : p.1.shape.Idx, p.2 x = vtF X (p.1.emb x) := by
  unfold bodyRun.sl.HS1_32
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by simp⟩
  · intro x
    refine Eq.trans ?_ ((pay_vt 1 15 X inb_S1x2048x256_S1x128x128_0_1920_128 x).trans (congrArg (vtF X) (emb_vt 1 15 inb_S2x16x144x128_S1x1x144x128_1_15_0_0 x).symm))
    exact congrFun (congrArg k0_pay368 (congrArg (fun Z => View.ld Z _) (harg4.read_unread X))) x
  · intro x
    refine Eq.trans ?_ ((pay_vt 1 14 X inb_S1x2048x256_S1x128x128_0_1792_128 x).trans (congrArg (vtF X) (emb_vt 1 14 inb_S2x16x144x128_S1x1x144x128_1_14_0_0 x).symm))
    exact congrFun (congrArg k0_pay368 (congrArg (fun Z => View.ld Z _) (harg4.read_unread X))) x
  · intro x
    refine Eq.trans ?_ ((pay_vt 1 13 X inb_S1x2048x256_S1x128x128_0_1664_128 x).trans (congrArg (vtF X) (emb_vt 1 13 inb_S2x16x144x128_S1x1x144x128_1_13_0_0 x).symm))
    exact congrFun (congrArg k0_pay368 (congrArg (fun Z => View.ld Z _) (harg4.read_unread X))) x
  · intro x
    refine Eq.trans ?_ ((pay_vt 1 12 X inb_S1x2048x256_S1x128x128_0_1536_128 x).trans (congrArg (vtF X) (emb_vt 1 12 inb_S2x16x144x128_S1x1x144x128_1_12_0_0 x).symm))
    exact congrFun (congrArg k0_pay368 (congrArg (fun Z => View.ld Z _) (harg4.read_unread X))) x
  · intro x
    refine Eq.trans ?_ ((pay_vt 1 11 X inb_S1x2048x256_S1x128x128_0_1408_128 x).trans (congrArg (vtF X) (emb_vt 1 11 inb_S2x16x144x128_S1x1x144x128_1_11_0_0 x).symm))
    exact congrFun (congrArg k0_pay368 (congrArg (fun Z => View.ld Z _) (harg4.read_unread X))) x
  · intro x
    refine Eq.trans ?_ ((pay_vt 1 10 X inb_S1x2048x256_S1x128x128_0_1280_128 x).trans (congrArg (vtF X) (emb_vt 1 10 inb_S2x16x144x128_S1x1x144x128_1_10_0_0 x).symm))
    exact congrFun (congrArg k0_pay368 (congrArg (fun Z => View.ld Z _) (harg4.read_unread X))) x
  · intro x
    refine Eq.trans ?_ ((pay_vt 1 9 X inb_S1x2048x256_S1x128x128_0_1152_128 x).trans (congrArg (vtF X) (emb_vt 1 9 inb_S2x16x144x128_S1x1x144x128_1_9_0_0 x).symm))
    exact congrFun (congrArg k0_pay368 (congrArg (fun Z => View.ld Z _) (harg4.read_unread X))) x
  · intro x
    refine Eq.trans ?_ ((pay_vt 1 8 X inb_S1x2048x256_S1x128x128_0_1024_128 x).trans (congrArg (vtF X) (emb_vt 1 8 inb_S2x16x144x128_S1x1x144x128_1_8_0_0 x).symm))
    exact congrFun (congrArg k0_pay368 (congrArg (fun Z => View.ld Z _) (harg4.read_unread X))) x
  · intro x
    refine Eq.trans ?_ ((pay_vt 1 7 X inb_S1x2048x256_S1x128x128_0_896_128 x).trans (congrArg (vtF X) (emb_vt 1 7 inb_S2x16x144x128_S1x1x144x128_1_7_0_0 x).symm))
    exact congrFun (congrArg k0_pay368 (congrArg (fun Z => View.ld Z _) (harg4.read_unread X))) x
  · intro x
    refine Eq.trans ?_ ((pay_vt 1 6 X inb_S1x2048x256_S1x128x128_0_768_128 x).trans (congrArg (vtF X) (emb_vt 1 6 inb_S2x16x144x128_S1x1x144x128_1_6_0_0 x).symm))
    exact congrFun (congrArg k0_pay368 (congrArg (fun Z => View.ld Z _) (harg4.read_unread X))) x
  · intro x
    refine Eq.trans ?_ ((pay_vt 1 5 X inb_S1x2048x256_S1x128x128_0_640_128 x).trans (congrArg (vtF X) (emb_vt 1 5 inb_S2x16x144x128_S1x1x144x128_1_5_0_0 x).symm))
    exact congrFun (congrArg k0_pay368 (congrArg (fun Z => View.ld Z _) (harg4.read_unread X))) x
  · intro x
    refine Eq.trans ?_ ((pay_vt 1 4 X inb_S1x2048x256_S1x128x128_0_512_128 x).trans (congrArg (vtF X) (emb_vt 1 4 inb_S2x16x144x128_S1x1x144x128_1_4_0_0 x).symm))
    exact congrFun (congrArg k0_pay368 (congrArg (fun Z => View.ld Z _) (harg4.read_unread X))) x
  · intro x
    refine Eq.trans ?_ ((pay_vt 1 3 X inb_S1x2048x256_S1x128x128_0_384_128 x).trans (congrArg (vtF X) (emb_vt 1 3 inb_S2x16x144x128_S1x1x144x128_1_3_0_0 x).symm))
    exact congrFun (congrArg k0_pay368 (congrArg (fun Z => View.ld Z _) (harg4.read_unread X))) x
  · intro x
    refine Eq.trans ?_ ((pay_vt 1 2 X inb_S1x2048x256_S1x128x128_0_256_128 x).trans (congrArg (vtF X) (emb_vt 1 2 inb_S2x16x144x128_S1x1x144x128_1_2_0_0 x).symm))
    exact congrFun (congrArg k0_pay368 (congrArg (fun Z => View.ld Z _) (harg4.read_unread X))) x
  · intro x
    refine Eq.trans ?_ ((pay_vt 1 1 X inb_S1x2048x256_S1x128x128_0_128_128 x).trans (congrArg (vtF X) (emb_vt 1 1 inb_S2x16x144x128_S1x1x144x128_1_1_0_0 x).symm))
    exact congrFun (congrArg k0_pay368 (congrArg (fun Z => View.ld Z _) (harg4.read_unread X))) x
  · intro x
    refine Eq.trans ?_ ((pay_vt 1 0 X inb_S1x2048x256_S1x128x128_0_0_128 x).trans (congrArg (vtF X) (emb_vt 1 0 inb_S2x16x144x128_S1x1x144x128_1_0_0_0 x).symm))
    exact congrFun (congrArg k0_pay368 (congrArg (fun Z => View.ld Z _) (harg4.read_unread X))) x
  · intro x
    refine Eq.trans ?_ ((pay_vt 0 15 X inb_S1x2048x256_S1x128x128_0_1920_0 x).trans (congrArg (vtF X) (emb_vt 0 15 inb_S2x16x144x128_S1x1x144x128_0_15_0_0 x).symm))
    exact congrFun (congrArg k0_pay368 (congrArg (fun Z => View.ld Z _) (harg4.read_unread X))) x
  · intro x
    refine Eq.trans ?_ ((pay_vt 0 14 X inb_S1x2048x256_S1x128x128_0_1792_0 x).trans (congrArg (vtF X) (emb_vt 0 14 inb_S2x16x144x128_S1x1x144x128_0_14_0_0 x).symm))
    exact congrFun (congrArg k0_pay368 (congrArg (fun Z => View.ld Z _) (harg4.read_unread X))) x
  · intro x
    refine Eq.trans ?_ ((pay_vt 0 13 X inb_S1x2048x256_S1x128x128_0_1664_0 x).trans (congrArg (vtF X) (emb_vt 0 13 inb_S2x16x144x128_S1x1x144x128_0_13_0_0 x).symm))
    exact congrFun (congrArg k0_pay368 (congrArg (fun Z => View.ld Z _) (harg4.read_unread X))) x
  · intro x
    refine Eq.trans ?_ ((pay_vt 0 12 X inb_S1x2048x256_S1x128x128_0_1536_0 x).trans (congrArg (vtF X) (emb_vt 0 12 inb_S2x16x144x128_S1x1x144x128_0_12_0_0 x).symm))
    exact congrFun (congrArg k0_pay368 (congrArg (fun Z => View.ld Z _) (harg4.read_unread X))) x
  · intro x
    refine Eq.trans ?_ ((pay_vt 0 11 X inb_S1x2048x256_S1x128x128_0_1408_0 x).trans (congrArg (vtF X) (emb_vt 0 11 inb_S2x16x144x128_S1x1x144x128_0_11_0_0 x).symm))
    exact congrFun (congrArg k0_pay368 (congrArg (fun Z => View.ld Z _) (harg4.read_unread X))) x
  · intro x
    refine Eq.trans ?_ ((pay_vt 0 10 X inb_S1x2048x256_S1x128x128_0_1280_0 x).trans (congrArg (vtF X) (emb_vt 0 10 inb_S2x16x144x128_S1x1x144x128_0_10_0_0 x).symm))
    exact congrFun (congrArg k0_pay368 (congrArg (fun Z => View.ld Z _) (harg4.read_unread X))) x
  · intro x
    refine Eq.trans ?_ ((pay_vt 0 9 X inb_S1x2048x256_S1x128x128_0_1152_0 x).trans (congrArg (vtF X) (emb_vt 0 9 inb_S2x16x144x128_S1x1x144x128_0_9_0_0 x).symm))
    exact congrFun (congrArg k0_pay368 (congrArg (fun Z => View.ld Z _) (harg4.read_unread X))) x
  · intro x
    refine Eq.trans ?_ ((pay_vt 0 8 X inb_S1x2048x256_S1x128x128_0_1024_0 x).trans (congrArg (vtF X) (emb_vt 0 8 inb_S2x16x144x128_S1x1x144x128_0_8_0_0 x).symm))
    exact congrFun (congrArg k0_pay368 (congrArg (fun Z => View.ld Z _) (harg4.read_unread X))) x
  · intro x
    refine Eq.trans ?_ ((pay_vt 0 7 X inb_S1x2048x256_S1x128x128_0_896_0 x).trans (congrArg (vtF X) (emb_vt 0 7 inb_S2x16x144x128_S1x1x144x128_0_7_0_0 x).symm))
    exact congrFun (congrArg k0_pay368 (congrArg (fun Z => View.ld Z _) (harg4.read_unread X))) x
  · intro x
    refine Eq.trans ?_ ((pay_vt 0 6 X inb_S1x2048x256_S1x128x128_0_768_0 x).trans (congrArg (vtF X) (emb_vt 0 6 inb_S2x16x144x128_S1x1x144x128_0_6_0_0 x).symm))
    exact congrFun (congrArg k0_pay368 (congrArg (fun Z => View.ld Z _) (harg4.read_unread X))) x
  · intro x
    refine Eq.trans ?_ ((pay_vt 0 5 X inb_S1x2048x256_S1x128x128_0_640_0 x).trans (congrArg (vtF X) (emb_vt 0 5 inb_S2x16x144x128_S1x1x144x128_0_5_0_0 x).symm))
    exact congrFun (congrArg k0_pay368 (congrArg (fun Z => View.ld Z _) (harg4.read_unread X))) x
  · intro x
    refine Eq.trans ?_ ((pay_vt 0 4 X inb_S1x2048x256_S1x128x128_0_512_0 x).trans (congrArg (vtF X) (emb_vt 0 4 inb_S2x16x144x128_S1x1x144x128_0_4_0_0 x).symm))
    exact congrFun (congrArg k0_pay368 (congrArg (fun Z => View.ld Z _) (harg4.read_unread X))) x
  · intro x
    refine Eq.trans ?_ ((pay_vt 0 3 X inb_S1x2048x256_S1x128x128_0_384_0 x).trans (congrArg (vtF X) (emb_vt 0 3 inb_S2x16x144x128_S1x1x144x128_0_3_0_0 x).symm))
    exact congrFun (congrArg k0_pay368 (congrArg (fun Z => View.ld Z _) (harg4.read_unread X))) x
  · intro x
    refine Eq.trans ?_ ((pay_vt 0 2 X inb_S1x2048x256_S1x128x128_0_256_0 x).trans (congrArg (vtF X) (emb_vt 0 2 inb_S2x16x144x128_S1x1x144x128_0_2_0_0 x).symm))
    exact congrFun (congrArg k0_pay368 (congrArg (fun Z => View.ld Z _) (harg4.read_unread X))) x
  · intro x
    refine Eq.trans ?_ ((pay_vt 0 1 X inb_S1x2048x256_S1x128x128_0_128_0 x).trans (congrArg (vtF X) (emb_vt 0 1 inb_S2x16x144x128_S1x1x144x128_0_1_0_0 x).symm))
    exact congrFun (congrArg k0_pay368 (congrArg (fun Z => View.ld Z _) (harg4.read_unread X))) x
  · intro x
    refine Eq.trans ?_ ((pay_vt 0 0 X inb_S1x2048x256_S1x128x128_0_0_0 x).trans (congrArg (vtF X) (emb_vt 0 0 inb_S2x16x144x128_S1x1x144x128_0_0_0_0 x).symm))
    exact congrFun (congrArg k0_pay368 (congrArg (fun Z => View.ld Z _) (harg4.read_unread X))) x

theorem vt_cover (y : S2x16x144x128.Idx) : ∃ p ∈ bodyRun.sl.HS1_32 c arg4 harg4 X, y ∈ p.1.set := by
  refine View.cover_of_tiled (bodyRun.sl.HS1_32 c arg4 harg4 X) S1x1x144x128.size ?_ y
  rfl

end

end Cert.MlstmIdeal.Run

end
-- ==== Proof.MlstmMax.lean ====
/-
  The running maxima the mLSTM kernel lays down before its loop: in each head and direction they are those of the
  recurrence.
-/
module

public import proofs.«01_k».proof.Proof.MlstmRun
public import proofs.«01_k».proof.Proof.MlstmScratch

@[expose] public section

set_option maxRecDepth 16384

noncomputable section

namespace Cert.MlstmIdeal.Run

open Cert.MlstmIdeal Cert.MlstmIdeal.Gen Cert.MlstmIdeal.Model
open Idealize.ShloMosaic Idealize.ShloMosaic.TcCoe

/-- From a head's gate rows: the total of each chunk's forget gates, and the largest log weight of its tokens. -/
def total (R : Vec Ideal S1x1x16x8x128 .f32) : FVec Ideal S128x128 .f32 := k0_pay445 k0_pay441 (k0_pay442 R) 127#32
def largest (R : Vec Ideal S1x1x16x8x128 .f32) : FVec Ideal S128x128 .f32 := k0_pay446 k0_pay441 (k0_pay442 R) 127#32

/-- A row of lanes, over eight rows. -/
def eight (M : FVec Ideal S1x128 .f32) : FVec Ideal S1x1x8x128 .f32 :=
  shapeCast S1x1x8x128 (broadcastTo S8x128 (shapeCast S1x128 M shapeCasts_S1x128_S1x128) broadcasts_S1x128_S8x128) shapeCasts_S8x128_S1x1x8x128

theorem eight_apply (M : FVec Ideal S1x128 .f32) (a : Fin 8) (t : Fin 128) : eight M (ix4 0 0 a t) = M (ix2 0 t) := by
  pointwise [eight]

variable (G A M : FVec Ideal S128x128 .f32)

/-- The running maxima, forward, before each chunk. -/
def fwd0 : FVec Ideal S1x128 .f32 := broadcast S1x128 (Scalar.ofBits .f32 0x00000000#32)
def fwd1 : FVec Ideal S1x128 .f32 := maximumf (addf (extractStridedSlice S1x128 ![0, 0] G slices_S128x128_o0_0_S1x128) (fwd0 )) (extractStridedSlice S1x128 ![0, 0] A slices_S128x128_o0_0_S1x128)
def fwd2 : FVec Ideal S1x128 .f32 := maximumf (addf (extractStridedSlice S1x128 ![8, 0] G slices_S128x128_o8_0_S1x128) (fwd1 G A)) (extractStridedSlice S1x128 ![8, 0] A slices_S128x128_o8_0_S1x128)
def fwd3 : FVec Ideal S1x128 .f32 := maximumf (addf (extractStridedSlice S1x128 ![16, 0] G slices_S128x128_o16_0_S1x128) (fwd2 G A)) (extractStridedSlice S1x128 ![16, 0] A slices_S128x128_o16_0_S1x128)
def fwd4 : FVec Ideal S1x128 .f32 := maximumf (addf (extractStridedSlice S1x128 ![24, 0] G slices_S128x128_o24_0_S1x128) (fwd3 G A)) (extractStridedSlice S1x128 ![24, 0] A slices_S128x128_o24_0_S1x128)
def fwd5 : FVec Ideal S1x128 .f32 := maximumf (addf (extractStridedSlice S1x128 ![32, 0] G slices_S128x128_o32_0_S1x128) (fwd4 G A)) (extractStridedSlice S1x128 ![32, 0] A slices_S128x128_o32_0_S1x128)
def fwd6 : FVec Ideal S1x128 .f32 := maximumf (addf (extractStridedSlice S1x128 ![40, 0] G slices_S128x128_o40_0_S1x128) (fwd5 G A)) (extractStridedSlice S1x128 ![40, 0] A slices_S128x128_o40_0_S1x128)
def fwd7 : FVec Ideal S1x128 .f32 := maximumf (addf (extractStridedSlice S1x128 ![48, 0] G slices_S128x128_o48_0_S1x128) (fwd6 G A)) (extractStridedSlice S1x128 ![48, 0] A slices_S128x128_o48_0_S1x128)
def fwd8 : FVec Ideal S1x128 .f32 := maximumf (addf (extractStridedSlice S1x128 ![56, 0] G slices_S128x128_o56_0_S1x128) (fwd7 G A)) (extractStridedSlice S1x128 ![56, 0] A slices_S128x128_o56_0_S1x128)
def fwd9 : FVec Ideal S1x128 .f32 := maximumf (addf (extractStridedSlice S1x128 ![64, 0] G slices_S128x128_o64_0_S1x128) (fwd8 G A)) (extractStridedSlice S1x128 ![64, 0] A slices_S128x128_o64_0_S1x128)
def fwd10 : FVec Ideal S1x128 .f32 := maximumf (addf (extractStridedSlice S1x128 ![72, 0] G slices_S128x128_o72_0_S1x128) (fwd9 G A)) (extractStridedSlice S1x128 ![72, 0] A slices_S128x128_o72_0_S1x128)
def fwd11 : FVec Ideal S1x128 .f32 := maximumf (addf (extractStridedSlice S1x128 ![80, 0] G slices_S128x128_o80_0_S1x128) (fwd10 G A)) (extractStridedSlice S1x128 ![80, 0] A slices_S128x128_o80_0_S1x128)
def fwd12 : FVec Ideal S1x128 .f32 := maximumf (addf (extractStridedSlice S1x128 ![88, 0] G slices_S128x128_o88_0_S1x128) (fwd11 G A)) (extractStridedSlice S1x128 ![88, 0] A slices_S128x128_o88_0_S1x128)
def fwd13 : FVec Ideal S1x128 .f32 := maximumf (addf (extractStridedSlice S1x128 ![96, 0] G slices_S128x128_o96_0_S1x128) (fwd12 G A)) (extractStridedSlice S1x128 ![96, 0] A slices_S128x128_o96_0_S1x128)
def fwd14 : FVec Ideal S1x128 .f32 := maximumf (addf (extractStridedSlice S1x128 ![104, 0] G slices_S128x128_o104_0_S1x128) (fwd13 G A)) (extractStridedSlice S1x128 ![104, 0] A slices_S128x128_o104_0_S1x128)
def fwd15 : FVec Ideal S1x128 .f32 := maximumf (addf (extractStridedSlice S1x128 ![112, 0] G slices_S128x128_o112_0_S1x128) (fwd14 G A)) (extractStridedSlice S1x128 ![112, 0] A slices_S128x128_o112_0_S1x128)

/-- The running maxima, backward, before each chunk. -/
def bwd0 : FVec Ideal S1x128 .f32 := broadcast S1x128 (Scalar.ofBits .f32 0x00000000#32)
def bwd1 : FVec Ideal S1x128 .f32 := maximumf (addf (extractStridedSlice S1x128 ![122, 0] G slices_S128x128_o122_0_S1x128) (bwd0 )) (extractStridedSlice S1x128 ![122, 0] A slices_S128x128_o122_0_S1x128)
def bwd2 : FVec Ideal S1x128 .f32 := maximumf (addf (extractStridedSlice S1x128 ![114, 0] G slices_S128x128_o114_0_S1x128) (bwd1 G A)) (extractStridedSlice S1x128 ![114, 0] A slices_S128x128_o114_0_S1x128)
def bwd3 : FVec Ideal S1x128 .f32 := maximumf (addf (extractStridedSlice S1x128 ![106, 0] G slices_S128x128_o106_0_S1x128) (bwd2 G A)) (extractStridedSlice S1x128 ![106, 0] A slices_S128x128_o106_0_S1x128)
def bwd4 : FVec Ideal S1x128 .f32 := maximumf (addf (extractStridedSlice S1x128 ![98, 0] G slices_S128x128_o98_0_S1x128) (bwd3 G A)) (extractStridedSlice S1x128 ![98, 0] A slices_S128x128_o98_0_S1x128)
def bwd5 : FVec Ideal S1x128 .f32 := maximumf (addf (extractStridedSlice S1x128 ![90, 0] G slices_S128x128_o90_0_S1x128) (bwd4 G A)) (extractStridedSlice S1x128 ![90, 0] A slices_S128x128_o90_0_S1x128)
def bwd6 : FVec Ideal S1x128 .f32 := maximumf (addf (extractStridedSlice S1x128 ![82, 0] G slices_S128x128_o82_0_S1x128) (bwd5 G A)) (extractStridedSlice S1x128 ![82, 0] A slices_S128x128_o82_0_S1x128)
def bwd7 : FVec Ideal S1x128 .f32 := maximumf (addf (extractStridedSlice S1x128 ![74, 0] G slices_S128x128_o74_0_S1x128) (bwd6 G A)) (extractStridedSlice S1x128 ![74, 0] A slices_S128x128_o74_0_S1x128)
def bwd8 : FVec Ideal S1x128 .f32 := maximumf (addf (extractStridedSlice S1x128 ![66, 0] G slices_S128x128_o66_0_S1x128) (bwd7 G A)) (extractStridedSlice S1x128 ![66, 0] A slices_S128x128_o66_0_S1x128)
def bwd9 : FVec Ideal S1x128 .f32 := maximumf (addf (extractStridedSlice S1x128 ![58, 0] G slices_S128x128_o58_0_S1x128) (bwd8 G A)) (extractStridedSlice S1x128 ![58, 0] A slices_S128x128_o58_0_S1x128)
def bwd10 : FVec Ideal S1x128 .f32 := maximumf (addf (extractStridedSlice S1x128 ![50, 0] G slices_S128x128_o50_0_S1x128) (bwd9 G A)) (extractStridedSlice S1x128 ![50, 0] A slices_S128x128_o50_0_S1x128)
def bwd11 : FVec Ideal S1x128 .f32 := maximumf (addf (extractStridedSlice S1x128 ![42, 0] G slices_S128x128_o42_0_S1x128) (bwd10 G A)) (extractStridedSlice S1x128 ![42, 0] A slices_S128x128_o42_0_S1x128)
def bwd12 : FVec Ideal S1x128 .f32 := maximumf (addf (extractStridedSlice S1x128 ![34, 0] G slices_S128x128_o34_0_S1x128) (bwd11 G A)) (extractStridedSlice S1x128 ![34, 0] A slices_S128x128_o34_0_S1x128)
def bwd13 : FVec Ideal S1x128 .f32 := maximumf (addf (extractStridedSlice S1x128 ![26, 0] G slices_S128x128_o26_0_S1x128) (bwd12 G A)) (extractStridedSlice S1x128 ![26, 0] A slices_S128x128_o26_0_S1x128)
def bwd14 : FVec Ideal S1x128 .f32 := maximumf (addf (extractStridedSlice S1x128 ![18, 0] G slices_S128x128_o18_0_S1x128) (bwd13 G A)) (extractStridedSlice S1x128 ![18, 0] A slices_S128x128_o18_0_S1x128)
def bwd15 : FVec Ideal S1x128 .f32 := maximumf (addf (extractStridedSlice S1x128 ![10, 0] G slices_S128x128_o10_0_S1x128) (bwd14 G A)) (extractStridedSlice S1x128 ![10, 0] A slices_S128x128_o10_0_S1x128)

section

variable (R : Vec Ideal S1x1x16x8x128 .f32) (p : Nat → Mlstm.Step)

theorem gain_fold (last : Fin 128) (q : Mlstm.Step) (f : Fin 128 → EReal) (h : ∀ s, f s = Mlstm.gain last q s) :
    Finset.univ.fold max (Ideal.ofBits .f32 0xFF800000#32) f = Finset.univ.fold max Mlstm.unseen (Mlstm.gain last q) :=
  congrArg (Finset.univ.fold max _) (funext h)

section

variable (hi : ∀ (j : Nat) (hj : j < 16) (t : Fin 128), (p j).i t = R (ix5 0 0 ⟨j, by omega⟩ 0 t)) (hb : ∀ (j : Nat) (hj : j < 16) (t : Fin 128), (p j).b t = R (ix5 0 0 ⟨j, by omega⟩ 1 t))

include hi hb

theorem fwd0_apply (t : Fin 128) : fwd0 (ix2 0 t) = (Mlstm.state 127 p 0).m := by
  have e : fwd0 (ix2 0 t) = 0 := by pointwise [fwd0]
  exact e

theorem fwd1_apply (t : Fin 128) : fwd1 (total R) (largest R) (ix2 0 t) = (Mlstm.state 127 p 1).m := by
  have e : fwd1 (total R) (largest R) (ix2 0 t) = max (R (ix5 0 0 0 1 127) + fwd0  (ix2 0 t))
      (Finset.univ.fold max (Ideal.ofBits .f32 0xFF800000#32) (fun s => R (ix5 0 0 0 1 127) - R (ix5 0 0 0 1 s) + R (ix5 0 0 0 0 s))) := by
    pointwise [fwd1, total, largest, k0_pay446, k0_pay445, k0_pay444, k0_pay443, k0_pay442, k0_pay441]
    simp only [show IntOp.cmpi CmpIPredicate.eq (IntOp.andi 0#32 7#32) 0#32 = 1#1 from by decide]
    rfl
  rw [e, fwd0_apply R p hi hb t, gain_fold 127 (p 0) _ fun s => ?_]
  · exact congrArg (fun z => max (z + _) _) (hb 0 (by omega) 127).symm
  · unfold Mlstm.gain; rw [hb 0 (by omega), hb 0 (by omega), hi 0 (by omega)]; rfl

theorem fwd2_apply (t : Fin 128) : fwd2 (total R) (largest R) (ix2 0 t) = (Mlstm.state 127 p 2).m := by
  have e : fwd2 (total R) (largest R) (ix2 0 t) = max (R (ix5 0 0 1 1 127) + fwd1 (total R) (largest R) (ix2 0 t))
      (Finset.univ.fold max (Ideal.ofBits .f32 0xFF800000#32) (fun s => R (ix5 0 0 1 1 127) - R (ix5 0 0 1 1 s) + R (ix5 0 0 1 0 s))) := by
    pointwise [fwd2, total, largest, k0_pay446, k0_pay445, k0_pay444, k0_pay443, k0_pay442, k0_pay441]
    simp only [show IntOp.cmpi CmpIPredicate.eq (IntOp.andi 8#32 7#32) 0#32 = 1#1 from by decide]
    rfl
  rw [e, fwd1_apply R p hi hb t, gain_fold 127 (p 1) _ fun s => ?_]
  · exact congrArg (fun z => max (z + _) _) (hb 1 (by omega) 127).symm
  · unfold Mlstm.gain; rw [hb 1 (by omega), hb 1 (by omega), hi 1 (by omega)]; rfl

theorem fwd3_apply (t : Fin 128) : fwd3 (total R) (largest R) (ix2 0 t) = (Mlstm.state 127 p 3).m := by
  have e : fwd3 (total R) (largest R) (ix2 0 t) = max (R (ix5 0 0 2 1 127) + fwd2 (total R) (largest R) (ix2 0 t))
      (Finset.univ.fold max (Ideal.ofBits .f32 0xFF800000#32) (fun s => R (ix5 0 0 2 1 127) - R (ix5 0 0 2 1 s) + R (ix5 0 0 2 0 s))) := by
    pointwise [fwd3, total, largest, k0_pay446, k0_pay445, k0_pay444, k0_pay443, k0_pay442, k0_pay441]
    simp only [show IntOp.cmpi CmpIPredicate.eq (IntOp.andi 16#32 7#32) 0#32 = 1#1 from by decide]
    rfl
  rw [e, fwd2_apply R p hi hb t, gain_fold 127 (p 2) _ fun s => ?_]
  · exact congrArg (fun z => max (z + _) _) (hb 2 (by omega) 127).symm
  · unfold Mlstm.gain; rw [hb 2 (by omega), hb 2 (by omega), hi 2 (by omega)]; rfl

theorem fwd4_apply (t : Fin 128) : fwd4 (total R) (largest R) (ix2 0 t) = (Mlstm.state 127 p 4).m := by
  have e : fwd4 (total R) (largest R) (ix2 0 t) = max (R (ix5 0 0 3 1 127) + fwd3 (total R) (largest R) (ix2 0 t))
      (Finset.univ.fold max (Ideal.ofBits .f32 0xFF800000#32) (fun s => R (ix5 0 0 3 1 127) - R (ix5 0 0 3 1 s) + R (ix5 0 0 3 0 s))) := by
    pointwise [fwd4, total, largest, k0_pay446, k0_pay445, k0_pay444, k0_pay443, k0_pay442, k0_pay441]
    simp only [show IntOp.cmpi CmpIPredicate.eq (IntOp.andi 24#32 7#32) 0#32 = 1#1 from by decide]
    rfl
  rw [e, fwd3_apply R p hi hb t, gain_fold 127 (p 3) _ fun s => ?_]
  · exact congrArg (fun z => max (z + _) _) (hb 3 (by omega) 127).symm
  · unfold Mlstm.gain; rw [hb 3 (by omega), hb 3 (by omega), hi 3 (by omega)]; rfl

theorem fwd5_apply (t : Fin 128) : fwd5 (total R) (largest R) (ix2 0 t) = (Mlstm.state 127 p 5).m := by
  have e : fwd5 (total R) (largest R) (ix2 0 t) = max (R (ix5 0 0 4 1 127) + fwd4 (total R) (largest R) (ix2 0 t))
      (Finset.univ.fold max (Ideal.ofBits .f32 0xFF800000#32) (fun s => R (ix5 0 0 4 1 127) - R (ix5 0 0 4 1 s) + R (ix5 0 0 4 0 s))) := by
    pointwise [fwd5, total, largest, k0_pay446, k0_pay445, k0_pay444, k0_pay443, k0_pay442, k0_pay441]
    simp only [show IntOp.cmpi CmpIPredicate.eq (IntOp.andi 32#32 7#32) 0#32 = 1#1 from by decide]
    rfl
  rw [e, fwd4_apply R p hi hb t, gain_fold 127 (p 4) _ fun s => ?_]
  · exact congrArg (fun z => max (z + _) _) (hb 4 (by omega) 127).symm
  · unfold Mlstm.gain; rw [hb 4 (by omega), hb 4 (by omega), hi 4 (by omega)]; rfl

theorem fwd6_apply (t : Fin 128) : fwd6 (total R) (largest R) (ix2 0 t) = (Mlstm.state 127 p 6).m := by
  have e : fwd6 (total R) (largest R) (ix2 0 t) = max (R (ix5 0 0 5 1 127) + fwd5 (total R) (largest R) (ix2 0 t))
      (Finset.univ.fold max (Ideal.ofBits .f32 0xFF800000#32) (fun s => R (ix5 0 0 5 1 127) - R (ix5 0 0 5 1 s) + R (ix5 0 0 5 0 s))) := by
    pointwise [fwd6, total, largest, k0_pay446, k0_pay445, k0_pay444, k0_pay443, k0_pay442, k0_pay441]
    simp only [show IntOp.cmpi CmpIPredicate.eq (IntOp.andi 40#32 7#32) 0#32 = 1#1 from by decide]
    rfl
  rw [e, fwd5_apply R p hi hb t, gain_fold 127 (p 5) _ fun s => ?_]
  · exact congrArg (fun z => max (z + _) _) (hb 5 (by omega) 127).symm
  · unfold Mlstm.gain; rw [hb 5 (by omega), hb 5 (by omega), hi 5 (by omega)]; rfl

theorem fwd7_apply (t : Fin 128) : fwd7 (total R) (largest R) (ix2 0 t) = (Mlstm.state 127 p 7).m := by
  have e : fwd7 (total R) (largest R) (ix2 0 t) = max (R (ix5 0 0 6 1 127) + fwd6 (total R) (largest R) (ix2 0 t))
      (Finset.univ.fold max (Ideal.ofBits .f32 0xFF800000#32) (fun s => R (ix5 0 0 6 1 127) - R (ix5 0 0 6 1 s) + R (ix5 0 0 6 0 s))) := by
    pointwise [fwd7, total, largest, k0_pay446, k0_pay445, k0_pay444, k0_pay443, k0_pay442, k0_pay441]
    simp only [show IntOp.cmpi CmpIPredicate.eq (IntOp.andi 48#32 7#32) 0#32 = 1#1 from by decide]
    rfl
  rw [e, fwd6_apply R p hi hb t, gain_fold 127 (p 6) _ fun s => ?_]
  · exact congrArg (fun z => max (z + _) _) (hb 6 (by omega) 127).symm
  · unfold Mlstm.gain; rw [hb 6 (by omega), hb 6 (by omega), hi 6 (by omega)]; rfl

theorem fwd8_apply (t : Fin 128) : fwd8 (total R) (largest R) (ix2 0 t) = (Mlstm.state 127 p 8).m := by
  have e : fwd8 (total R) (largest R) (ix2 0 t) = max (R (ix5 0 0 7 1 127) + fwd7 (total R) (largest R) (ix2 0 t))
      (Finset.univ.fold max (Ideal.ofBits .f32 0xFF800000#32) (fun s => R (ix5 0 0 7 1 127) - R (ix5 0 0 7 1 s) + R (ix5 0 0 7 0 s))) := by
    pointwise [fwd8, total, largest, k0_pay446, k0_pay445, k0_pay444, k0_pay443, k0_pay442, k0_pay441]
    simp only [show IntOp.cmpi CmpIPredicate.eq (IntOp.andi 56#32 7#32) 0#32 = 1#1 from by decide]
    rfl
  rw [e, fwd7_apply R p hi hb t, gain_fold 127 (p 7) _ fun s => ?_]
  · exact congrArg (fun z => max (z + _) _) (hb 7 (by omega) 127).symm
  · unfold Mlstm.gain; rw [hb 7 (by omega), hb 7 (by omega), hi 7 (by omega)]; rfl

theorem fwd9_apply (t : Fin 128) : fwd9 (total R) (largest R) (ix2 0 t) = (Mlstm.state 127 p 9).m := by
  have e : fwd9 (total R) (largest R) (ix2 0 t) = max (R (ix5 0 0 8 1 127) + fwd8 (total R) (largest R) (ix2 0 t))
      (Finset.univ.fold max (Ideal.ofBits .f32 0xFF800000#32) (fun s => R (ix5 0 0 8 1 127) - R (ix5 0 0 8 1 s) + R (ix5 0 0 8 0 s))) := by
    pointwise [fwd9, total, largest, k0_pay446, k0_pay445, k0_pay444, k0_pay443, k0_pay442, k0_pay441]
    simp only [show IntOp.cmpi CmpIPredicate.eq (IntOp.andi 64#32 7#32) 0#32 = 1#1 from by decide]
    rfl
  rw [e, fwd8_apply R p hi hb t, gain_fold 127 (p 8) _ fun s => ?_]
  · exact congrArg (fun z => max (z + _) _) (hb 8 (by omega) 127).symm
  · unfold Mlstm.gain; rw [hb 8 (by omega), hb 8 (by omega), hi 8 (by omega)]; rfl

theorem fwd10_apply (t : Fin 128) : fwd10 (total R) (largest R) (ix2 0 t) = (Mlstm.state 127 p 10).m := by
  have e : fwd10 (total R) (largest R) (ix2 0 t) = max (R (ix5 0 0 9 1 127) + fwd9 (total R) (largest R) (ix2 0 t))
      (Finset.univ.fold max (Ideal.ofBits .f32 0xFF800000#32) (fun s => R (ix5 0 0 9 1 127) - R (ix5 0 0 9 1 s) + R (ix5 0 0 9 0 s))) := by
    pointwise [fwd10, total, largest, k0_pay446, k0_pay445, k0_pay444, k0_pay443, k0_pay442, k0_pay441]
    simp only [show IntOp.cmpi CmpIPredicate.eq (IntOp.andi 72#32 7#32) 0#32 = 1#1 from by decide]
    rfl
  rw [e, fwd9_apply R p hi hb t, gain_fold 127 (p 9) _ fun s => ?_]
  · exact congrArg (fun z => max (z + _) _) (hb 9 (by omega) 127).symm
  · unfold Mlstm.gain; rw [hb 9 (by omega), hb 9 (by omega), hi 9 (by omega)]; rfl

theorem fwd11_apply (t : Fin 128) : fwd11 (total R) (largest R) (ix2 0 t) = (Mlstm.state 127 p 11).m := by
  have e : fwd11 (total R) (largest R) (ix2 0 t) = max (R (ix5 0 0 10 1 127) + fwd10 (total R) (largest R) (ix2 0 t))
      (Finset.univ.fold max (Ideal.ofBits .f32 0xFF800000#32) (fun s => R (ix5 0 0 10 1 127) - R (ix5 0 0 10 1 s) + R (ix5 0 0 10 0 s))) := by
    pointwise [fwd11, total, largest, k0_pay446, k0_pay445, k0_pay444, k0_pay443, k0_pay442, k0_pay441]
    simp only [show IntOp.cmpi CmpIPredicate.eq (IntOp.andi 80#32 7#32) 0#32 = 1#1 from by decide]
    rfl
  rw [e, fwd10_apply R p hi hb t, gain_fold 127 (p 10) _ fun s => ?_]
  · exact congrArg (fun z => max (z + _) _) (hb 10 (by omega) 127).symm
  · unfold Mlstm.gain; rw [hb 10 (by omega), hb 10 (by omega), hi 10 (by omega)]; rfl

theorem fwd12_apply (t : Fin 128) : fwd12 (total R) (largest R) (ix2 0 t) = (Mlstm.state 127 p 12).m := by
  have e : fwd12 (total R) (largest R) (ix2 0 t) = max (R (ix5 0 0 11 1 127) + fwd11 (total R) (largest R) (ix2 0 t))
      (Finset.univ.fold max (Ideal.ofBits .f32 0xFF800000#32) (fun s => R (ix5 0 0 11 1 127) - R (ix5 0 0 11 1 s) + R (ix5 0 0 11 0 s))) := by
    pointwise [fwd12, total, largest, k0_pay446, k0_pay445, k0_pay444, k0_pay443, k0_pay442, k0_pay441]
    simp only [show IntOp.cmpi CmpIPredicate.eq (IntOp.andi 88#32 7#32) 0#32 = 1#1 from by decide]
    rfl
  rw [e, fwd11_apply R p hi hb t, gain_fold 127 (p 11) _ fun s => ?_]
  · exact congrArg (fun z => max (z + _) _) (hb 11 (by omega) 127).symm
  · unfold Mlstm.gain; rw [hb 11 (by omega), hb 11 (by omega), hi 11 (by omega)]; rfl

theorem fwd13_apply (t : Fin 128) : fwd13 (total R) (largest R) (ix2 0 t) = (Mlstm.state 127 p 13).m := by
  have e : fwd13 (total R) (largest R) (ix2 0 t) = max (R (ix5 0 0 12 1 127) + fwd12 (total R) (largest R) (ix2 0 t))
      (Finset.univ.fold max (Ideal.ofBits .f32 0xFF800000#32) (fun s => R (ix5 0 0 12 1 127) - R (ix5 0 0 12 1 s) + R (ix5 0 0 12 0 s))) := by
    pointwise [fwd13, total, largest, k0_pay446, k0_pay445, k0_pay444, k0_pay443, k0_pay442, k0_pay441]
    simp only [show IntOp.cmpi CmpIPredicate.eq (IntOp.andi 96#32 7#32) 0#32 = 1#1 from by decide]
    rfl
  rw [e, fwd12_apply R p hi hb t, gain_fold 127 (p 12) _ fun s => ?_]
  · exact congrArg (fun z => max (z + _) _) (hb 12 (by omega) 127).symm
  · unfold Mlstm.gain; rw [hb 12 (by omega), hb 12 (by omega), hi 12 (by omega)]; rfl

theorem fwd14_apply (t : Fin 128) : fwd14 (total R) (largest R) (ix2 0 t) = (Mlstm.state 127 p 14).m := by
  have e : fwd14 (total R) (largest R) (ix2 0 t) = max (R (ix5 0 0 13 1 127) + fwd13 (total R) (largest R) (ix2 0 t))
      (Finset.univ.fold max (Ideal.ofBits .f32 0xFF800000#32) (fun s => R (ix5 0 0 13 1 127) - R (ix5 0 0 13 1 s) + R (ix5 0 0 13 0 s))) := by
    pointwise [fwd14, total, largest, k0_pay446, k0_pay445, k0_pay444, k0_pay443, k0_pay442, k0_pay441]
    simp only [show IntOp.cmpi CmpIPredicate.eq (IntOp.andi 104#32 7#32) 0#32 = 1#1 from by decide]
    rfl
  rw [e, fwd13_apply R p hi hb t, gain_fold 127 (p 13) _ fun s => ?_]
  · exact congrArg (fun z => max (z + _) _) (hb 13 (by omega) 127).symm
  · unfold Mlstm.gain; rw [hb 13 (by omega), hb 13 (by omega), hi 13 (by omega)]; rfl

theorem fwd15_apply (t : Fin 128) : fwd15 (total R) (largest R) (ix2 0 t) = (Mlstm.state 127 p 15).m := by
  have e : fwd15 (total R) (largest R) (ix2 0 t) = max (R (ix5 0 0 14 1 127) + fwd14 (total R) (largest R) (ix2 0 t))
      (Finset.univ.fold max (Ideal.ofBits .f32 0xFF800000#32) (fun s => R (ix5 0 0 14 1 127) - R (ix5 0 0 14 1 s) + R (ix5 0 0 14 0 s))) := by
    pointwise [fwd15, total, largest, k0_pay446, k0_pay445, k0_pay444, k0_pay443, k0_pay442, k0_pay441]
    simp only [show IntOp.cmpi CmpIPredicate.eq (IntOp.andi 112#32 7#32) 0#32 = 1#1 from by decide]
    rfl
  rw [e, fwd14_apply R p hi hb t, gain_fold 127 (p 14) _ fun s => ?_]
  · exact congrArg (fun z => max (z + _) _) (hb 14 (by omega) 127).symm
  · unfold Mlstm.gain; rw [hb 14 (by omega), hb 14 (by omega), hi 14 (by omega)]; rfl

end

section

variable (hi : ∀ (j : Nat) (hj : j < 16) (t : Fin 128), (p j).i t = R (ix5 0 0 ⟨15 - j, by omega⟩ 2 t)) (hb : ∀ (j : Nat) (hj : j < 16) (t : Fin 128), (p j).b t = R (ix5 0 0 ⟨15 - j, by omega⟩ 3 t))

include hi hb

theorem bwd0_apply (t : Fin 128) : bwd0 (ix2 0 t) = (Mlstm.state 0 p 0).m := by
  have e : bwd0 (ix2 0 t) = 0 := by pointwise [bwd0]
  exact e

theorem bwd1_apply (t : Fin 128) : bwd1 (total R) (largest R) (ix2 0 t) = (Mlstm.state 0 p 1).m := by
  have e : bwd1 (total R) (largest R) (ix2 0 t) = max (R (ix5 0 0 15 3 0) + bwd0  (ix2 0 t))
      (Finset.univ.fold max (Ideal.ofBits .f32 0xFF800000#32) (fun s => R (ix5 0 0 15 3 0) - R (ix5 0 0 15 3 s) + R (ix5 0 0 15 2 s))) := by
    pointwise [bwd1, total, largest, k0_pay446, k0_pay445, k0_pay444, k0_pay443, k0_pay442, k0_pay441]
    simp only [show IntOp.cmpi CmpIPredicate.eq (IntOp.andi 122#32 7#32) 0#32 = 0#1 from by decide]
    rfl
  rw [e, bwd0_apply R p hi hb t, gain_fold 0 (p 0) _ fun s => ?_]
  · exact congrArg (fun z => max (z + _) _) (hb 0 (by omega) 0).symm
  · unfold Mlstm.gain; rw [hb 0 (by omega), hb 0 (by omega), hi 0 (by omega)]; rfl

theorem bwd2_apply (t : Fin 128) : bwd2 (total R) (largest R) (ix2 0 t) = (Mlstm.state 0 p 2).m := by
  have e : bwd2 (total R) (largest R) (ix2 0 t) = max (R (ix5 0 0 14 3 0) + bwd1 (total R) (largest R) (ix2 0 t))
      (Finset.univ.fold max (Ideal.ofBits .f32 0xFF800000#32) (fun s => R (ix5 0 0 14 3 0) - R (ix5 0 0 14 3 s) + R (ix5 0 0 14 2 s))) := by
    pointwise [bwd2, total, largest, k0_pay446, k0_pay445, k0_pay444, k0_pay443, k0_pay442, k0_pay441]
    simp only [show IntOp.cmpi CmpIPredicate.eq (IntOp.andi 114#32 7#32) 0#32 = 0#1 from by decide]
    rfl
  rw [e, bwd1_apply R p hi hb t, gain_fold 0 (p 1) _ fun s => ?_]
  · exact congrArg (fun z => max (z + _) _) (hb 1 (by omega) 0).symm
  · unfold Mlstm.gain; rw [hb 1 (by omega), hb 1 (by omega), hi 1 (by omega)]; rfl

theorem bwd3_apply (t : Fin 128) : bwd3 (total R) (largest R) (ix2 0 t) = (Mlstm.state 0 p 3).m := by
  have e : bwd3 (total R) (largest R) (ix2 0 t) = max (R (ix5 0 0 13 3 0) + bwd2 (total R) (largest R) (ix2 0 t))
      (Finset.univ.fold max (Ideal.ofBits .f32 0xFF800000#32) (fun s => R (ix5 0 0 13 3 0) - R (ix5 0 0 13 3 s) + R (ix5 0 0 13 2 s))) := by
    pointwise [bwd3, total, largest, k0_pay446, k0_pay445, k0_pay444, k0_pay443, k0_pay442, k0_pay441]
    simp only [show IntOp.cmpi CmpIPredicate.eq (IntOp.andi 106#32 7#32) 0#32 = 0#1 from by decide]
    rfl
  rw [e, bwd2_apply R p hi hb t, gain_fold 0 (p 2) _ fun s => ?_]
  · exact congrArg (fun z => max (z + _) _) (hb 2 (by omega) 0).symm
  · unfold Mlstm.gain; rw [hb 2 (by omega), hb 2 (by omega), hi 2 (by omega)]; rfl

theorem bwd4_apply (t : Fin 128) : bwd4 (total R) (largest R) (ix2 0 t) = (Mlstm.state 0 p 4).m := by
  have e : bwd4 (total R) (largest R) (ix2 0 t) = max (R (ix5 0 0 12 3 0) + bwd3 (total R) (largest R) (ix2 0 t))
      (Finset.univ.fold max (Ideal.ofBits .f32 0xFF800000#32) (fun s => R (ix5 0 0 12 3 0) - R (ix5 0 0 12 3 s) + R (ix5 0 0 12 2 s))) := by
    pointwise [bwd4, total, largest, k0_pay446, k0_pay445, k0_pay444, k0_pay443, k0_pay442, k0_pay441]
    simp only [show IntOp.cmpi CmpIPredicate.eq (IntOp.andi 98#32 7#32) 0#32 = 0#1 from by decide]
    rfl
  rw [e, bwd3_apply R p hi hb t, gain_fold 0 (p 3) _ fun s => ?_]
  · exact congrArg (fun z => max (z + _) _) (hb 3 (by omega) 0).symm
  · unfold Mlstm.gain; rw [hb 3 (by omega), hb 3 (by omega), hi 3 (by omega)]; rfl

theorem bwd5_apply (t : Fin 128) : bwd5 (total R) (largest R) (ix2 0 t) = (Mlstm.state 0 p 5).m := by
  have e : bwd5 (total R) (largest R) (ix2 0 t) = max (R (ix5 0 0 11 3 0) + bwd4 (total R) (largest R) (ix2 0 t))
      (Finset.univ.fold max (Ideal.ofBits .f32 0xFF800000#32) (fun s => R (ix5 0 0 11 3 0) - R (ix5 0 0 11 3 s) + R (ix5 0 0 11 2 s))) := by
    pointwise [bwd5, total, largest, k0_pay446, k0_pay445, k0_pay444, k0_pay443, k0_pay442, k0_pay441]
    simp only [show IntOp.cmpi CmpIPredicate.eq (IntOp.andi 90#32 7#32) 0#32 = 0#1 from by decide]
    rfl
  rw [e, bwd4_apply R p hi hb t, gain_fold 0 (p 4) _ fun s => ?_]
  · exact congrArg (fun z => max (z + _) _) (hb 4 (by omega) 0).symm
  · unfold Mlstm.gain; rw [hb 4 (by omega), hb 4 (by omega), hi 4 (by omega)]; rfl

theorem bwd6_apply (t : Fin 128) : bwd6 (total R) (largest R) (ix2 0 t) = (Mlstm.state 0 p 6).m := by
  have e : bwd6 (total R) (largest R) (ix2 0 t) = max (R (ix5 0 0 10 3 0) + bwd5 (total R) (largest R) (ix2 0 t))
      (Finset.univ.fold max (Ideal.ofBits .f32 0xFF800000#32) (fun s => R (ix5 0 0 10 3 0) - R (ix5 0 0 10 3 s) + R (ix5 0 0 10 2 s))) := by
    pointwise [bwd6, total, largest, k0_pay446, k0_pay445, k0_pay444, k0_pay443, k0_pay442, k0_pay441]
    simp only [show IntOp.cmpi CmpIPredicate.eq (IntOp.andi 82#32 7#32) 0#32 = 0#1 from by decide]
    rfl
  rw [e, bwd5_apply R p hi hb t, gain_fold 0 (p 5) _ fun s => ?_]
  · exact congrArg (fun z => max (z + _) _) (hb 5 (by omega) 0).symm
  · unfold Mlstm.gain; rw [hb 5 (by omega), hb 5 (by omega), hi 5 (by omega)]; rfl

theorem bwd7_apply (t : Fin 128) : bwd7 (total R) (largest R) (ix2 0 t) = (Mlstm.state 0 p 7).m := by
  have e : bwd7 (total R) (largest R) (ix2 0 t) = max (R (ix5 0 0 9 3 0) + bwd6 (total R) (largest R) (ix2 0 t))
      (Finset.univ.fold max (Ideal.ofBits .f32 0xFF800000#32) (fun s => R (ix5 0 0 9 3 0) - R (ix5 0 0 9 3 s) + R (ix5 0 0 9 2 s))) := by
    pointwise [bwd7, total, largest, k0_pay446, k0_pay445, k0_pay444, k0_pay443, k0_pay442, k0_pay441]
    simp only [show IntOp.cmpi CmpIPredicate.eq (IntOp.andi 74#32 7#32) 0#32 = 0#1 from by decide]
    rfl
  rw [e, bwd6_apply R p hi hb t, gain_fold 0 (p 6) _ fun s => ?_]
  · exact congrArg (fun z => max (z + _) _) (hb 6 (by omega) 0).symm
  · unfold Mlstm.gain; rw [hb 6 (by omega), hb 6 (by omega), hi 6 (by omega)]; rfl

theorem bwd8_apply (t : Fin 128) : bwd8 (total R) (largest R) (ix2 0 t) = (Mlstm.state 0 p 8).m := by
  have e : bwd8 (total R) (largest R) (ix2 0 t) = max (R (ix5 0 0 8 3 0) + bwd7 (total R) (largest R) (ix2 0 t))
      (Finset.univ.fold max (Ideal.ofBits .f32 0xFF800000#32) (fun s => R (ix5 0 0 8 3 0) - R (ix5 0 0 8 3 s) + R (ix5 0 0 8 2 s))) := by
    pointwise [bwd8, total, largest, k0_pay446, k0_pay445, k0_pay444, k0_pay443, k0_pay442, k0_pay441]
    simp only [show IntOp.cmpi CmpIPredicate.eq (IntOp.andi 66#32 7#32) 0#32 = 0#1 from by decide]
    rfl
  rw [e, bwd7_apply R p hi hb t, gain_fold 0 (p 7) _ fun s => ?_]
  · exact congrArg (fun z => max (z + _) _) (hb 7 (by omega) 0).symm
  · unfold Mlstm.gain; rw [hb 7 (by omega), hb 7 (by omega), hi 7 (by omega)]; rfl

theorem bwd9_apply (t : Fin 128) : bwd9 (total R) (largest R) (ix2 0 t) = (Mlstm.state 0 p 9).m := by
  have e : bwd9 (total R) (largest R) (ix2 0 t) = max (R (ix5 0 0 7 3 0) + bwd8 (total R) (largest R) (ix2 0 t))
      (Finset.univ.fold max (Ideal.ofBits .f32 0xFF800000#32) (fun s => R (ix5 0 0 7 3 0) - R (ix5 0 0 7 3 s) + R (ix5 0 0 7 2 s))) := by
    pointwise [bwd9, total, largest, k0_pay446, k0_pay445, k0_pay444, k0_pay443, k0_pay442, k0_pay441]
    simp only [show IntOp.cmpi CmpIPredicate.eq (IntOp.andi 58#32 7#32) 0#32 = 0#1 from by decide]
    rfl
  rw [e, bwd8_apply R p hi hb t, gain_fold 0 (p 8) _ fun s => ?_]
  · exact congrArg (fun z => max (z + _) _) (hb 8 (by omega) 0).symm
  · unfold Mlstm.gain; rw [hb 8 (by omega), hb 8 (by omega), hi 8 (by omega)]; rfl

theorem bwd10_apply (t : Fin 128) : bwd10 (total R) (largest R) (ix2 0 t) = (Mlstm.state 0 p 10).m := by
  have e : bwd10 (total R) (largest R) (ix2 0 t) = max (R (ix5 0 0 6 3 0) + bwd9 (total R) (largest R) (ix2 0 t))
      (Finset.univ.fold max (Ideal.ofBits .f32 0xFF800000#32) (fun s => R (ix5 0 0 6 3 0) - R (ix5 0 0 6 3 s) + R (ix5 0 0 6 2 s))) := by
    pointwise [bwd10, total, largest, k0_pay446, k0_pay445, k0_pay444, k0_pay443, k0_pay442, k0_pay441]
    simp only [show IntOp.cmpi CmpIPredicate.eq (IntOp.andi 50#32 7#32) 0#32 = 0#1 from by decide]
    rfl
  rw [e, bwd9_apply R p hi hb t, gain_fold 0 (p 9) _ fun s => ?_]
  · exact congrArg (fun z => max (z + _) _) (hb 9 (by omega) 0).symm
  · unfold Mlstm.gain; rw [hb 9 (by omega), hb 9 (by omega), hi 9 (by omega)]; rfl

theorem bwd11_apply (t : Fin 128) : bwd11 (total R) (largest R) (ix2 0 t) = (Mlstm.state 0 p 11).m := by
  have e : bwd11 (total R) (largest R) (ix2 0 t) = max (R (ix5 0 0 5 3 0) + bwd10 (total R) (largest R) (ix2 0 t))
      (Finset.univ.fold max (Ideal.ofBits .f32 0xFF800000#32) (fun s => R (ix5 0 0 5 3 0) - R (ix5 0 0 5 3 s) + R (ix5 0 0 5 2 s))) := by
    pointwise [bwd11, total, largest, k0_pay446, k0_pay445, k0_pay444, k0_pay443, k0_pay442, k0_pay441]
    simp only [show IntOp.cmpi CmpIPredicate.eq (IntOp.andi 42#32 7#32) 0#32 = 0#1 from by decide]
    rfl
  rw [e, bwd10_apply R p hi hb t, gain_fold 0 (p 10) _ fun s => ?_]
  · exact congrArg (fun z => max (z + _) _) (hb 10 (by omega) 0).symm
  · unfold Mlstm.gain; rw [hb 10 (by omega), hb 10 (by omega), hi 10 (by omega)]; rfl

theorem bwd12_apply (t : Fin 128) : bwd12 (total R) (largest R) (ix2 0 t) = (Mlstm.state 0 p 12).m := by
  have e : bwd12 (total R) (largest R) (ix2 0 t) = max (R (ix5 0 0 4 3 0) + bwd11 (total R) (largest R) (ix2 0 t))
      (Finset.univ.fold max (Ideal.ofBits .f32 0xFF800000#32) (fun s => R (ix5 0 0 4 3 0) - R (ix5 0 0 4 3 s) + R (ix5 0 0 4 2 s))) := by
    pointwise [bwd12, total, largest, k0_pay446, k0_pay445, k0_pay444, k0_pay443, k0_pay442, k0_pay441]
    simp only [show IntOp.cmpi CmpIPredicate.eq (IntOp.andi 34#32 7#32) 0#32 = 0#1 from by decide]
    rfl
  rw [e, bwd11_apply R p hi hb t, gain_fold 0 (p 11) _ fun s => ?_]
  · exact congrArg (fun z => max (z + _) _) (hb 11 (by omega) 0).symm
  · unfold Mlstm.gain; rw [hb 11 (by omega), hb 11 (by omega), hi 11 (by omega)]; rfl

theorem bwd13_apply (t : Fin 128) : bwd13 (total R) (largest R) (ix2 0 t) = (Mlstm.state 0 p 13).m := by
  have e : bwd13 (total R) (largest R) (ix2 0 t) = max (R (ix5 0 0 3 3 0) + bwd12 (total R) (largest R) (ix2 0 t))
      (Finset.univ.fold max (Ideal.ofBits .f32 0xFF800000#32) (fun s => R (ix5 0 0 3 3 0) - R (ix5 0 0 3 3 s) + R (ix5 0 0 3 2 s))) := by
    pointwise [bwd13, total, largest, k0_pay446, k0_pay445, k0_pay444, k0_pay443, k0_pay442, k0_pay441]
    simp only [show IntOp.cmpi CmpIPredicate.eq (IntOp.andi 26#32 7#32) 0#32 = 0#1 from by decide]
    rfl
  rw [e, bwd12_apply R p hi hb t, gain_fold 0 (p 12) _ fun s => ?_]
  · exact congrArg (fun z => max (z + _) _) (hb 12 (by omega) 0).symm
  · unfold Mlstm.gain; rw [hb 12 (by omega), hb 12 (by omega), hi 12 (by omega)]; rfl

theorem bwd14_apply (t : Fin 128) : bwd14 (total R) (largest R) (ix2 0 t) = (Mlstm.state 0 p 14).m := by
  have e : bwd14 (total R) (largest R) (ix2 0 t) = max (R (ix5 0 0 2 3 0) + bwd13 (total R) (largest R) (ix2 0 t))
      (Finset.univ.fold max (Ideal.ofBits .f32 0xFF800000#32) (fun s => R (ix5 0 0 2 3 0) - R (ix5 0 0 2 3 s) + R (ix5 0 0 2 2 s))) := by
    pointwise [bwd14, total, largest, k0_pay446, k0_pay445, k0_pay444, k0_pay443, k0_pay442, k0_pay441]
    simp only [show IntOp.cmpi CmpIPredicate.eq (IntOp.andi 18#32 7#32) 0#32 = 0#1 from by decide]
    rfl
  rw [e, bwd13_apply R p hi hb t, gain_fold 0 (p 13) _ fun s => ?_]
  · exact congrArg (fun z => max (z + _) _) (hb 13 (by omega) 0).symm
  · unfold Mlstm.gain; rw [hb 13 (by omega), hb 13 (by omega), hi 13 (by omega)]; rfl

theorem bwd15_apply (t : Fin 128) : bwd15 (total R) (largest R) (ix2 0 t) = (Mlstm.state 0 p 15).m := by
  have e : bwd15 (total R) (largest R) (ix2 0 t) = max (R (ix5 0 0 1 3 0) + bwd14 (total R) (largest R) (ix2 0 t))
      (Finset.univ.fold max (Ideal.ofBits .f32 0xFF800000#32) (fun s => R (ix5 0 0 1 3 0) - R (ix5 0 0 1 3 s) + R (ix5 0 0 1 2 s))) := by
    pointwise [bwd15, total, largest, k0_pay446, k0_pay445, k0_pay444, k0_pay443, k0_pay442, k0_pay441]
    simp only [show IntOp.cmpi CmpIPredicate.eq (IntOp.andi 10#32 7#32) 0#32 = 0#1 from by decide]
    rfl
  rw [e, bwd14_apply R p hi hb t, gain_fold 0 (p 14) _ fun s => ?_]
  · exact congrArg (fun z => max (z + _) _) (hb 14 (by omega) 0).symm
  · unfold Mlstm.gain; rw [hb 14 (by omega), hb 14 (by omega), hi 14 (by omega)]; rfl

end

end

/-- Where a store of one running maximum lies. -/
theorem emb_m (h : Fin 4) (c : Fin 16) (inb) (x : S1x1x8x128.Idx) :
    (Rect.unit (s := S4x16x8x128) ![h.val, c.val, 0, 0] S1x1x8x128.size inb).emb x = ix4 h c (x 2) (x 3) := by
  funext a
  apply Fin.ext
  match a with
  | ⟨0, _⟩ => show h.val + 1 * (x 0).val = h.val; have : (x 0).val < 1 := (x 0).isLt; omega
  | ⟨1, _⟩ => show c.val + 1 * (x 1).val = c.val; have : (x 1).val < 1 := (x 1).isLt; omega
  | ⟨2, _⟩ => show 0 + 1 * (x 2).val = (x 2).val; omega
  | ⟨3, _⟩ => show 0 + 1 * (x 3).val = (x 3).val; omega

/-- The gate rows of head `h`. -/
def gates (X : Vec Ideal S1x2x16x8x128 .f32) (h : Fin 2) : Vec Ideal S1x1x16x8x128 .f32 := fun j => X (ix5 0 h (j 2) (j 3) (j 4))

variable (c : Dev nD) (arg7 : Memref sig .tc .vmem S1x2x16x8x128 .f32) (harg7 : arg7.IsWhole) (X : Vec Ideal S1x2x16x8x128 .f32)
  (p0 p1 p2 p3 : Nat → Mlstm.Step)

theorem ld_gates0 : View.readAt (Elt Ideal) arg7.view (Rect.unit (s := S1x2x16x8x128) ![0, 0, 0, 0, 0] S1x1x16x8x128.size inb_S1x2x16x8x128_S1x1x16x8x128_0_0_0_0_0).toLoadRect (harg7.unread X) = gates X 0 := by
  refine (congrArg (fun Z => View.ld Z (Rect.unit (s := S1x2x16x8x128) ![0, 0, 0, 0, 0] S1x1x16x8x128.size inb_S1x2x16x8x128_S1x1x16x8x128_0_0_0_0_0)) (harg7.read_unread X)).trans ?_
  funext j
  refine View.ld_unit_apply_of X _ _ _ _ _ fun a => ?_
  match a with
  | ⟨0, _⟩ => show 0 = 0 + (j 0).val; have : (j 0).val < 1 := (j 0).isLt; omega
  | ⟨1, _⟩ => show 0 = 0 + (j 1).val; have : (j 1).val < 1 := (j 1).isLt; omega
  | ⟨2, _⟩ => show (j 2).val = 0 + (j 2).val; omega
  | ⟨3, _⟩ => show (j 3).val = 0 + (j 3).val; omega
  | ⟨4, _⟩ => show (j 4).val = 0 + (j 4).val; omega

theorem ld_gates1 : View.readAt (Elt Ideal) arg7.view (Rect.unit (s := S1x2x16x8x128) ![0, 1, 0, 0, 0] S1x1x16x8x128.size inb_S1x2x16x8x128_S1x1x16x8x128_0_1_0_0_0).toLoadRect (harg7.unread X) = gates X 1 := by
  refine (congrArg (fun Z => View.ld Z (Rect.unit (s := S1x2x16x8x128) ![0, 1, 0, 0, 0] S1x1x16x8x128.size inb_S1x2x16x8x128_S1x1x16x8x128_0_1_0_0_0)) (harg7.read_unread X)).trans ?_
  funext j
  refine View.ld_unit_apply_of X _ _ _ _ _ fun a => ?_
  match a with
  | ⟨0, _⟩ => show 0 = 0 + (j 0).val; have : (j 0).val < 1 := (j 0).isLt; omega
  | ⟨1, _⟩ => show 1 = 1 + (j 1).val; have : (j 1).val < 1 := (j 1).isLt; omega
  | ⟨2, _⟩ => show (j 2).val = 0 + (j 2).val; omega
  | ⟨3, _⟩ => show (j 3).val = 0 + (j 3).val; omega
  | ⟨4, _⟩ => show (j 4).val = 0 + (j 4).val; omega

/-! ### The payloads, in a head's gate rows -/

theorem pay447_eq : k0_pay447 (F := Ideal) = fwd0 := rfl
theorem pay448_eq : k0_pay448 (F := Ideal) = (eight fwd0) := rfl
theorem pay449_eq (R : Vec Ideal S1x1x16x8x128 .f32) : k0_pay449 (F := Ideal) k0_pay441 (k0_pay442 R) 127#32 = (fwd1 (total R) (largest R)) := rfl
theorem pay450_eq (R : Vec Ideal S1x1x16x8x128 .f32) : k0_pay450 (F := Ideal) k0_pay441 (k0_pay442 R) 127#32 = (eight (fwd1 (total R) (largest R))) := rfl
theorem pay451_eq (R : Vec Ideal S1x1x16x8x128 .f32) : k0_pay451 (F := Ideal) k0_pay441 (k0_pay442 R) 127#32 = (fwd2 (total R) (largest R)) := rfl
theorem pay452_eq (R : Vec Ideal S1x1x16x8x128 .f32) : k0_pay452 (F := Ideal) k0_pay441 (k0_pay442 R) 127#32 = (eight (fwd2 (total R) (largest R))) := rfl
theorem pay453_eq (R : Vec Ideal S1x1x16x8x128 .f32) : k0_pay453 (F := Ideal) k0_pay441 (k0_pay442 R) 127#32 = (addf (extractStridedSlice S1x128 ![16, 0] (total R) slices_S128x128_o16_0_S1x128) (fwd2 (total R) (largest R))) := rfl
theorem pay454_eq (R : Vec Ideal S1x1x16x8x128 .f32) : k0_pay454 (F := Ideal) k0_pay441 (k0_pay442 R) 127#32 = (extractStridedSlice S1x128 ![16, 0] (largest R) slices_S128x128_o16_0_S1x128) := rfl
theorem pay455_eq (G A : FVec Ideal S128x128 .f32) : k0_pay455 (F := Ideal) (addf (extractStridedSlice S1x128 ![16, 0] G slices_S128x128_o16_0_S1x128) (fwd2 G A)) (extractStridedSlice S1x128 ![16, 0] A slices_S128x128_o16_0_S1x128) = (fwd3 G A) := rfl
theorem pay456_eq (G A : FVec Ideal S128x128 .f32) : k0_pay456 (F := Ideal) (addf (extractStridedSlice S1x128 ![16, 0] G slices_S128x128_o16_0_S1x128) (fwd2 G A)) (extractStridedSlice S1x128 ![16, 0] A slices_S128x128_o16_0_S1x128) = (eight (fwd3 G A)) := rfl
theorem pay457_eq (G A : FVec Ideal S128x128 .f32) : k0_pay457 (F := Ideal) G A (addf (extractStridedSlice S1x128 ![16, 0] G slices_S128x128_o16_0_S1x128) (fwd2 G A)) (extractStridedSlice S1x128 ![16, 0] A slices_S128x128_o16_0_S1x128) = (fwd4 G A) := rfl
theorem pay458_eq (G A : FVec Ideal S128x128 .f32) : k0_pay458 (F := Ideal) G A (addf (extractStridedSlice S1x128 ![16, 0] G slices_S128x128_o16_0_S1x128) (fwd2 G A)) (extractStridedSlice S1x128 ![16, 0] A slices_S128x128_o16_0_S1x128) = (eight (fwd4 G A)) := rfl
theorem pay459_eq (G A : FVec Ideal S128x128 .f32) : k0_pay459 (F := Ideal) G A (addf (extractStridedSlice S1x128 ![16, 0] G slices_S128x128_o16_0_S1x128) (fwd2 G A)) (extractStridedSlice S1x128 ![16, 0] A slices_S128x128_o16_0_S1x128) = (fwd5 G A) := rfl
theorem pay460_eq (G A : FVec Ideal S128x128 .f32) : k0_pay460 (F := Ideal) G A (addf (extractStridedSlice S1x128 ![16, 0] G slices_S128x128_o16_0_S1x128) (fwd2 G A)) (extractStridedSlice S1x128 ![16, 0] A slices_S128x128_o16_0_S1x128) = (eight (fwd5 G A)) := rfl
theorem pay461_eq (G A : FVec Ideal S128x128 .f32) : k0_pay461 (F := Ideal) G A (addf (extractStridedSlice S1x128 ![16, 0] G slices_S128x128_o16_0_S1x128) (fwd2 G A)) (extractStridedSlice S1x128 ![16, 0] A slices_S128x128_o16_0_S1x128) = (fwd6 G A) := rfl
theorem pay462_eq (G A : FVec Ideal S128x128 .f32) : k0_pay462 (F := Ideal) G A (addf (extractStridedSlice S1x128 ![16, 0] G slices_S128x128_o16_0_S1x128) (fwd2 G A)) (extractStridedSlice S1x128 ![16, 0] A slices_S128x128_o16_0_S1x128) = (eight (fwd6 G A)) := rfl
theorem pay463_eq (G A : FVec Ideal S128x128 .f32) : k0_pay463 (F := Ideal) G A (addf (extractStridedSlice S1x128 ![16, 0] G slices_S128x128_o16_0_S1x128) (fwd2 G A)) (extractStridedSlice S1x128 ![16, 0] A slices_S128x128_o16_0_S1x128) = (fwd7 G A) := rfl
theorem pay464_eq (G A : FVec Ideal S128x128 .f32) : k0_pay464 (F := Ideal) G A (addf (extractStridedSlice S1x128 ![16, 0] G slices_S128x128_o16_0_S1x128) (fwd2 G A)) (extractStridedSlice S1x128 ![16, 0] A slices_S128x128_o16_0_S1x128) = (broadcastTo S8x128 (shapeCast S1x128 (fwd7 G A) shapeCasts_S1x128_S1x128) broadcasts_S1x128_S8x128) := rfl
theorem pay465_eq (G A : FVec Ideal S128x128 .f32) : k0_pay465 (F := Ideal) (broadcastTo S8x128 (shapeCast S1x128 (fwd7 G A) shapeCasts_S1x128_S1x128) broadcasts_S1x128_S8x128) = (eight (fwd7 G A)) := rfl
theorem pay466_eq (G A : FVec Ideal S128x128 .f32) : k0_pay466 (F := Ideal) G A (fwd7 G A) = (fwd8 G A) := rfl
theorem pay467_eq (G A : FVec Ideal S128x128 .f32) : k0_pay467 (F := Ideal) G A (fwd7 G A) = (eight (fwd8 G A)) := rfl
theorem pay468_eq (G A : FVec Ideal S128x128 .f32) : k0_pay468 (F := Ideal) G A (fwd7 G A) = (fwd9 G A) := rfl
theorem pay469_eq (G A : FVec Ideal S128x128 .f32) : k0_pay469 (F := Ideal) G A (fwd7 G A) = (eight (fwd9 G A)) := rfl
theorem pay470_eq (G A : FVec Ideal S128x128 .f32) : k0_pay470 (F := Ideal) G A (fwd7 G A) = (fwd10 G A) := rfl
theorem pay471_eq (G A : FVec Ideal S128x128 .f32) : k0_pay471 (F := Ideal) G A (fwd7 G A) = (eight (fwd10 G A)) := rfl
theorem pay472_eq (G A : FVec Ideal S128x128 .f32) : k0_pay472 (F := Ideal) G A (fwd7 G A) = (fwd11 G A) := rfl
theorem pay473_eq (G A : FVec Ideal S128x128 .f32) : k0_pay473 (F := Ideal) G A (fwd7 G A) = (broadcastTo S8x128 (shapeCast S1x128 (fwd11 G A) shapeCasts_S1x128_S1x128) broadcasts_S1x128_S8x128) := rfl
theorem pay474_eq (G A : FVec Ideal S128x128 .f32) : k0_pay474 (F := Ideal) (broadcastTo S8x128 (shapeCast S1x128 (fwd11 G A) shapeCasts_S1x128_S1x128) broadcasts_S1x128_S8x128) = (eight (fwd11 G A)) := rfl
theorem pay475_eq (G A : FVec Ideal S128x128 .f32) : k0_pay475 (F := Ideal) G A (fwd11 G A) = (fwd12 G A) := rfl
theorem pay476_eq (G A : FVec Ideal S128x128 .f32) : k0_pay476 (F := Ideal) G A (fwd11 G A) = (eight (fwd12 G A)) := rfl
theorem pay477_eq (G A : FVec Ideal S128x128 .f32) : k0_pay477 (F := Ideal) G A (fwd11 G A) = (fwd13 G A) := rfl
theorem pay478_eq (G A : FVec Ideal S128x128 .f32) : k0_pay478 (F := Ideal) G A (fwd11 G A) = (eight (fwd13 G A)) := rfl
theorem pay479_eq (G A : FVec Ideal S128x128 .f32) : k0_pay479 (F := Ideal) G A (fwd11 G A) = (fwd14 G A) := rfl
theorem pay480_eq (G A : FVec Ideal S128x128 .f32) : k0_pay480 (F := Ideal) G A (fwd11 G A) = (eight (fwd14 G A)) := rfl
theorem pay481_eq (G A : FVec Ideal S128x128 .f32) : k0_pay481 (F := Ideal) G A (fwd11 G A) = (eight (fwd15 G A)) := rfl
theorem pay482_eq : k0_pay482 (F := Ideal) (Scalar.ofBits .f32 0x00000000#32) = bwd0 := rfl
theorem pay483_eq : k0_pay483 (F := Ideal) (Scalar.ofBits .f32 0x00000000#32) = (eight bwd0) := rfl
theorem pay484_eq (G A : FVec Ideal S128x128 .f32) : k0_pay484 (F := Ideal) G A (Scalar.ofBits .f32 0x00000000#32) = (bwd1 G A) := rfl
theorem pay485_eq (G A : FVec Ideal S128x128 .f32) : k0_pay485 (F := Ideal) G A (Scalar.ofBits .f32 0x00000000#32) = (eight (bwd1 G A)) := rfl
theorem pay486_eq (G A : FVec Ideal S128x128 .f32) : k0_pay486 (F := Ideal) G A (Scalar.ofBits .f32 0x00000000#32) = (bwd2 G A) := rfl
theorem pay487_eq (G A : FVec Ideal S128x128 .f32) : k0_pay487 (F := Ideal) G A (Scalar.ofBits .f32 0x00000000#32) = (eight (bwd2 G A)) := rfl
theorem pay488_eq (G A : FVec Ideal S128x128 .f32) : k0_pay488 (F := Ideal) G A (Scalar.ofBits .f32 0x00000000#32) = (bwd3 G A) := rfl
theorem pay489_eq (G A : FVec Ideal S128x128 .f32) : k0_pay489 (F := Ideal) G A (Scalar.ofBits .f32 0x00000000#32) = (eight (bwd3 G A)) := rfl
theorem pay490_eq (G A : FVec Ideal S128x128 .f32) : k0_pay490 (F := Ideal) G A (Scalar.ofBits .f32 0x00000000#32) = (bwd4 G A) := rfl
theorem pay491_eq (G A : FVec Ideal S128x128 .f32) : k0_pay491 (F := Ideal) G A (Scalar.ofBits .f32 0x00000000#32) = (broadcastTo S8x128 (shapeCast S1x128 (bwd4 G A) shapeCasts_S1x128_S1x128) broadcasts_S1x128_S8x128) := rfl
theorem pay492_eq (G A : FVec Ideal S128x128 .f32) : k0_pay492 (F := Ideal) (broadcastTo S8x128 (shapeCast S1x128 (bwd4 G A) shapeCasts_S1x128_S1x128) broadcasts_S1x128_S8x128) = (eight (bwd4 G A)) := rfl
theorem pay493_eq (G A : FVec Ideal S128x128 .f32) : k0_pay493 (F := Ideal) G A (bwd4 G A) = (bwd5 G A) := rfl
theorem pay494_eq (G A : FVec Ideal S128x128 .f32) : k0_pay494 (F := Ideal) G A (bwd4 G A) = (eight (bwd5 G A)) := rfl
theorem pay495_eq (G A : FVec Ideal S128x128 .f32) : k0_pay495 (F := Ideal) G A (bwd4 G A) = (bwd6 G A) := rfl
theorem pay496_eq (G A : FVec Ideal S128x128 .f32) : k0_pay496 (F := Ideal) G A (bwd4 G A) = (eight (bwd6 G A)) := rfl
theorem pay497_eq (G A : FVec Ideal S128x128 .f32) : k0_pay497 (F := Ideal) G A (bwd4 G A) = (bwd7 G A) := rfl
theorem pay498_eq (G A : FVec Ideal S128x128 .f32) : k0_pay498 (F := Ideal) G A (bwd4 G A) = (eight (bwd7 G A)) := rfl
theorem pay499_eq (G A : FVec Ideal S128x128 .f32) : k0_pay499 (F := Ideal) G A (bwd4 G A) = (bwd8 G A) := rfl
theorem pay500_eq (G A : FVec Ideal S128x128 .f32) : k0_pay500 (F := Ideal) G A (bwd4 G A) = (broadcastTo S8x128 (shapeCast S1x128 (bwd8 G A) shapeCasts_S1x128_S1x128) broadcasts_S1x128_S8x128) := rfl
theorem pay501_eq (G A : FVec Ideal S128x128 .f32) : k0_pay501 (F := Ideal) (broadcastTo S8x128 (shapeCast S1x128 (bwd8 G A) shapeCasts_S1x128_S1x128) broadcasts_S1x128_S8x128) = (eight (bwd8 G A)) := rfl
theorem pay502_eq (G A : FVec Ideal S128x128 .f32) : k0_pay502 (F := Ideal) G A (bwd8 G A) = (bwd9 G A) := rfl
theorem pay503_eq (G A : FVec Ideal S128x128 .f32) : k0_pay503 (F := Ideal) G A (bwd8 G A) = (eight (bwd9 G A)) := rfl
theorem pay504_eq (G A : FVec Ideal S128x128 .f32) : k0_pay504 (F := Ideal) G A (bwd8 G A) = (bwd10 G A) := rfl
theorem pay505_eq (G A : FVec Ideal S128x128 .f32) : k0_pay505 (F := Ideal) G A (bwd8 G A) = (eight (bwd10 G A)) := rfl
theorem pay506_eq (G A : FVec Ideal S128x128 .f32) : k0_pay506 (F := Ideal) G A (bwd8 G A) = (bwd11 G A) := rfl
theorem pay507_eq (G A : FVec Ideal S128x128 .f32) : k0_pay507 (F := Ideal) G A (bwd8 G A) = (eight (bwd11 G A)) := rfl
theorem pay508_eq (G A : FVec Ideal S128x128 .f32) : k0_pay508 (F := Ideal) G A (bwd8 G A) = (bwd12 G A) := rfl
theorem pay509_eq (G A : FVec Ideal S128x128 .f32) : k0_pay509 (F := Ideal) G A (bwd8 G A) = (eight (bwd12 G A)) := rfl
theorem pay510_eq (G A : FVec Ideal S128x128 .f32) : k0_pay510 (F := Ideal) G = (extractStridedSlice S1x128 ![26, 0] G slices_S128x128_o26_0_S1x128) := rfl
theorem pay511_eq (G A : FVec Ideal S128x128 .f32) : k0_pay511 (F := Ideal) A (bwd12 G A) (extractStridedSlice S1x128 ![26, 0] G slices_S128x128_o26_0_S1x128) = (bwd13 G A) := rfl
theorem pay512_eq (G A : FVec Ideal S128x128 .f32) : k0_pay512 (F := Ideal) A (bwd12 G A) (extractStridedSlice S1x128 ![26, 0] G slices_S128x128_o26_0_S1x128) = (eight (bwd13 G A)) := rfl
theorem pay513_eq (G A : FVec Ideal S128x128 .f32) : k0_pay513 (F := Ideal) G A (bwd12 G A) (extractStridedSlice S1x128 ![26, 0] G slices_S128x128_o26_0_S1x128) = (bwd14 G A) := rfl
theorem pay514_eq (G A : FVec Ideal S128x128 .f32) : k0_pay514 (F := Ideal) G A (bwd12 G A) (extractStridedSlice S1x128 ![26, 0] G slices_S128x128_o26_0_S1x128) = (eight (bwd14 G A)) := rfl
theorem pay515_eq (G A : FVec Ideal S128x128 .f32) : k0_pay515 (F := Ideal) G A (bwd12 G A) (extractStridedSlice S1x128 ![26, 0] G slices_S128x128_o26_0_S1x128) = (eight (bwd15 G A)) := rfl
theorem pay522_eq : k0_pay522 (F := Ideal) = fwd0 := rfl
theorem pay523_eq : k0_pay523 (F := Ideal) = (eight fwd0) := rfl
theorem pay524_eq (R : Vec Ideal S1x1x16x8x128 .f32) : k0_pay524 (F := Ideal) (k0_pay518 k0_pay441 R) (k0_pay519 k0_pay441 R) = (fwd1 (total R) (largest R)) := rfl
theorem pay525_eq (R : Vec Ideal S1x1x16x8x128 .f32) : k0_pay525 (F := Ideal) (k0_pay518 k0_pay441 R) (k0_pay519 k0_pay441 R) = (eight (fwd1 (total R) (largest R))) := rfl
theorem pay526_eq (R : Vec Ideal S1x1x16x8x128 .f32) : k0_pay526 (F := Ideal) (k0_pay518 k0_pay441 R) (k0_pay519 k0_pay441 R) = (fwd2 (total R) (largest R)) := rfl
theorem pay527_eq (R : Vec Ideal S1x1x16x8x128 .f32) : k0_pay527 (F := Ideal) (k0_pay518 k0_pay441 R) (k0_pay519 k0_pay441 R) = (eight (fwd2 (total R) (largest R))) := rfl
theorem pay528_eq (R : Vec Ideal S1x1x16x8x128 .f32) : k0_pay528 (F := Ideal) (k0_pay518 k0_pay441 R) (k0_pay519 k0_pay441 R) = (fwd3 (total R) (largest R)) := rfl
theorem pay529_eq (R : Vec Ideal S1x1x16x8x128 .f32) : k0_pay529 (F := Ideal) (k0_pay518 k0_pay441 R) (k0_pay519 k0_pay441 R) = (eight (fwd3 (total R) (largest R))) := rfl
theorem pay530_eq (G A : FVec Ideal S128x128 .f32) : k0_pay530 (F := Ideal) G A (fwd3 G A) = (fwd4 G A) := rfl
theorem pay531_eq (G A : FVec Ideal S128x128 .f32) : k0_pay531 (F := Ideal) G A (fwd3 G A) = (eight (fwd4 G A)) := rfl
theorem pay532_eq (G A : FVec Ideal S128x128 .f32) : k0_pay532 (F := Ideal) G A (fwd3 G A) = (fwd5 G A) := rfl
theorem pay533_eq (G A : FVec Ideal S128x128 .f32) : k0_pay533 (F := Ideal) G A (fwd3 G A) = (eight (fwd5 G A)) := rfl
theorem pay534_eq (G A : FVec Ideal S128x128 .f32) : k0_pay534 (F := Ideal) G A (fwd3 G A) = (fwd6 G A) := rfl
theorem pay535_eq (G A : FVec Ideal S128x128 .f32) : k0_pay535 (F := Ideal) G A (fwd3 G A) = (eight (fwd6 G A)) := rfl
theorem pay536_eq (G A : FVec Ideal S128x128 .f32) : k0_pay536 (F := Ideal) G A (fwd3 G A) = (fwd7 G A) := rfl
theorem pay537_eq (G A : FVec Ideal S128x128 .f32) : k0_pay537 (F := Ideal) G A (fwd3 G A) = (eight (fwd7 G A)) := rfl
theorem pay538_eq (G A : FVec Ideal S128x128 .f32) : k0_pay538 (F := Ideal) G A (fwd3 G A) = (addf (extractStridedSlice S1x128 ![56, 0] G slices_S128x128_o56_0_S1x128) (fwd7 G A)) := rfl
theorem pay539_eq (G A : FVec Ideal S128x128 .f32) : k0_pay539 (F := Ideal) A = (extractStridedSlice S1x128 ![56, 0] A slices_S128x128_o56_0_S1x128) := rfl
theorem pay540_eq (G A : FVec Ideal S128x128 .f32) : k0_pay540 (F := Ideal) (addf (extractStridedSlice S1x128 ![56, 0] G slices_S128x128_o56_0_S1x128) (fwd7 G A)) (extractStridedSlice S1x128 ![56, 0] A slices_S128x128_o56_0_S1x128) = (fwd8 G A) := rfl
theorem pay541_eq (G A : FVec Ideal S128x128 .f32) : k0_pay541 (F := Ideal) (addf (extractStridedSlice S1x128 ![56, 0] G slices_S128x128_o56_0_S1x128) (fwd7 G A)) (extractStridedSlice S1x128 ![56, 0] A slices_S128x128_o56_0_S1x128) = (eight (fwd8 G A)) := rfl
theorem pay542_eq (G A : FVec Ideal S128x128 .f32) : k0_pay542 (F := Ideal) G A (addf (extractStridedSlice S1x128 ![56, 0] G slices_S128x128_o56_0_S1x128) (fwd7 G A)) (extractStridedSlice S1x128 ![56, 0] A slices_S128x128_o56_0_S1x128) = (fwd9 G A) := rfl
theorem pay543_eq (G A : FVec Ideal S128x128 .f32) : k0_pay543 (F := Ideal) G A (addf (extractStridedSlice S1x128 ![56, 0] G slices_S128x128_o56_0_S1x128) (fwd7 G A)) (extractStridedSlice S1x128 ![56, 0] A slices_S128x128_o56_0_S1x128) = (eight (fwd9 G A)) := rfl
theorem pay544_eq (G A : FVec Ideal S128x128 .f32) : k0_pay544 (F := Ideal) G A (addf (extractStridedSlice S1x128 ![56, 0] G slices_S128x128_o56_0_S1x128) (fwd7 G A)) (extractStridedSlice S1x128 ![56, 0] A slices_S128x128_o56_0_S1x128) = (fwd10 G A) := rfl
theorem pay545_eq (G A : FVec Ideal S128x128 .f32) : k0_pay545 (F := Ideal) G A (addf (extractStridedSlice S1x128 ![56, 0] G slices_S128x128_o56_0_S1x128) (fwd7 G A)) (extractStridedSlice S1x128 ![56, 0] A slices_S128x128_o56_0_S1x128) = (eight (fwd10 G A)) := rfl
theorem pay546_eq (G A : FVec Ideal S128x128 .f32) : k0_pay546 (F := Ideal) G A (addf (extractStridedSlice S1x128 ![56, 0] G slices_S128x128_o56_0_S1x128) (fwd7 G A)) (extractStridedSlice S1x128 ![56, 0] A slices_S128x128_o56_0_S1x128) = (fwd11 G A) := rfl
theorem pay547_eq (G A : FVec Ideal S128x128 .f32) : k0_pay547 (F := Ideal) G A (addf (extractStridedSlice S1x128 ![56, 0] G slices_S128x128_o56_0_S1x128) (fwd7 G A)) (extractStridedSlice S1x128 ![56, 0] A slices_S128x128_o56_0_S1x128) = (eight (fwd11 G A)) := rfl
theorem pay548_eq (G A : FVec Ideal S128x128 .f32) : k0_pay548 (F := Ideal) G A (addf (extractStridedSlice S1x128 ![56, 0] G slices_S128x128_o56_0_S1x128) (fwd7 G A)) (extractStridedSlice S1x128 ![56, 0] A slices_S128x128_o56_0_S1x128) = (fwd12 G A) := rfl
theorem pay549_eq (G A : FVec Ideal S128x128 .f32) : k0_pay549 (F := Ideal) G A (addf (extractStridedSlice S1x128 ![56, 0] G slices_S128x128_o56_0_S1x128) (fwd7 G A)) (extractStridedSlice S1x128 ![56, 0] A slices_S128x128_o56_0_S1x128) = (broadcastTo S8x128 (shapeCast S1x128 (fwd12 G A) shapeCasts_S1x128_S1x128) broadcasts_S1x128_S8x128) := rfl
theorem pay550_eq (G A : FVec Ideal S128x128 .f32) : k0_pay550 (F := Ideal) (broadcastTo S8x128 (shapeCast S1x128 (fwd12 G A) shapeCasts_S1x128_S1x128) broadcasts_S1x128_S8x128) = (eight (fwd12 G A)) := rfl
theorem pay551_eq (G A : FVec Ideal S128x128 .f32) : k0_pay551 (F := Ideal) G A (fwd12 G A) = (fwd13 G A) := rfl
theorem pay552_eq (G A : FVec Ideal S128x128 .f32) : k0_pay552 (F := Ideal) G A (fwd12 G A) = (eight (fwd13 G A)) := rfl
theorem pay553_eq (G A : FVec Ideal S128x128 .f32) : k0_pay553 (F := Ideal) G A (fwd12 G A) = (fwd14 G A) := rfl
theorem pay554_eq (G A : FVec Ideal S128x128 .f32) : k0_pay554 (F := Ideal) G A (fwd12 G A) = (eight (fwd14 G A)) := rfl
theorem pay555_eq (G A : FVec Ideal S128x128 .f32) : k0_pay555 (F := Ideal) G A (fwd12 G A) = (eight (fwd15 G A)) := rfl
theorem pay556_eq : k0_pay556 (F := Ideal) = bwd0 := rfl
theorem pay557_eq : k0_pay557 (F := Ideal) = (eight bwd0) := rfl
theorem pay558_eq (G A : FVec Ideal S128x128 .f32) : k0_pay558 (F := Ideal) G A bwd0 = (bwd1 G A) := rfl
theorem pay559_eq (G A : FVec Ideal S128x128 .f32) : k0_pay559 (F := Ideal) G A bwd0 = (eight (bwd1 G A)) := rfl
theorem pay560_eq (G A : FVec Ideal S128x128 .f32) : k0_pay560 (F := Ideal) G A bwd0 = (bwd2 G A) := rfl
theorem pay561_eq (G A : FVec Ideal S128x128 .f32) : k0_pay561 (F := Ideal) G A bwd0 = (eight (bwd2 G A)) := rfl
theorem pay562_eq (G A : FVec Ideal S128x128 .f32) : k0_pay562 (F := Ideal) G A bwd0 = (bwd3 G A) := rfl
theorem pay563_eq (G A : FVec Ideal S128x128 .f32) : k0_pay563 (F := Ideal) G A bwd0 = (eight (bwd3 G A)) := rfl
theorem pay564_eq (G A : FVec Ideal S128x128 .f32) : k0_pay564 (F := Ideal) G A bwd0 = (bwd4 G A) := rfl
theorem pay565_eq (G A : FVec Ideal S128x128 .f32) : k0_pay565 (F := Ideal) G A bwd0 = (eight (bwd4 G A)) := rfl
theorem pay566_eq (G A : FVec Ideal S128x128 .f32) : k0_pay566 (F := Ideal) G A bwd0 = (addf (extractStridedSlice S1x128 ![90, 0] G slices_S128x128_o90_0_S1x128) (bwd4 G A)) := rfl
theorem pay567_eq (G A : FVec Ideal S128x128 .f32) : k0_pay567 (F := Ideal) A = (extractStridedSlice S1x128 ![90, 0] A slices_S128x128_o90_0_S1x128) := rfl
theorem pay568_eq (G A : FVec Ideal S128x128 .f32) : k0_pay568 (F := Ideal) (addf (extractStridedSlice S1x128 ![90, 0] G slices_S128x128_o90_0_S1x128) (bwd4 G A)) (extractStridedSlice S1x128 ![90, 0] A slices_S128x128_o90_0_S1x128) = (bwd5 G A) := rfl
theorem pay569_eq (G A : FVec Ideal S128x128 .f32) : k0_pay569 (F := Ideal) (addf (extractStridedSlice S1x128 ![90, 0] G slices_S128x128_o90_0_S1x128) (bwd4 G A)) (extractStridedSlice S1x128 ![90, 0] A slices_S128x128_o90_0_S1x128) = (eight (bwd5 G A)) := rfl
theorem pay570_eq (G A : FVec Ideal S128x128 .f32) : k0_pay570 (F := Ideal) G A (addf (extractStridedSlice S1x128 ![90, 0] G slices_S128x128_o90_0_S1x128) (bwd4 G A)) (extractStridedSlice S1x128 ![90, 0] A slices_S128x128_o90_0_S1x128) = (bwd6 G A) := rfl
theorem pay571_eq (G A : FVec Ideal S128x128 .f32) : k0_pay571 (F := Ideal) G A (addf (extractStridedSlice S1x128 ![90, 0] G slices_S128x128_o90_0_S1x128) (bwd4 G A)) (extractStridedSlice S1x128 ![90, 0] A slices_S128x128_o90_0_S1x128) = (eight (bwd6 G A)) := rfl
theorem pay572_eq (G A : FVec Ideal S128x128 .f32) : k0_pay572 (F := Ideal) G A (addf (extractStridedSlice S1x128 ![90, 0] G slices_S128x128_o90_0_S1x128) (bwd4 G A)) (extractStridedSlice S1x128 ![90, 0] A slices_S128x128_o90_0_S1x128) = (bwd7 G A) := rfl
theorem pay573_eq (G A : FVec Ideal S128x128 .f32) : k0_pay573 (F := Ideal) G A (addf (extractStridedSlice S1x128 ![90, 0] G slices_S128x128_o90_0_S1x128) (bwd4 G A)) (extractStridedSlice S1x128 ![90, 0] A slices_S128x128_o90_0_S1x128) = (eight (bwd7 G A)) := rfl
theorem pay574_eq (G A : FVec Ideal S128x128 .f32) : k0_pay574 (F := Ideal) G A (addf (extractStridedSlice S1x128 ![90, 0] G slices_S128x128_o90_0_S1x128) (bwd4 G A)) (extractStridedSlice S1x128 ![90, 0] A slices_S128x128_o90_0_S1x128) = (bwd8 G A) := rfl
theorem pay575_eq (G A : FVec Ideal S128x128 .f32) : k0_pay575 (F := Ideal) G A (addf (extractStridedSlice S1x128 ![90, 0] G slices_S128x128_o90_0_S1x128) (bwd4 G A)) (extractStridedSlice S1x128 ![90, 0] A slices_S128x128_o90_0_S1x128) = (eight (bwd8 G A)) := rfl
theorem pay576_eq (G A : FVec Ideal S128x128 .f32) : k0_pay576 (F := Ideal) G A (addf (extractStridedSlice S1x128 ![90, 0] G slices_S128x128_o90_0_S1x128) (bwd4 G A)) (extractStridedSlice S1x128 ![90, 0] A slices_S128x128_o90_0_S1x128) = (bwd9 G A) := rfl
theorem pay577_eq (G A : FVec Ideal S128x128 .f32) : k0_pay577 (F := Ideal) G A (addf (extractStridedSlice S1x128 ![90, 0] G slices_S128x128_o90_0_S1x128) (bwd4 G A)) (extractStridedSlice S1x128 ![90, 0] A slices_S128x128_o90_0_S1x128) = (broadcastTo S8x128 (shapeCast S1x128 (bwd9 G A) shapeCasts_S1x128_S1x128) broadcasts_S1x128_S8x128) := rfl
theorem pay578_eq (G A : FVec Ideal S128x128 .f32) : k0_pay578 (F := Ideal) (broadcastTo S8x128 (shapeCast S1x128 (bwd9 G A) shapeCasts_S1x128_S1x128) broadcasts_S1x128_S8x128) = (eight (bwd9 G A)) := rfl
theorem pay579_eq (G A : FVec Ideal S128x128 .f32) : k0_pay579 (F := Ideal) G A (bwd9 G A) = (bwd10 G A) := rfl
theorem pay580_eq (G A : FVec Ideal S128x128 .f32) : k0_pay580 (F := Ideal) G A (bwd9 G A) = (eight (bwd10 G A)) := rfl
theorem pay581_eq (G A : FVec Ideal S128x128 .f32) : k0_pay581 (F := Ideal) G A (bwd9 G A) = (bwd11 G A) := rfl
theorem pay582_eq (G A : FVec Ideal S128x128 .f32) : k0_pay582 (F := Ideal) G A (bwd9 G A) = (eight (bwd11 G A)) := rfl
theorem pay583_eq (G A : FVec Ideal S128x128 .f32) : k0_pay583 (F := Ideal) G A (bwd9 G A) = (bwd12 G A) := rfl
theorem pay584_eq (G A : FVec Ideal S128x128 .f32) : k0_pay584 (F := Ideal) G A (bwd9 G A) = (eight (bwd12 G A)) := rfl
theorem pay585_eq (G A : FVec Ideal S128x128 .f32) : k0_pay585 (F := Ideal) G A (bwd9 G A) = (bwd13 G A) := rfl
theorem pay586_eq (G A : FVec Ideal S128x128 .f32) : k0_pay586 (F := Ideal) G A (bwd9 G A) = (broadcastTo S8x128 (shapeCast S1x128 (bwd13 G A) shapeCasts_S1x128_S1x128) broadcasts_S1x128_S8x128) := rfl
theorem pay587_eq (G A : FVec Ideal S128x128 .f32) : k0_pay587 (F := Ideal) (broadcastTo S8x128 (shapeCast S1x128 (bwd13 G A) shapeCasts_S1x128_S1x128) broadcasts_S1x128_S8x128) = (eight (bwd13 G A)) := rfl
theorem pay588_eq (G A : FVec Ideal S128x128 .f32) : k0_pay588 (F := Ideal) G A (bwd13 G A) = (bwd14 G A) := rfl
theorem pay589_eq (G A : FVec Ideal S128x128 .f32) : k0_pay589 (F := Ideal) G A (bwd13 G A) = (eight (bwd14 G A)) := rfl
theorem pay590_eq (G A : FVec Ideal S128x128 .f32) : k0_pay590 (F := Ideal) G A (bwd13 G A) = (eight (bwd15 G A)) := rfl

/-! ### The values kept from them -/

theorem r_12_eq : bodyRun.sl.r_12 (F := Ideal) c arg7 harg7 X = k0_pay442 (gates X 0) := congrArg k0_pay442 (ld_gates0 arg7 harg7 X)
theorem r_13_eq : bodyRun.sl.r_13 (F := Ideal) c arg7 harg7 X = total (gates X 0) := by
  unfold bodyRun.sl.r_13
  rw [r_12_eq]
  rfl
theorem r_14_eq : bodyRun.sl.r_14 (F := Ideal) c arg7 harg7 X = largest (gates X 0) := by
  unfold bodyRun.sl.r_14
  rw [r_12_eq]
  rfl
theorem r_15_eq : bodyRun.sl.r_15 (F := Ideal) c arg7 harg7 X = (addf (extractStridedSlice S1x128 ![16, 0] (total (gates X 0)) slices_S128x128_o16_0_S1x128) (fwd2 (total (gates X 0)) (largest (gates X 0)))) := by
  unfold bodyRun.sl.r_15
  rw [r_12_eq]
  exact pay453_eq (gates X 0)
theorem r_16_eq : bodyRun.sl.r_16 (F := Ideal) c arg7 harg7 X = (extractStridedSlice S1x128 ![16, 0] (largest (gates X 0)) slices_S128x128_o16_0_S1x128) := by
  unfold bodyRun.sl.r_16
  rw [r_12_eq]
  exact pay454_eq (gates X 0)
theorem r_17_eq : bodyRun.sl.r_17 (F := Ideal) c arg7 harg7 X = (fwd7 (total (gates X 0)) (largest (gates X 0))) := by
  unfold bodyRun.sl.r_17
  rw [r_13_eq, r_14_eq, r_15_eq, r_16_eq]
  exact pay463_eq (total (gates X 0)) (largest (gates X 0))
theorem r_18_eq : bodyRun.sl.r_18 (F := Ideal) c arg7 harg7 X = (broadcastTo S8x128 (shapeCast S1x128 (fwd7 (total (gates X 0)) (largest (gates X 0))) shapeCasts_S1x128_S1x128) broadcasts_S1x128_S8x128) := by
  unfold bodyRun.sl.r_18
  rw [r_13_eq, r_14_eq, r_15_eq, r_16_eq]
  exact pay464_eq (total (gates X 0)) (largest (gates X 0))
theorem r_19_eq : bodyRun.sl.r_19 (F := Ideal) c arg7 harg7 X = (fwd11 (total (gates X 0)) (largest (gates X 0))) := by
  unfold bodyRun.sl.r_19
  rw [r_13_eq, r_14_eq, r_17_eq]
  exact pay472_eq (total (gates X 0)) (largest (gates X 0))
theorem r_20_eq : bodyRun.sl.r_20 (F := Ideal) c arg7 harg7 X = (broadcastTo S8x128 (shapeCast S1x128 (fwd11 (total (gates X 0)) (largest (gates X 0))) shapeCasts_S1x128_S1x128) broadcasts_S1x128_S8x128) := by
  unfold bodyRun.sl.r_20
  rw [r_13_eq, r_14_eq, r_17_eq]
  exact pay473_eq (total (gates X 0)) (largest (gates X 0))
theorem r_21_eq : bodyRun.sl.r_21 (F := Ideal) c arg7 harg7 X = (bwd4 (total (gates X 0)) (largest (gates X 0))) := by
  unfold bodyRun.sl.r_21
  rw [r_13_eq, r_14_eq]
  exact pay490_eq (total (gates X 0)) (largest (gates X 0))
theorem r_22_eq : bodyRun.sl.r_22 (F := Ideal) c arg7 harg7 X = (broadcastTo S8x128 (shapeCast S1x128 (bwd4 (total (gates X 0)) (largest (gates X 0))) shapeCasts_S1x128_S1x128) broadcasts_S1x128_S8x128) := by
  unfold bodyRun.sl.r_22
  rw [r_13_eq, r_14_eq]
  exact pay491_eq (total (gates X 0)) (largest (gates X 0))
theorem r_23_eq : bodyRun.sl.r_23 (F := Ideal) c arg7 harg7 X = (bwd8 (total (gates X 0)) (largest (gates X 0))) := by
  unfold bodyRun.sl.r_23
  rw [r_13_eq, r_14_eq, r_21_eq]
  exact pay499_eq (total (gates X 0)) (largest (gates X 0))
theorem r_24_eq : bodyRun.sl.r_24 (F := Ideal) c arg7 harg7 X = (broadcastTo S8x128 (shapeCast S1x128 (bwd8 (total (gates X 0)) (largest (gates X 0))) shapeCasts_S1x128_S1x128) broadcasts_S1x128_S8x128) := by
  unfold bodyRun.sl.r_24
  rw [r_13_eq, r_14_eq, r_21_eq]
  exact pay500_eq (total (gates X 0)) (largest (gates X 0))
theorem r_25_eq : bodyRun.sl.r_25 (F := Ideal) c arg7 harg7 X = (bwd12 (total (gates X 0)) (largest (gates X 0))) := by
  unfold bodyRun.sl.r_25
  rw [r_13_eq, r_14_eq, r_23_eq]
  exact pay508_eq (total (gates X 0)) (largest (gates X 0))
theorem r_26_eq : bodyRun.sl.r_26 (F := Ideal) c arg7 harg7 X = (extractStridedSlice S1x128 ![26, 0] (total (gates X 0)) slices_S128x128_o26_0_S1x128) := by
  unfold bodyRun.sl.r_26
  rw [r_13_eq]
  exact pay510_eq (total (gates X 0)) (largest (gates X 0))
theorem r_27_eq : bodyRun.sl.r_27 (F := Ideal) c arg7 harg7 X = k0_pay518 k0_pay441 (gates X 1) := congrArg (k0_pay518 k0_pay441) (ld_gates1 arg7 harg7 X)
theorem r_28_eq : bodyRun.sl.r_28 (F := Ideal) c arg7 harg7 X = k0_pay519 k0_pay441 (gates X 1) := congrArg (k0_pay519 k0_pay441) (ld_gates1 arg7 harg7 X)
theorem r_29_eq : bodyRun.sl.r_29 (F := Ideal) c arg7 harg7 X = total (gates X 1) := by
  unfold bodyRun.sl.r_29
  rw [r_27_eq]
  rfl
theorem r_30_eq : bodyRun.sl.r_30 (F := Ideal) c arg7 harg7 X = largest (gates X 1) := by
  unfold bodyRun.sl.r_30
  rw [r_28_eq]
  rfl
theorem r_31_eq : bodyRun.sl.r_31 (F := Ideal) c arg7 harg7 X = (fwd3 (total (gates X 1)) (largest (gates X 1))) := by
  unfold bodyRun.sl.r_31
  rw [r_27_eq, r_28_eq]
  exact pay528_eq (gates X 1)
theorem r_32_eq : bodyRun.sl.r_32 (F := Ideal) c arg7 harg7 X = (eight (fwd3 (total (gates X 1)) (largest (gates X 1)))) := by
  unfold bodyRun.sl.r_32
  rw [r_27_eq, r_28_eq]
  exact pay529_eq (gates X 1)
theorem r_33_eq : bodyRun.sl.r_33 (F := Ideal) c arg7 harg7 X = (addf (extractStridedSlice S1x128 ![56, 0] (total (gates X 1)) slices_S128x128_o56_0_S1x128) (fwd7 (total (gates X 1)) (largest (gates X 1)))) := by
  unfold bodyRun.sl.r_33
  rw [r_29_eq, r_30_eq, r_31_eq]
  exact pay538_eq (total (gates X 1)) (largest (gates X 1))
theorem r_34_eq : bodyRun.sl.r_34 (F := Ideal) c arg7 harg7 X = (extractStridedSlice S1x128 ![56, 0] (largest (gates X 1)) slices_S128x128_o56_0_S1x128) := by
  unfold bodyRun.sl.r_34
  rw [r_30_eq]
  exact pay539_eq (total (gates X 1)) (largest (gates X 1))
theorem r_35_eq : bodyRun.sl.r_35 (F := Ideal) c arg7 harg7 X = (fwd12 (total (gates X 1)) (largest (gates X 1))) := by
  unfold bodyRun.sl.r_35
  rw [r_29_eq, r_30_eq, r_33_eq, r_34_eq]
  exact pay548_eq (total (gates X 1)) (largest (gates X 1))
theorem r_36_eq : bodyRun.sl.r_36 (F := Ideal) c arg7 harg7 X = (broadcastTo S8x128 (shapeCast S1x128 (fwd12 (total (gates X 1)) (largest (gates X 1))) shapeCasts_S1x128_S1x128) broadcasts_S1x128_S8x128) := by
  unfold bodyRun.sl.r_36
  rw [r_29_eq, r_30_eq, r_33_eq, r_34_eq]
  exact pay549_eq (total (gates X 1)) (largest (gates X 1))
theorem r_37_eq : bodyRun.sl.r_37 (F := Ideal) c arg7 harg7 X = (addf (extractStridedSlice S1x128 ![90, 0] (total (gates X 1)) slices_S128x128_o90_0_S1x128) (bwd4 (total (gates X 1)) (largest (gates X 1)))) := by
  unfold bodyRun.sl.r_37
  rw [r_29_eq, r_30_eq]
  exact pay566_eq (total (gates X 1)) (largest (gates X 1))
theorem r_38_eq : bodyRun.sl.r_38 (F := Ideal) c arg7 harg7 X = (extractStridedSlice S1x128 ![90, 0] (largest (gates X 1)) slices_S128x128_o90_0_S1x128) := by
  unfold bodyRun.sl.r_38
  rw [r_30_eq]
  exact pay567_eq (total (gates X 1)) (largest (gates X 1))
theorem r_39_eq : bodyRun.sl.r_39 (F := Ideal) c arg7 harg7 X = (bwd9 (total (gates X 1)) (largest (gates X 1))) := by
  unfold bodyRun.sl.r_39
  rw [r_29_eq, r_30_eq, r_37_eq, r_38_eq]
  exact pay576_eq (total (gates X 1)) (largest (gates X 1))
theorem r_40_eq : bodyRun.sl.r_40 (F := Ideal) c arg7 harg7 X = (broadcastTo S8x128 (shapeCast S1x128 (bwd9 (total (gates X 1)) (largest (gates X 1))) shapeCasts_S1x128_S1x128) broadcasts_S1x128_S8x128) := by
  unfold bodyRun.sl.r_40
  rw [r_29_eq, r_30_eq, r_37_eq, r_38_eq]
  exact pay577_eq (total (gates X 1)) (largest (gates X 1))
theorem r_41_eq : bodyRun.sl.r_41 (F := Ideal) c arg7 harg7 X = (bwd13 (total (gates X 1)) (largest (gates X 1))) := by
  unfold bodyRun.sl.r_41
  rw [r_29_eq, r_30_eq, r_39_eq]
  exact pay585_eq (total (gates X 1)) (largest (gates X 1))
theorem r_42_eq : bodyRun.sl.r_42 (F := Ideal) c arg7 harg7 X = (broadcastTo S8x128 (shapeCast S1x128 (bwd13 (total (gates X 1)) (largest (gates X 1))) shapeCasts_S1x128_S1x128) broadcasts_S1x128_S8x128) := by
  unfold bodyRun.sl.r_42
  rw [r_29_eq, r_30_eq, r_39_eq]
  exact pay586_eq (total (gates X 1)) (largest (gates X 1))

theorem piece_3_0 : k0_pay590 (F := Ideal) (bodyRun.sl.r_29 (F := Ideal) c arg7 harg7 X) (bodyRun.sl.r_30 (F := Ideal) c arg7 harg7 X) (bodyRun.sl.r_41 (F := Ideal) c arg7 harg7 X) = (eight (bwd15 (total (gates X 1)) (largest (gates X 1)))) := by
  rw [r_29_eq, r_30_eq, r_41_eq]
  exact pay590_eq (total (gates X 1)) (largest (gates X 1))
theorem piece_3_1 : k0_pay589 (F := Ideal) (bodyRun.sl.r_29 (F := Ideal) c arg7 harg7 X) (bodyRun.sl.r_30 (F := Ideal) c arg7 harg7 X) (bodyRun.sl.r_41 (F := Ideal) c arg7 harg7 X) = (eight (bwd14 (total (gates X 1)) (largest (gates X 1)))) := by
  rw [r_29_eq, r_30_eq, r_41_eq]
  exact pay589_eq (total (gates X 1)) (largest (gates X 1))
theorem piece_3_2 : k0_pay587 (F := Ideal) (bodyRun.sl.r_42 (F := Ideal) c arg7 harg7 X) = (eight (bwd13 (total (gates X 1)) (largest (gates X 1)))) := by
  rw [r_42_eq]
  exact pay587_eq (total (gates X 1)) (largest (gates X 1))
theorem piece_3_3 : k0_pay584 (F := Ideal) (bodyRun.sl.r_29 (F := Ideal) c arg7 harg7 X) (bodyRun.sl.r_30 (F := Ideal) c arg7 harg7 X) (bodyRun.sl.r_39 (F := Ideal) c arg7 harg7 X) = (eight (bwd12 (total (gates X 1)) (largest (gates X 1)))) := by
  rw [r_29_eq, r_30_eq, r_39_eq]
  exact pay584_eq (total (gates X 1)) (largest (gates X 1))
theorem piece_3_4 : k0_pay582 (F := Ideal) (bodyRun.sl.r_29 (F := Ideal) c arg7 harg7 X) (bodyRun.sl.r_30 (F := Ideal) c arg7 harg7 X) (bodyRun.sl.r_39 (F := Ideal) c arg7 harg7 X) = (eight (bwd11 (total (gates X 1)) (largest (gates X 1)))) := by
  rw [r_29_eq, r_30_eq, r_39_eq]
  exact pay582_eq (total (gates X 1)) (largest (gates X 1))
theorem piece_3_5 : k0_pay580 (F := Ideal) (bodyRun.sl.r_29 (F := Ideal) c arg7 harg7 X) (bodyRun.sl.r_30 (F := Ideal) c arg7 harg7 X) (bodyRun.sl.r_39 (F := Ideal) c arg7 harg7 X) = (eight (bwd10 (total (gates X 1)) (largest (gates X 1)))) := by
  rw [r_29_eq, r_30_eq, r_39_eq]
  exact pay580_eq (total (gates X 1)) (largest (gates X 1))
theorem piece_3_6 : k0_pay578 (F := Ideal) (bodyRun.sl.r_40 (F := Ideal) c arg7 harg7 X) = (eight (bwd9 (total (gates X 1)) (largest (gates X 1)))) := by
  rw [r_40_eq]
  exact pay578_eq (total (gates X 1)) (largest (gates X 1))
theorem piece_3_7 : k0_pay575 (F := Ideal) (bodyRun.sl.r_29 (F := Ideal) c arg7 harg7 X) (bodyRun.sl.r_30 (F := Ideal) c arg7 harg7 X) (bodyRun.sl.r_37 (F := Ideal) c arg7 harg7 X) (bodyRun.sl.r_38 (F := Ideal) c arg7 harg7 X) = (eight (bwd8 (total (gates X 1)) (largest (gates X 1)))) := by
  rw [r_29_eq, r_30_eq, r_37_eq, r_38_eq]
  exact pay575_eq (total (gates X 1)) (largest (gates X 1))
theorem piece_3_8 : k0_pay573 (F := Ideal) (bodyRun.sl.r_29 (F := Ideal) c arg7 harg7 X) (bodyRun.sl.r_30 (F := Ideal) c arg7 harg7 X) (bodyRun.sl.r_37 (F := Ideal) c arg7 harg7 X) (bodyRun.sl.r_38 (F := Ideal) c arg7 harg7 X) = (eight (bwd7 (total (gates X 1)) (largest (gates X 1)))) := by
  rw [r_29_eq, r_30_eq, r_37_eq, r_38_eq]
  exact pay573_eq (total (gates X 1)) (largest (gates X 1))
theorem piece_3_9 : k0_pay571 (F := Ideal) (bodyRun.sl.r_29 (F := Ideal) c arg7 harg7 X) (bodyRun.sl.r_30 (F := Ideal) c arg7 harg7 X) (bodyRun.sl.r_37 (F := Ideal) c arg7 harg7 X) (bodyRun.sl.r_38 (F := Ideal) c arg7 harg7 X) = (eight (bwd6 (total (gates X 1)) (largest (gates X 1)))) := by
  rw [r_29_eq, r_30_eq, r_37_eq, r_38_eq]
  exact pay571_eq (total (gates X 1)) (largest (gates X 1))
theorem piece_3_10 : k0_pay569 (F := Ideal) (bodyRun.sl.r_37 (F := Ideal) c arg7 harg7 X) (bodyRun.sl.r_38 (F := Ideal) c arg7 harg7 X) = (eight (bwd5 (total (gates X 1)) (largest (gates X 1)))) := by
  rw [r_37_eq, r_38_eq]
  exact pay569_eq (total (gates X 1)) (largest (gates X 1))
theorem piece_3_11 : k0_pay565 (F := Ideal) (bodyRun.sl.r_29 (F := Ideal) c arg7 harg7 X) (bodyRun.sl.r_30 (F := Ideal) c arg7 harg7 X) k0_pay556 = (eight (bwd4 (total (gates X 1)) (largest (gates X 1)))) := by
  rw [r_29_eq, r_30_eq]
  exact pay565_eq (total (gates X 1)) (largest (gates X 1))
theorem piece_3_12 : k0_pay563 (F := Ideal) (bodyRun.sl.r_29 (F := Ideal) c arg7 harg7 X) (bodyRun.sl.r_30 (F := Ideal) c arg7 harg7 X) k0_pay556 = (eight (bwd3 (total (gates X 1)) (largest (gates X 1)))) := by
  rw [r_29_eq, r_30_eq]
  exact pay563_eq (total (gates X 1)) (largest (gates X 1))
theorem piece_3_13 : k0_pay561 (F := Ideal) (bodyRun.sl.r_29 (F := Ideal) c arg7 harg7 X) (bodyRun.sl.r_30 (F := Ideal) c arg7 harg7 X) k0_pay556 = (eight (bwd2 (total (gates X 1)) (largest (gates X 1)))) := by
  rw [r_29_eq, r_30_eq]
  exact pay561_eq (total (gates X 1)) (largest (gates X 1))
theorem piece_3_14 : k0_pay559 (F := Ideal) (bodyRun.sl.r_29 (F := Ideal) c arg7 harg7 X) (bodyRun.sl.r_30 (F := Ideal) c arg7 harg7 X) k0_pay556 = (eight (bwd1 (total (gates X 1)) (largest (gates X 1)))) := by
  rw [r_29_eq, r_30_eq]
  exact pay559_eq (total (gates X 1)) (largest (gates X 1))
theorem piece_3_15 : k0_pay557 (F := Ideal) = (eight bwd0) := by
  exact pay557_eq
theorem piece_2_15 : k0_pay555 (F := Ideal) (bodyRun.sl.r_29 (F := Ideal) c arg7 harg7 X) (bodyRun.sl.r_30 (F := Ideal) c arg7 harg7 X) (bodyRun.sl.r_35 (F := Ideal) c arg7 harg7 X) = (eight (fwd15 (total (gates X 1)) (largest (gates X 1)))) := by
  rw [r_29_eq, r_30_eq, r_35_eq]
  exact pay555_eq (total (gates X 1)) (largest (gates X 1))
theorem piece_2_14 : k0_pay554 (F := Ideal) (bodyRun.sl.r_29 (F := Ideal) c arg7 harg7 X) (bodyRun.sl.r_30 (F := Ideal) c arg7 harg7 X) (bodyRun.sl.r_35 (F := Ideal) c arg7 harg7 X) = (eight (fwd14 (total (gates X 1)) (largest (gates X 1)))) := by
  rw [r_29_eq, r_30_eq, r_35_eq]
  exact pay554_eq (total (gates X 1)) (largest (gates X 1))
theorem piece_2_13 : k0_pay552 (F := Ideal) (bodyRun.sl.r_29 (F := Ideal) c arg7 harg7 X) (bodyRun.sl.r_30 (F := Ideal) c arg7 harg7 X) (bodyRun.sl.r_35 (F := Ideal) c arg7 harg7 X) = (eight (fwd13 (total (gates X 1)) (largest (gates X 1)))) := by
  rw [r_29_eq, r_30_eq, r_35_eq]
  exact pay552_eq (total (gates X 1)) (largest (gates X 1))
theorem piece_2_12 : k0_pay550 (F := Ideal) (bodyRun.sl.r_36 (F := Ideal) c arg7 harg7 X) = (eight (fwd12 (total (gates X 1)) (largest (gates X 1)))) := by
  rw [r_36_eq]
  exact pay550_eq (total (gates X 1)) (largest (gates X 1))
theorem piece_2_11 : k0_pay547 (F := Ideal) (bodyRun.sl.r_29 (F := Ideal) c arg7 harg7 X) (bodyRun.sl.r_30 (F := Ideal) c arg7 harg7 X) (bodyRun.sl.r_33 (F := Ideal) c arg7 harg7 X) (bodyRun.sl.r_34 (F := Ideal) c arg7 harg7 X) = (eight (fwd11 (total (gates X 1)) (largest (gates X 1)))) := by
  rw [r_29_eq, r_30_eq, r_33_eq, r_34_eq]
  exact pay547_eq (total (gates X 1)) (largest (gates X 1))
theorem piece_2_10 : k0_pay545 (F := Ideal) (bodyRun.sl.r_29 (F := Ideal) c arg7 harg7 X) (bodyRun.sl.r_30 (F := Ideal) c arg7 harg7 X) (bodyRun.sl.r_33 (F := Ideal) c arg7 harg7 X) (bodyRun.sl.r_34 (F := Ideal) c arg7 harg7 X) = (eight (fwd10 (total (gates X 1)) (largest (gates X 1)))) := by
  rw [r_29_eq, r_30_eq, r_33_eq, r_34_eq]
  exact pay545_eq (total (gates X 1)) (largest (gates X 1))
theorem piece_2_9 : k0_pay543 (F := Ideal) (bodyRun.sl.r_29 (F := Ideal) c arg7 harg7 X) (bodyRun.sl.r_30 (F := Ideal) c arg7 harg7 X) (bodyRun.sl.r_33 (F := Ideal) c arg7 harg7 X) (bodyRun.sl.r_34 (F := Ideal) c arg7 harg7 X) = (eight (fwd9 (total (gates X 1)) (largest (gates X 1)))) := by
  rw [r_29_eq, r_30_eq, r_33_eq, r_34_eq]
  exact pay543_eq (total (gates X 1)) (largest (gates X 1))
theorem piece_2_8 : k0_pay541 (F := Ideal) (bodyRun.sl.r_33 (F := Ideal) c arg7 harg7 X) (bodyRun.sl.r_34 (F := Ideal) c arg7 harg7 X) = (eight (fwd8 (total (gates X 1)) (largest (gates X 1)))) := by
  rw [r_33_eq, r_34_eq]
  exact pay541_eq (total (gates X 1)) (largest (gates X 1))
theorem piece_2_7 : k0_pay537 (F := Ideal) (bodyRun.sl.r_29 (F := Ideal) c arg7 harg7 X) (bodyRun.sl.r_30 (F := Ideal) c arg7 harg7 X) (bodyRun.sl.r_31 (F := Ideal) c arg7 harg7 X) = (eight (fwd7 (total (gates X 1)) (largest (gates X 1)))) := by
  rw [r_29_eq, r_30_eq, r_31_eq]
  exact pay537_eq (total (gates X 1)) (largest (gates X 1))
theorem piece_2_6 : k0_pay535 (F := Ideal) (bodyRun.sl.r_29 (F := Ideal) c arg7 harg7 X) (bodyRun.sl.r_30 (F := Ideal) c arg7 harg7 X) (bodyRun.sl.r_31 (F := Ideal) c arg7 harg7 X) = (eight (fwd6 (total (gates X 1)) (largest (gates X 1)))) := by
  rw [r_29_eq, r_30_eq, r_31_eq]
  exact pay535_eq (total (gates X 1)) (largest (gates X 1))
theorem piece_2_5 : k0_pay533 (F := Ideal) (bodyRun.sl.r_29 (F := Ideal) c arg7 harg7 X) (bodyRun.sl.r_30 (F := Ideal) c arg7 harg7 X) (bodyRun.sl.r_31 (F := Ideal) c arg7 harg7 X) = (eight (fwd5 (total (gates X 1)) (largest (gates X 1)))) := by
  rw [r_29_eq, r_30_eq, r_31_eq]
  exact pay533_eq (total (gates X 1)) (largest (gates X 1))
theorem piece_2_4 : k0_pay531 (F := Ideal) (bodyRun.sl.r_29 (F := Ideal) c arg7 harg7 X) (bodyRun.sl.r_30 (F := Ideal) c arg7 harg7 X) (bodyRun.sl.r_31 (F := Ideal) c arg7 harg7 X) = (eight (fwd4 (total (gates X 1)) (largest (gates X 1)))) := by
  rw [r_29_eq, r_30_eq, r_31_eq]
  exact pay531_eq (total (gates X 1)) (largest (gates X 1))
theorem piece_2_2 : k0_pay527 (F := Ideal) (bodyRun.sl.r_27 (F := Ideal) c arg7 harg7 X) (bodyRun.sl.r_28 (F := Ideal) c arg7 harg7 X) = (eight (fwd2 (total (gates X 1)) (largest (gates X 1)))) := by
  rw [r_27_eq, r_28_eq]
  exact pay527_eq (gates X 1)
theorem piece_2_1 : k0_pay525 (F := Ideal) (bodyRun.sl.r_27 (F := Ideal) c arg7 harg7 X) (bodyRun.sl.r_28 (F := Ideal) c arg7 harg7 X) = (eight (fwd1 (total (gates X 1)) (largest (gates X 1)))) := by
  rw [r_27_eq, r_28_eq]
  exact pay525_eq (gates X 1)
theorem piece_2_0 : k0_pay523 (F := Ideal) = (eight fwd0) := by
  exact pay523_eq
theorem piece_1_0 : k0_pay515 (F := Ideal) (bodyRun.sl.r_13 (F := Ideal) c arg7 harg7 X) (bodyRun.sl.r_14 (F := Ideal) c arg7 harg7 X) (bodyRun.sl.r_25 (F := Ideal) c arg7 harg7 X) (bodyRun.sl.r_26 (F := Ideal) c arg7 harg7 X) = (eight (bwd15 (total (gates X 0)) (largest (gates X 0)))) := by
  rw [r_13_eq, r_14_eq, r_25_eq, r_26_eq]
  exact pay515_eq (total (gates X 0)) (largest (gates X 0))
theorem piece_1_1 : k0_pay514 (F := Ideal) (bodyRun.sl.r_13 (F := Ideal) c arg7 harg7 X) (bodyRun.sl.r_14 (F := Ideal) c arg7 harg7 X) (bodyRun.sl.r_25 (F := Ideal) c arg7 harg7 X) (bodyRun.sl.r_26 (F := Ideal) c arg7 harg7 X) = (eight (bwd14 (total (gates X 0)) (largest (gates X 0)))) := by
  rw [r_13_eq, r_14_eq, r_25_eq, r_26_eq]
  exact pay514_eq (total (gates X 0)) (largest (gates X 0))
theorem piece_1_2 : k0_pay512 (F := Ideal) (bodyRun.sl.r_14 (F := Ideal) c arg7 harg7 X) (bodyRun.sl.r_25 (F := Ideal) c arg7 harg7 X) (bodyRun.sl.r_26 (F := Ideal) c arg7 harg7 X) = (eight (bwd13 (total (gates X 0)) (largest (gates X 0)))) := by
  rw [r_14_eq, r_25_eq, r_26_eq]
  exact pay512_eq (total (gates X 0)) (largest (gates X 0))
theorem piece_1_3 : k0_pay509 (F := Ideal) (bodyRun.sl.r_13 (F := Ideal) c arg7 harg7 X) (bodyRun.sl.r_14 (F := Ideal) c arg7 harg7 X) (bodyRun.sl.r_23 (F := Ideal) c arg7 harg7 X) = (eight (bwd12 (total (gates X 0)) (largest (gates X 0)))) := by
  rw [r_13_eq, r_14_eq, r_23_eq]
  exact pay509_eq (total (gates X 0)) (largest (gates X 0))
theorem piece_1_4 : k0_pay507 (F := Ideal) (bodyRun.sl.r_13 (F := Ideal) c arg7 harg7 X) (bodyRun.sl.r_14 (F := Ideal) c arg7 harg7 X) (bodyRun.sl.r_23 (F := Ideal) c arg7 harg7 X) = (eight (bwd11 (total (gates X 0)) (largest (gates X 0)))) := by
  rw [r_13_eq, r_14_eq, r_23_eq]
  exact pay507_eq (total (gates X 0)) (largest (gates X 0))
theorem piece_1_5 : k0_pay505 (F := Ideal) (bodyRun.sl.r_13 (F := Ideal) c arg7 harg7 X) (bodyRun.sl.r_14 (F := Ideal) c arg7 harg7 X) (bodyRun.sl.r_23 (F := Ideal) c arg7 harg7 X) = (eight (bwd10 (total (gates X 0)) (largest (gates X 0)))) := by
  rw [r_13_eq, r_14_eq, r_23_eq]
  exact pay505_eq (total (gates X 0)) (largest (gates X 0))
theorem piece_1_6 : k0_pay503 (F := Ideal) (bodyRun.sl.r_13 (F := Ideal) c arg7 harg7 X) (bodyRun.sl.r_14 (F := Ideal) c arg7 harg7 X) (bodyRun.sl.r_23 (F := Ideal) c arg7 harg7 X) = (eight (bwd9 (total (gates X 0)) (largest (gates X 0)))) := by
  rw [r_13_eq, r_14_eq, r_23_eq]
  exact pay503_eq (total (gates X 0)) (largest (gates X 0))
theorem piece_1_7 : k0_pay501 (F := Ideal) (bodyRun.sl.r_24 (F := Ideal) c arg7 harg7 X) = (eight (bwd8 (total (gates X 0)) (largest (gates X 0)))) := by
  rw [r_24_eq]
  exact pay501_eq (total (gates X 0)) (largest (gates X 0))
theorem piece_1_8 : k0_pay498 (F := Ideal) (bodyRun.sl.r_13 (F := Ideal) c arg7 harg7 X) (bodyRun.sl.r_14 (F := Ideal) c arg7 harg7 X) (bodyRun.sl.r_21 (F := Ideal) c arg7 harg7 X) = (eight (bwd7 (total (gates X 0)) (largest (gates X 0)))) := by
  rw [r_13_eq, r_14_eq, r_21_eq]
  exact pay498_eq (total (gates X 0)) (largest (gates X 0))
theorem piece_1_9 : k0_pay496 (F := Ideal) (bodyRun.sl.r_13 (F := Ideal) c arg7 harg7 X) (bodyRun.sl.r_14 (F := Ideal) c arg7 harg7 X) (bodyRun.sl.r_21 (F := Ideal) c arg7 harg7 X) = (eight (bwd6 (total (gates X 0)) (largest (gates X 0)))) := by
  rw [r_13_eq, r_14_eq, r_21_eq]
  exact pay496_eq (total (gates X 0)) (largest (gates X 0))
theorem piece_1_10 : k0_pay494 (F := Ideal) (bodyRun.sl.r_13 (F := Ideal) c arg7 harg7 X) (bodyRun.sl.r_14 (F := Ideal) c arg7 harg7 X) (bodyRun.sl.r_21 (F := Ideal) c arg7 harg7 X) = (eight (bwd5 (total (gates X 0)) (largest (gates X 0)))) := by
  rw [r_13_eq, r_14_eq, r_21_eq]
  exact pay494_eq (total (gates X 0)) (largest (gates X 0))
theorem piece_1_11 : k0_pay492 (F := Ideal) (bodyRun.sl.r_22 (F := Ideal) c arg7 harg7 X) = (eight (bwd4 (total (gates X 0)) (largest (gates X 0)))) := by
  rw [r_22_eq]
  exact pay492_eq (total (gates X 0)) (largest (gates X 0))
theorem piece_1_12 : k0_pay489 (F := Ideal) (bodyRun.sl.r_13 (F := Ideal) c arg7 harg7 X) (bodyRun.sl.r_14 (F := Ideal) c arg7 harg7 X) (bodyRun.sl.cst_488 (F := Ideal)) = (eight (bwd3 (total (gates X 0)) (largest (gates X 0)))) := by
  rw [r_13_eq, r_14_eq]
  exact pay489_eq (total (gates X 0)) (largest (gates X 0))
theorem piece_1_13 : k0_pay487 (F := Ideal) (bodyRun.sl.r_13 (F := Ideal) c arg7 harg7 X) (bodyRun.sl.r_14 (F := Ideal) c arg7 harg7 X) (bodyRun.sl.cst_488 (F := Ideal)) = (eight (bwd2 (total (gates X 0)) (largest (gates X 0)))) := by
  rw [r_13_eq, r_14_eq]
  exact pay487_eq (total (gates X 0)) (largest (gates X 0))
theorem piece_1_14 : k0_pay485 (F := Ideal) (bodyRun.sl.r_13 (F := Ideal) c arg7 harg7 X) (bodyRun.sl.r_14 (F := Ideal) c arg7 harg7 X) (bodyRun.sl.cst_488 (F := Ideal)) = (eight (bwd1 (total (gates X 0)) (largest (gates X 0)))) := by
  rw [r_13_eq, r_14_eq]
  exact pay485_eq (total (gates X 0)) (largest (gates X 0))
theorem piece_1_15 : k0_pay483 (F := Ideal) (bodyRun.sl.cst_488 (F := Ideal)) = (eight bwd0) := by
  exact pay483_eq
theorem piece_0_15 : k0_pay481 (F := Ideal) (bodyRun.sl.r_13 (F := Ideal) c arg7 harg7 X) (bodyRun.sl.r_14 (F := Ideal) c arg7 harg7 X) (bodyRun.sl.r_19 (F := Ideal) c arg7 harg7 X) = (eight (fwd15 (total (gates X 0)) (largest (gates X 0)))) := by
  rw [r_13_eq, r_14_eq, r_19_eq]
  exact pay481_eq (total (gates X 0)) (largest (gates X 0))
theorem piece_0_14 : k0_pay480 (F := Ideal) (bodyRun.sl.r_13 (F := Ideal) c arg7 harg7 X) (bodyRun.sl.r_14 (F := Ideal) c arg7 harg7 X) (bodyRun.sl.r_19 (F := Ideal) c arg7 harg7 X) = (eight (fwd14 (total (gates X 0)) (largest (gates X 0)))) := by
  rw [r_13_eq, r_14_eq, r_19_eq]
  exact pay480_eq (total (gates X 0)) (largest (gates X 0))
theorem piece_0_13 : k0_pay478 (F := Ideal) (bodyRun.sl.r_13 (F := Ideal) c arg7 harg7 X) (bodyRun.sl.r_14 (F := Ideal) c arg7 harg7 X) (bodyRun.sl.r_19 (F := Ideal) c arg7 harg7 X) = (eight (fwd13 (total (gates X 0)) (largest (gates X 0)))) := by
  rw [r_13_eq, r_14_eq, r_19_eq]
  exact pay478_eq (total (gates X 0)) (largest (gates X 0))
theorem piece_0_12 : k0_pay476 (F := Ideal) (bodyRun.sl.r_13 (F := Ideal) c arg7 harg7 X) (bodyRun.sl.r_14 (F := Ideal) c arg7 harg7 X) (bodyRun.sl.r_19 (F := Ideal) c arg7 harg7 X) = (eight (fwd12 (total (gates X 0)) (largest (gates X 0)))) := by
  rw [r_13_eq, r_14_eq, r_19_eq]
  exact pay476_eq (total (gates X 0)) (largest (gates X 0))
theorem piece_0_11 : k0_pay474 (F := Ideal) (bodyRun.sl.r_20 (F := Ideal) c arg7 harg7 X) = (eight (fwd11 (total (gates X 0)) (largest (gates X 0)))) := by
  rw [r_20_eq]
  exact pay474_eq (total (gates X 0)) (largest (gates X 0))
theorem piece_0_10 : k0_pay471 (F := Ideal) (bodyRun.sl.r_13 (F := Ideal) c arg7 harg7 X) (bodyRun.sl.r_14 (F := Ideal) c arg7 harg7 X) (bodyRun.sl.r_17 (F := Ideal) c arg7 harg7 X) = (eight (fwd10 (total (gates X 0)) (largest (gates X 0)))) := by
  rw [r_13_eq, r_14_eq, r_17_eq]
  exact pay471_eq (total (gates X 0)) (largest (gates X 0))
theorem piece_0_9 : k0_pay469 (F := Ideal) (bodyRun.sl.r_13 (F := Ideal) c arg7 harg7 X) (bodyRun.sl.r_14 (F := Ideal) c arg7 harg7 X) (bodyRun.sl.r_17 (F := Ideal) c arg7 harg7 X) = (eight (fwd9 (total (gates X 0)) (largest (gates X 0)))) := by
  rw [r_13_eq, r_14_eq, r_17_eq]
  exact pay469_eq (total (gates X 0)) (largest (gates X 0))
theorem piece_0_8 : k0_pay467 (F := Ideal) (bodyRun.sl.r_13 (F := Ideal) c arg7 harg7 X) (bodyRun.sl.r_14 (F := Ideal) c arg7 harg7 X) (bodyRun.sl.r_17 (F := Ideal) c arg7 harg7 X) = (eight (fwd8 (total (gates X 0)) (largest (gates X 0)))) := by
  rw [r_13_eq, r_14_eq, r_17_eq]
  exact pay467_eq (total (gates X 0)) (largest (gates X 0))
theorem piece_0_7 : k0_pay465 (F := Ideal) (bodyRun.sl.r_18 (F := Ideal) c arg7 harg7 X) = (eight (fwd7 (total (gates X 0)) (largest (gates X 0)))) := by
  rw [r_18_eq]
  exact pay465_eq (total (gates X 0)) (largest (gates X 0))
theorem piece_0_6 : k0_pay462 (F := Ideal) (bodyRun.sl.r_13 (F := Ideal) c arg7 harg7 X) (bodyRun.sl.r_14 (F := Ideal) c arg7 harg7 X) (bodyRun.sl.r_15 (F := Ideal) c arg7 harg7 X) (bodyRun.sl.r_16 (F := Ideal) c arg7 harg7 X) = (eight (fwd6 (total (gates X 0)) (largest (gates X 0)))) := by
  rw [r_13_eq, r_14_eq, r_15_eq, r_16_eq]
  exact pay462_eq (total (gates X 0)) (largest (gates X 0))
theorem piece_0_5 : k0_pay460 (F := Ideal) (bodyRun.sl.r_13 (F := Ideal) c arg7 harg7 X) (bodyRun.sl.r_14 (F := Ideal) c arg7 harg7 X) (bodyRun.sl.r_15 (F := Ideal) c arg7 harg7 X) (bodyRun.sl.r_16 (F := Ideal) c arg7 harg7 X) = (eight (fwd5 (total (gates X 0)) (largest (gates X 0)))) := by
  rw [r_13_eq, r_14_eq, r_15_eq, r_16_eq]
  exact pay460_eq (total (gates X 0)) (largest (gates X 0))
theorem piece_0_4 : k0_pay458 (F := Ideal) (bodyRun.sl.r_13 (F := Ideal) c arg7 harg7 X) (bodyRun.sl.r_14 (F := Ideal) c arg7 harg7 X) (bodyRun.sl.r_15 (F := Ideal) c arg7 harg7 X) (bodyRun.sl.r_16 (F := Ideal) c arg7 harg7 X) = (eight (fwd4 (total (gates X 0)) (largest (gates X 0)))) := by
  rw [r_13_eq, r_14_eq, r_15_eq, r_16_eq]
  exact pay458_eq (total (gates X 0)) (largest (gates X 0))
theorem piece_0_3 : k0_pay456 (F := Ideal) (bodyRun.sl.r_15 (F := Ideal) c arg7 harg7 X) (bodyRun.sl.r_16 (F := Ideal) c arg7 harg7 X) = (eight (fwd3 (total (gates X 0)) (largest (gates X 0)))) := by
  rw [r_15_eq, r_16_eq]
  exact pay456_eq (total (gates X 0)) (largest (gates X 0))
theorem piece_0_2 : k0_pay452 (F := Ideal) k0_pay441 (bodyRun.sl.r_12 (F := Ideal) c arg7 harg7 X) 127#32 = (eight (fwd2 (total (gates X 0)) (largest (gates X 0)))) := by
  rw [r_12_eq]
  exact pay452_eq (gates X 0)
theorem piece_0_1 : k0_pay450 (F := Ideal) k0_pay441 (bodyRun.sl.r_12 (F := Ideal) c arg7 harg7 X) 127#32 = (eight (fwd1 (total (gates X 0)) (largest (gates X 0)))) := by
  rw [r_12_eq]
  exact pay450_eq (gates X 0)
theorem piece_0_0 : k0_pay448 (F := Ideal) = (eight fwd0) := by
  exact pay448_eq

theorem mF_at (u : Fin 4) (c : Fin 16) (a : Fin 8) (b : Fin 128) : mF p0 p1 p2 p3 (ix4 u c a b) = mK p0 p1 p2 p3 u c := rfl

theorem eight_all (M : FVec Ideal S1x128 .f32) (z : EReal) (hM : ∀ t : Fin 128, M (ix2 0 t) = z) (x : S1x1x8x128.Idx) : eight M x = z := by
  idx_vars x
  obtain rfl : x0 = 0 := Fin.ext (by omega)
  obtain rfl : x1 = 0 := Fin.ext (by omega)
  exact (eight_apply M x2 x3).trans (hM x3)

theorem m_plane (u : Fin 4) (c : Fin 16) (inb) (Y : FVec Ideal S1x1x8x128 .f32) (M : FVec Ideal S1x128 .f32)
    (e : Y = eight M) (hM : ∀ t : Fin 128, M (ix2 0 t) = mK p0 p1 p2 p3 u c) (x : S1x1x8x128.Idx) :
    Y x = mF p0 p1 p2 p3 ((Rect.unit (s := S4x16x8x128) ![u.val, c.val, 0, 0] S1x1x8x128.size inb).emb x) :=
  (congrFun e x).trans ((eight_all M _ hM x).trans ((congrArg (mF p0 p1 p2 p3) (emb_m u c inb x)).trans (mF_at p0 p1 p2 p3 u c (x 2) (x 3))).symm)

theorem m_plane0 (c : Fin 16) (n : Nat) (hn : c.val = n) (inb) (Y : FVec Ideal S1x1x8x128 .f32) (M : FVec Ideal S1x128 .f32)
    (e : Y = eight M) (hM : ∀ t : Fin 128, M (ix2 0 t) = (Mlstm.state 127 p0 n).m) (x : S1x1x8x128.Idx) :
    Y x = mF p0 p1 p2 p3 ((Rect.unit (s := S4x16x8x128) ![((0 : Fin 4)).val, c.val, 0, 0] S1x1x8x128.size inb).emb x) := by
  subst hn
  exact m_plane p0 p1 p2 p3 0 c inb Y M e hM x

theorem m_plane1 (c : Fin 16) (n : Nat) (hn : 15 - c.val = n) (inb) (Y : FVec Ideal S1x1x8x128 .f32) (M : FVec Ideal S1x128 .f32)
    (e : Y = eight M) (hM : ∀ t : Fin 128, M (ix2 0 t) = (Mlstm.state 0 p1 n).m) (x : S1x1x8x128.Idx) :
    Y x = mF p0 p1 p2 p3 ((Rect.unit (s := S4x16x8x128) ![((1 : Fin 4)).val, c.val, 0, 0] S1x1x8x128.size inb).emb x) := by
  subst hn
  exact m_plane p0 p1 p2 p3 1 c inb Y M e hM x

theorem m_plane2 (c : Fin 16) (n : Nat) (hn : c.val = n) (inb) (Y : FVec Ideal S1x1x8x128 .f32) (M : FVec Ideal S1x128 .f32)
    (e : Y = eight M) (hM : ∀ t : Fin 128, M (ix2 0 t) = (Mlstm.state 127 p2 n).m) (x : S1x1x8x128.Idx) :
    Y x = mF p0 p1 p2 p3 ((Rect.unit (s := S4x16x8x128) ![((2 : Fin 4)).val, c.val, 0, 0] S1x1x8x128.size inb).emb x) := by
  subst hn
  exact m_plane p0 p1 p2 p3 2 c inb Y M e hM x

theorem m_plane3 (c : Fin 16) (n : Nat) (hn : 15 - c.val = n) (inb) (Y : FVec Ideal S1x1x8x128 .f32) (M : FVec Ideal S1x128 .f32)
    (e : Y = eight M) (hM : ∀ t : Fin 128, M (ix2 0 t) = (Mlstm.state 0 p3 n).m) (x : S1x1x8x128.Idx) :
    Y x = mF p0 p1 p2 p3 ((Rect.unit (s := S4x16x8x128) ![((3 : Fin 4)).val, c.val, 0, 0] S1x1x8x128.size inb).emb x) := by
  subst hn
  exact m_plane p0 p1 p2 p3 3 c inb Y M e hM x

section

variable
  (hi0 : ∀ (j : Nat) (hj : j < 16) (t : Fin 128), (p0 j).i t = X (ix5 0 0 ⟨j, by omega⟩ 0 t))
  (hb0 : ∀ (j : Nat) (hj : j < 16) (t : Fin 128), (p0 j).b t = X (ix5 0 0 ⟨j, by omega⟩ 1 t))
  (hi1 : ∀ (j : Nat) (hj : j < 16) (t : Fin 128), (p1 j).i t = X (ix5 0 0 ⟨15 - j, by omega⟩ 2 t))
  (hb1 : ∀ (j : Nat) (hj : j < 16) (t : Fin 128), (p1 j).b t = X (ix5 0 0 ⟨15 - j, by omega⟩ 3 t))
  (hi2 : ∀ (j : Nat) (hj : j < 16) (t : Fin 128), (p2 j).i t = X (ix5 0 1 ⟨j, by omega⟩ 0 t))
  (hb2 : ∀ (j : Nat) (hj : j < 16) (t : Fin 128), (p2 j).b t = X (ix5 0 1 ⟨j, by omega⟩ 1 t))
  (hi3 : ∀ (j : Nat) (hj : j < 16) (t : Fin 128), (p3 j).i t = X (ix5 0 1 ⟨15 - j, by omega⟩ 2 t))
  (hb3 : ∀ (j : Nat) (hj : j < 16) (t : Fin 128), (p3 j).b t = X (ix5 0 1 ⟨15 - j, by omega⟩ 3 t))

include hi0 hb0 hi1 hb1 hi2 hb2 hi3 hb3

set_option maxHeartbeats 8000000 in
theorem m_pieces : ∀ p ∈ bodyRun.sl.HS4_64 c arg7 harg7 X, ∀ x : p.1.shape.Idx, p.2 x = mF p0 p1 p2 p3 (p.1.emb x) := by
  unfold bodyRun.sl.HS4_64
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact m_plane3 p0 p1 p2 p3 0 15 rfl _ _ _ (piece_3_0 c arg7 harg7 X) (bwd15_apply (gates X 1) p3 hi3 hb3)
  · exact m_plane3 p0 p1 p2 p3 1 14 rfl _ _ _ (piece_3_1 c arg7 harg7 X) (bwd14_apply (gates X 1) p3 hi3 hb3)
  · exact m_plane3 p0 p1 p2 p3 2 13 rfl _ _ _ (piece_3_2 c arg7 harg7 X) (bwd13_apply (gates X 1) p3 hi3 hb3)
  · exact m_plane3 p0 p1 p2 p3 3 12 rfl _ _ _ (piece_3_3 c arg7 harg7 X) (bwd12_apply (gates X 1) p3 hi3 hb3)
  · exact m_plane3 p0 p1 p2 p3 4 11 rfl _ _ _ (piece_3_4 c arg7 harg7 X) (bwd11_apply (gates X 1) p3 hi3 hb3)
  · exact m_plane3 p0 p1 p2 p3 5 10 rfl _ _ _ (piece_3_5 c arg7 harg7 X) (bwd10_apply (gates X 1) p3 hi3 hb3)
  · exact m_plane3 p0 p1 p2 p3 6 9 rfl _ _ _ (piece_3_6 c arg7 harg7 X) (bwd9_apply (gates X 1) p3 hi3 hb3)
  · exact m_plane3 p0 p1 p2 p3 7 8 rfl _ _ _ (piece_3_7 c arg7 harg7 X) (bwd8_apply (gates X 1) p3 hi3 hb3)
  · exact m_plane3 p0 p1 p2 p3 8 7 rfl _ _ _ (piece_3_8 c arg7 harg7 X) (bwd7_apply (gates X 1) p3 hi3 hb3)
  · exact m_plane3 p0 p1 p2 p3 9 6 rfl _ _ _ (piece_3_9 c arg7 harg7 X) (bwd6_apply (gates X 1) p3 hi3 hb3)
  · exact m_plane3 p0 p1 p2 p3 10 5 rfl _ _ _ (piece_3_10 c arg7 harg7 X) (bwd5_apply (gates X 1) p3 hi3 hb3)
  · exact m_plane3 p0 p1 p2 p3 11 4 rfl _ _ _ (piece_3_11 c arg7 harg7 X) (bwd4_apply (gates X 1) p3 hi3 hb3)
  · exact m_plane3 p0 p1 p2 p3 12 3 rfl _ _ _ (piece_3_12 c arg7 harg7 X) (bwd3_apply (gates X 1) p3 hi3 hb3)
  · exact m_plane3 p0 p1 p2 p3 13 2 rfl _ _ _ (piece_3_13 c arg7 harg7 X) (bwd2_apply (gates X 1) p3 hi3 hb3)
  · exact m_plane3 p0 p1 p2 p3 14 1 rfl _ _ _ (piece_3_14 c arg7 harg7 X) (bwd1_apply (gates X 1) p3 hi3 hb3)
  · exact m_plane3 p0 p1 p2 p3 15 0 rfl _ _ _ (piece_3_15) (bwd0_apply (gates X 1) p3 hi3 hb3)
  · exact m_plane2 p0 p1 p2 p3 15 15 rfl _ _ _ (piece_2_15 c arg7 harg7 X) (fwd15_apply (gates X 1) p2 hi2 hb2)
  · exact m_plane2 p0 p1 p2 p3 14 14 rfl _ _ _ (piece_2_14 c arg7 harg7 X) (fwd14_apply (gates X 1) p2 hi2 hb2)
  · exact m_plane2 p0 p1 p2 p3 13 13 rfl _ _ _ (piece_2_13 c arg7 harg7 X) (fwd13_apply (gates X 1) p2 hi2 hb2)
  · exact m_plane2 p0 p1 p2 p3 12 12 rfl _ _ _ (piece_2_12 c arg7 harg7 X) (fwd12_apply (gates X 1) p2 hi2 hb2)
  · exact m_plane2 p0 p1 p2 p3 11 11 rfl _ _ _ (piece_2_11 c arg7 harg7 X) (fwd11_apply (gates X 1) p2 hi2 hb2)
  · exact m_plane2 p0 p1 p2 p3 10 10 rfl _ _ _ (piece_2_10 c arg7 harg7 X) (fwd10_apply (gates X 1) p2 hi2 hb2)
  · exact m_plane2 p0 p1 p2 p3 9 9 rfl _ _ _ (piece_2_9 c arg7 harg7 X) (fwd9_apply (gates X 1) p2 hi2 hb2)
  · exact m_plane2 p0 p1 p2 p3 8 8 rfl _ _ _ (piece_2_8 c arg7 harg7 X) (fwd8_apply (gates X 1) p2 hi2 hb2)
  · exact m_plane2 p0 p1 p2 p3 7 7 rfl _ _ _ (piece_2_7 c arg7 harg7 X) (fwd7_apply (gates X 1) p2 hi2 hb2)
  · exact m_plane2 p0 p1 p2 p3 6 6 rfl _ _ _ (piece_2_6 c arg7 harg7 X) (fwd6_apply (gates X 1) p2 hi2 hb2)
  · exact m_plane2 p0 p1 p2 p3 5 5 rfl _ _ _ (piece_2_5 c arg7 harg7 X) (fwd5_apply (gates X 1) p2 hi2 hb2)
  · exact m_plane2 p0 p1 p2 p3 4 4 rfl _ _ _ (piece_2_4 c arg7 harg7 X) (fwd4_apply (gates X 1) p2 hi2 hb2)
  · exact m_plane2 p0 p1 p2 p3 3 3 rfl _ _ _ (r_32_eq c arg7 harg7 X) (fwd3_apply (gates X 1) p2 hi2 hb2)
  · exact m_plane2 p0 p1 p2 p3 2 2 rfl _ _ _ (piece_2_2 c arg7 harg7 X) (fwd2_apply (gates X 1) p2 hi2 hb2)
  · exact m_plane2 p0 p1 p2 p3 1 1 rfl _ _ _ (piece_2_1 c arg7 harg7 X) (fwd1_apply (gates X 1) p2 hi2 hb2)
  · exact m_plane2 p0 p1 p2 p3 0 0 rfl _ _ _ (piece_2_0) (fwd0_apply (gates X 1) p2 hi2 hb2)
  · exact m_plane1 p0 p1 p2 p3 0 15 rfl _ _ _ (piece_1_0 c arg7 harg7 X) (bwd15_apply (gates X 0) p1 hi1 hb1)
  · exact m_plane1 p0 p1 p2 p3 1 14 rfl _ _ _ (piece_1_1 c arg7 harg7 X) (bwd14_apply (gates X 0) p1 hi1 hb1)
  · exact m_plane1 p0 p1 p2 p3 2 13 rfl _ _ _ (piece_1_2 c arg7 harg7 X) (bwd13_apply (gates X 0) p1 hi1 hb1)
  · exact m_plane1 p0 p1 p2 p3 3 12 rfl _ _ _ (piece_1_3 c arg7 harg7 X) (bwd12_apply (gates X 0) p1 hi1 hb1)
  · exact m_plane1 p0 p1 p2 p3 4 11 rfl _ _ _ (piece_1_4 c arg7 harg7 X) (bwd11_apply (gates X 0) p1 hi1 hb1)
  · exact m_plane1 p0 p1 p2 p3 5 10 rfl _ _ _ (piece_1_5 c arg7 harg7 X) (bwd10_apply (gates X 0) p1 hi1 hb1)
  · exact m_plane1 p0 p1 p2 p3 6 9 rfl _ _ _ (piece_1_6 c arg7 harg7 X) (bwd9_apply (gates X 0) p1 hi1 hb1)
  · exact m_plane1 p0 p1 p2 p3 7 8 rfl _ _ _ (piece_1_7 c arg7 harg7 X) (bwd8_apply (gates X 0) p1 hi1 hb1)
  · exact m_plane1 p0 p1 p2 p3 8 7 rfl _ _ _ (piece_1_8 c arg7 harg7 X) (bwd7_apply (gates X 0) p1 hi1 hb1)
  · exact m_plane1 p0 p1 p2 p3 9 6 rfl _ _ _ (piece_1_9 c arg7 harg7 X) (bwd6_apply (gates X 0) p1 hi1 hb1)
  · exact m_plane1 p0 p1 p2 p3 10 5 rfl _ _ _ (piece_1_10 c arg7 harg7 X) (bwd5_apply (gates X 0) p1 hi1 hb1)
  · exact m_plane1 p0 p1 p2 p3 11 4 rfl _ _ _ (piece_1_11 c arg7 harg7 X) (bwd4_apply (gates X 0) p1 hi1 hb1)
  · exact m_plane1 p0 p1 p2 p3 12 3 rfl _ _ _ (piece_1_12 c arg7 harg7 X) (bwd3_apply (gates X 0) p1 hi1 hb1)
  · exact m_plane1 p0 p1 p2 p3 13 2 rfl _ _ _ (piece_1_13 c arg7 harg7 X) (bwd2_apply (gates X 0) p1 hi1 hb1)
  · exact m_plane1 p0 p1 p2 p3 14 1 rfl _ _ _ (piece_1_14 c arg7 harg7 X) (bwd1_apply (gates X 0) p1 hi1 hb1)
  · exact m_plane1 p0 p1 p2 p3 15 0 rfl _ _ _ (piece_1_15) (bwd0_apply (gates X 0) p1 hi1 hb1)
  · exact m_plane0 p0 p1 p2 p3 15 15 rfl _ _ _ (piece_0_15 c arg7 harg7 X) (fwd15_apply (gates X 0) p0 hi0 hb0)
  · exact m_plane0 p0 p1 p2 p3 14 14 rfl _ _ _ (piece_0_14 c arg7 harg7 X) (fwd14_apply (gates X 0) p0 hi0 hb0)
  · exact m_plane0 p0 p1 p2 p3 13 13 rfl _ _ _ (piece_0_13 c arg7 harg7 X) (fwd13_apply (gates X 0) p0 hi0 hb0)
  · exact m_plane0 p0 p1 p2 p3 12 12 rfl _ _ _ (piece_0_12 c arg7 harg7 X) (fwd12_apply (gates X 0) p0 hi0 hb0)
  · exact m_plane0 p0 p1 p2 p3 11 11 rfl _ _ _ (piece_0_11 c arg7 harg7 X) (fwd11_apply (gates X 0) p0 hi0 hb0)
  · exact m_plane0 p0 p1 p2 p3 10 10 rfl _ _ _ (piece_0_10 c arg7 harg7 X) (fwd10_apply (gates X 0) p0 hi0 hb0)
  · exact m_plane0 p0 p1 p2 p3 9 9 rfl _ _ _ (piece_0_9 c arg7 harg7 X) (fwd9_apply (gates X 0) p0 hi0 hb0)
  · exact m_plane0 p0 p1 p2 p3 8 8 rfl _ _ _ (piece_0_8 c arg7 harg7 X) (fwd8_apply (gates X 0) p0 hi0 hb0)
  · exact m_plane0 p0 p1 p2 p3 7 7 rfl _ _ _ (piece_0_7 c arg7 harg7 X) (fwd7_apply (gates X 0) p0 hi0 hb0)
  · exact m_plane0 p0 p1 p2 p3 6 6 rfl _ _ _ (piece_0_6 c arg7 harg7 X) (fwd6_apply (gates X 0) p0 hi0 hb0)
  · exact m_plane0 p0 p1 p2 p3 5 5 rfl _ _ _ (piece_0_5 c arg7 harg7 X) (fwd5_apply (gates X 0) p0 hi0 hb0)
  · exact m_plane0 p0 p1 p2 p3 4 4 rfl _ _ _ (piece_0_4 c arg7 harg7 X) (fwd4_apply (gates X 0) p0 hi0 hb0)
  · exact m_plane0 p0 p1 p2 p3 3 3 rfl _ _ _ (piece_0_3 c arg7 harg7 X) (fwd3_apply (gates X 0) p0 hi0 hb0)
  · exact m_plane0 p0 p1 p2 p3 2 2 rfl _ _ _ (piece_0_2 c arg7 harg7 X) (fwd2_apply (gates X 0) p0 hi0 hb0)
  · exact m_plane0 p0 p1 p2 p3 1 1 rfl _ _ _ (piece_0_1 c arg7 harg7 X) (fwd1_apply (gates X 0) p0 hi0 hb0)
  · exact m_plane0 p0 p1 p2 p3 0 0 rfl _ _ _ (piece_0_0) (fwd0_apply (gates X 0) p0 hi0 hb0)
  · intro p hp; exact absurd hp (List.not_mem_nil)

end

theorem m_cover (y : S4x16x8x128.Idx) : ∃ p ∈ bodyRun.sl.HS4_64 c arg7 harg7 X, y ∈ p.1.set := by
  refine View.cover_of_tiled (bodyRun.sl.HS4_64 c arg7 harg7 X) S1x1x8x128.size ?_ y
  rfl

/-- The running maxima of the chunks, as the body leaves them. -/
theorem m_read (c : Dev nD) (arg7 : Memref sig .tc .vmem S1x2x16x8x128 .f32) (harg7 : arg7.IsWhole)
    (arg14 : Memref sig .tc .vmem S4x16x8x128 .f32) (f : BufTy.Contents (Elt Ideal) arg14.view.ty)
    (x0 x1 x2 : Vec Ideal S1x2048x256 .bf16) (x5 : Vec Ideal S1x2x16x8x128 .f32) :
    arg14.view.read (Elt Ideal) (arg14.view.writes (Elt Ideal) f (bodyRun.sl.HS4_64 c arg7 harg7 x5)) = mF (stepF x0 x1 x2 x5 0) (stepB x0 x1 x2 x5 0) (stepF x0 x1 x2 x5 1) (stepB x0 x1 x2 x5 1) := by
  funext y
  exact read_of_pieces arg14 f _ (mF (stepF x0 x1 x2 x5 0) (stepB x0 x1 x2 x5 0) (stepF x0 x1 x2 x5 1) (stepB x0 x1 x2 x5 1)) (m_pieces c arg7 harg7 x5 (stepF x0 x1 x2 x5 0) (stepB x0 x1 x2 x5 0) (stepF x0 x1 x2 x5 1) (stepB x0 x1 x2 x5 1) (fun j hj t => by unfold stepF; rw [dif_pos hj]; rfl) (fun j hj t => by unfold stepF; rw [dif_pos hj]; rfl) (fun j hj t => by unfold stepB; rw [dif_pos hj]; rfl) (fun j hj t => by unfold stepB; rw [dif_pos hj]; rfl) (fun j hj t => by unfold stepF; rw [dif_pos hj]; rfl) (fun j hj t => by unfold stepF; rw [dif_pos hj]; rfl) (fun j hj t => by unfold stepB; rw [dif_pos hj]; rfl) (fun j hj t => by unfold stepB; rw [dif_pos hj]; rfl)) y (m_cover c arg7 harg7 x5 y)

end Cert.MlstmIdeal.Run

end
-- ==== Proof.MlstmTrip.lean ====
/-
  One trip of the mLSTM kernel's loop: four steps of each head's two directions. What it writes, as the four chunks'
  states and outputs.
-/
module

public import proofs.«01_k».proof.Proof.Gen.MlstmIdeal.Loops
public import proofs.«01_k».proof.Proof.Gen.MlstmIdeal.Frame
public import proofs.«01_k».proof.Proof.MlstmModel

@[expose] public section

set_option maxRecDepth 16384

noncomputable section

namespace Cert.MlstmIdeal.Run

open Cert.MlstmIdeal Cert.MlstmIdeal.Gen Cert.MlstmIdeal.Model
open Idealize.ShloMosaic Idealize.ShloMosaic.TcCoe Idealize.ShloMosaic.Tactic

variable {F : FTy → Type} [FloatOps F]

/-- The chunk of step `r` of trip `k`, of head 0, forward. -/
def part0 (X_arg3 : Vec F S1x2048x256 .bf16) (X_arg6 : Vec F S1x1x2048x128 .f32) (X_arg7 : Vec F S1x2x16x8x128 .f32) (X_arg10 : Vec F S2x16x128x128 .bf16) (X_arg11 : Vec F S2x16x144x128 .bf16) (X_arg14 : Vec F S4x16x8x128 .f32) (k : Fin k0_t1_loop.trips) : Fin 4 → Chunk F
  | 0 => chunk0 (View.ld X_arg3 (Rect.unit (s := S1x2048x256) (k0_off1 k 0#32) S1x128x128.size (k0_off1_inb k 0))) (View.ld X_arg10 (Rect.unit (s := S2x16x128x128) (k0_off2 k 0#32) S1x1x128x128.size (k0_off2_inb k 0))) (View.ld X_arg11 (Rect.unit (s := S2x16x144x128) (k0_off12 k 0#32) S1x1x144x128.size (k0_off12_inb k 0))) (View.ld X_arg6 (Rect.unit (s := S1x1x2048x128) (k0_off9 k 0#32) S1x1x128x128.size (k0_off9_inb k 0))) (View.ld X_arg7 (Rect.unit (s := S1x2x16x8x128) (k0_off10 k 0#32) S1x1x1x8x128.size (k0_off10_inb k 0))) (View.ld X_arg14 (Rect.unit (s := S4x16x8x128) (k0_off11 k 0#32) S1x1x8x128.size (k0_off11_inb k 0)))
  | 1 => chunk0 (View.ld X_arg3 (Rect.unit (s := S1x2048x256) (k0_off1 k 1#32) S1x128x128.size (k0_off1_inb k 1))) (View.ld X_arg10 (Rect.unit (s := S2x16x128x128) (k0_off2 k 1#32) S1x1x128x128.size (k0_off2_inb k 1))) (View.ld X_arg11 (Rect.unit (s := S2x16x144x128) (k0_off12 k 1#32) S1x1x144x128.size (k0_off12_inb k 1))) (View.ld X_arg6 (Rect.unit (s := S1x1x2048x128) (k0_off9 k 1#32) S1x1x128x128.size (k0_off9_inb k 1))) (View.ld X_arg7 (Rect.unit (s := S1x2x16x8x128) (k0_off10 k 1#32) S1x1x1x8x128.size (k0_off10_inb k 1))) (View.ld X_arg14 (Rect.unit (s := S4x16x8x128) (k0_off11 k 1#32) S1x1x8x128.size (k0_off11_inb k 1)))
  | 2 => chunk0 (View.ld X_arg3 (Rect.unit (s := S1x2048x256) (k0_off1 k 2#32) S1x128x128.size (k0_off1_inb k 2))) (View.ld X_arg10 (Rect.unit (s := S2x16x128x128) (k0_off2 k 2#32) S1x1x128x128.size (k0_off2_inb k 2))) (View.ld X_arg11 (Rect.unit (s := S2x16x144x128) (k0_off12 k 2#32) S1x1x144x128.size (k0_off12_inb k 2))) (View.ld X_arg6 (Rect.unit (s := S1x1x2048x128) (k0_off9 k 2#32) S1x1x128x128.size (k0_off9_inb k 2))) (View.ld X_arg7 (Rect.unit (s := S1x2x16x8x128) (k0_off10 k 2#32) S1x1x1x8x128.size (k0_off10_inb k 2))) (View.ld X_arg14 (Rect.unit (s := S4x16x8x128) (k0_off11 k 2#32) S1x1x8x128.size (k0_off11_inb k 2)))
  | 3 => chunk0 (View.ld X_arg3 (Rect.unit (s := S1x2048x256) (k0_off1 k 3#32) S1x128x128.size (k0_off1_inb k 3))) (View.ld X_arg10 (Rect.unit (s := S2x16x128x128) (k0_off2 k 3#32) S1x1x128x128.size (k0_off2_inb k 3))) (View.ld X_arg11 (Rect.unit (s := S2x16x144x128) (k0_off12 k 3#32) S1x1x144x128.size (k0_off12_inb k 3))) (View.ld X_arg6 (Rect.unit (s := S1x1x2048x128) (k0_off9 k 3#32) S1x1x128x128.size (k0_off9_inb k 3))) (View.ld X_arg7 (Rect.unit (s := S1x2x16x8x128) (k0_off10 k 3#32) S1x1x1x8x128.size (k0_off10_inb k 3))) (View.ld X_arg14 (Rect.unit (s := S4x16x8x128) (k0_off11 k 3#32) S1x1x8x128.size (k0_off11_inb k 3)))

/-- The chunk of step `r` of trip `k`, of head 0, backward. -/
def part1 (X_arg3 : Vec F S1x2048x256 .bf16) (X_arg6 : Vec F S1x1x2048x128 .f32) (X_arg7 : Vec F S1x2x16x8x128 .f32) (X_arg10 : Vec F S2x16x128x128 .bf16) (X_arg11 : Vec F S2x16x144x128 .bf16) (X_arg14 : Vec F S4x16x8x128 .f32) (k : Fin k0_t1_loop.trips) : Fin 4 → Chunk F
  | 0 => chunk1 (View.ld X_arg3 (Rect.unit (s := S1x2048x256) (k0_off3 k 0#32) S1x128x128.size (k0_off3_inb k 0))) (View.ld X_arg10 (Rect.unit (s := S2x16x128x128) (k0_off4 k 0#32) S1x1x128x128.size (k0_off4_inb k 0))) (View.ld X_arg11 (Rect.unit (s := S2x16x144x128) (k0_off16 k 0#32) S1x1x144x128.size (k0_off16_inb k 0))) (View.ld X_arg6 (Rect.unit (s := S1x1x2048x128) (k0_off13 k 0#32) S1x1x128x128.size (k0_off13_inb k 0))) (View.ld X_arg7 (Rect.unit (s := S1x2x16x8x128) (k0_off14 k 0#32) S1x1x1x8x128.size (k0_off14_inb k 0))) (View.ld X_arg14 (Rect.unit (s := S4x16x8x128) (k0_off15 k 0#32) S1x1x8x128.size (k0_off15_inb k 0)))
  | 1 => chunk1 (View.ld X_arg3 (Rect.unit (s := S1x2048x256) (k0_off3 k 1#32) S1x128x128.size (k0_off3_inb k 1))) (View.ld X_arg10 (Rect.unit (s := S2x16x128x128) (k0_off4 k 1#32) S1x1x128x128.size (k0_off4_inb k 1))) (View.ld X_arg11 (Rect.unit (s := S2x16x144x128) (k0_off16 k 1#32) S1x1x144x128.size (k0_off16_inb k 1))) (View.ld X_arg6 (Rect.unit (s := S1x1x2048x128) (k0_off13 k 1#32) S1x1x128x128.size (k0_off13_inb k 1))) (View.ld X_arg7 (Rect.unit (s := S1x2x16x8x128) (k0_off14 k 1#32) S1x1x1x8x128.size (k0_off14_inb k 1))) (View.ld X_arg14 (Rect.unit (s := S4x16x8x128) (k0_off15 k 1#32) S1x1x8x128.size (k0_off15_inb k 1)))
  | 2 => chunk1 (View.ld X_arg3 (Rect.unit (s := S1x2048x256) (k0_off3 k 2#32) S1x128x128.size (k0_off3_inb k 2))) (View.ld X_arg10 (Rect.unit (s := S2x16x128x128) (k0_off4 k 2#32) S1x1x128x128.size (k0_off4_inb k 2))) (View.ld X_arg11 (Rect.unit (s := S2x16x144x128) (k0_off16 k 2#32) S1x1x144x128.size (k0_off16_inb k 2))) (View.ld X_arg6 (Rect.unit (s := S1x1x2048x128) (k0_off13 k 2#32) S1x1x128x128.size (k0_off13_inb k 2))) (View.ld X_arg7 (Rect.unit (s := S1x2x16x8x128) (k0_off14 k 2#32) S1x1x1x8x128.size (k0_off14_inb k 2))) (View.ld X_arg14 (Rect.unit (s := S4x16x8x128) (k0_off15 k 2#32) S1x1x8x128.size (k0_off15_inb k 2)))
  | 3 => chunk1 (View.ld X_arg3 (Rect.unit (s := S1x2048x256) (k0_off3 k 3#32) S1x128x128.size (k0_off3_inb k 3))) (View.ld X_arg10 (Rect.unit (s := S2x16x128x128) (k0_off4 k 3#32) S1x1x128x128.size (k0_off4_inb k 3))) (View.ld X_arg11 (Rect.unit (s := S2x16x144x128) (k0_off16 k 3#32) S1x1x144x128.size (k0_off16_inb k 3))) (View.ld X_arg6 (Rect.unit (s := S1x1x2048x128) (k0_off13 k 3#32) S1x1x128x128.size (k0_off13_inb k 3))) (View.ld X_arg7 (Rect.unit (s := S1x2x16x8x128) (k0_off14 k 3#32) S1x1x1x8x128.size (k0_off14_inb k 3))) (View.ld X_arg14 (Rect.unit (s := S4x16x8x128) (k0_off15 k 3#32) S1x1x8x128.size (k0_off15_inb k 3)))

/-- The chunk of step `r` of trip `k`, of head 1, forward. -/
def part2 (X_arg3 : Vec F S1x2048x256 .bf16) (X_arg6 : Vec F S1x1x2048x128 .f32) (X_arg7 : Vec F S1x2x16x8x128 .f32) (X_arg10 : Vec F S2x16x128x128 .bf16) (X_arg11 : Vec F S2x16x144x128 .bf16) (X_arg14 : Vec F S4x16x8x128 .f32) (k : Fin k0_t1_loop.trips) : Fin 4 → Chunk F
  | 0 => chunk2 (View.ld X_arg3 (Rect.unit (s := S1x2048x256) (k0_off5 k 0#32) S1x128x128.size (k0_off5_inb k 0))) (View.ld X_arg10 (Rect.unit (s := S2x16x128x128) (k0_off6 k 0#32) S1x1x128x128.size (k0_off6_inb k 0))) (View.ld X_arg11 (Rect.unit (s := S2x16x144x128) (k0_off19 k 0#32) S1x1x144x128.size (k0_off19_inb k 0))) (View.ld X_arg6 (Rect.unit (s := S1x1x2048x128) (k0_off9 k 0#32) S1x1x128x128.size (k0_off9_inb k 0))) (View.ld X_arg7 (Rect.unit (s := S1x2x16x8x128) (k0_off17 k 0#32) S1x1x1x8x128.size (k0_off17_inb k 0))) (View.ld X_arg14 (Rect.unit (s := S4x16x8x128) (k0_off18 k 0#32) S1x1x8x128.size (k0_off18_inb k 0)))
  | 1 => chunk2 (View.ld X_arg3 (Rect.unit (s := S1x2048x256) (k0_off5 k 1#32) S1x128x128.size (k0_off5_inb k 1))) (View.ld X_arg10 (Rect.unit (s := S2x16x128x128) (k0_off6 k 1#32) S1x1x128x128.size (k0_off6_inb k 1))) (View.ld X_arg11 (Rect.unit (s := S2x16x144x128) (k0_off19 k 1#32) S1x1x144x128.size (k0_off19_inb k 1))) (View.ld X_arg6 (Rect.unit (s := S1x1x2048x128) (k0_off9 k 1#32) S1x1x128x128.size (k0_off9_inb k 1))) (View.ld X_arg7 (Rect.unit (s := S1x2x16x8x128) (k0_off17 k 1#32) S1x1x1x8x128.size (k0_off17_inb k 1))) (View.ld X_arg14 (Rect.unit (s := S4x16x8x128) (k0_off18 k 1#32) S1x1x8x128.size (k0_off18_inb k 1)))
  | 2 => chunk2 (View.ld X_arg3 (Rect.unit (s := S1x2048x256) (k0_off5 k 2#32) S1x128x128.size (k0_off5_inb k 2))) (View.ld X_arg10 (Rect.unit (s := S2x16x128x128) (k0_off6 k 2#32) S1x1x128x128.size (k0_off6_inb k 2))) (View.ld X_arg11 (Rect.unit (s := S2x16x144x128) (k0_off19 k 2#32) S1x1x144x128.size (k0_off19_inb k 2))) (View.ld X_arg6 (Rect.unit (s := S1x1x2048x128) (k0_off9 k 2#32) S1x1x128x128.size (k0_off9_inb k 2))) (View.ld X_arg7 (Rect.unit (s := S1x2x16x8x128) (k0_off17 k 2#32) S1x1x1x8x128.size (k0_off17_inb k 2))) (View.ld X_arg14 (Rect.unit (s := S4x16x8x128) (k0_off18 k 2#32) S1x1x8x128.size (k0_off18_inb k 2)))
  | 3 => chunk2 (View.ld X_arg3 (Rect.unit (s := S1x2048x256) (k0_off5 k 3#32) S1x128x128.size (k0_off5_inb k 3))) (View.ld X_arg10 (Rect.unit (s := S2x16x128x128) (k0_off6 k 3#32) S1x1x128x128.size (k0_off6_inb k 3))) (View.ld X_arg11 (Rect.unit (s := S2x16x144x128) (k0_off19 k 3#32) S1x1x144x128.size (k0_off19_inb k 3))) (View.ld X_arg6 (Rect.unit (s := S1x1x2048x128) (k0_off9 k 3#32) S1x1x128x128.size (k0_off9_inb k 3))) (View.ld X_arg7 (Rect.unit (s := S1x2x16x8x128) (k0_off17 k 3#32) S1x1x1x8x128.size (k0_off17_inb k 3))) (View.ld X_arg14 (Rect.unit (s := S4x16x8x128) (k0_off18 k 3#32) S1x1x8x128.size (k0_off18_inb k 3)))

/-- The chunk of step `r` of trip `k`, of head 1, backward. -/
def part3 (X_arg3 : Vec F S1x2048x256 .bf16) (X_arg6 : Vec F S1x1x2048x128 .f32) (X_arg7 : Vec F S1x2x16x8x128 .f32) (X_arg10 : Vec F S2x16x128x128 .bf16) (X_arg11 : Vec F S2x16x144x128 .bf16) (X_arg14 : Vec F S4x16x8x128 .f32) (k : Fin k0_t1_loop.trips) : Fin 4 → Chunk F
  | 0 => chunk3 (View.ld X_arg3 (Rect.unit (s := S1x2048x256) (k0_off7 k 0#32) S1x128x128.size (k0_off7_inb k 0))) (View.ld X_arg10 (Rect.unit (s := S2x16x128x128) (k0_off8 k 0#32) S1x1x128x128.size (k0_off8_inb k 0))) (View.ld X_arg11 (Rect.unit (s := S2x16x144x128) (k0_off22 k 0#32) S1x1x144x128.size (k0_off22_inb k 0))) (View.ld X_arg6 (Rect.unit (s := S1x1x2048x128) (k0_off13 k 0#32) S1x1x128x128.size (k0_off13_inb k 0))) (View.ld X_arg7 (Rect.unit (s := S1x2x16x8x128) (k0_off20 k 0#32) S1x1x1x8x128.size (k0_off20_inb k 0))) (View.ld X_arg14 (Rect.unit (s := S4x16x8x128) (k0_off21 k 0#32) S1x1x8x128.size (k0_off21_inb k 0)))
  | 1 => chunk3 (View.ld X_arg3 (Rect.unit (s := S1x2048x256) (k0_off7 k 1#32) S1x128x128.size (k0_off7_inb k 1))) (View.ld X_arg10 (Rect.unit (s := S2x16x128x128) (k0_off8 k 1#32) S1x1x128x128.size (k0_off8_inb k 1))) (View.ld X_arg11 (Rect.unit (s := S2x16x144x128) (k0_off22 k 1#32) S1x1x144x128.size (k0_off22_inb k 1))) (View.ld X_arg6 (Rect.unit (s := S1x1x2048x128) (k0_off13 k 1#32) S1x1x128x128.size (k0_off13_inb k 1))) (View.ld X_arg7 (Rect.unit (s := S1x2x16x8x128) (k0_off20 k 1#32) S1x1x1x8x128.size (k0_off20_inb k 1))) (View.ld X_arg14 (Rect.unit (s := S4x16x8x128) (k0_off21 k 1#32) S1x1x8x128.size (k0_off21_inb k 1)))
  | 2 => chunk3 (View.ld X_arg3 (Rect.unit (s := S1x2048x256) (k0_off7 k 2#32) S1x128x128.size (k0_off7_inb k 2))) (View.ld X_arg10 (Rect.unit (s := S2x16x128x128) (k0_off8 k 2#32) S1x1x128x128.size (k0_off8_inb k 2))) (View.ld X_arg11 (Rect.unit (s := S2x16x144x128) (k0_off22 k 2#32) S1x1x144x128.size (k0_off22_inb k 2))) (View.ld X_arg6 (Rect.unit (s := S1x1x2048x128) (k0_off13 k 2#32) S1x1x128x128.size (k0_off13_inb k 2))) (View.ld X_arg7 (Rect.unit (s := S1x2x16x8x128) (k0_off20 k 2#32) S1x1x1x8x128.size (k0_off20_inb k 2))) (View.ld X_arg14 (Rect.unit (s := S4x16x8x128) (k0_off21 k 2#32) S1x1x8x128.size (k0_off21_inb k 2)))
  | 3 => chunk3 (View.ld X_arg3 (Rect.unit (s := S1x2048x256) (k0_off7 k 3#32) S1x128x128.size (k0_off7_inb k 3))) (View.ld X_arg10 (Rect.unit (s := S2x16x128x128) (k0_off8 k 3#32) S1x1x128x128.size (k0_off8_inb k 3))) (View.ld X_arg11 (Rect.unit (s := S2x16x144x128) (k0_off22 k 3#32) S1x1x144x128.size (k0_off22_inb k 3))) (View.ld X_arg6 (Rect.unit (s := S1x1x2048x128) (k0_off13 k 3#32) S1x1x128x128.size (k0_off13_inb k 3))) (View.ld X_arg7 (Rect.unit (s := S1x2x16x8x128) (k0_off20 k 3#32) S1x1x1x8x128.size (k0_off20_inb k 3))) (View.ld X_arg14 (Rect.unit (s := S4x16x8x128) (k0_off21 k 3#32) S1x1x8x128.size (k0_off21_inb k 3)))

/-- The state after the first `n` of a trip's steps. -/
def after (p : Fin 4 → Chunk F) (C : FVec F S144x128 .f32) : Fin 5 → FVec F S144x128 .f32
  | 0 => C
  | 1 => (p 0).next C
  | 2 => (p 1).next ((p 0).next C)
  | 3 => (p 2).next ((p 1).next ((p 0).next C))
  | 4 => (p 3).next ((p 2).next ((p 1).next ((p 0).next C)))

variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1x2048x128 .f32) (harg6 : arg6.IsWhole) (arg7 : Memref sig .tc .vmem S1x2x16x8x128 .f32) (harg7 : arg7.IsWhole) (arg8 : Memref sig .tc .vmem S1x128 .f32) (harg8 : arg8.IsWhole) (arg9 : Memref sig .tc .vmem S1x2048x256 .bf16) (harg9 : arg9.IsWhole) (arg10 : Memref sig .tc .vmem S2x16x128x128 .bf16) (harg10 : arg10.IsWhole) (arg11 : Memref sig .tc .vmem S2x16x144x128 .bf16) (harg11 : arg11.IsWhole) (arg12 : Memref sig .tc .vmem S4x16x128x128 .f32) (harg12 : arg12.IsWhole) (arg13 : Memref sig .tc .vmem S4x144x128 .f32) (harg13 : arg13.IsWhole) (arg14 : Memref sig .tc .vmem S4x16x8x128 .f32) (harg14 : arg14.IsWhole) (v870 : FVec F S128x128 .f32) (v872 : FVec F S128x128 .f32) (v1131 : FVec F S1x128 .f32) (v1133 : FVec F S8x128 .f32) (v1134 : Vec F S1x1x8x128 .f32) (X_arg3 : BufTy.Contents (Elt F) arg3.view.ty) (X_arg6 : BufTy.Contents (Elt F) arg6.view.ty) (X_arg7 : BufTy.Contents (Elt F) arg7.view.ty) (X_arg10 : BufTy.Contents (Elt F) arg10.view.ty) (X_arg11 : BufTy.Contents (Elt F) arg11.view.ty) (X_arg14 : BufTy.Contents (Elt F) arg14.view.ty) (k : Fin k0_t1_loop.trips) (f12 : BufTy.Contents (Elt F) arg12.view.ty) (f13 : BufTy.Contents (Elt F) arg13.view.ty)

set_option maxHeartbeats 4000000 in
/-- The states a trip leaves. -/
theorem trip_state : (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 k).2.1 f12 f13 =
    [(⟨Rect.unit (s := S4x144x128) ![3, 0, 0] S1x144x128.size inb_S4x144x128_S1x144x128_3_0_0, shapeCast S1x144x128 (after (part3 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![3, 0, 0] S1x144x128.size inb_S4x144x128_S1x144x128_3_0_0).toLoadRect f13) shapeCasts_S1x144x128_S144x128) 4) shapeCasts_S144x128_S1x144x128⟩ : View.Piece (Elt F) S4x144x128 .f32), (⟨Rect.unit (s := S4x144x128) ![2, 0, 0] S1x144x128.size inb_S4x144x128_S1x144x128_2_0_0, shapeCast S1x144x128 (after (part2 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![2, 0, 0] S1x144x128.size inb_S4x144x128_S1x144x128_2_0_0).toLoadRect f13) shapeCasts_S1x144x128_S144x128) 4) shapeCasts_S144x128_S1x144x128⟩ : View.Piece (Elt F) S4x144x128 .f32), (⟨Rect.unit (s := S4x144x128) ![1, 0, 0] S1x144x128.size inb_S4x144x128_S1x144x128_1_0_0, shapeCast S1x144x128 (after (part1 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![1, 0, 0] S1x144x128.size inb_S4x144x128_S1x144x128_1_0_0).toLoadRect f13) shapeCasts_S1x144x128_S144x128) 4) shapeCasts_S144x128_S1x144x128⟩ : View.Piece (Elt F) S4x144x128 .f32), (⟨Rect.unit (s := S4x144x128) ![0, 0, 0] S1x144x128.size inb_S4x144x128_S1x144x128_0_0_0, shapeCast S1x144x128 (after (part0 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![0, 0, 0] S1x144x128.size inb_S4x144x128_S1x144x128_0_0_0).toLoadRect f13) shapeCasts_S1x144x128_S144x128) 4) shapeCasts_S144x128_S1x144x128⟩ : View.Piece (Elt F) S4x144x128 .f32)] := by
  unfold trip_k0_t1
  dsimp only
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  rfl

set_option maxHeartbeats 4000000 in
/-- The outputs a trip stores. -/
theorem trip_out : (trip_k0_t1 (F := F) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 k).1 f12 f13 =
    [(⟨Rect.unit (s := S4x16x128x128) (k0_off26 k 3#32) S1x1x128x128.size (k0_off26_inb k 3), shapeCast S1x1x128x128 ((part3 (arg3.view.read (Elt F) X_arg3) (arg6.view.read (Elt F) X_arg6) (arg7.view.read (Elt F) X_arg7) (arg10.view.read (Elt F) X_arg10) (arg11.view.read (Elt F) X_arg11) (arg14.view.read (Elt F) X_arg14) k 3).out (after (part3 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![3, 0, 0] S1x144x128.size inb_S4x144x128_S1x144x128_3_0_0).toLoadRect f13) shapeCasts_S1x144x128_S144x128) 3)) shapeCasts_S128x128_S1x1x128x128⟩ : View.Piece (Elt F) S4x16x128x128 .f32), (⟨Rect.unit (s := S4x16x128x128) (k0_off25 k 3#32) S1x1x128x128.size (k0_off25_inb k 3), shapeCast S1x1x128x128 ((part2 (arg3.view.read (Elt F) X_arg3) (arg6.view.read (Elt F) X_arg6) (arg7.view.read (Elt F) X_arg7) (arg10.view.read (Elt F) X_arg10) (arg11.view.read (Elt F) X_arg11) (arg14.view.read (Elt F) X_arg14) k 3).out (after (part2 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![2, 0, 0] S1x144x128.size inb_S4x144x128_S1x144x128_2_0_0).toLoadRect f13) shapeCasts_S1x144x128_S144x128) 3)) shapeCasts_S128x128_S1x1x128x128⟩ : View.Piece (Elt F) S4x16x128x128 .f32), (⟨Rect.unit (s := S4x16x128x128) (k0_off24 k 3#32) S1x1x128x128.size (k0_off24_inb k 3), shapeCast S1x1x128x128 ((part1 (arg3.view.read (Elt F) X_arg3) (arg6.view.read (Elt F) X_arg6) (arg7.view.read (Elt F) X_arg7) (arg10.view.read (Elt F) X_arg10) (arg11.view.read (Elt F) X_arg11) (arg14.view.read (Elt F) X_arg14) k 3).out (after (part1 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![1, 0, 0] S1x144x128.size inb_S4x144x128_S1x144x128_1_0_0).toLoadRect f13) shapeCasts_S1x144x128_S144x128) 3)) shapeCasts_S128x128_S1x1x128x128⟩ : View.Piece (Elt F) S4x16x128x128 .f32), (⟨Rect.unit (s := S4x16x128x128) (k0_off23 k 3#32) S1x1x128x128.size (k0_off23_inb k 3), shapeCast S1x1x128x128 ((part0 (arg3.view.read (Elt F) X_arg3) (arg6.view.read (Elt F) X_arg6) (arg7.view.read (Elt F) X_arg7) (arg10.view.read (Elt F) X_arg10) (arg11.view.read (Elt F) X_arg11) (arg14.view.read (Elt F) X_arg14) k 3).out (after (part0 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![0, 0, 0] S1x144x128.size inb_S4x144x128_S1x144x128_0_0_0).toLoadRect f13) shapeCasts_S1x144x128_S144x128) 3)) shapeCasts_S128x128_S1x1x128x128⟩ : View.Piece (Elt F) S4x16x128x128 .f32), (⟨Rect.unit (s := S4x16x128x128) (k0_off26 k 2#32) S1x1x128x128.size (k0_off26_inb k 2), shapeCast S1x1x128x128 ((part3 (arg3.view.read (Elt F) X_arg3) (arg6.view.read (Elt F) X_arg6) (arg7.view.read (Elt F) X_arg7) (arg10.view.read (Elt F) X_arg10) (arg11.view.read (Elt F) X_arg11) (arg14.view.read (Elt F) X_arg14) k 2).out (after (part3 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![3, 0, 0] S1x144x128.size inb_S4x144x128_S1x144x128_3_0_0).toLoadRect f13) shapeCasts_S1x144x128_S144x128) 2)) shapeCasts_S128x128_S1x1x128x128⟩ : View.Piece (Elt F) S4x16x128x128 .f32), (⟨Rect.unit (s := S4x16x128x128) (k0_off25 k 2#32) S1x1x128x128.size (k0_off25_inb k 2), shapeCast S1x1x128x128 ((part2 (arg3.view.read (Elt F) X_arg3) (arg6.view.read (Elt F) X_arg6) (arg7.view.read (Elt F) X_arg7) (arg10.view.read (Elt F) X_arg10) (arg11.view.read (Elt F) X_arg11) (arg14.view.read (Elt F) X_arg14) k 2).out (after (part2 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![2, 0, 0] S1x144x128.size inb_S4x144x128_S1x144x128_2_0_0).toLoadRect f13) shapeCasts_S1x144x128_S144x128) 2)) shapeCasts_S128x128_S1x1x128x128⟩ : View.Piece (Elt F) S4x16x128x128 .f32), (⟨Rect.unit (s := S4x16x128x128) (k0_off24 k 2#32) S1x1x128x128.size (k0_off24_inb k 2), shapeCast S1x1x128x128 ((part1 (arg3.view.read (Elt F) X_arg3) (arg6.view.read (Elt F) X_arg6) (arg7.view.read (Elt F) X_arg7) (arg10.view.read (Elt F) X_arg10) (arg11.view.read (Elt F) X_arg11) (arg14.view.read (Elt F) X_arg14) k 2).out (after (part1 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![1, 0, 0] S1x144x128.size inb_S4x144x128_S1x144x128_1_0_0).toLoadRect f13) shapeCasts_S1x144x128_S144x128) 2)) shapeCasts_S128x128_S1x1x128x128⟩ : View.Piece (Elt F) S4x16x128x128 .f32), (⟨Rect.unit (s := S4x16x128x128) (k0_off23 k 2#32) S1x1x128x128.size (k0_off23_inb k 2), shapeCast S1x1x128x128 ((part0 (arg3.view.read (Elt F) X_arg3) (arg6.view.read (Elt F) X_arg6) (arg7.view.read (Elt F) X_arg7) (arg10.view.read (Elt F) X_arg10) (arg11.view.read (Elt F) X_arg11) (arg14.view.read (Elt F) X_arg14) k 2).out (after (part0 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![0, 0, 0] S1x144x128.size inb_S4x144x128_S1x144x128_0_0_0).toLoadRect f13) shapeCasts_S1x144x128_S144x128) 2)) shapeCasts_S128x128_S1x1x128x128⟩ : View.Piece (Elt F) S4x16x128x128 .f32), (⟨Rect.unit (s := S4x16x128x128) (k0_off26 k 1#32) S1x1x128x128.size (k0_off26_inb k 1), shapeCast S1x1x128x128 ((part3 (arg3.view.read (Elt F) X_arg3) (arg6.view.read (Elt F) X_arg6) (arg7.view.read (Elt F) X_arg7) (arg10.view.read (Elt F) X_arg10) (arg11.view.read (Elt F) X_arg11) (arg14.view.read (Elt F) X_arg14) k 1).out (after (part3 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![3, 0, 0] S1x144x128.size inb_S4x144x128_S1x144x128_3_0_0).toLoadRect f13) shapeCasts_S1x144x128_S144x128) 1)) shapeCasts_S128x128_S1x1x128x128⟩ : View.Piece (Elt F) S4x16x128x128 .f32), (⟨Rect.unit (s := S4x16x128x128) (k0_off25 k 1#32) S1x1x128x128.size (k0_off25_inb k 1), shapeCast S1x1x128x128 ((part2 (arg3.view.read (Elt F) X_arg3) (arg6.view.read (Elt F) X_arg6) (arg7.view.read (Elt F) X_arg7) (arg10.view.read (Elt F) X_arg10) (arg11.view.read (Elt F) X_arg11) (arg14.view.read (Elt F) X_arg14) k 1).out (after (part2 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![2, 0, 0] S1x144x128.size inb_S4x144x128_S1x144x128_2_0_0).toLoadRect f13) shapeCasts_S1x144x128_S144x128) 1)) shapeCasts_S128x128_S1x1x128x128⟩ : View.Piece (Elt F) S4x16x128x128 .f32), (⟨Rect.unit (s := S4x16x128x128) (k0_off24 k 1#32) S1x1x128x128.size (k0_off24_inb k 1), shapeCast S1x1x128x128 ((part1 (arg3.view.read (Elt F) X_arg3) (arg6.view.read (Elt F) X_arg6) (arg7.view.read (Elt F) X_arg7) (arg10.view.read (Elt F) X_arg10) (arg11.view.read (Elt F) X_arg11) (arg14.view.read (Elt F) X_arg14) k 1).out (after (part1 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![1, 0, 0] S1x144x128.size inb_S4x144x128_S1x144x128_1_0_0).toLoadRect f13) shapeCasts_S1x144x128_S144x128) 1)) shapeCasts_S128x128_S1x1x128x128⟩ : View.Piece (Elt F) S4x16x128x128 .f32), (⟨Rect.unit (s := S4x16x128x128) (k0_off23 k 1#32) S1x1x128x128.size (k0_off23_inb k 1), shapeCast S1x1x128x128 ((part0 (arg3.view.read (Elt F) X_arg3) (arg6.view.read (Elt F) X_arg6) (arg7.view.read (Elt F) X_arg7) (arg10.view.read (Elt F) X_arg10) (arg11.view.read (Elt F) X_arg11) (arg14.view.read (Elt F) X_arg14) k 1).out (after (part0 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![0, 0, 0] S1x144x128.size inb_S4x144x128_S1x144x128_0_0_0).toLoadRect f13) shapeCasts_S1x144x128_S144x128) 1)) shapeCasts_S128x128_S1x1x128x128⟩ : View.Piece (Elt F) S4x16x128x128 .f32), (⟨Rect.unit (s := S4x16x128x128) (k0_off26 k 0#32) S1x1x128x128.size (k0_off26_inb k 0), shapeCast S1x1x128x128 ((part3 (arg3.view.read (Elt F) X_arg3) (arg6.view.read (Elt F) X_arg6) (arg7.view.read (Elt F) X_arg7) (arg10.view.read (Elt F) X_arg10) (arg11.view.read (Elt F) X_arg11) (arg14.view.read (Elt F) X_arg14) k 0).out (after (part3 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![3, 0, 0] S1x144x128.size inb_S4x144x128_S1x144x128_3_0_0).toLoadRect f13) shapeCasts_S1x144x128_S144x128) 0)) shapeCasts_S128x128_S1x1x128x128⟩ : View.Piece (Elt F) S4x16x128x128 .f32), (⟨Rect.unit (s := S4x16x128x128) (k0_off25 k 0#32) S1x1x128x128.size (k0_off25_inb k 0), shapeCast S1x1x128x128 ((part2 (arg3.view.read (Elt F) X_arg3) (arg6.view.read (Elt F) X_arg6) (arg7.view.read (Elt F) X_arg7) (arg10.view.read (Elt F) X_arg10) (arg11.view.read (Elt F) X_arg11) (arg14.view.read (Elt F) X_arg14) k 0).out (after (part2 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![2, 0, 0] S1x144x128.size inb_S4x144x128_S1x144x128_2_0_0).toLoadRect f13) shapeCasts_S1x144x128_S144x128) 0)) shapeCasts_S128x128_S1x1x128x128⟩ : View.Piece (Elt F) S4x16x128x128 .f32), (⟨Rect.unit (s := S4x16x128x128) (k0_off24 k 0#32) S1x1x128x128.size (k0_off24_inb k 0), shapeCast S1x1x128x128 ((part1 (arg3.view.read (Elt F) X_arg3) (arg6.view.read (Elt F) X_arg6) (arg7.view.read (Elt F) X_arg7) (arg10.view.read (Elt F) X_arg10) (arg11.view.read (Elt F) X_arg11) (arg14.view.read (Elt F) X_arg14) k 0).out (after (part1 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![1, 0, 0] S1x144x128.size inb_S4x144x128_S1x144x128_1_0_0).toLoadRect f13) shapeCasts_S1x144x128_S144x128) 0)) shapeCasts_S128x128_S1x1x128x128⟩ : View.Piece (Elt F) S4x16x128x128 .f32), (⟨Rect.unit (s := S4x16x128x128) (k0_off23 k 0#32) S1x1x128x128.size (k0_off23_inb k 0), shapeCast S1x1x128x128 ((part0 (arg3.view.read (Elt F) X_arg3) (arg6.view.read (Elt F) X_arg6) (arg7.view.read (Elt F) X_arg7) (arg10.view.read (Elt F) X_arg10) (arg11.view.read (Elt F) X_arg11) (arg14.view.read (Elt F) X_arg14) k 0).out (after (part0 (arg3.view.read (Elt F) X_arg3) (arg6.view.read (Elt F) X_arg6) (arg7.view.read (Elt F) X_arg7) (arg10.view.read (Elt F) X_arg10) (arg11.view.read (Elt F) X_arg11) (arg14.view.read (Elt F) X_arg14) k) (shapeCast S144x128 (arg13.view.readAt (Elt F) (Rect.unit (s := S4x144x128) ![0, 0, 0] S1x144x128.size inb_S4x144x128_S1x144x128_0_0_0).toLoadRect f13) shapeCasts_S1x144x128_S144x128) 0)) shapeCasts_S128x128_S1x1x128x128⟩ : View.Piece (Elt F) S4x16x128x128 .f32)] := by
  unfold trip_k0_t1
  dsimp only
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  refine List.cons_eq_cons.2 ⟨rfl, ?_⟩
  rfl

end Cert.MlstmIdeal.Run

end
-- ==== Proof.MlstmSteps.lean ====
/-
  Each chunk the mLSTM kernel's loop takes, as it loads it from the blocks and its scratch arrays, is the chunk of the
  recurrence.
-/
module

public import proofs.«01_k».proof.Proof.MlstmScratch
public import proofs.«01_k».proof.Proof.MlstmTrip
public import Idealize.ShloMosaic.Lib.WordCmp

@[expose] public section

set_option maxRecDepth 16384

noncomputable section

namespace Cert.MlstmIdeal.Run

open Cert.MlstmIdeal Cert.MlstmIdeal.Gen Cert.MlstmIdeal.Model
open Idealize.ShloMosaic Idealize.ShloMosaic.TcCoe

/-- A choice by the order of two positions. -/
theorem select_le (s t : Fin 128) (x y : EReal) :
    Scalar.select (IntOp.cmpi CmpIPredicate.sle (BitVec.ofNat 32 s.val) (BitVec.ofNat 32 t.val)) x y = if s ≤ t then x else y :=
  if_congr (WordCmp.cmpi_sle_ofNat_eq_one_iff (w := 32) (by omega) (by omega)) rfl rfl

theorem select_ge (s t : Fin 128) (x y : EReal) :
    Scalar.select (IntOp.cmpi CmpIPredicate.sge (BitVec.ofNat 32 s.val) (BitVec.ofNat 32 t.val)) x y = if t ≤ s then x else y :=
  select_le t s x y

section

variable (kB : Vec Ideal S1x128x128 .bf16) (qB : Vec Ideal S1x1x128x128 .bf16) (vB : Vec Ideal S1x1x144x128 .bf16)
  (cB : Vec Ideal S1x1x128x128 .f32) (rB : Vec Ideal S1x1x1x8x128 .f32) (mB : Vec Ideal S1x1x8x128 .f32)
  (p : Mlstm.Step) (m : EReal)
  (hk : ∀ s r : Fin 128, kB (ix3 0 s r) = p.k s r) (hq : ∀ r t : Fin 128, qB (ix4 0 0 r t) = p.q t r)
  (hv : ∀ x s : Fin 128, vB (ix4 0 0 (row x) s) = p.v s x) (h1 : ∀ s : Fin 128, vB (ix4 0 0 128 s) = 1)
  (hm : ∀ t : Fin 128, mB (ix4 0 0 0 t) = m)

include hk hq hv h1 hm

theorem holds0 (hc : ∀ s : Fin 128, cB (ix4 0 0 s 0) = p.i s ∧ cB (ix4 0 0 s 1) = p.b s)
    (hr : ∀ t : Fin 128, rB (ix5 0 0 0 0 t) = p.i t ∧ rB (ix5 0 0 0 1 t) = p.b t) :
    Holds (chunk0 kB qB vB cB rB mB) (fun s t => s ≤ t) 127 p m where
  logw s t := by
    have e : (chunk0 kB qB vB cB rB mB).dmat (ix2 s t) = if s ≤ t then rB (ix5 0 0 0 1 t) - (cB (ix4 0 0 s 1) - cB (ix4 0 0 s 0)) else Ideal.ofBits .f32 0xFF800000#32 := by
      pointwise [chunk0, pos0, pos1, rows, cols, Chunk.dmat]
      exact select_le _ _ _ _
    rw [e, (hc s).1, (hc s).2, (hr t).2]
    rfl
  b t := by
    have e : (chunk0 kB qB vB cB rB mB).b (ix2 0 t) = rB (ix5 0 0 0 1 t) := by pointwise [chunk0, pos0, pos1, rows, cols, Chunk.dmat]
    rw [e, (hr t).2]
  i t := by
    have e : (chunk0 kB qB vB cB rB mB).i (ix2 0 t) = rB (ix5 0 0 0 0 t) := by pointwise [chunk0, pos0, pos1, rows, cols, Chunk.dmat]
    rw [e, (hr t).1]
  g := by
    have e : (chunk0 kB qB vB cB rB mB).g (ix2 0 0) = rB (ix5 0 0 0 1 127) := by pointwise [chunk0, pos0, pos1, rows, cols, Chunk.dmat]
    rw [e, (hr 127).2]
  m t := by
    have e : (chunk0 kB qB vB cB rB mB).m (ix2 0 t) = mB (ix4 0 0 0 t) := by pointwise [chunk0, pos0, pos1, rows, cols, Chunk.dmat]
    rw [e, hm]
  k s r := by
    have e : (chunk0 kB qB vB cB rB mB).k (ix2 s r) = kB (ix3 0 s r) := by pointwise [chunk0, pos0, pos1, rows, cols, Chunk.dmat]
    rw [e, hk]
  q r t := by
    have e : (chunk0 kB qB vB cB rB mB).q (ix2 r t) = qB (ix4 0 0 r t) := by pointwise [chunk0, pos0, pos1, rows, cols, Chunk.dmat]
    rw [e, hq]
  v x s := by
    have e : (chunk0 kB qB vB cB rB mB).v (ix2 (row x) s) = vB (ix4 0 0 (row x) s) := by pointwise [chunk0, pos0, pos1, rows, cols, Chunk.dmat]
    rw [e, hv]
  one s := by
    have e : (chunk0 kB qB vB cB rB mB).v (ix2 128 s) = vB (ix4 0 0 128 s) := by pointwise [chunk0, pos0, pos1, rows, cols, Chunk.dmat]
    rw [e, h1]

theorem holds1 (hc : ∀ s : Fin 128, cB (ix4 0 0 s 2) = p.i s ∧ cB (ix4 0 0 s 3) = p.b s)
    (hr : ∀ t : Fin 128, rB (ix5 0 0 0 2 t) = p.i t ∧ rB (ix5 0 0 0 3 t) = p.b t) :
    Holds (chunk1 kB qB vB cB rB mB) (fun s t => t ≤ s) 0 p m where
  logw s t := by
    have e : (chunk1 kB qB vB cB rB mB).dmat (ix2 s t) = if t ≤ s then rB (ix5 0 0 0 3 t) - (cB (ix4 0 0 s 3) - cB (ix4 0 0 s 2)) else Ideal.ofBits .f32 0xFF800000#32 := by
      pointwise [chunk1, pos0, pos1, rows, cols, Chunk.dmat]
      exact select_ge _ _ _ _
    rw [e, (hc s).1, (hc s).2, (hr t).2]
    rfl
  b t := by
    have e : (chunk1 kB qB vB cB rB mB).b (ix2 0 t) = rB (ix5 0 0 0 3 t) := by pointwise [chunk1, pos0, pos1, rows, cols, Chunk.dmat]
    rw [e, (hr t).2]
  i t := by
    have e : (chunk1 kB qB vB cB rB mB).i (ix2 0 t) = rB (ix5 0 0 0 2 t) := by pointwise [chunk1, pos0, pos1, rows, cols, Chunk.dmat]
    rw [e, (hr t).1]
  g := by
    have e : (chunk1 kB qB vB cB rB mB).g (ix2 0 0) = rB (ix5 0 0 0 3 0) := by pointwise [chunk1, pos0, pos1, rows, cols, Chunk.dmat]
    rw [e, (hr 0).2]
  m t := by
    have e : (chunk1 kB qB vB cB rB mB).m (ix2 0 t) = mB (ix4 0 0 0 t) := by pointwise [chunk1, pos0, pos1, rows, cols, Chunk.dmat]
    rw [e, hm]
  k s r := by
    have e : (chunk1 kB qB vB cB rB mB).k (ix2 s r) = kB (ix3 0 s r) := by pointwise [chunk1, pos0, pos1, rows, cols, Chunk.dmat]
    rw [e, hk]
  q r t := by
    have e : (chunk1 kB qB vB cB rB mB).q (ix2 r t) = qB (ix4 0 0 r t) := by pointwise [chunk1, pos0, pos1, rows, cols, Chunk.dmat]
    rw [e, hq]
  v x s := by
    have e : (chunk1 kB qB vB cB rB mB).v (ix2 (row x) s) = vB (ix4 0 0 (row x) s) := by pointwise [chunk1, pos0, pos1, rows, cols, Chunk.dmat]
    rw [e, hv]
  one s := by
    have e : (chunk1 kB qB vB cB rB mB).v (ix2 128 s) = vB (ix4 0 0 128 s) := by pointwise [chunk1, pos0, pos1, rows, cols, Chunk.dmat]
    rw [e, h1]

theorem holds2 (hc : ∀ s : Fin 128, cB (ix4 0 0 s 8) = p.i s ∧ cB (ix4 0 0 s 9) = p.b s)
    (hr : ∀ t : Fin 128, rB (ix5 0 0 0 0 t) = p.i t ∧ rB (ix5 0 0 0 1 t) = p.b t) :
    Holds (chunk2 kB qB vB cB rB mB) (fun s t => s ≤ t) 127 p m where
  logw s t := by
    have e : (chunk2 kB qB vB cB rB mB).dmat (ix2 s t) = if s ≤ t then rB (ix5 0 0 0 1 t) - (cB (ix4 0 0 s 9) - cB (ix4 0 0 s 8)) else Ideal.ofBits .f32 0xFF800000#32 := by
      pointwise [chunk2, chunk0, pos0, pos1, rows, cols, Chunk.dmat]
      exact select_le _ _ _ _
    rw [e, (hc s).1, (hc s).2, (hr t).2]
    rfl
  b t := by
    have e : (chunk2 kB qB vB cB rB mB).b (ix2 0 t) = rB (ix5 0 0 0 1 t) := by pointwise [chunk2, chunk0, pos0, pos1, rows, cols, Chunk.dmat]
    rw [e, (hr t).2]
  i t := by
    have e : (chunk2 kB qB vB cB rB mB).i (ix2 0 t) = rB (ix5 0 0 0 0 t) := by pointwise [chunk2, chunk0, pos0, pos1, rows, cols, Chunk.dmat]
    rw [e, (hr t).1]
  g := by
    have e : (chunk2 kB qB vB cB rB mB).g (ix2 0 0) = rB (ix5 0 0 0 1 127) := by pointwise [chunk2, chunk0, pos0, pos1, rows, cols, Chunk.dmat]
    rw [e, (hr 127).2]
  m t := by
    have e : (chunk2 kB qB vB cB rB mB).m (ix2 0 t) = mB (ix4 0 0 0 t) := by pointwise [chunk2, chunk0, pos0, pos1, rows, cols, Chunk.dmat]
    rw [e, hm]
  k s r := by
    have e : (chunk2 kB qB vB cB rB mB).k (ix2 s r) = kB (ix3 0 s r) := by pointwise [chunk2, chunk0, pos0, pos1, rows, cols, Chunk.dmat]
    rw [e, hk]
  q r t := by
    have e : (chunk2 kB qB vB cB rB mB).q (ix2 r t) = qB (ix4 0 0 r t) := by pointwise [chunk2, chunk0, pos0, pos1, rows, cols, Chunk.dmat]
    rw [e, hq]
  v x s := by
    have e : (chunk2 kB qB vB cB rB mB).v (ix2 (row x) s) = vB (ix4 0 0 (row x) s) := by pointwise [chunk2, chunk0, pos0, pos1, rows, cols, Chunk.dmat]
    rw [e, hv]
  one s := by
    have e : (chunk2 kB qB vB cB rB mB).v (ix2 128 s) = vB (ix4 0 0 128 s) := by pointwise [chunk2, chunk0, pos0, pos1, rows, cols, Chunk.dmat]
    rw [e, h1]

theorem holds3 (hc : ∀ s : Fin 128, cB (ix4 0 0 s 10) = p.i s ∧ cB (ix4 0 0 s 11) = p.b s)
    (hr : ∀ t : Fin 128, rB (ix5 0 0 0 2 t) = p.i t ∧ rB (ix5 0 0 0 3 t) = p.b t) :
    Holds (chunk3 kB qB vB cB rB mB) (fun s t => t ≤ s) 0 p m where
  logw s t := by
    have e : (chunk3 kB qB vB cB rB mB).dmat (ix2 s t) = if t ≤ s then rB (ix5 0 0 0 3 t) - (cB (ix4 0 0 s 11) - cB (ix4 0 0 s 10)) else Ideal.ofBits .f32 0xFF800000#32 := by
      pointwise [chunk3, chunk1, pos0, pos1, rows, cols, Chunk.dmat]
      exact select_ge _ _ _ _
    rw [e, (hc s).1, (hc s).2, (hr t).2]
    rfl
  b t := by
    have e : (chunk3 kB qB vB cB rB mB).b (ix2 0 t) = rB (ix5 0 0 0 3 t) := by pointwise [chunk3, chunk1, pos0, pos1, rows, cols, Chunk.dmat]
    rw [e, (hr t).2]
  i t := by
    have e : (chunk3 kB qB vB cB rB mB).i (ix2 0 t) = rB (ix5 0 0 0 2 t) := by pointwise [chunk3, chunk1, pos0, pos1, rows, cols, Chunk.dmat]
    rw [e, (hr t).1]
  g := by
    have e : (chunk3 kB qB vB cB rB mB).g (ix2 0 0) = rB (ix5 0 0 0 3 0) := by pointwise [chunk3, chunk1, pos0, pos1, rows, cols, Chunk.dmat]
    rw [e, (hr 0).2]
  m t := by
    have e : (chunk3 kB qB vB cB rB mB).m (ix2 0 t) = mB (ix4 0 0 0 t) := by pointwise [chunk3, chunk1, pos0, pos1, rows, cols, Chunk.dmat]
    rw [e, hm]
  k s r := by
    have e : (chunk3 kB qB vB cB rB mB).k (ix2 s r) = kB (ix3 0 s r) := by pointwise [chunk3, chunk1, pos0, pos1, rows, cols, Chunk.dmat]
    rw [e, hk]
  q r t := by
    have e : (chunk3 kB qB vB cB rB mB).q (ix2 r t) = qB (ix4 0 0 r t) := by pointwise [chunk3, chunk1, pos0, pos1, rows, cols, Chunk.dmat]
    rw [e, hq]
  v x s := by
    have e : (chunk3 kB qB vB cB rB mB).v (ix2 (row x) s) = vB (ix4 0 0 (row x) s) := by pointwise [chunk3, chunk1, pos0, pos1, rows, cols, Chunk.dmat]
    rw [e, hv]
  one s := by
    have e : (chunk3 kB qB vB cB rB mB).v (ix2 128 s) = vB (ix4 0 0 128 s) := by pointwise [chunk3, chunk1, pos0, pos1, rows, cols, Chunk.dmat]
    rw [e, h1]

end

section Loads

variable (off3 : Fin 3 → Nat) (off4 : Fin 4 → Nat) (off5 : Fin 5 → Nat) (c : Fin 16) (h : Fin 2) (u : Fin 4)
  (x : Vec Ideal S1x2048x256 .bf16) (x4 : Vec Ideal S1x1x2048x128 .f32) (x5 : Vec Ideal S1x2x16x8x128 .f32)

theorem ld_k (e : off3 = ![0, 128 * c.val, 128 * h.val]) (inb) (s r : Fin 128) :
    View.ld x (Rect.unit (s := S1x2048x256) off3 S1x128x128.size inb) (ix3 0 s r) = x (ix3 0 (tok c s) (feat h r)) := by
  subst e
  exact View.ld_unit_apply_of x _ _ inb _ _ fun a => by
    match a with
    | ⟨0, _⟩ => rfl
    | ⟨1, _⟩ => rfl
    | ⟨2, _⟩ => rfl

theorem ld_q (e : off4 = ![h.val, c.val, 0, 0]) (inb) (r t : Fin 128) :
    View.ld (qtF x) (Rect.unit (s := S2x16x128x128) off4 S1x1x128x128.size inb) (ix4 0 0 r t) = x (ix3 0 (tok c t) (feat h r)) := by
  subst e
  exact View.ld_unit_apply_of (qtF x) _ _ inb _ (ix4 h c r t) fun a => by
    match a with
    | ⟨0, _⟩ => rfl
    | ⟨1, _⟩ => rfl
    | ⟨2, _⟩ => exact (Nat.zero_add _).symm
    | ⟨3, _⟩ => exact (Nat.zero_add _).symm

theorem ld_v (e : off4 = ![h.val, c.val, 0, 0]) (inb) (y : Fin 144) (t : Fin 128) :
    View.ld (vtF x) (Rect.unit (s := S2x16x144x128) off4 S1x1x144x128.size inb) (ix4 0 0 y t) = vtF x (ix4 h c y t) := by
  subst e
  exact View.ld_unit_apply_of (vtF x) _ _ inb _ (ix4 h c y t) fun a => by
    match a with
    | ⟨0, _⟩ => rfl
    | ⟨1, _⟩ => rfl
    | ⟨2, _⟩ => exact (Nat.zero_add _).symm
    | ⟨3, _⟩ => exact (Nat.zero_add _).symm

theorem vtF_row (y t : Fin 128) : vtF x (ix4 h c (row y) t) = x (ix3 0 (tok c t) (feat h y)) := dif_pos y.isLt

theorem ld_c (e : off4 = ![0, 0, 128 * c.val, 0]) (inb) (s l : Fin 128) :
    View.ld x4 (Rect.unit (s := S1x1x2048x128) off4 S1x1x128x128.size inb) (ix4 0 0 s l) = x4 (ix4 0 0 (tok c s) l) := by
  subst e
  exact View.ld_unit_apply_of x4 _ _ inb _ _ fun a => by
    match a with
    | ⟨0, _⟩ => rfl
    | ⟨1, _⟩ => rfl
    | ⟨2, _⟩ => rfl
    | ⟨3, _⟩ => exact (Nat.zero_add _).symm

theorem ld_r (e : off5 = ![0, h.val, c.val, 0, 0]) (inb) (a : Fin 8) (t : Fin 128) :
    View.ld x5 (Rect.unit (s := S1x2x16x8x128) off5 S1x1x1x8x128.size inb) (ix5 0 0 0 a t) = x5 (ix5 0 h c a t) := by
  subst e
  exact View.ld_unit_apply_of x5 _ _ inb _ _ fun a => by
    match a with
    | ⟨0, _⟩ => rfl
    | ⟨1, _⟩ => rfl
    | ⟨2, _⟩ => rfl
    | ⟨3, _⟩ => exact (Nat.zero_add _).symm
    | ⟨4, _⟩ => exact (Nat.zero_add _).symm

theorem ld_m (M : Vec Ideal S4x16x8x128 .f32) (e : off4 = ![u.val, c.val, 0, 0]) (inb) (t : Fin 128) :
    View.ld M (Rect.unit (s := S4x16x8x128) off4 S1x1x8x128.size inb) (ix4 0 0 0 t) = M (ix4 u c 0 t) := by
  subst e
  exact View.ld_unit_apply_of M _ _ inb _ (ix4 u c 0 t) fun a => by
    match a with
    | ⟨0, _⟩ => rfl
    | ⟨1, _⟩ => rfl
    | ⟨2, _⟩ => rfl
    | ⟨3, _⟩ => exact (Nat.zero_add _).symm

end Loads

/-- The chunk of step `4 k + r`, forward and backward. -/
def cF (k : Fin k0_t1_loop.trips) (r : Fin 4) : Fin 16 := ⟨4 * k.val + r.val, by have : k.val < 4 := k.isLt; omega⟩
def cB (k : Fin k0_t1_loop.trips) (r : Fin 4) : Fin 16 := ⟨15 - (4 * k.val + r.val), by omega⟩

section Parts

variable (X3 : Vec Ideal S1x2048x256 .bf16) (X6 : Vec Ideal S1x1x2048x128 .f32) (X7 : Vec Ideal S1x2x16x8x128 .f32)
  (X10 : Vec Ideal S2x16x128x128 .bf16) (X11 : Vec Ideal S2x16x144x128 .bf16) (X14 : Vec Ideal S4x16x8x128 .f32)
  (k : Fin k0_t1_loop.trips)

theorem part0_eq : ∀ r : Fin 4, part0 X3 X6 X7 X10 X11 X14 k r = chunk0 (View.ld X3 (Rect.unit (s := S1x2048x256) (k0_off1 k (BitVec.ofNat 32 r.val)) S1x128x128.size (k0_off1_inb k r)))
    (View.ld X10 (Rect.unit (s := S2x16x128x128) (k0_off2 k (BitVec.ofNat 32 r.val)) S1x1x128x128.size (k0_off2_inb k r)))
    (View.ld X11 (Rect.unit (s := S2x16x144x128) (k0_off12 k (BitVec.ofNat 32 r.val)) S1x1x144x128.size (k0_off12_inb k r)))
    (View.ld X6 (Rect.unit (s := S1x1x2048x128) (k0_off9 k (BitVec.ofNat 32 r.val)) S1x1x128x128.size (k0_off9_inb k r)))
    (View.ld X7 (Rect.unit (s := S1x2x16x8x128) (k0_off10 k (BitVec.ofNat 32 r.val)) S1x1x1x8x128.size (k0_off10_inb k r)))
    (View.ld X14 (Rect.unit (s := S4x16x8x128) (k0_off11 k (BitVec.ofNat 32 r.val)) S1x1x8x128.size (k0_off11_inb k r)))
  | 0 => rfl
  | 1 => rfl
  | 2 => rfl
  | 3 => rfl

theorem part1_eq : ∀ r : Fin 4, part1 X3 X6 X7 X10 X11 X14 k r = chunk1 (View.ld X3 (Rect.unit (s := S1x2048x256) (k0_off3 k (BitVec.ofNat 32 r.val)) S1x128x128.size (k0_off3_inb k r)))
    (View.ld X10 (Rect.unit (s := S2x16x128x128) (k0_off4 k (BitVec.ofNat 32 r.val)) S1x1x128x128.size (k0_off4_inb k r)))
    (View.ld X11 (Rect.unit (s := S2x16x144x128) (k0_off16 k (BitVec.ofNat 32 r.val)) S1x1x144x128.size (k0_off16_inb k r)))
    (View.ld X6 (Rect.unit (s := S1x1x2048x128) (k0_off13 k (BitVec.ofNat 32 r.val)) S1x1x128x128.size (k0_off13_inb k r)))
    (View.ld X7 (Rect.unit (s := S1x2x16x8x128) (k0_off14 k (BitVec.ofNat 32 r.val)) S1x1x1x8x128.size (k0_off14_inb k r)))
    (View.ld X14 (Rect.unit (s := S4x16x8x128) (k0_off15 k (BitVec.ofNat 32 r.val)) S1x1x8x128.size (k0_off15_inb k r)))
  | 0 => rfl
  | 1 => rfl
  | 2 => rfl
  | 3 => rfl

theorem part2_eq : ∀ r : Fin 4, part2 X3 X6 X7 X10 X11 X14 k r = chunk2 (View.ld X3 (Rect.unit (s := S1x2048x256) (k0_off5 k (BitVec.ofNat 32 r.val)) S1x128x128.size (k0_off5_inb k r)))
    (View.ld X10 (Rect.unit (s := S2x16x128x128) (k0_off6 k (BitVec.ofNat 32 r.val)) S1x1x128x128.size (k0_off6_inb k r)))
    (View.ld X11 (Rect.unit (s := S2x16x144x128) (k0_off19 k (BitVec.ofNat 32 r.val)) S1x1x144x128.size (k0_off19_inb k r)))
    (View.ld X6 (Rect.unit (s := S1x1x2048x128) (k0_off9 k (BitVec.ofNat 32 r.val)) S1x1x128x128.size (k0_off9_inb k r)))
    (View.ld X7 (Rect.unit (s := S1x2x16x8x128) (k0_off17 k (BitVec.ofNat 32 r.val)) S1x1x1x8x128.size (k0_off17_inb k r)))
    (View.ld X14 (Rect.unit (s := S4x16x8x128) (k0_off18 k (BitVec.ofNat 32 r.val)) S1x1x8x128.size (k0_off18_inb k r)))
  | 0 => rfl
  | 1 => rfl
  | 2 => rfl
  | 3 => rfl

theorem part3_eq : ∀ r : Fin 4, part3 X3 X6 X7 X10 X11 X14 k r = chunk3 (View.ld X3 (Rect.unit (s := S1x2048x256) (k0_off7 k (BitVec.ofNat 32 r.val)) S1x128x128.size (k0_off7_inb k r)))
    (View.ld X10 (Rect.unit (s := S2x16x128x128) (k0_off8 k (BitVec.ofNat 32 r.val)) S1x1x128x128.size (k0_off8_inb k r)))
    (View.ld X11 (Rect.unit (s := S2x16x144x128) (k0_off22 k (BitVec.ofNat 32 r.val)) S1x1x144x128.size (k0_off22_inb k r)))
    (View.ld X6 (Rect.unit (s := S1x1x2048x128) (k0_off13 k (BitVec.ofNat 32 r.val)) S1x1x128x128.size (k0_off13_inb k r)))
    (View.ld X7 (Rect.unit (s := S1x2x16x8x128) (k0_off20 k (BitVec.ofNat 32 r.val)) S1x1x1x8x128.size (k0_off20_inb k r)))
    (View.ld X14 (Rect.unit (s := S4x16x8x128) (k0_off21 k (BitVec.ofNat 32 r.val)) S1x1x8x128.size (k0_off21_inb k r)))
  | 0 => rfl
  | 1 => rfl
  | 2 => rfl
  | 3 => rfl

end Parts

/-- The column of gate `j` of head `h`, and its row. -/
def col (h : Fin 2) (j : Fin 4) : Fin 128 := ⟨8 * h.val + j.val, by omega⟩
def line (j : Fin 4) : Fin 8 := ⟨j.val, by omega⟩

/-- The gates' columns are their rows. -/
def Cols (x4 : Vec Ideal S1x1x2048x128 .f32) (x5 : Vec Ideal S1x2x16x8x128 .f32) : Prop :=
  ∀ (h : Fin 2) (c : Fin 16) (t : Fin 128) (j : Fin 4), x4 (ix4 0 0 (tok c t) (col h j)) = x5 (ix5 0 h c (line j) t)

theorem vec3 {a b c b' : Nat} (h : b = b') : ![a, b, c] = ![a, b', c] := by rw [h]
theorem vec4 {a b c d c' : Nat} (h : c = c') : ![a, b, c, d] = ![a, b, c', d] := by rw [h]

section

variable (x0 x1 x2 : Vec Ideal S1x2048x256 .bf16) (x4 : Vec Ideal S1x1x2048x128 .f32) (x5 : Vec Ideal S1x2x16x8x128 .f32)
  (hx : Cols x4 x5)

/-- The running maxima of the block. -/
abbrev mX : Vec Ideal S4x16x8x128 .f32 :=
  mF (stepF x0 x1 x2 x5 0) (stepB x0 x1 x2 x5 0) (stepF x0 x1 x2 x5 1) (stepB x0 x1 x2 x5 1)

theorem stepF_eq (h : Fin 2) (k : Fin k0_t1_loop.trips) (r : Fin 4) :
    stepF x0 x1 x2 x5 h (4 * k.val + r.val) = stepAt x0 x1 x2 x5 h 0 1 (cF k r) := dif_pos (cF k r).isLt

theorem stepB_eq (h : Fin 2) (k : Fin k0_t1_loop.trips) (r : Fin 4) :
    stepB x0 x1 x2 x5 h (4 * k.val + r.val) = stepAt x0 x1 x2 x5 h 2 3 (cB k r) := dif_pos (cF k r).isLt

include hx

theorem part0_holds (k : Fin k0_t1_loop.trips) (r : Fin 4) :
    Holds (part0 x1 x4 x5 (qtF x0) (vtF x2) (mX x0 x1 x2 x5) k r) (fun s t => s ≤ t) 127 (stepF x0 x1 x2 x5 0 (4 * k.val + r.val))
      (Mlstm.state 127 (stepF x0 x1 x2 x5 0) (4 * k.val + r.val)).m := by
  rw [stepF_eq]
  have e3 : k0_off1 k (BitVec.ofNat 32 r.val) = ![0, 128 * (cF k r).val, 128 * ((0 : Fin 2)).val] :=
    (k0_off1_eq k r).trans (vec3 (by have : k.val < 4 := k.isLt; have := r.isLt; show _ = 128 * (4 * k.val + r.val); omega))
  have e4 : k0_off9 k (BitVec.ofNat 32 r.val) = ![0, 0, 128 * (cF k r).val, 0] := (k0_off9_eq k r).trans (vec4 (by have : k.val < 4 := k.isLt; have := r.isLt; show _ = 128 * (4 * k.val + r.val); omega))
  have H := holds0 (View.ld x1 (Rect.unit (s := S1x2048x256) (k0_off1 k (BitVec.ofNat 32 r.val)) S1x128x128.size (k0_off1_inb k r)))
    (View.ld (qtF x0) (Rect.unit (s := S2x16x128x128) (k0_off2 k (BitVec.ofNat 32 r.val)) S1x1x128x128.size (k0_off2_inb k r)))
    (View.ld (vtF x2) (Rect.unit (s := S2x16x144x128) (k0_off12 k (BitVec.ofNat 32 r.val)) S1x1x144x128.size (k0_off12_inb k r)))
    (View.ld x4 (Rect.unit (s := S1x1x2048x128) (k0_off9 k (BitVec.ofNat 32 r.val)) S1x1x128x128.size (k0_off9_inb k r)))
    (View.ld x5 (Rect.unit (s := S1x2x16x8x128) (k0_off10 k (BitVec.ofNat 32 r.val)) S1x1x1x8x128.size (k0_off10_inb k r)))
    (View.ld (mX x0 x1 x2 x5) (Rect.unit (s := S4x16x8x128) (k0_off11 k (BitVec.ofNat 32 r.val)) S1x1x8x128.size (k0_off11_inb k r)))
    (stepAt x0 x1 x2 x5 0 0 1 (cF k r)) (Mlstm.state 127 (stepF x0 x1 x2 x5 0) (4 * k.val + r.val)).m
    (fun s r' => ld_k _ (cF k r) 0 x1 e3 _ s r')
    (fun r' t => ld_q _ (cF k r) 0 x0 (k0_off2_eq k r) _ r' t)
    (fun y t => (ld_v _ (cF k r) 0 x2 (k0_off12_eq k r) _ (row y) t).trans (vtF_row (cF k r) 0 x2 y t))
    (fun t => (ld_v _ (cF k r) 0 x2 (k0_off12_eq k r) _ 128 t).trans (vtF_one x2 0 (cF k r) t))
    (fun t => (ld_m _ (cF k r) 0 _ (k0_off11_eq k r) _ t).trans rfl)
    (fun s => ⟨(ld_c _ (cF k r) x4 e4 _ s 0).trans (hx 0 (cF k r) s 0), (ld_c _ (cF k r) x4 e4 _ s 1).trans (hx 0 (cF k r) s 1)⟩)
    (fun t => ⟨ld_r _ (cF k r) 0 x5 (k0_off10_eq k r) _ 0 t, ld_r _ (cF k r) 0 x5 (k0_off10_eq k r) _ 1 t⟩)
  rw [part0_eq]
  exact H

theorem part1_holds (k : Fin k0_t1_loop.trips) (r : Fin 4) :
    Holds (part1 x1 x4 x5 (qtF x0) (vtF x2) (mX x0 x1 x2 x5) k r) (fun s t => t ≤ s) 0 (stepB x0 x1 x2 x5 0 (4 * k.val + r.val))
      (Mlstm.state 0 (stepB x0 x1 x2 x5 0) (4 * k.val + r.val)).m := by
  rw [stepB_eq]
  have e3 : k0_off3 k (BitVec.ofNat 32 r.val) = ![0, 128 * (cB k r).val, 128 * ((0 : Fin 2)).val] :=
    (k0_off3_eq k r).trans (vec3 (by have : k.val < 4 := k.isLt; have := r.isLt; show _ = 128 * (15 - (4 * k.val + r.val)); omega))
  have e4 : k0_off13 k (BitVec.ofNat 32 r.val) = ![0, 0, 128 * (cB k r).val, 0] := (k0_off13_eq k r).trans (vec4 (by have : k.val < 4 := k.isLt; have := r.isLt; show _ = 128 * (15 - (4 * k.val + r.val)); omega))
  have H := holds1 (View.ld x1 (Rect.unit (s := S1x2048x256) (k0_off3 k (BitVec.ofNat 32 r.val)) S1x128x128.size (k0_off3_inb k r)))
    (View.ld (qtF x0) (Rect.unit (s := S2x16x128x128) (k0_off4 k (BitVec.ofNat 32 r.val)) S1x1x128x128.size (k0_off4_inb k r)))
    (View.ld (vtF x2) (Rect.unit (s := S2x16x144x128) (k0_off16 k (BitVec.ofNat 32 r.val)) S1x1x144x128.size (k0_off16_inb k r)))
    (View.ld x4 (Rect.unit (s := S1x1x2048x128) (k0_off13 k (BitVec.ofNat 32 r.val)) S1x1x128x128.size (k0_off13_inb k r)))
    (View.ld x5 (Rect.unit (s := S1x2x16x8x128) (k0_off14 k (BitVec.ofNat 32 r.val)) S1x1x1x8x128.size (k0_off14_inb k r)))
    (View.ld (mX x0 x1 x2 x5) (Rect.unit (s := S4x16x8x128) (k0_off15 k (BitVec.ofNat 32 r.val)) S1x1x8x128.size (k0_off15_inb k r)))
    (stepAt x0 x1 x2 x5 0 2 3 (cB k r)) (Mlstm.state 0 (stepB x0 x1 x2 x5 0) (4 * k.val + r.val)).m
    (fun s r' => ld_k _ (cB k r) 0 x1 e3 _ s r')
    (fun r' t => ld_q _ (cB k r) 0 x0 (k0_off4_eq k r) _ r' t)
    (fun y t => (ld_v _ (cB k r) 0 x2 (k0_off16_eq k r) _ (row y) t).trans (vtF_row (cB k r) 0 x2 y t))
    (fun t => (ld_v _ (cB k r) 0 x2 (k0_off16_eq k r) _ 128 t).trans (vtF_one x2 0 (cB k r) t))
    (fun t => (ld_m _ (cB k r) 1 _ (k0_off15_eq k r) _ t).trans (congrArg (fun z => (Mlstm.state 0 (stepB x0 x1 x2 x5 0) z).m) (by have : k.val < 4 := k.isLt; have := r.isLt; show 15 - (15 - (4 * k.val + r.val)) = _; omega)))
    (fun s => ⟨(ld_c _ (cB k r) x4 e4 _ s 2).trans (hx 0 (cB k r) s 2), (ld_c _ (cB k r) x4 e4 _ s 3).trans (hx 0 (cB k r) s 3)⟩)
    (fun t => ⟨ld_r _ (cB k r) 0 x5 (k0_off14_eq k r) _ 2 t, ld_r _ (cB k r) 0 x5 (k0_off14_eq k r) _ 3 t⟩)
  rw [part1_eq]
  exact H

theorem part2_holds (k : Fin k0_t1_loop.trips) (r : Fin 4) :
    Holds (part2 x1 x4 x5 (qtF x0) (vtF x2) (mX x0 x1 x2 x5) k r) (fun s t => s ≤ t) 127 (stepF x0 x1 x2 x5 1 (4 * k.val + r.val))
      (Mlstm.state 127 (stepF x0 x1 x2 x5 1) (4 * k.val + r.val)).m := by
  rw [stepF_eq]
  have e3 : k0_off5 k (BitVec.ofNat 32 r.val) = ![0, 128 * (cF k r).val, 128 * ((1 : Fin 2)).val] :=
    (k0_off5_eq k r).trans (vec3 (by have : k.val < 4 := k.isLt; have := r.isLt; show _ = 128 * (4 * k.val + r.val); omega))
  have e4 : k0_off9 k (BitVec.ofNat 32 r.val) = ![0, 0, 128 * (cF k r).val, 0] := (k0_off9_eq k r).trans (vec4 (by have : k.val < 4 := k.isLt; have := r.isLt; show _ = 128 * (4 * k.val + r.val); omega))
  have H := holds2 (View.ld x1 (Rect.unit (s := S1x2048x256) (k0_off5 k (BitVec.ofNat 32 r.val)) S1x128x128.size (k0_off5_inb k r)))
    (View.ld (qtF x0) (Rect.unit (s := S2x16x128x128) (k0_off6 k (BitVec.ofNat 32 r.val)) S1x1x128x128.size (k0_off6_inb k r)))
    (View.ld (vtF x2) (Rect.unit (s := S2x16x144x128) (k0_off19 k (BitVec.ofNat 32 r.val)) S1x1x144x128.size (k0_off19_inb k r)))
    (View.ld x4 (Rect.unit (s := S1x1x2048x128) (k0_off9 k (BitVec.ofNat 32 r.val)) S1x1x128x128.size (k0_off9_inb k r)))
    (View.ld x5 (Rect.unit (s := S1x2x16x8x128) (k0_off17 k (BitVec.ofNat 32 r.val)) S1x1x1x8x128.size (k0_off17_inb k r)))
    (View.ld (mX x0 x1 x2 x5) (Rect.unit (s := S4x16x8x128) (k0_off18 k (BitVec.ofNat 32 r.val)) S1x1x8x128.size (k0_off18_inb k r)))
    (stepAt x0 x1 x2 x5 1 0 1 (cF k r)) (Mlstm.state 127 (stepF x0 x1 x2 x5 1) (4 * k.val + r.val)).m
    (fun s r' => ld_k _ (cF k r) 1 x1 e3 _ s r')
    (fun r' t => ld_q _ (cF k r) 1 x0 (k0_off6_eq k r) _ r' t)
    (fun y t => (ld_v _ (cF k r) 1 x2 (k0_off19_eq k r) _ (row y) t).trans (vtF_row (cF k r) 1 x2 y t))
    (fun t => (ld_v _ (cF k r) 1 x2 (k0_off19_eq k r) _ 128 t).trans (vtF_one x2 1 (cF k r) t))
    (fun t => (ld_m _ (cF k r) 2 _ (k0_off18_eq k r) _ t).trans rfl)
    (fun s => ⟨(ld_c _ (cF k r) x4 e4 _ s 8).trans (hx 1 (cF k r) s 0), (ld_c _ (cF k r) x4 e4 _ s 9).trans (hx 1 (cF k r) s 1)⟩)
    (fun t => ⟨ld_r _ (cF k r) 1 x5 (k0_off17_eq k r) _ 0 t, ld_r _ (cF k r) 1 x5 (k0_off17_eq k r) _ 1 t⟩)
  rw [part2_eq]
  exact H

theorem part3_holds (k : Fin k0_t1_loop.trips) (r : Fin 4) :
    Holds (part3 x1 x4 x5 (qtF x0) (vtF x2) (mX x0 x1 x2 x5) k r) (fun s t => t ≤ s) 0 (stepB x0 x1 x2 x5 1 (4 * k.val + r.val))
      (Mlstm.state 0 (stepB x0 x1 x2 x5 1) (4 * k.val + r.val)).m := by
  rw [stepB_eq]
  have e3 : k0_off7 k (BitVec.ofNat 32 r.val) = ![0, 128 * (cB k r).val, 128 * ((1 : Fin 2)).val] :=
    (k0_off7_eq k r).trans (vec3 (by have : k.val < 4 := k.isLt; have := r.isLt; show _ = 128 * (15 - (4 * k.val + r.val)); omega))
  have e4 : k0_off13 k (BitVec.ofNat 32 r.val) = ![0, 0, 128 * (cB k r).val, 0] := (k0_off13_eq k r).trans (vec4 (by have : k.val < 4 := k.isLt; have := r.isLt; show _ = 128 * (15 - (4 * k.val + r.val)); omega))
  have H := holds3 (View.ld x1 (Rect.unit (s := S1x2048x256) (k0_off7 k (BitVec.ofNat 32 r.val)) S1x128x128.size (k0_off7_inb k r)))
    (View.ld (qtF x0) (Rect.unit (s := S2x16x128x128) (k0_off8 k (BitVec.ofNat 32 r.val)) S1x1x128x128.size (k0_off8_inb k r)))
    (View.ld (vtF x2) (Rect.unit (s := S2x16x144x128) (k0_off22 k (BitVec.ofNat 32 r.val)) S1x1x144x128.size (k0_off22_inb k r)))
    (View.ld x4 (Rect.unit (s := S1x1x2048x128) (k0_off13 k (BitVec.ofNat 32 r.val)) S1x1x128x128.size (k0_off13_inb k r)))
    (View.ld x5 (Rect.unit (s := S1x2x16x8x128) (k0_off20 k (BitVec.ofNat 32 r.val)) S1x1x1x8x128.size (k0_off20_inb k r)))
    (View.ld (mX x0 x1 x2 x5) (Rect.unit (s := S4x16x8x128) (k0_off21 k (BitVec.ofNat 32 r.val)) S1x1x8x128.size (k0_off21_inb k r)))
    (stepAt x0 x1 x2 x5 1 2 3 (cB k r)) (Mlstm.state 0 (stepB x0 x1 x2 x5 1) (4 * k.val + r.val)).m
    (fun s r' => ld_k _ (cB k r) 1 x1 e3 _ s r')
    (fun r' t => ld_q _ (cB k r) 1 x0 (k0_off8_eq k r) _ r' t)
    (fun y t => (ld_v _ (cB k r) 1 x2 (k0_off22_eq k r) _ (row y) t).trans (vtF_row (cB k r) 1 x2 y t))
    (fun t => (ld_v _ (cB k r) 1 x2 (k0_off22_eq k r) _ 128 t).trans (vtF_one x2 1 (cB k r) t))
    (fun t => (ld_m _ (cB k r) 3 _ (k0_off21_eq k r) _ t).trans (congrArg (fun z => (Mlstm.state 0 (stepB x0 x1 x2 x5 1) z).m) (by have : k.val < 4 := k.isLt; have := r.isLt; show 15 - (15 - (4 * k.val + r.val)) = _; omega)))
    (fun s => ⟨(ld_c _ (cB k r) x4 e4 _ s 10).trans (hx 1 (cB k r) s 2), (ld_c _ (cB k r) x4 e4 _ s 11).trans (hx 1 (cB k r) s 3)⟩)
    (fun t => ⟨ld_r _ (cB k r) 1 x5 (k0_off20_eq k r) _ 2 t, ld_r _ (cB k r) 1 x5 (k0_off20_eq k r) _ 3 t⟩)
  rw [part3_eq]
  exact H

end

end Cert.MlstmIdeal.Run

end
-- ==== Proof.MlstmLoop.lean ====
/-
  The mLSTM kernel's loop: after each trip its state array holds the recurrence's states, and all it has stored in the
  array of outputs is what the recurrence's tokens read.
-/
module

public import proofs.«01_k».proof.Proof.MlstmSteps

@[expose] public section

set_option maxRecDepth 16384

noncomputable section

namespace Cert.MlstmIdeal.Run

open Cert.MlstmIdeal Cert.MlstmIdeal.Gen Cert.MlstmIdeal.Model
open Idealize.ShloMosaic Idealize.ShloMosaic.TcCoe

/-! ### Four steps -/

section

variable {see : Fin 128 → Fin 128 → Prop} [∀ s t, Decidable (see s t)] {last : Fin 128} {p : Fin 4 → Chunk Ideal}
  {st : Nat → Mlstm.Step} {j : Nat} {C : FVec Ideal S144x128 .f32}
  (h : ∀ r : Fin 4, Holds (p r) see last (st (j + r.val)) (Mlstm.state last st (j + r.val)).m)
  (hC : Keeps C (Mlstm.state last st j))

include h hC

theorem after_keeps : ∀ n : Fin 5, Keeps (after p C n) (Mlstm.state last st (j + n.val))
  | 0 => hC
  | 1 => next_keeps (h 0) hC
  | 2 => next_keeps (h 1) (next_keeps (h 0) hC)
  | 3 => next_keeps (h 2) (next_keeps (h 1) (next_keeps (h 0) hC))
  | 4 => next_keeps (h 3) (next_keeps (h 2) (next_keeps (h 1) (next_keeps (h 0) hC)))

theorem after_out (r : Fin 4) (x t : Fin 128) : (p r).out (after p C r.castSucc) (ix2 x t)
    = Mlstm.out see (st (j + r.val)) (Mlstm.state last st (j + r.val)) t x :=
  out_apply (h r) (after_keeps h hC r.castSucc) x t

end

theorem keeps_of_eq {A B : FVec Ideal S144x128 .f32} {y : Mlstm.Carry} (h : A = B) (k : Keeps B y) : Keeps A y := h ▸ k

/-! ### The array of states -/

/-- The state of head and direction `u`. -/
def plane (a : Memref sig .tc .vmem S4x144x128 .f32) (f : BufTy.Contents (Elt Ideal) a.view.ty) (u : Fin 4) : FVec Ideal S144x128 .f32 :=
  fun z => a.view.read (Elt Ideal) f (ix3 u (z 0) (z 1))

theorem load_plane (a : Memref sig .tc .vmem S4x144x128 .f32) (f : BufTy.Contents (Elt Ideal) a.view.ty) (u : Fin 4) (inb) :
    shapeCast S144x128 (a.view.readAt (Elt Ideal) (Rect.unit (s := S4x144x128) ![u.val, 0, 0] S1x144x128.size inb).toLoadRect f)
      shapeCasts_S1x144x128_S144x128 = plane a f u := by
  funext z
  idx_vars z
  have e : ∀ Y : Vec Ideal S1x144x128 .f32, shapeCast S144x128 Y shapeCasts_S1x144x128_S144x128 (ix2 z0 z1) = Y (ix3 0 z0 z1) := by
    intro Y; pointwise
  refine (e _).trans ?_
  exact View.ld_unit_apply_of (a.view.read (Elt Ideal) f) ![u.val, 0, 0] S1x144x128.size inb (ix3 0 z0 z1) (ix3 u z0 z1) fun b => by
    match b with
    | ⟨0, _⟩ => rfl
    | ⟨1, _⟩ => exact (Nat.zero_add _).symm
    | ⟨2, _⟩ => exact (Nat.zero_add _).symm

theorem emb_plane (u : Fin 4) (inb) (x : S1x144x128.Idx) :
    (Rect.unit (s := S4x144x128) ![u.val, 0, 0] S1x144x128.size inb).emb x = ix3 u (x 1) (x 2) := by
  funext a
  apply Fin.ext
  match a with
  | ⟨0, _⟩ => show u.val + 1 * (x 0).val = u.val; have : (x 0).val < 1 := (x 0).isLt; omega
  | ⟨1, _⟩ => show 0 + 1 * (x 1).val = (x 1).val; omega
  | ⟨2, _⟩ => show 0 + 1 * (x 2).val = (x 2).val; omega

theorem cast_plane (A : FVec Ideal S144x128 .f32) (x : S1x144x128.Idx) :
    shapeCast S1x144x128 A shapeCasts_S144x128_S1x144x128 x = A (ix2 (x 1) (x 2)) := by
  idx_vars x
  show _ = A (ix2 x1 x2)
  pointwise

theorem store_planes (a : Memref sig .tc .vmem S4x144x128 .f32) (f : BufTy.Contents (Elt Ideal) a.view.ty) (A : Fin 4 → FVec Ideal S144x128 .f32) (u : Fin 4) :
    plane a (a.view.writes (Elt Ideal) f
      [(⟨Rect.unit (s := S4x144x128) ![3, 0, 0] S1x144x128.size inb_S4x144x128_S1x144x128_3_0_0, shapeCast S1x144x128 (A 3) shapeCasts_S144x128_S1x144x128⟩ : View.Piece (Elt Ideal) S4x144x128 .f32),
       ⟨Rect.unit (s := S4x144x128) ![2, 0, 0] S1x144x128.size inb_S4x144x128_S1x144x128_2_0_0, shapeCast S1x144x128 (A 2) shapeCasts_S144x128_S1x144x128⟩,
       ⟨Rect.unit (s := S4x144x128) ![1, 0, 0] S1x144x128.size inb_S4x144x128_S1x144x128_1_0_0, shapeCast S1x144x128 (A 1) shapeCasts_S144x128_S1x144x128⟩,
       ⟨Rect.unit (s := S4x144x128) ![0, 0, 0] S1x144x128.size inb_S4x144x128_S1x144x128_0_0_0, shapeCast S1x144x128 (A 0) shapeCasts_S144x128_S1x144x128⟩]) u = A u := by
  funext z
  idx_vars z
  refine read_of_pieces a f _ (fun y => A (y 0) (ix2 (y 1) (y 2))) ?_ (ix3 u z0 z1) ?_
  · simp only [List.forall_mem_cons]
    refine ⟨?_, ?_, ?_, ?_, by simp⟩
    · intro x; exact (cast_plane (A 3) x).trans (congrArg (fun y : S4x144x128.Idx => A (y 0) (ix2 (y 1) (y 2))) (emb_plane 3 inb_S4x144x128_S1x144x128_3_0_0 x)).symm
    · intro x; exact (cast_plane (A 2) x).trans (congrArg (fun y : S4x144x128.Idx => A (y 0) (ix2 (y 1) (y 2))) (emb_plane 2 inb_S4x144x128_S1x144x128_2_0_0 x)).symm
    · intro x; exact (cast_plane (A 1) x).trans (congrArg (fun y : S4x144x128.Idx => A (y 0) (ix2 (y 1) (y 2))) (emb_plane 1 inb_S4x144x128_S1x144x128_1_0_0 x)).symm
    · intro x; exact (cast_plane (A 0) x).trans (congrArg (fun y : S4x144x128.Idx => A (y 0) (ix2 (y 1) (y 2))) (emb_plane 0 inb_S4x144x128_S1x144x128_0_0_0 x)).symm
  · refine View.cover_of_tiled (_ : List (View.Piece (Elt Ideal) S4x144x128 .f32)) S1x144x128.size ?_ _
    rfl

/-! ### The array of outputs -/

section

variable (x0 x1 x2 : Vec Ideal S1x2048x256 .bf16) (x5 : Vec Ideal S1x2x16x8x128 .f32)

/-- What token `t` of chunk `c` reads at value feature `x`, in head and direction `u`. -/
def hK (u : Fin 4) (c : Fin 16) (x t : Fin 128) : EReal :=
  match u with
  | 0 => Mlstm.out (fun s t => s ≤ t) (stepF x0 x1 x2 x5 0 c.val) (Mlstm.state 127 (stepF x0 x1 x2 x5 0) c.val) t x
  | 1 => Mlstm.out (fun s t => t ≤ s) (stepB x0 x1 x2 x5 0 (15 - c.val)) (Mlstm.state 0 (stepB x0 x1 x2 x5 0) (15 - c.val)) t x
  | 2 => Mlstm.out (fun s t => s ≤ t) (stepF x0 x1 x2 x5 1 c.val) (Mlstm.state 127 (stepF x0 x1 x2 x5 1) c.val) t x
  | 3 => Mlstm.out (fun s t => t ≤ s) (stepB x0 x1 x2 x5 1 (15 - c.val)) (Mlstm.state 0 (stepB x0 x1 x2 x5 1) (15 - c.val)) t x

def hF : Vec Ideal S4x16x128x128 .f32 := fun y => hK x0 x1 x2 x5 (y 0) (y 1) (y 2) (y 3)

theorem piece_out (u : Fin 4) (c : Fin 16) (off : Fin 4 → Nat) (e : off = ![u.val, c.val, 0, 0]) (inb) (Y : FVec Ideal S128x128 .f32)
    (hY : ∀ x t : Fin 128, Y (ix2 x t) = hK x0 x1 x2 x5 u c x t) (x : S1x1x128x128.Idx) :
    shapeCast S1x1x128x128 Y shapeCasts_S128x128_S1x1x128x128 x = hF x0 x1 x2 x5 ((Rect.unit (s := S4x16x128x128) off S1x1x128x128.size inb).emb x) := by
  subst e
  have ee : (Rect.unit (s := S4x16x128x128) ![u.val, c.val, 0, 0] S1x1x128x128.size inb).emb x = ix4 u c (x 2) (x 3) := by
    funext a
    apply Fin.ext
    match a with
    | ⟨0, _⟩ => show u.val + 1 * (x 0).val = u.val; have : (x 0).val < 1 := (x 0).isLt; omega
    | ⟨1, _⟩ => show c.val + 1 * (x 1).val = c.val; have : (x 1).val < 1 := (x 1).isLt; omega
    | ⟨2, _⟩ => show 0 + 1 * (x 2).val = (x 2).val; omega
    | ⟨3, _⟩ => show 0 + 1 * (x 3).val = (x 3).val; omega
  rw [ee]
  refine Eq.trans ?_ (hY (x 2) (x 3))
  idx_vars x
  show _ = Y (ix2 x2 x3)
  pointwise

end

theorem mem_piece (u : Fin 4) (c : Fin 16) (off : Fin 4 → Nat) (e : off = ![u.val, c.val, 0, 0]) (inb) (y : S4x16x128x128.Idx)
    (hu : (y 0).val = u.val) (hc : (y 1).val = c.val) : y ∈ (Rect.unit (s := S4x16x128x128) off S1x1x128x128.size inb).set := by
  subst e
  refine Rect.mem_set_unit.2 fun a => ?_
  match a with
  | ⟨0, _⟩ => show u.val ≤ (y 0).val ∧ (y 0).val < u.val + 1; omega
  | ⟨1, _⟩ => show c.val ≤ (y 1).val ∧ (y 1).val < c.val + 1; omega
  | ⟨2, _⟩ => show 0 ≤ (y 2).val ∧ (y 2).val < 0 + 128; have : (y 2).val < 128 := (y 2).isLt; omega
  | ⟨3, _⟩ => show 0 ≤ (y 3).val ∧ (y 3).val < 0 + 128; have : (y 3).val < 128 := (y 3).isLt; omega

/-- The step at which head and direction `u` takes chunk `c`. -/
def turn (u c : Nat) : Nat := if u % 2 = 0 then c else 15 - c

/-! ### A trip -/

section Loop

variable (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1x2048x128 .f32) (harg6 : arg6.IsWhole) (arg7 : Memref sig .tc .vmem S1x2x16x8x128 .f32) (harg7 : arg7.IsWhole) (arg8 : Memref sig .tc .vmem S1x128 .f32) (harg8 : arg8.IsWhole) (arg9 : Memref sig .tc .vmem S1x2048x256 .bf16) (harg9 : arg9.IsWhole) (arg10 : Memref sig .tc .vmem S2x16x128x128 .bf16) (harg10 : arg10.IsWhole) (arg11 : Memref sig .tc .vmem S2x16x144x128 .bf16) (harg11 : arg11.IsWhole) (arg12 : Memref sig .tc .vmem S4x16x128x128 .f32) (harg12 : arg12.IsWhole) (arg13 : Memref sig .tc .vmem S4x144x128 .f32) (harg13 : arg13.IsWhole) (arg14 : Memref sig .tc .vmem S4x16x8x128 .f32) (harg14 : arg14.IsWhole) (v870 : FVec Ideal S128x128 .f32) (v872 : FVec Ideal S128x128 .f32) (v1131 : FVec Ideal S1x128 .f32) (v1133 : FVec Ideal S8x128 .f32) (v1134 : Vec Ideal S1x1x8x128 .f32) (X_arg3 : BufTy.Contents (Elt Ideal) arg3.view.ty) (X_arg6 : BufTy.Contents (Elt Ideal) arg6.view.ty) (X_arg7 : BufTy.Contents (Elt Ideal) arg7.view.ty) (X_arg10 : BufTy.Contents (Elt Ideal) arg10.view.ty) (X_arg11 : BufTy.Contents (Elt Ideal) arg11.view.ty) (X_arg14 : BufTy.Contents (Elt Ideal) arg14.view.ty) (f12 : BufTy.Contents (Elt Ideal) arg12.view.ty) (f13 : BufTy.Contents (Elt Ideal) arg13.view.ty)
  (x0 x1 x2 : Vec Ideal S1x2048x256 .bf16) (x4 : Vec Ideal S1x1x2048x128 .f32) (x5 : Vec Ideal S1x2x16x8x128 .f32)

/-- The four states after `j` steps. -/
def Kept (f : BufTy.Contents (Elt Ideal) arg13.view.ty) (j : Nat) : Prop :=
  Keeps (plane arg13 f 0) (Mlstm.state 127 (stepF x0 x1 x2 x5 0) j) ∧ Keeps (plane arg13 f 1) (Mlstm.state 0 (stepB x0 x1 x2 x5 0) j)
    ∧ Keeps (plane arg13 f 2) (Mlstm.state 127 (stepF x0 x1 x2 x5 1) j) ∧ Keeps (plane arg13 f 3) (Mlstm.state 0 (stepB x0 x1 x2 x5 1) j)

variable (E3 : arg3.view.read (Elt Ideal) X_arg3 = x1) (E6 : arg6.view.read (Elt Ideal) X_arg6 = x4) (E7 : arg7.view.read (Elt Ideal) X_arg7 = x5)
  (E10 : arg10.view.read (Elt Ideal) X_arg10 = qtF x0) (E11 : arg11.view.read (Elt Ideal) X_arg11 = vtF x2)
  (E14 : arg14.view.read (Elt Ideal) X_arg14 = mX x0 x1 x2 x5)

include E3 E6 E7 E10 E11 E14

omit E3 E6 E7 E10 E11 E14 in
theorem kept_store (j : Nat) (A0 A1 A2 A3 : FVec Ideal S144x128 .f32)
    (h0 : Keeps A0 (Mlstm.state 127 (stepF x0 x1 x2 x5 0) j)) (h1 : Keeps A1 (Mlstm.state 0 (stepB x0 x1 x2 x5 0) j))
    (h2 : Keeps A2 (Mlstm.state 127 (stepF x0 x1 x2 x5 1) j)) (h3 : Keeps A3 (Mlstm.state 0 (stepB x0 x1 x2 x5 1) j)) :
    Kept arg13 x0 x1 x2 x5 (arg13.view.writes (Elt Ideal) f13
      [(⟨Rect.unit (s := S4x144x128) ![3, 0, 0] S1x144x128.size inb_S4x144x128_S1x144x128_3_0_0, shapeCast S1x144x128 A3 shapeCasts_S144x128_S1x144x128⟩ : View.Piece (Elt Ideal) S4x144x128 .f32),
       ⟨Rect.unit (s := S4x144x128) ![2, 0, 0] S1x144x128.size inb_S4x144x128_S1x144x128_2_0_0, shapeCast S1x144x128 A2 shapeCasts_S144x128_S1x144x128⟩,
       ⟨Rect.unit (s := S4x144x128) ![1, 0, 0] S1x144x128.size inb_S4x144x128_S1x144x128_1_0_0, shapeCast S1x144x128 A1 shapeCasts_S144x128_S1x144x128⟩,
       ⟨Rect.unit (s := S4x144x128) ![0, 0, 0] S1x144x128.size inb_S4x144x128_S1x144x128_0_0_0, shapeCast S1x144x128 A0 shapeCasts_S144x128_S1x144x128⟩]) j :=
  have S := store_planes arg13 f13 ![A0, A1, A2, A3]
  ⟨keeps_of_eq (S 0) h0, keeps_of_eq (S 1) h1, keeps_of_eq (S 2) h2, keeps_of_eq (S 3) h3⟩

set_option maxHeartbeats 1000000 in
theorem trip_kept (hx : Cols x4 x5) (k : Fin k0_t1_loop.trips)
    (hf : Kept arg13 x0 x1 x2 x5 f13 (4 * k.val)) :
    Kept arg13 x0 x1 x2 x5 (arg13.view.writes (Elt Ideal) f13 ((trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 k).2.1 f12 f13)) (4 * k.val + 4) := by
  rw [trip_state, E3, E6, E7, E10, E11, E14]
  refine kept_store (h0 := ?_) (h1 := ?_) (h2 := ?_) (h3 := ?_) ..
  · exact after_keeps (part0_holds x0 x1 x2 x4 x5 hx k) (keeps_of_eq (load_plane arg13 f13 0 inb_S4x144x128_S1x144x128_0_0_0) hf.1) 4
  · exact after_keeps (part1_holds x0 x1 x2 x4 x5 hx k) (keeps_of_eq (load_plane arg13 f13 1 inb_S4x144x128_S1x144x128_1_0_0) hf.2.1) 4
  · exact after_keeps (part2_holds x0 x1 x2 x4 x5 hx k) (keeps_of_eq (load_plane arg13 f13 2 inb_S4x144x128_S1x144x128_2_0_0) hf.2.2.1) 4
  · exact after_keeps (part3_holds x0 x1 x2 x4 x5 hx k) (keeps_of_eq (load_plane arg13 f13 3 inb_S4x144x128_S1x144x128_3_0_0) hf.2.2.2) 4

set_option maxHeartbeats 2000000 in
theorem trip_pieces (hx : Cols x4 x5) (k : Fin k0_t1_loop.trips)
    (hf : Kept arg13 x0 x1 x2 x5 f13 (4 * k.val)) :
    ∀ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 k).1 f12 f13, ∀ x : p.1.shape.Idx, p.2 x = hF x0 x1 x2 x5 (p.1.emb x) := by
  have back : ∀ r : Fin 4, 15 - (cB k r).val = 4 * k.val + r.val := fun r => by
    have : k.val < 4 := k.isLt
    show 15 - (15 - (4 * k.val + r.val)) = _
    omega
  rw [trip_out, E3, E6, E7, E10, E11, E14]
  have O0 : ∀ (r : Fin 4) (C : FVec Ideal S144x128 .f32) (_ : C = plane arg13 f13 0) (x t : Fin 128),
      (part0 x1 x4 x5 (qtF x0) (vtF x2) (mX x0 x1 x2 x5) k r).out (after (part0 x1 x4 x5 (qtF x0) (vtF x2) (mX x0 x1 x2 x5) k) C r.castSucc) (ix2 x t) = hK x0 x1 x2 x5 0 (cF k r) x t := by
    intro r C hC x t
    subst hC
    refine (after_out (part0_holds x0 x1 x2 x4 x5 hx k) hf.1 r x t).trans ?_
    rfl
  have O1 : ∀ (r : Fin 4) (C : FVec Ideal S144x128 .f32) (_ : C = plane arg13 f13 1) (x t : Fin 128),
      (part1 x1 x4 x5 (qtF x0) (vtF x2) (mX x0 x1 x2 x5) k r).out (after (part1 x1 x4 x5 (qtF x0) (vtF x2) (mX x0 x1 x2 x5) k) C r.castSucc) (ix2 x t) = hK x0 x1 x2 x5 1 (cB k r) x t := by
    intro r C hC x t
    subst hC
    refine (after_out (part1_holds x0 x1 x2 x4 x5 hx k) hf.2.1 r x t).trans ?_
    show _ = Mlstm.out (fun s t => t ≤ s) (stepB x0 x1 x2 x5 0 (15 - (cB k r).val)) (Mlstm.state 0 (stepB x0 x1 x2 x5 0) (15 - (cB k r).val)) t x
    rw [back]
  have O2 : ∀ (r : Fin 4) (C : FVec Ideal S144x128 .f32) (_ : C = plane arg13 f13 2) (x t : Fin 128),
      (part2 x1 x4 x5 (qtF x0) (vtF x2) (mX x0 x1 x2 x5) k r).out (after (part2 x1 x4 x5 (qtF x0) (vtF x2) (mX x0 x1 x2 x5) k) C r.castSucc) (ix2 x t) = hK x0 x1 x2 x5 2 (cF k r) x t := by
    intro r C hC x t
    subst hC
    refine (after_out (part2_holds x0 x1 x2 x4 x5 hx k) hf.2.2.1 r x t).trans ?_
    rfl
  have O3 : ∀ (r : Fin 4) (C : FVec Ideal S144x128 .f32) (_ : C = plane arg13 f13 3) (x t : Fin 128),
      (part3 x1 x4 x5 (qtF x0) (vtF x2) (mX x0 x1 x2 x5) k r).out (after (part3 x1 x4 x5 (qtF x0) (vtF x2) (mX x0 x1 x2 x5) k) C r.castSucc) (ix2 x t) = hK x0 x1 x2 x5 3 (cB k r) x t := by
    intro r C hC x t
    subst hC
    refine (after_out (part3_holds x0 x1 x2 x4 x5 hx k) hf.2.2.2 r x t).trans ?_
    show _ = Mlstm.out (fun s t => t ≤ s) (stepB x0 x1 x2 x5 1 (15 - (cB k r).val)) (Mlstm.state 0 (stepB x0 x1 x2 x5 1) (15 - (cB k r).val)) t x
    rw [back]
  simp only [List.forall_mem_cons]
  refine ⟨?_, ?_, ?_, ?_, ?_, ?_, ?_, ?_, ?_, ?_, ?_, ?_, ?_, ?_, ?_, ?_, by simp⟩
  · exact fun x => piece_out x0 x1 x2 x5 3 (cB k 3) _ (k0_off26_eq k 3) (k0_off26_inb k 3) _ (O3 3 _ (load_plane arg13 f13 3 inb_S4x144x128_S1x144x128_3_0_0)) x
  · exact fun x => piece_out x0 x1 x2 x5 2 (cF k 3) _ (k0_off25_eq k 3) (k0_off25_inb k 3) _ (O2 3 _ (load_plane arg13 f13 2 inb_S4x144x128_S1x144x128_2_0_0)) x
  · exact fun x => piece_out x0 x1 x2 x5 1 (cB k 3) _ (k0_off24_eq k 3) (k0_off24_inb k 3) _ (O1 3 _ (load_plane arg13 f13 1 inb_S4x144x128_S1x144x128_1_0_0)) x
  · exact fun x => piece_out x0 x1 x2 x5 0 (cF k 3) _ (k0_off23_eq k 3) (k0_off23_inb k 3) _ (O0 3 _ (load_plane arg13 f13 0 inb_S4x144x128_S1x144x128_0_0_0)) x
  · exact fun x => piece_out x0 x1 x2 x5 3 (cB k 2) _ (k0_off26_eq k 2) (k0_off26_inb k 2) _ (O3 2 _ (load_plane arg13 f13 3 inb_S4x144x128_S1x144x128_3_0_0)) x
  · exact fun x => piece_out x0 x1 x2 x5 2 (cF k 2) _ (k0_off25_eq k 2) (k0_off25_inb k 2) _ (O2 2 _ (load_plane arg13 f13 2 inb_S4x144x128_S1x144x128_2_0_0)) x
  · exact fun x => piece_out x0 x1 x2 x5 1 (cB k 2) _ (k0_off24_eq k 2) (k0_off24_inb k 2) _ (O1 2 _ (load_plane arg13 f13 1 inb_S4x144x128_S1x144x128_1_0_0)) x
  · exact fun x => piece_out x0 x1 x2 x5 0 (cF k 2) _ (k0_off23_eq k 2) (k0_off23_inb k 2) _ (O0 2 _ (load_plane arg13 f13 0 inb_S4x144x128_S1x144x128_0_0_0)) x
  · exact fun x => piece_out x0 x1 x2 x5 3 (cB k 1) _ (k0_off26_eq k 1) (k0_off26_inb k 1) _ (O3 1 _ (load_plane arg13 f13 3 inb_S4x144x128_S1x144x128_3_0_0)) x
  · exact fun x => piece_out x0 x1 x2 x5 2 (cF k 1) _ (k0_off25_eq k 1) (k0_off25_inb k 1) _ (O2 1 _ (load_plane arg13 f13 2 inb_S4x144x128_S1x144x128_2_0_0)) x
  · exact fun x => piece_out x0 x1 x2 x5 1 (cB k 1) _ (k0_off24_eq k 1) (k0_off24_inb k 1) _ (O1 1 _ (load_plane arg13 f13 1 inb_S4x144x128_S1x144x128_1_0_0)) x
  · exact fun x => piece_out x0 x1 x2 x5 0 (cF k 1) _ (k0_off23_eq k 1) (k0_off23_inb k 1) _ (O0 1 _ (load_plane arg13 f13 0 inb_S4x144x128_S1x144x128_0_0_0)) x
  · exact fun x => piece_out x0 x1 x2 x5 3 (cB k 0) _ (k0_off26_eq k 0) (k0_off26_inb k 0) _ (O3 0 _ (load_plane arg13 f13 3 inb_S4x144x128_S1x144x128_3_0_0)) x
  · exact fun x => piece_out x0 x1 x2 x5 2 (cF k 0) _ (k0_off25_eq k 0) (k0_off25_inb k 0) _ (O2 0 _ (load_plane arg13 f13 2 inb_S4x144x128_S1x144x128_2_0_0)) x
  · exact fun x => piece_out x0 x1 x2 x5 1 (cB k 0) _ (k0_off24_eq k 0) (k0_off24_inb k 0) _ (O1 0 _ (load_plane arg13 f13 1 inb_S4x144x128_S1x144x128_1_0_0)) x
  · exact fun x => piece_out x0 x1 x2 x5 0 (cF k 0) _ (k0_off23_eq k 0) (k0_off23_inb k 0) _ (O0 0 _ (load_plane arg13 f13 0 inb_S4x144x128_S1x144x128_0_0_0)) x

omit E3 E6 E7 E10 E11 E14 in
theorem trip_cover (k : Fin k0_t1_loop.trips) (y : S4x16x128x128.Idx) (h0 : 4 * k.val ≤ turn (y 0).val (y 1).val)
    (h1 : turn (y 0).val (y 1).val < 4 * k.val + 4) : ∃ p ∈ (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 k).1 f12 f13, y ∈ p.1.set := by
  rw [trip_out]
  have hk : k.val < 4 := k.isLt
  have hu : (y 0).val < 4 := (y 0).isLt
  have hc : (y 1).val < 16 := (y 1).isLt
  have hu' : (y 0).val = 0 ∨ (y 0).val = 1 ∨ (y 0).val = 2 ∨ (y 0).val = 3 := by omega
  have hr : turn (y 0).val (y 1).val = 4 * k.val + 0 ∨ turn (y 0).val (y 1).val = 4 * k.val + 1
      ∨ turn (y 0).val (y 1).val = 4 * k.val + 2 ∨ turn (y 0).val (y 1).val = 4 * k.val + 3 := by omega
  rcases hu' with e | e | e | e <;> rw [e] at hr h0 h1 <;> simp only [turn] at hr h0 h1 <;> norm_num at hr h0 h1
  · rcases hr with h | h | h | h
    · exact ⟨_, .tail _ (.tail _ (.tail _ (.tail _ (.tail _ (.tail _ (.tail _ (.tail _ (.tail _ (.tail _ (.tail _ (.tail _ (.tail _ (.tail _ (.tail _ (.head _))))))))))))))), mem_piece 0 (cF k 0) _ (k0_off23_eq k 0) (k0_off23_inb k 0) y e (by show _ = 4 * k.val + 0; omega)⟩
    · exact ⟨_, .tail _ (.tail _ (.tail _ (.tail _ (.tail _ (.tail _ (.tail _ (.tail _ (.tail _ (.tail _ (.tail _ (.head _))))))))))), mem_piece 0 (cF k 1) _ (k0_off23_eq k 1) (k0_off23_inb k 1) y e (by show _ = 4 * k.val + 1; omega)⟩
    · exact ⟨_, .tail _ (.tail _ (.tail _ (.tail _ (.tail _ (.tail _ (.tail _ (.head _))))))), mem_piece 0 (cF k 2) _ (k0_off23_eq k 2) (k0_off23_inb k 2) y e (by show _ = 4 * k.val + 2; omega)⟩
    · exact ⟨_, .tail _ (.tail _ (.tail _ (.head _))), mem_piece 0 (cF k 3) _ (k0_off23_eq k 3) (k0_off23_inb k 3) y e (by show _ = 4 * k.val + 3; omega)⟩
  · rcases hr with h | h | h | h
    · exact ⟨_, .tail _ (.tail _ (.tail _ (.tail _ (.tail _ (.tail _ (.tail _ (.tail _ (.tail _ (.tail _ (.tail _ (.tail _ (.tail _ (.tail _ (.head _)))))))))))))), mem_piece 1 (cB k 0) _ (k0_off24_eq k 0) (k0_off24_inb k 0) y e (by show _ = 15 - (4 * k.val + 0); omega)⟩
    · exact ⟨_, .tail _ (.tail _ (.tail _ (.tail _ (.tail _ (.tail _ (.tail _ (.tail _ (.tail _ (.tail _ (.head _)))))))))), mem_piece 1 (cB k 1) _ (k0_off24_eq k 1) (k0_off24_inb k 1) y e (by show _ = 15 - (4 * k.val + 1); omega)⟩
    · exact ⟨_, .tail _ (.tail _ (.tail _ (.tail _ (.tail _ (.tail _ (.head _)))))), mem_piece 1 (cB k 2) _ (k0_off24_eq k 2) (k0_off24_inb k 2) y e (by show _ = 15 - (4 * k.val + 2); omega)⟩
    · exact ⟨_, .tail _ (.tail _ (.head _)), mem_piece 1 (cB k 3) _ (k0_off24_eq k 3) (k0_off24_inb k 3) y e (by show _ = 15 - (4 * k.val + 3); omega)⟩
  · rcases hr with h | h | h | h
    · exact ⟨_, .tail _ (.tail _ (.tail _ (.tail _ (.tail _ (.tail _ (.tail _ (.tail _ (.tail _ (.tail _ (.tail _ (.tail _ (.tail _ (.head _))))))))))))), mem_piece 2 (cF k 0) _ (k0_off25_eq k 0) (k0_off25_inb k 0) y e (by show _ = 4 * k.val + 0; omega)⟩
    · exact ⟨_, .tail _ (.tail _ (.tail _ (.tail _ (.tail _ (.tail _ (.tail _ (.tail _ (.tail _ (.head _))))))))), mem_piece 2 (cF k 1) _ (k0_off25_eq k 1) (k0_off25_inb k 1) y e (by show _ = 4 * k.val + 1; omega)⟩
    · exact ⟨_, .tail _ (.tail _ (.tail _ (.tail _ (.tail _ (.head _))))), mem_piece 2 (cF k 2) _ (k0_off25_eq k 2) (k0_off25_inb k 2) y e (by show _ = 4 * k.val + 2; omega)⟩
    · exact ⟨_, .tail _ (.head _), mem_piece 2 (cF k 3) _ (k0_off25_eq k 3) (k0_off25_inb k 3) y e (by show _ = 4 * k.val + 3; omega)⟩
  · rcases hr with h | h | h | h
    · exact ⟨_, .tail _ (.tail _ (.tail _ (.tail _ (.tail _ (.tail _ (.tail _ (.tail _ (.tail _ (.tail _ (.tail _ (.tail _ (.head _)))))))))))), mem_piece 3 (cB k 0) _ (k0_off26_eq k 0) (k0_off26_inb k 0) y e (by show _ = 15 - (4 * k.val + 0); omega)⟩
    · exact ⟨_, .tail _ (.tail _ (.tail _ (.tail _ (.tail _ (.tail _ (.tail _ (.tail _ (.head _)))))))), mem_piece 3 (cB k 1) _ (k0_off26_eq k 1) (k0_off26_inb k 1) y e (by show _ = 15 - (4 * k.val + 1); omega)⟩
    · exact ⟨_, .tail _ (.tail _ (.tail _ (.tail _ (.head _)))), mem_piece 3 (cB k 2) _ (k0_off26_eq k 2) (k0_off26_inb k 2) y e (by show _ = 15 - (4 * k.val + 2); omega)⟩
    · exact ⟨_, .head _, mem_piece 3 (cB k 3) _ (k0_off26_eq k 3) (k0_off26_inb k 3) y e (by show _ = 15 - (4 * k.val + 3); omega)⟩

/-! ### The loop -/

theorem loop_inv (hx : Cols x4 x5)
    (hf : Kept arg13 x0 x1 x2 x5 f13 0) (n : Nat) (hn : n ≤ 4) :
    Kept arg13 x0 x1 x2 x5 (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 n).2) (4 * n)
      ∧ (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 n).1, ∀ x : p.1.shape.Idx, p.2 x = hF x0 x1 x2 x5 (p.1.emb x))
      ∧ ∀ y : S4x16x128x128.Idx, turn (y 0).val (y 1).val < 4 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 n).1, y ∈ p.1.set := by
  induction n with
  | zero => exact ⟨hf, fun p hp => absurd hp (by simp [pb_k0_t1]), fun y h => absurd h (by omega)⟩
  | succ n ih =>
    obtain ⟨h1, h2, h3⟩ := ih (by omega)
    have hk : n < k0_t1_loop.trips := by show n < 4; omega
    have e := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 ⟨n, hk⟩
    simp only at e
    rw [e]
    refine ⟨?_, ?_, ?_⟩
    · rw [View.writes_append]
      exact trip_kept c i arg2 harg2 arg3 harg3 arg4 harg4 arg5 harg5 arg6 harg6 arg7 harg7 arg8 harg8 arg9 harg9 arg10 harg10 arg11 harg11 arg12 harg12 arg13 harg13 arg14 harg14 v870 v872 v1131 v1133 v1134 X_arg3 X_arg6 X_arg7 X_arg10 X_arg11 X_arg14 _ _ x0 x1 x2 x4 x5 E3 E6 E7 E10 E11 E14 hx ⟨n, hk⟩ h1
    · intro p hp
      rcases List.mem_append.1 hp with hp | hp
      · exact trip_pieces c i arg2 harg2 arg3 harg3 arg4 harg4 arg5 harg5 arg6 harg6 arg7 harg7 arg8 harg8 arg9 harg9 arg10 harg10 arg11 harg11 arg12 harg12 arg13 harg13 arg14 harg14 v870 v872 v1131 v1133 v1134 X_arg3 X_arg6 X_arg7 X_arg10 X_arg11 X_arg14 _ _ x0 x1 x2 x4 x5 E3 E6 E7 E10 E11 E14 hx ⟨n, hk⟩ h1 p hp
      · exact h2 p hp
    · intro y hy
      by_cases hlt : turn (y 0).val (y 1).val < 4 * n
      · obtain ⟨p, hp, hm⟩ := h3 y hlt
        exact ⟨p, List.mem_append_right _ hp, hm⟩
      · obtain ⟨p, hp, hm⟩ := trip_cover c i arg2 harg2 arg3 harg3 arg4 harg4 arg5 harg5 arg6 harg6 arg7 harg7 arg8 harg8 arg9 harg9 arg10 harg10 arg11 harg11 arg12 harg12 arg13 harg13 arg14 harg14 v870 v872 v1131 v1133 v1134 X_arg3 X_arg6 X_arg7 X_arg10 X_arg11 X_arg14 (arg12.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 n).1) (arg13.view.writes (Elt Ideal) f13 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 n).2) ⟨n, hk⟩ y (by show 4 * n ≤ _; omega) (by show _ < 4 * n + 4; omega)
        exact ⟨p, List.mem_append_left _ hp, hm⟩

/-- The array of outputs after the loop. -/
theorem loop_out (hx : Cols x4 x5)
    (hf : Kept arg13 x0 x1 x2 x5 f13 0) :
    arg12.view.read (Elt Ideal) (arg12.view.writes (Elt Ideal) f12 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 pos0 pos1 v870 v872 v1131 v1133 v1134 X_arg3 X_arg6 X_arg7 X_arg10 X_arg11 X_arg14 f12 f13 4).1) = hF x0 x1 x2 x5 := by
  obtain ⟨-, h2, h3⟩ := loop_inv c i arg2 harg2 arg3 harg3 arg4 harg4 arg5 harg5 arg6 harg6 arg7 harg7 arg8 harg8 arg9 harg9 arg10 harg10 arg11 harg11 arg12 harg12 arg13 harg13 arg14 harg14 v870 v872 v1131 v1133 v1134 X_arg3 X_arg6 X_arg7 X_arg10 X_arg11 X_arg14 f12 f13 x0 x1 x2 x4 x5 E3 E6 E7 E10 E11 E14 hx hf 4 (by omega)
  funext y
  refine read_of_pieces arg12 f12 _ (hF x0 x1 x2 x5) h2 y (h3 y ?_)
  have hu : (y 0).val < 4 := (y 0).isLt
  have hc : (y 1).val < 16 := (y 1).isLt
  unfold turn
  split <;> omega

end Loop

end Cert.MlstmIdeal.Run

end
-- ==== Proof.MlstmOut.lean ====
/-
  The end of the mLSTM kernel's body: the two directions' outputs summed, the rms norm over the head's features, and the
  output gate, chunk by chunk and head by head.
-/
module

public import proofs.«01_k».proof.Proof.MlstmScratch

@[expose] public section

set_option maxRecDepth 16384

noncomputable section

namespace Cert.MlstmIdeal.Run

open Cert.MlstmIdeal Cert.MlstmIdeal.Gen
open Idealize.ShloMosaic Idealize.ShloMosaic.TcCoe

/-- The two directions' sum over one chunk, normed, times the weight, gated. -/
def gated (S : Fin 128 → EReal) (w o : EReal) (x : Fin 128) : EReal :=
  S x * Ideal.rsqrt (Ideal.div (∑ r, S r * S r) (Ideal.ofBits .f32 0x43000000#32) + Ideal.ofBits .f32 0x358637BD#32) * w
    * Ideal.div 1 (1 + Ideal.exp (-o))

/-- The stores' payload, as the body computes it for its first chunk. -/
def epi {F : FTy → Type} [FloatOps F] (a b : Vec F S1x1x128x128 .f32) (og : Vec F S1x128x128 .bf16) (w : Vec F S1x128 .f32) : FVec F S1x128x128 .bf16 :=
  k0_pay595 (k0_pay593 a b) (k0_pay594 a b) og w

theorem epi_apply (a b : Vec Ideal S1x1x128x128 .f32) (og : Vec Ideal S1x128x128 .bf16) (w : Vec Ideal S1x128 .f32) (t x : Fin 128) :
    epi a b og w (ix3 0 t x) = gated (fun r => a (ix4 0 0 r t) + b (ix4 0 0 r t)) (w (ix2 0 x)) (og (ix3 0 t x)) x := by
  unfold gated
  pointwise [epi, k0_pay595, k0_pay593, k0_pay594]
  rw [zero_sub]

section

variable {F : FTy → Type} [FloatOps F] (a b : Vec F S1x1x128x128 .f32) (og : Vec F S1x128x128 .bf16) (w : Vec F S1x128 .f32)

theorem epi_1_15 : k0_pay1 (k0_pay671 a b) (k0_pay672 a b) og w = epi a b og w := rfl
theorem epi_1_14 : k0_pay670 (k0_pay668 a b) (k0_pay669 a b) og w = epi a b og w := rfl
theorem epi_1_13 : k0_pay667 (k0_pay665 a) (k0_pay666 b) og w = epi a b og w := rfl
theorem epi_1_12 : k0_pay664 (k0_pay663 a) b og w = epi a b og w := rfl
theorem epi_1_11 : k0_pay662 (k0_pay661 a) b og w = epi a b og w := rfl
theorem epi_1_10 : k0_pay660 (k0_pay659 a) b og w = epi a b og w := rfl
theorem epi_1_9 : k0_pay658 a b og w = epi a b og w := rfl
theorem epi_1_8 : k0_pay657 a b og w = epi a b og w := rfl
theorem epi_1_7 : k0_pay656 a b og w = epi a b og w := rfl
theorem epi_1_6 : k0_pay655 a b og w = epi a b og w := rfl
theorem epi_1_5 : k0_pay654 (k0_pay653 a b og w) = epi a b og w := rfl
theorem epi_1_4 : k0_pay652 (k0_pay651 a b og w) = epi a b og w := rfl
theorem epi_1_3 : k0_pay650 (k0_pay649 a b og w) = epi a b og w := rfl
theorem epi_1_2 : k0_pay648 (k0_pay647 a b og w) = epi a b og w := rfl
theorem epi_1_1 : k0_pay646 (k0_pay643 a b w) (k0_pay644 og) k0_pay645 = epi a b og w := rfl
theorem epi_1_0 : k0_pay642 (k0_pay640 a b w) (k0_pay641 og) = epi a b og w := rfl
theorem epi_0_15 : k0_pay639 (k0_pay637 a b w) (k0_pay638 og) (FloatOps.ofBits FTy.f32 1065353216#32) = epi a b og w := rfl
theorem epi_0_14 : k0_pay636 (k0_pay634 a b w) (k0_pay635 og) = epi a b og w := rfl
theorem epi_0_13 : k0_pay633 (k0_pay631 og) (k0_pay632 a b w) (FloatOps.ofBits FTy.f32 0#32) = epi a b og w := rfl
theorem epi_0_12 : k0_pay630 (k0_pay627 og) (k0_pay628 a b) (k0_pay629 w) = epi a b og w := rfl
theorem epi_0_11 : k0_pay626 (k0_pay624 og) (k0_pay625 a b) w = epi a b og w := rfl
theorem epi_0_10 : k0_pay623 (k0_pay621 og) (k0_pay622 a b) w = epi a b og w := rfl
theorem epi_0_9 : k0_pay620 (k0_pay618 a b) (k0_pay619 og) w = epi a b og w := rfl
theorem epi_0_8 : k0_pay617 (k0_pay616 a b) og w = epi a b og w := rfl
theorem epi_0_7 : k0_pay615 (k0_pay614 a b) og w = epi a b og w := rfl
theorem epi_0_6 : k0_pay613 (k0_pay612 a b) og w = epi a b og w := rfl
theorem epi_0_5 : k0_pay611 (k0_pay609 a b) (k0_pay610 a b) og w = epi a b og w := rfl
theorem epi_0_4 : k0_pay608 (k0_pay605 a b) (k0_pay606 a b) k0_pay607 og w = epi a b og w := rfl
theorem epi_0_3 : k0_pay604 (k0_pay602 a b) (k0_pay603 a b) og w = epi a b og w := rfl
theorem epi_0_2 : k0_pay601 (k0_pay599 a b) (k0_pay600 a b) (FloatOps.ofBits FTy.f32 1124073472#32) og w = epi a b og w := rfl
theorem epi_0_1 : k0_pay598 (k0_pay596 a b) (k0_pay597 a b) og w = epi a b og w := rfl
theorem epi_0_0 : k0_pay595 (k0_pay593 a b) (k0_pay594 a b) og w = epi a b og w := rfl

end

section

variable (G : Vec Ideal S4x16x128x128 .f32) (x3 : Vec Ideal S1x2048x256 .bf16) (x6 : Vec Ideal S1x128 .f32)

/-- Head and direction. -/
def fwd (h : Fin 2) : Fin 4 := ⟨2 * h.val, by omega⟩
def bwd (h : Fin 2) : Fin 4 := ⟨2 * h.val + 1, by omega⟩

def oK (h : Fin 2) (c : Fin 16) (t x : Fin 128) : EReal :=
  gated (fun r => G (ix4 (fwd h) c r t) + G (ix4 (bwd h) c r t)) (x6 (ix2 0 x)) (x3 (ix3 0 (tok c t) (feat h x))) x

def headOf (k : Fin 256) : Fin 2 := ⟨k.val / 128, by omega⟩
def featOf (k : Fin 256) : Fin 128 := ⟨k.val % 128, by omega⟩
def chunkOf (s : Fin 2048) : Fin 16 := ⟨s.val / 128, by omega⟩
def tokOf (s : Fin 2048) : Fin 128 := ⟨s.val % 128, by omega⟩

/-- The output block. -/
def oF : Vec Ideal S1x2048x256 .bf16 := fun y => oK G x3 x6 (headOf (y 2)) (chunkOf (y 1)) (tokOf (y 1)) (featOf (y 2))

theorem oF_apply (h : Fin 2) (c : Fin 16) (t x : Fin 128) : oF G x3 x6 (ix3 0 (tok c t) (feat h x)) = oK G x3 x6 h c t x := by
  have e1 : headOf (feat h x) = h := Fin.ext (by show (128 * h.val + x.val) / 128 = h.val; omega)
  have e2 : featOf (feat h x) = x := Fin.ext (by show (128 * h.val + x.val) % 128 = x.val; omega)
  have e3 : chunkOf (tok c t) = c := Fin.ext (by show (128 * c.val + t.val) / 128 = c.val; omega)
  have e4 : tokOf (tok c t) = t := Fin.ext (by show (128 * c.val + t.val) % 128 = t.val; omega)
  show oK G x3 x6 (headOf (feat h x)) (chunkOf (tok c t)) (tokOf (tok c t)) (featOf (feat h x)) = _
  rw [e1, e2, e3, e4]

theorem emb_out (h : Fin 2) (c : Fin 16) (inb) (x : S1x128x128.Idx) :
    (Rect.unit (s := S1x2048x256) ![0, 128 * c.val, 128 * h.val] S1x128x128.size inb).emb x = ix3 0 (tok c (x 1)) (feat h (x 2)) := by
  funext a
  apply Fin.ext
  match a with
  | ⟨0, _⟩ => show 0 + 1 * (x 0).val = 0; have : (x 0).val < 1 := (x 0).isLt; omega
  | ⟨1, _⟩ => show 128 * c.val + 1 * (x 1).val = 128 * c.val + (x 1).val; omega
  | ⟨2, _⟩ => show 128 * h.val + 1 * (x 2).val = 128 * h.val + (x 2).val; omega

theorem epi_piece (arg12 : Memref sig .tc .vmem S4x16x128x128 .f32) (arg5 : Memref sig .tc .vmem S1x2048x256 .bf16) (harg5 : arg5.IsWhole)
    (arg8 : Memref sig .tc .vmem S1x128 .f32) (harg8 : arg8.IsWhole) (f : BufTy.Contents (Elt Ideal) arg12.view.ty)
    (hf : arg12.view.read (Elt Ideal) f = G) (h : Fin 2) (c : Fin 16) (i1 i2 i3 i4) (x : S1x128x128.Idx) :
    epi (arg12.view.readAt (Elt Ideal) (Rect.unit (s := S4x16x128x128) ![2 * h.val, c.val, 0, 0] S1x1x128x128.size i1).toLoadRect f)
      (arg12.view.readAt (Elt Ideal) (Rect.unit (s := S4x16x128x128) ![2 * h.val + 1, c.val, 0, 0] S1x1x128x128.size i2).toLoadRect f)
      (arg5.view.readAt (Elt Ideal) (Rect.unit (s := S1x2048x256) ![0, 128 * c.val, 128 * h.val] S1x128x128.size i3).toLoadRect (harg5.unread x3))
      (arg8.view.readAt (Elt Ideal) (Rect.unit (s := S1x128) ![0, 0] S1x128.size i4).toLoadRect (harg8.unread x6)) x
      = oF G x3 x6 ((Rect.unit (s := S1x2048x256) ![0, 128 * c.val, 128 * h.val] S1x128x128.size i3).emb x) := by
  subst hf
  have e5 := harg5.read_unread x3
  have e8 := harg8.read_unread x6
  idx_vars x
  obtain rfl : x0 = 0 := Fin.ext (by omega)
  refine Eq.trans ?_ ((congrArg (oF (arg12.view.read (Elt Ideal) f) x3 x6) (emb_out h c i3 (ix3 0 x1 x2))).trans (oF_apply _ x3 x6 h c x1 x2)).symm
  refine (epi_apply _ _ _ _ x1 x2).trans ?_
  have a1 : ∀ r : Fin 128, arg12.view.readAt (Elt Ideal) (Rect.unit (s := S4x16x128x128) ![2 * h.val, c.val, 0, 0] S1x1x128x128.size i1).toLoadRect f (ix4 0 0 r x1)
      = arg12.view.read (Elt Ideal) f (ix4 (fwd h) c r x1) := fun r =>
    View.ld_unit_apply_of (arg12.view.read (Elt Ideal) f) _ _ i1 _ _ fun a => by
      match a with
      | ⟨0, _⟩ => rfl
      | ⟨1, _⟩ => rfl
      | ⟨2, _⟩ => exact (Nat.zero_add _).symm
      | ⟨3, _⟩ => exact (Nat.zero_add _).symm
  have a2 : ∀ r : Fin 128, arg12.view.readAt (Elt Ideal) (Rect.unit (s := S4x16x128x128) ![2 * h.val + 1, c.val, 0, 0] S1x1x128x128.size i2).toLoadRect f (ix4 0 0 r x1)
      = arg12.view.read (Elt Ideal) f (ix4 (bwd h) c r x1) := fun r =>
    View.ld_unit_apply_of (arg12.view.read (Elt Ideal) f) _ _ i2 _ _ fun a => by
      match a with
      | ⟨0, _⟩ => rfl
      | ⟨1, _⟩ => rfl
      | ⟨2, _⟩ => exact (Nat.zero_add _).symm
      | ⟨3, _⟩ => exact (Nat.zero_add _).symm
  have a3 : arg5.view.readAt (Elt Ideal) (Rect.unit (s := S1x2048x256) ![0, 128 * c.val, 128 * h.val] S1x128x128.size i3).toLoadRect (harg5.unread x3) (ix3 0 x1 x2)
      = x3 (ix3 0 (tok c x1) (feat h x2)) := by
    refine (View.ld_unit_apply_of (arg5.view.read (Elt Ideal) (harg5.unread x3)) _ _ i3 _ (ix3 0 (tok c x1) (feat h x2)) fun a => ?_).trans (congrFun e5 _)
    match a with
    | ⟨0, _⟩ => rfl
    | ⟨1, _⟩ => rfl
    | ⟨2, _⟩ => rfl
  have a4 : arg8.view.readAt (Elt Ideal) (Rect.unit (s := S1x128) ![0, 0] S1x128.size i4).toLoadRect (harg8.unread x6) (ix2 0 x2)
      = x6 (ix2 0 x2) := by
    refine (View.ld_unit_apply_of (arg8.view.read (Elt Ideal) (harg8.unread x6)) _ _ i4 _ (ix2 0 x2) fun a => ?_).trans (congrFun e8 _)
    match a with
    | ⟨0, _⟩ => rfl
    | ⟨1, _⟩ => exact (Nat.zero_add _).symm
  unfold oK
  rw [a3, a4]
  exact congrArg (fun S => gated S (x6 (ix2 0 x2)) (x3 (ix3 0 (tok c x1) (feat h x2))) x2) (funext fun r => congrArg₂ (· + ·) (a1 r) (a2 r))

end

end Cert.MlstmIdeal.Run

end
-- ==== Proof.MlstmBody.lean ====
/-
  One call of the mLSTM kernel's body: what it leaves in the output block.
-/
module

public import proofs.«01_k».proof.Proof.MlstmMax
public import proofs.«01_k».proof.Proof.MlstmLoop
public import proofs.«01_k».proof.Proof.MlstmOut

@[expose] public section

set_option maxRecDepth 65536

noncomputable section

namespace Cert.MlstmIdeal.Run

open Cert.MlstmIdeal Cert.MlstmIdeal.Gen
open Idealize.ShloMosaic Idealize.ShloMosaic.Tactic

theorem zero_state (arg13 : Memref sig .tc .vmem S4x144x128 .f32) (f : BufTy.Contents (Elt Ideal) arg13.view.ty)
    (x0 x1 x2 : Vec Ideal S1x2048x256 .bf16) (x5 : Vec Ideal S1x2x16x8x128 .f32) :
    Kept arg13 x0 x1 x2 x5 (arg13.view.writes (Elt Ideal) f (bodyRun.sl.HS3_1 (F := Ideal))) 0 := by
  have e : arg13.view.read (Elt Ideal) (arg13.view.writes (Elt Ideal) f (bodyRun.sl.HS3_1 (F := Ideal))) = k0_pay591 (F := Ideal) := by
    unfold bodyRun.sl.HS3_1
    have h : (![0, 0, 0] : Fin 3 → Nat) = fun _ => 0 := funext fun a => by fin_cases a <;> rfl
    rw [View.read_writes_eq_canon _ _ _ fun y => ⟨_, List.mem_singleton.mpr rfl, View.mem_set_unit_zero h inb_S4x144x128_S4x144x128_0_0_0 y⟩, View.canon_unit_zero h]
  have z : ∀ (u : Fin 4) (r : Fin 144) (s : Fin 128), plane arg13 (arg13.view.writes (Elt Ideal) f (bodyRun.sl.HS3_1 (F := Ideal))) u (ix2 r s) = 0 := by
    intro u r s
    unfold plane
    rw [e]
    show k0_pay591 (F := Ideal) (ix3 u r s) = 0
    pointwise [k0_pay591]
  refine ⟨?_, ?_, ?_, ?_⟩ <;> exact ⟨fun x r => z _ _ _, fun r => z _ _ _⟩

set_option maxHeartbeats 8000000 in
/-- The output block after one call of the body. -/
theorem body_out (c : Dev nD) (i : grid0.Coords) (arg2 : Memref sig .tc .vmem S1x2048x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x1x2048x128 .f32) (harg6 : arg6.IsWhole) (arg7 : Memref sig .tc .vmem S1x2x16x8x128 .f32) (harg7 : arg7.IsWhole) (arg8 : Memref sig .tc .vmem S1x128 .f32) (harg8 : arg8.IsWhole) (arg9 : Memref sig .tc .vmem S1x2048x256 .bf16) (harg9 : arg9.IsWhole) (arg10 : Memref sig .tc .vmem S2x16x128x128 .bf16) (harg10 : arg10.IsWhole) (arg11 : Memref sig .tc .vmem S2x16x144x128 .bf16) (harg11 : arg11.IsWhole) (arg12 : Memref sig .tc .vmem S4x16x128x128 .f32) (harg12 : arg12.IsWhole) (arg13 : Memref sig .tc .vmem S4x144x128 .f32) (harg13 : arg13.IsWhole) (arg14 : Memref sig .tc .vmem S4x16x8x128 .f32) (harg14 : arg14.IsWhole)
        (x0 : Vec Ideal S1x2048x256 .bf16) (x1 : Vec Ideal S1x2048x256 .bf16) (x2 : Vec Ideal S1x2048x256 .bf16) (x3 : Vec Ideal S1x2048x256 .bf16) (x4 : Vec Ideal S1x1x2048x128 .f32) (x5 : Vec Ideal S1x2x16x8x128 .f32) (x6 : Vec Ideal S1x128 .f32)
        (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty)
    (hx : Cols x4 x5) :
    arg9.view.read (Elt Ideal) (arg9.view.writes (Elt Ideal) f_arg9 (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 f_arg9 f_arg10 f_arg11 f_arg12 f_arg13 f_arg14).1) = oF (hF x0 x1 x2 x5) x3 x6 := by
  have hf := loop_out c i arg2 harg2 arg3 harg3 arg4 harg4 arg5 harg5 arg6 harg6 arg7 harg7 arg8 harg8 arg9 harg9 arg10 harg10 arg11 harg11 arg12 harg12 arg13 harg13 arg14 harg14 (bodyRun.sl.r_29 c arg7 harg7 x5) (bodyRun.sl.r_30 c arg7 harg7 x5) (bodyRun.sl.r_41 c arg7 harg7 x5) (bodyRun.sl.r_42 c arg7 harg7 x5) (bodyRun.sl.v1134 arg14 f_arg14) (harg3.unread x1) (harg6.unread x4) (harg7.unread x5) (arg10.view.writes (Elt Ideal) arg10.view.junk (bodyRun.sl.HS0_32 c arg2 harg2 x0)) (arg11.view.writes (Elt Ideal) arg11.view.junk (bodyRun.sl.HS1_32 c arg4 harg4 x2)) (arg14.view.writes (Elt Ideal) arg14.view.junk (bodyRun.sl.HS4_64 c arg7 harg7 x5)) f_arg12 (arg13.view.writes (Elt Ideal) arg13.view.junk bodyRun.sl.HS3_1) x0 x1 x2 x4 x5
    (harg3.read_unread x1) (harg6.read_unread x4) (harg7.read_unread x5)
    (funext fun y => read_of_pieces arg10 _ _ (qtF x0) (qt_pieces c arg2 harg2 x0) y (qt_cover c arg2 harg2 x0 y))
    (funext fun y => read_of_pieces arg11 _ _ (vtF x2) (vt_pieces c arg4 harg4 x2) y (vt_cover c arg4 harg4 x2 y))
    (m_read c arg7 harg7 arg14 _ x0 x1 x2 x5) hx (zero_state arg13 _ x0 x1 x2 x5)
  funext y
  refine read_of_pieces arg9 f_arg9 _ (oF (hF x0 x1 x2 x5) x3 x6) ?_ y ?_
  · unfold bodyRun
    simp only [List.forall_mem_cons]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by simp⟩
    · intro x; exact (congrFun (epi_1_15 _ _ _ _) x).trans (epi_piece (hF x0 x1 x2 x5) x3 x6 arg12 arg5 harg5 arg8 harg8 _ hf 1 15 _ _ _ _ x)
    · intro x; exact (congrFun (epi_1_14 _ _ _ _) x).trans (epi_piece (hF x0 x1 x2 x5) x3 x6 arg12 arg5 harg5 arg8 harg8 _ hf 1 14 _ _ _ _ x)
    · intro x; exact (congrFun (epi_1_13 _ _ _ _) x).trans (epi_piece (hF x0 x1 x2 x5) x3 x6 arg12 arg5 harg5 arg8 harg8 _ hf 1 13 _ _ _ _ x)
    · intro x; exact (congrFun (epi_1_12 _ _ _ _) x).trans (epi_piece (hF x0 x1 x2 x5) x3 x6 arg12 arg5 harg5 arg8 harg8 _ hf 1 12 _ _ _ _ x)
    · intro x; exact (congrFun (epi_1_11 _ _ _ _) x).trans (epi_piece (hF x0 x1 x2 x5) x3 x6 arg12 arg5 harg5 arg8 harg8 _ hf 1 11 _ _ _ _ x)
    · intro x; exact (congrFun (epi_1_10 _ _ _ _) x).trans (epi_piece (hF x0 x1 x2 x5) x3 x6 arg12 arg5 harg5 arg8 harg8 _ hf 1 10 _ _ _ _ x)
    · intro x; exact (congrFun (epi_1_9 _ _ _ _) x).trans (epi_piece (hF x0 x1 x2 x5) x3 x6 arg12 arg5 harg5 arg8 harg8 _ hf 1 9 _ _ _ _ x)
    · intro x; exact (congrFun (epi_1_8 _ _ _ _) x).trans (epi_piece (hF x0 x1 x2 x5) x3 x6 arg12 arg5 harg5 arg8 harg8 _ hf 1 8 _ _ _ _ x)
    · intro x; exact (congrFun (epi_1_7 _ _ _ _) x).trans (epi_piece (hF x0 x1 x2 x5) x3 x6 arg12 arg5 harg5 arg8 harg8 _ hf 1 7 _ _ _ _ x)
    · intro x; exact (congrFun (epi_1_6 _ _ _ _) x).trans (epi_piece (hF x0 x1 x2 x5) x3 x6 arg12 arg5 harg5 arg8 harg8 _ hf 1 6 _ _ _ _ x)
    · intro x; exact (congrFun (epi_1_5 _ _ _ _) x).trans (epi_piece (hF x0 x1 x2 x5) x3 x6 arg12 arg5 harg5 arg8 harg8 _ hf 1 5 _ _ _ _ x)
    · intro x; exact (congrFun (epi_1_4 _ _ _ _) x).trans (epi_piece (hF x0 x1 x2 x5) x3 x6 arg12 arg5 harg5 arg8 harg8 _ hf 1 4 _ _ _ _ x)
    · intro x; exact (congrFun (epi_1_3 _ _ _ _) x).trans (epi_piece (hF x0 x1 x2 x5) x3 x6 arg12 arg5 harg5 arg8 harg8 _ hf 1 3 _ _ _ _ x)
    · intro x; exact (congrFun (epi_1_2 _ _ _ _) x).trans (epi_piece (hF x0 x1 x2 x5) x3 x6 arg12 arg5 harg5 arg8 harg8 _ hf 1 2 _ _ _ _ x)
    · intro x; exact (congrFun (epi_1_1 _ _ _ _) x).trans (epi_piece (hF x0 x1 x2 x5) x3 x6 arg12 arg5 harg5 arg8 harg8 _ hf 1 1 _ _ _ _ x)
    · intro x; exact (congrFun (epi_1_0 _ _ _ _) x).trans (epi_piece (hF x0 x1 x2 x5) x3 x6 arg12 arg5 harg5 arg8 harg8 _ hf 1 0 _ _ _ _ x)
    · intro x; exact (congrFun (epi_0_15 _ _ _ _) x).trans (epi_piece (hF x0 x1 x2 x5) x3 x6 arg12 arg5 harg5 arg8 harg8 _ hf 0 15 _ _ _ _ x)
    · intro x; exact (congrFun (epi_0_14 _ _ _ _) x).trans (epi_piece (hF x0 x1 x2 x5) x3 x6 arg12 arg5 harg5 arg8 harg8 _ hf 0 14 _ _ _ _ x)
    · intro x; exact (congrFun (epi_0_13 _ _ _ _) x).trans (epi_piece (hF x0 x1 x2 x5) x3 x6 arg12 arg5 harg5 arg8 harg8 _ hf 0 13 _ _ _ _ x)
    · intro x; exact (congrFun (epi_0_12 _ _ _ _) x).trans (epi_piece (hF x0 x1 x2 x5) x3 x6 arg12 arg5 harg5 arg8 harg8 _ hf 0 12 _ _ _ _ x)
    · intro x; exact (congrFun (epi_0_11 _ _ _ _) x).trans (epi_piece (hF x0 x1 x2 x5) x3 x6 arg12 arg5 harg5 arg8 harg8 _ hf 0 11 _ _ _ _ x)
    · intro x; exact (congrFun (epi_0_10 _ _ _ _) x).trans (epi_piece (hF x0 x1 x2 x5) x3 x6 arg12 arg5 harg5 arg8 harg8 _ hf 0 10 _ _ _ _ x)
    · intro x; exact (congrFun (epi_0_9 _ _ _ _) x).trans (epi_piece (hF x0 x1 x2 x5) x3 x6 arg12 arg5 harg5 arg8 harg8 _ hf 0 9 _ _ _ _ x)
    · intro x; exact (congrFun (epi_0_8 _ _ _ _) x).trans (epi_piece (hF x0 x1 x2 x5) x3 x6 arg12 arg5 harg5 arg8 harg8 _ hf 0 8 _ _ _ _ x)
    · intro x; exact (congrFun (epi_0_7 _ _ _ _) x).trans (epi_piece (hF x0 x1 x2 x5) x3 x6 arg12 arg5 harg5 arg8 harg8 _ hf 0 7 _ _ _ _ x)
    · intro x; exact (congrFun (epi_0_6 _ _ _ _) x).trans (epi_piece (hF x0 x1 x2 x5) x3 x6 arg12 arg5 harg5 arg8 harg8 _ hf 0 6 _ _ _ _ x)
    · intro x; exact (congrFun (epi_0_5 _ _ _ _) x).trans (epi_piece (hF x0 x1 x2 x5) x3 x6 arg12 arg5 harg5 arg8 harg8 _ hf 0 5 _ _ _ _ x)
    · intro x; exact (congrFun (epi_0_4 _ _ _ _) x).trans (epi_piece (hF x0 x1 x2 x5) x3 x6 arg12 arg5 harg5 arg8 harg8 _ hf 0 4 _ _ _ _ x)
    · intro x; exact (congrFun (epi_0_3 _ _ _ _) x).trans (epi_piece (hF x0 x1 x2 x5) x3 x6 arg12 arg5 harg5 arg8 harg8 _ hf 0 3 _ _ _ _ x)
    · intro x; exact (congrFun (epi_0_2 _ _ _ _) x).trans (epi_piece (hF x0 x1 x2 x5) x3 x6 arg12 arg5 harg5 arg8 harg8 _ hf 0 2 _ _ _ _ x)
    · intro x; exact (congrFun (epi_0_1 _ _ _ _) x).trans (epi_piece (hF x0 x1 x2 x5) x3 x6 arg12 arg5 harg5 arg8 harg8 _ hf 0 1 _ _ _ _ x)
    · intro x; exact (congrFun (epi_0_0 _ _ _ _) x).trans (epi_piece (hF x0 x1 x2 x5) x3 x6 arg12 arg5 harg5 arg8 harg8 _ hf 0 0 _ _ _ _ x)
  · refine View.cover_of_tiled (bodyRun (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 f_arg9 f_arg10 f_arg11 f_arg12 f_arg13 f_arg14).1 S1x128x128.size ?_ y
    rfl

end Cert.MlstmIdeal.Run

end
-- ==== Proof.MlstmBlocks.lean ====
/-
  The blocks the mLSTM kernel's windows bring in, read off the arguments: the projection's columns, the gates laid out
  once by column and once by row, and the norm's weights.
-/
module

public import proofs.«01_k».proof.Proof.MlstmSteps
public import proofs.«01_k».proof.Proof.Gen.MlstmIdeal.Frame
public import Idealize.ShloMosaic.Lib.Pointwise
public import Idealize.ShloMosaic.Lib.StableHlo.ReadAt

@[expose] public section

set_option maxRecDepth 16384

noncomputable section

namespace Cert.MlstmIdeal.Run

open Cert.MlstmIdeal Cert.MlstmIdeal.Gen
open Idealize.ShloMosaic Idealize.ShloMosaic.TcCoe Idealize.SL.Sem Idealize.ShloMosaic.StableHlo

variable (m : (ℓ : Loc nD τ sig) → Buf (Elt Ideal) ℓ) (c : Dev nD)

def projA : FVec Ideal S8x2048x10240 .bf16 := m ((c : Thread nD τ).loc main_arg0)
def gateA : FVec Ideal S8x2048x4x8 .f32 := m ((c : Thread nD τ).loc main_arg1)
def normA : FVec Ideal S128 .f32 := m ((c : Thread nD τ).loc main_arg2)

theorem V_9 (x : Fin 128) : V m c main_v9 (ix2 0 x) = normA m c (ix1 x) := by
  unfold V normA
  after_reads_at

/-- The gates by column: head `h` of group `g`, gate `j`. -/
theorem V_5 (b : Fin 8) (g : Fin 4) (s : Fin 2048) (h : Fin 2) (j : Fin 4) :
    V m c main_v5 (ix4 b g s (col h j)) = gateA m c (ix4 b s j ⟨2 * g.val + h.val, by omega⟩) := by
  unfold V gateA col
  after_reads_at
  rw [dif_pos (by omega), dif_pos ⟨by omega, by omega⟩]
  exact congrArg₂ (fun p q => m ((c : Thread nD τ).loc main_arg1) (ix4 b s p q)) (Fin.ext (by show (8 * h.val + j.val) % 8 = j.val; omega))
    (Fin.ext (by show g.val * 2 + (8 * h.val + j.val) / 8 = 2 * g.val + h.val; omega))

/-- The gates by row. -/
theorem V_8 (b h : Fin 8) (k : Fin 16) (j : Fin 4) (t : Fin 128) :
    V m c main_v8 (ix5 b h k (line j) t) = gateA m c (ix4 b (tok k t) j h) := by
  unfold V gateA line tok
  after_reads_at
  exact congrArg (fun p => m ((c : Thread nD τ).loc main_arg1) (ix4 b p j h)) (Fin.ext (by show k.val * 128 + t.val = 128 * k.val + t.val; omega))

/-- Where the windows' blocks lie: batch `t / 4`, group `t % 4`. -/
theorem idx : ∀ t : Fin cfg0.N,
    (win0_0.index t 0 = t.val / 4 ∧ win0_0.index t 1 = 0 ∧ win0_0.index t 2 = t.val % 4)
    ∧ (win0_1.index t 0 = t.val / 4 ∧ win0_1.index t 1 = 0 ∧ win0_1.index t 2 = 4 + t.val % 4)
    ∧ (win0_2.index t 0 = t.val / 4 ∧ win0_2.index t 1 = 0 ∧ win0_2.index t 2 = 8 + t.val % 4)
    ∧ (win0_3.index t 0 = t.val / 4 ∧ win0_3.index t 1 = 0 ∧ win0_3.index t 2 = 12 + t.val % 4)
    ∧ (win0_4.index t 0 = t.val / 4 ∧ win0_4.index t 1 = t.val % 4 ∧ win0_4.index t 2 = 0 ∧ win0_4.index t 3 = 0)
    ∧ (win0_5.index t 0 = t.val / 4 ∧ win0_5.index t 1 = t.val % 4 ∧ win0_5.index t 2 = 0 ∧ win0_5.index t 3 = 0 ∧ win0_5.index t 4 = 0)
    ∧ (win0_6.index t 0 = 0 ∧ win0_6.index t 1 = 0)
    ∧ (win0_7.index t 0 = t.val / 4 ∧ win0_7.index t 1 = 0 ∧ win0_7.index t 2 = t.val % 4) :=
  (by decide +kernel : ∀ t : Fin grid0.N, _)

theorem lt32 (t : Fin cfg0.N) : t.val < 32 := lt_of_lt_of_eq t.isLt N_0

/-- The batch element and the group of heads of a point. -/
def batchOf (t : Fin cfg0.N) : Fin 8 := ⟨t.val / 4, by have := lt32 t; omega⟩
def headAt (t : Fin cfg0.N) (h : Fin 2) : Fin 8 := ⟨2 * (t.val % 4) + h.val, by omega⟩

theorem blk0 (t : Fin cfg0.N) (s : Fin 2048) (h : Fin 2) (x : Fin 128) :
    (iblk m c 0 t : Vec Ideal S1x2048x256 .bf16) (ix3 0 s (feat h x)) = projA m c (ix3 (batchOf t) s ⟨(headAt t h).val * 128 + x.val, by omega⟩) := by
  have hi := (idx t).1
  unfold iblk
  rw [View.read_apply]
  refine (congrFun (V_main_arg0 m c) _).trans (congrArg (m ((c : Thread nD τ).loc main_arg0)) ?_)
  funext a
  apply Fin.ext
  match a with
  | ⟨0, _⟩ => show win0_0.index t 0 * 1 + 1 * 0 = t.val / 4; rw [hi.1]; omega
  | ⟨1, _⟩ => show win0_0.index t 1 * 2048 + 1 * s.val = s.val; rw [hi.2.1]; omega
  | ⟨2, _⟩ => show win0_0.index t 2 * 256 + 1 * (128 * h.val + x.val) = (2 * (t.val % 4) + h.val) * 128 + x.val; rw [hi.2.2]; omega

theorem blk1 (t : Fin cfg0.N) (s : Fin 2048) (h : Fin 2) (x : Fin 128) :
    (iblk m c 1 t : Vec Ideal S1x2048x256 .bf16) (ix3 0 s (feat h x)) = projA m c (ix3 (batchOf t) s ⟨1024 + ((headAt t h).val * 128 + x.val), by omega⟩) := by
  have hi := (idx t).2.1
  unfold iblk
  rw [View.read_apply]
  refine (congrFun (V_main_arg0 m c) _).trans (congrArg (m ((c : Thread nD τ).loc main_arg0)) ?_)
  funext a
  apply Fin.ext
  match a with
  | ⟨0, _⟩ => show win0_1.index t 0 * 1 + 1 * 0 = t.val / 4; rw [hi.1]; omega
  | ⟨1, _⟩ => show win0_1.index t 1 * 2048 + 1 * s.val = s.val; rw [hi.2.1]; omega
  | ⟨2, _⟩ => show win0_1.index t 2 * 256 + 1 * (128 * h.val + x.val) = 1024 + ((2 * (t.val % 4) + h.val) * 128 + x.val); rw [hi.2.2]; omega

theorem blk2 (t : Fin cfg0.N) (s : Fin 2048) (h : Fin 2) (x : Fin 128) :
    (iblk m c 2 t : Vec Ideal S1x2048x256 .bf16) (ix3 0 s (feat h x)) = projA m c (ix3 (batchOf t) s ⟨2048 + ((headAt t h).val * 128 + x.val), by omega⟩) := by
  have hi := (idx t).2.2.1
  unfold iblk
  rw [View.read_apply]
  refine (congrFun (V_main_arg0 m c) _).trans (congrArg (m ((c : Thread nD τ).loc main_arg0)) ?_)
  funext a
  apply Fin.ext
  match a with
  | ⟨0, _⟩ => show win0_2.index t 0 * 1 + 1 * 0 = t.val / 4; rw [hi.1]; omega
  | ⟨1, _⟩ => show win0_2.index t 1 * 2048 + 1 * s.val = s.val; rw [hi.2.1]; omega
  | ⟨2, _⟩ => show win0_2.index t 2 * 256 + 1 * (128 * h.val + x.val) = 2048 + ((2 * (t.val % 4) + h.val) * 128 + x.val); rw [hi.2.2]; omega

theorem blk3 (t : Fin cfg0.N) (s : Fin 2048) (h : Fin 2) (x : Fin 128) :
    (iblk m c 3 t : Vec Ideal S1x2048x256 .bf16) (ix3 0 s (feat h x)) = projA m c (ix3 (batchOf t) s ⟨3072 + ((headAt t h).val * 128 + x.val), by omega⟩) := by
  have hi := (idx t).2.2.2.1
  unfold iblk
  rw [View.read_apply]
  refine (congrFun (V_main_arg0 m c) _).trans (congrArg (m ((c : Thread nD τ).loc main_arg0)) ?_)
  funext a
  apply Fin.ext
  match a with
  | ⟨0, _⟩ => show win0_3.index t 0 * 1 + 1 * 0 = t.val / 4; rw [hi.1]; omega
  | ⟨1, _⟩ => show win0_3.index t 1 * 2048 + 1 * s.val = s.val; rw [hi.2.1]; omega
  | ⟨2, _⟩ => show win0_3.index t 2 * 256 + 1 * (128 * h.val + x.val) = 3072 + ((2 * (t.val % 4) + h.val) * 128 + x.val); rw [hi.2.2]; omega

theorem blk4 (t : Fin cfg0.N) (h : Fin 2) (k : Fin 16) (r : Fin 128) (j : Fin 4) :
    (iblk m c 4 t : Vec Ideal S1x1x2048x128 .f32) (ix4 0 0 (tok k r) (col h j)) = gateA m c (ix4 (batchOf t) (tok k r) j (headAt t h)) := by
  have hi := (idx t).2.2.2.2.1
  unfold iblk
  rw [View.read_apply]
  refine Eq.trans (congrArg (V m c main_v5) ?_) (V_5 m c (batchOf t) ⟨t.val % 4, by omega⟩ (tok k r) h j)
  funext a
  apply Fin.ext
  match a with
  | ⟨0, _⟩ => show win0_4.index t 0 * 1 + 1 * 0 = t.val / 4; rw [hi.1]; omega
  | ⟨1, _⟩ => show win0_4.index t 1 * 1 + 1 * 0 = t.val % 4; rw [hi.2.1]; omega
  | ⟨2, _⟩ => show win0_4.index t 2 * 2048 + 1 * (tok k r).val = (tok k r).val; rw [hi.2.2.1]; omega
  | ⟨3, _⟩ => show win0_4.index t 3 * 128 + 1 * (col h j).val = (col h j).val; rw [hi.2.2.2]; omega

theorem blk5 (t : Fin cfg0.N) (h : Fin 2) (k : Fin 16) (r : Fin 128) (j : Fin 4) :
    (iblk m c 5 t : Vec Ideal S1x2x16x8x128 .f32) (ix5 0 h k (line j) r) = gateA m c (ix4 (batchOf t) (tok k r) j (headAt t h)) := by
  have hi := (idx t).2.2.2.2.2.1
  unfold iblk
  rw [View.read_apply]
  refine Eq.trans (congrArg (V m c main_v8) ?_) (V_8 m c (batchOf t) (headAt t h) k j r)
  funext a
  apply Fin.ext
  match a with
  | ⟨0, _⟩ => show win0_5.index t 0 * 1 + 1 * 0 = t.val / 4; rw [hi.1]; omega
  | ⟨1, _⟩ => show win0_5.index t 1 * 2 + 1 * h.val = 2 * (t.val % 4) + h.val; rw [hi.2.1]; omega
  | ⟨2, _⟩ => show win0_5.index t 2 * 16 + 1 * k.val = k.val; rw [hi.2.2.1]; omega
  | ⟨3, _⟩ => show win0_5.index t 3 * 8 + 1 * (line j).val = (line j).val; rw [hi.2.2.2.1]; omega
  | ⟨4, _⟩ => show win0_5.index t 4 * 128 + 1 * r.val = r.val; rw [hi.2.2.2.2]; omega

theorem blk6 (t : Fin cfg0.N) (x : Fin 128) :
    (iblk m c 6 t : Vec Ideal S1x128 .f32) (ix2 0 x) = normA m c (ix1 x) := by
  have hi := (idx t).2.2.2.2.2.2.1
  unfold iblk
  rw [View.read_apply]
  refine Eq.trans (congrArg (V m c main_v9) ?_) (V_9 m c x)
  funext a
  apply Fin.ext
  match a with
  | ⟨0, _⟩ => show win0_6.index t 0 * 1 + 1 * 0 = 0; rw [hi.1]
  | ⟨1, _⟩ => show win0_6.index t 1 * 128 + 1 * x.val = x.val; rw [hi.2]; omega

theorem cols_blk (t : Fin cfg0.N) : Cols (iblk m c 4 t) (iblk m c 5 t) := fun h k r j =>
  (blk4 m c t h k r j).trans (blk5 m c t h k r j).symm

end Cert.MlstmIdeal.Run

end
-- ==== Proof.MlstmWhole.lean ====
/-
  The mLSTM kernel's run with what it leaves in its result: at every point of the grid the output block is the one the
  recurrence gives, from the blocks the windows bring in.
-/
module

public import proofs.«01_k».proof.Proof.MlstmFrame
public import proofs.«01_k».proof.Proof.MlstmBody
public import proofs.«01_k».proof.Proof.MlstmBlocks

@[expose] public section

set_option maxRecDepth 16384

noncomputable section

namespace Cert.MlstmIdeal.Whole

open Cert.MlstmIdeal Cert.MlstmIdeal.Gen
open Cert.MlstmIdeal.Run (scr0 scr1 scr2 scr3 scr4 rest_eq bodyRun body_out cols_blk oF hF)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output block of point `t`. -/
def block (c : Dev nD) (t : Fin cfg0.N) : Vec Ideal S1x2048x256 .bf16 :=
  oF (hF (iblk m c 0 t) (iblk m c 1 t) (iblk m c 2 t) (iblk m c 5 t)) (iblk m c 3 t) (iblk m c 6 t)

/-- The data of the pipeline: each buffer at its block, the scratch arrays at anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => block m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem after_7 (c : Dev nD) (t : Fin cfg0.N) : (dats m 0 c).after 7 t = block m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, after_0, after_1, after_2, after_3, after_4, after_5, after_6, after_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, rest_eq]
  unfold owns
  iintro ⟨⟨⟨⟨%d8, %f8, -, HS0⟩, ⟨%d9, %f9, -, HS1⟩, ⟨%d10, %f10, -, HS2⟩, ⟨%d11, %f11, -, HS3⟩, ⟨%d12, %f12, -, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, %f7, -, H7⟩⟩
  iapply ((bodyRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) f7 f8 f9 f10 f11 f12).2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; isplitr; swap; · iexact H7
  ipureintro
  exact body_out c (grid0.coords t) _ _ _ _ _ _ _ _ _ _ _ _ _ _ _ _ _ _ _ _ _ _ _ _ _ _ _ _ _ _ _ _ _ _ _ _ _ _ _ (cols_blk m c t)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every execution ends, each array as the pipeline's data say and every semaphore counter at zero. -/
theorem run_all : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with the result array as the pipeline's data say, the arguments unchanged. -/
theorem run_values : θ_run defs (onTc (τ := τ) (main (F := Ideal))) ⟨m, fun _ => 0, ρ⟩ (fun r => ∀ c : Dev nD,
      r.2.mem ((c.tc : Thread nD τ).loc main_v10) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.2.1 c).1 7, h.1.1 c⟩) (θ_run_and (Cert.MlstmIdeal.Run.frame m ρ) (run_all m ρ))

end Cert.MlstmIdeal.Whole

end
-- ==== Proof.MlstmRefPoint.lean ====
/-
  One trip of the reference's scan over the chunks: what it makes of the queries, keys, values and gates of a chunk and
  of the states of every head, element by element, is the recurrence.
-/
module

public import proofs.«01_k».proof.Proof.MlstmSpec
public import proofs.«01_k».proof.Proof.Gen.MlstmRefIdeal.Run
public import Idealize.ShloMosaic.Lib.Pointwise
public import Idealize.ShloMosaic.Lib.WordCmp

@[expose] public section

set_option maxRecDepth 16384

noncomputable section

namespace Cert.MlstmRefIdeal.Point

open Cert.MlstmRefIdeal Cert.MlstmRefIdeal.Value Cert.MlstmRefIdeal.Gen
open Idealize.ShloMosaic Idealize.ShloMosaic.TcCoe Idealize.SL.Sem

/-- The order in which a chunk's tokens see one another. -/
abbrev sees (s t : Fin 128) : Prop := s ≤ t

section Views

variable (V : Valuation τ sig (Elt Ideal))

def qs : Vec Ideal S16x16x8x128x128 .f32 := V (Proc.devRef .tc main_v45_0)
def ks : Vec Ideal S16x16x8x128x128 .f32 := V (Proc.devRef .tc main_v45_1)
def vs : Vec Ideal S16x16x8x128x128 .f32 := V (Proc.devRef .tc main_v45_2)
def is : Vec Ideal S16x16x8x128 .f32 := V (Proc.devRef .tc main_v45_3)
def bs : Vec Ideal S16x16x8x128 .f32 := V (Proc.devRef .tc main_v45_4)
def mask : IVec S128x128 1 := V (Proc.devRef .tc main_v45_5)
def count : IVec S_ 32 := V (Proc.devRef .tc main_v45_6)
def Cs : Vec Ideal S16x8x128x128 .f32 := V (Proc.devRef .tc main_v45_7)
def ns : Vec Ideal S16x8x128 .f32 := V (Proc.devRef .tc main_v45_8)
def ms : Vec Ideal S16x8 .f32 := V (Proc.devRef .tc main_v45_9)
def hs : Vec Ideal S16x16x8x128x128 .f32 := V (Proc.devRef .tc main_v45_10)

/-! What a trip makes on its way. -/

def r77 : Vec Ideal S16x8x128x128 .f32 := res_main_while0b_v77 V
def r78 : Vec Ideal S16x8x128x128 .f32 := res_main_while0b_v78 V
def r79 : Vec Ideal S16x8x128x128 .f32 := res_main_while0b_v79 V
def r80 : Vec Ideal S16x8x128 .f32 := res_main_while0b_v80 V
def r81 : Vec Ideal S16x8x128 .f32 := res_main_while0b_v81 V
def r88 : Vec Ideal S16x8x128x128 .f32 := res_main_while0b_v88 V
def r91 : Vec Ideal S16x8x128 .f32 := res_main_while0b_v91 V
def r93 : Vec Ideal S16x8x128 .f32 := res_main_while0b_v93 V
def r99 : Vec Ideal S16x8x128x128 .f32 := res_main_while0b_v99 V
def r101 : Vec Ideal S16x8x128 .f32 := res_main_while0b_v101 V
def r120 : Vec Ideal S16x8 .f32 := res_main_while0b_v120 V
def r124 : Vec Ideal S16x8x128 .f32 := res_main_while0b_v124 V
def r127 : Vec Ideal S16x8 .f32 := res_main_while0b_v127 V
def r134 : Vec Ideal S16x8x128x128 .f32 := res_main_while0b_v134 V
def r137 : Vec Ideal S16x8 .f32 := res_main_while0b_v137 V
def s7 : Vec Ideal S16x8x128x128 .f32 := step_main_v45_7 V
def s8 : Vec Ideal S16x8x128 .f32 := step_main_v45_8 V
def s9 : Vec Ideal S16x8 .f32 := step_main_v45_9 V
def s10 : Vec Ideal S16x16x8x128x128 .f32 := step_main_v45_10 V

/-- The arrays the scan reads hold the chunks `P`. -/
structure Loads (P : Fin 16 → Fin 8 → Nat → Mlstm.Step) : Prop where
  q : ∀ (j b : Fin 16) (h : Fin 8) (t r : Fin 128), qs V (ix5 j b h t r) = (P b h j.val).q t r * Mlstm.factor
  k : ∀ (j b : Fin 16) (h : Fin 8) (t r : Fin 128), ks V (ix5 j b h t r) = (P b h j.val).k t r
  v : ∀ (j b : Fin 16) (h : Fin 8) (t r : Fin 128), vs V (ix5 j b h t r) = (P b h j.val).v t r
  i : ∀ (j b : Fin 16) (h : Fin 8) (t : Fin 128), is V (ix4 j b h t) = (P b h j.val).i t
  b : ∀ (j b : Fin 16) (h : Fin 8) (t : Fin 128), bs V (ix4 j b h t) = (P b h j.val).b t
  m : ∀ t s : Fin 128, mask V (ix2 t s) = if sees s t then 1#1 else 0#1

/-- The scan is before chunk `n`. -/
structure At (P : Fin 16 → Fin 8 → Nat → Mlstm.Step) (n : Nat) : Prop where
  count : count V = fun _ => BitVec.ofNat 32 n
  stC : ∀ (b : Fin 16) (h : Fin 8) (r x : Fin 128), Cs V (ix4 b h r x) = (Mlstm.state 127 (P b h) n).C r x
  stN : ∀ (b : Fin 16) (h : Fin 8) (r : Fin 128), ns V (ix3 b h r) = (Mlstm.state 127 (P b h) n).n r
  stM : ∀ (b : Fin 16) (h : Fin 8), ms V (ix2 b h) = (Mlstm.state 127 (P b h) n).m
  out : ∀ (j b : Fin 16) (h : Fin 8) (t x : Fin 128), j.val < n →
    hs V (ix5 j b h t x) = Mlstm.out sees (P b h j.val) (Mlstm.state 127 (P b h) j.val) t x

end Views

section Plain

variable (b : Fin 16) (h : Fin 8) (t r x : Fin 128)

theorem top_fold (I : FVec Ideal S16x8x128x128 .f32) :
    Host.reduce FloatOps.maximumf I (constant (F := Ideal) S_ .f32 0xFF800000#32) reducesTo_S16x8x128x128_S16x8x128_d3 h_S_ (ix3 b h t)
      = Finset.univ.fold max Mlstm.unseen (fun s : Fin 128 => I (ix4 b h t s)) := by
  pointwise [Mlstm.unseen]

theorem top_plain (B : FVec Ideal S16x8x128 .f32) (I : FVec Ideal S16x8x128x128 .f32) :
    maximumf B (Host.reduce FloatOps.maximumf I (constant S_ .f32 0xFF800000#32) reducesTo_S16x8x128x128_S16x8x128_d3 h_S_) (ix3 b h t)
      = max (B (ix3 b h t)) (Finset.univ.fold max Mlstm.unseen (fun s : Fin 128 => I (ix4 b h t s))) :=
  congrArg (max (B (ix3 b h t))) (top_fold b h t I)

theorem mnew_plain (B C : FVec Ideal S16x8 .f32) (I : FVec Ideal S16x8x128 .f32) :
    maximumf (addf B C) (Host.reduce FloatOps.maximumf I (constant S_ .f32 0xFF800000#32) reducesTo_S16x8x128_S16x8_d2 h_S_) (ix2 b h)
      = max (B (ix2 b h) + C (ix2 b h)) (Finset.univ.fold max Mlstm.unseen (fun s : Fin 128 => I (ix3 b h s))) := by
  pointwise [Mlstm.unseen]

theorem C_plain (K : FVec Ideal S16x8 .f32) (C A B : FVec Ideal S16x8x128x128 .f32) :
    (addf (mulf (broadcastInDim S16x8x128x128 ![0, 1, 2, 3] bcast_S16x8x1x1_S16x8x128x128_0_1_2_3 (broadcastInDim S16x8x1x1 ![0, 1] bcast_S16x8_S16x8x1x1_0_1 K)) C) (Host.dotGeneral dot_S16x8x128x128_S16x8x128x128_S16x8x128x128_2_2_3_3_01_01 none A B) : FVec Ideal S16x8x128x128 .f32) (ix4 b h r x)
      = K (ix2 b h) * C (ix4 b h r x) + ∑ s : Fin 128, A (ix4 b h s r) * B (ix4 b h s x) := by
  pointwise

theorem n_plain (K : FVec Ideal S16x8 .f32) (N : FVec Ideal S16x8x128 .f32) (A : FVec Ideal S16x8x128x128 .f32) :
    (addf (mulf (broadcastInDim S16x8x128 ![0, 1, 2] bcast_S16x8x1_S16x8x128_0_1_2 (broadcastInDim S16x8x1 ![0, 1] bcast_S16x8_S16x8x1_0_1 K)) N) (Host.reduceAdd A (constant S_ .f32 0x00000000#32) reducesTo_S16x8x128x128_S16x8x128_d2 h_S_) : FVec Ideal S16x8x128 .f32) (ix3 b h r)
      = K (ix2 b h) * N (ix3 b h r) + ∑ s : Fin 128, A (ix4 b h s r) := by
  pointwise

end Plain

section Step

variable (V : Valuation τ sig (Elt Ideal)) (P : Fin 16 → Fin 8 → Nat → Mlstm.Step) (j : Fin 16)
  (L : Loads V P) (A : At V P j.val)

include L A

omit L A in
theorem toInt_ofNat : ∀ j : Fin 16, (BitVec.ofNat 32 j.val).toInt = (j.val : Int) := by decide

theorem sliced5 (X : Vec Ideal S16x16x8x128x128 .f32) (hfit) (sc) (b : Fin 16) (h : Fin 8) (t r : Fin 128) :
    shapeCast S16x8x128x128 (Host.dynamicSlice S1x16x8x128x128 X (fun k => (((![V (Proc.devRef .tc main_v45_6), constantI S_ 32 0#32, constantI S_ 32 0#32, constantI S_ 32 0#32, constantI S_ 32 0#32] : Fin 5 → (⟨S_, .i32⟩ : BufTy).Contents (Elt Ideal))) k (Shape.Idx.first h_S_)).toInt) hfit) sc (ix4 b h t r) = X (ix5 j b h t r) := by
  have hj : j.val < 16 := j.isLt
  rw [WordCmp.dynamicSlice_eq_extract S1x16x8x128x128 X _ hfit ![j.val, 0, 0, 0, 0] ⟨rfl, fun a => by fin_cases a <;> simp <;> omega⟩ (fun a => by
    match a with
    | ⟨0, _⟩ => exact (congrArg (fun f : IVec S_ 32 => (f (Shape.Idx.first h_S_)).toInt) A.count).trans (toInt_ofNat j)
    | ⟨1, _⟩ => rfl
    | ⟨2, _⟩ => rfl
    | ⟨3, _⟩ => rfl
    | ⟨4, _⟩ => rfl)]
  pointwise

theorem sliced4 (X : Vec Ideal S16x16x8x128 .f32) (hfit) (sc) (b : Fin 16) (h : Fin 8) (t : Fin 128) :
    shapeCast S16x8x128 (Host.dynamicSlice S1x16x8x128 X (fun k => (((![V (Proc.devRef .tc main_v45_6), constantI S_ 32 0#32, constantI S_ 32 0#32, constantI S_ 32 0#32] : Fin 4 → (⟨S_, .i32⟩ : BufTy).Contents (Elt Ideal))) k (Shape.Idx.first h_S_)).toInt) hfit) sc (ix3 b h t) = X (ix4 j b h t) := by
  have hj : j.val < 16 := j.isLt
  rw [WordCmp.dynamicSlice_eq_extract S1x16x8x128 X _ hfit ![j.val, 0, 0, 0] ⟨rfl, fun a => by fin_cases a <;> simp <;> omega⟩ (fun a => by
    match a with
    | ⟨0, _⟩ => exact (congrArg (fun f : IVec S_ 32 => (f (Shape.Idx.first h_S_)).toInt) A.count).trans (toInt_ofNat j)
    | ⟨1, _⟩ => rfl
    | ⟨2, _⟩ => rfl
    | ⟨3, _⟩ => rfl)]
  pointwise

variable (b : Fin 16) (h : Fin 8)

theorem v77_apply (t r : Fin 128) : r77 V (ix4 b h t r) = (P b h j.val).q t r * Mlstm.factor :=
  (sliced5 V P j L A (qs V) sliceFits_S16x16x8x128x128_S1x16x8x128x128 _ b h t r).trans (L.q j b h t r)
theorem v78_apply (t r : Fin 128) : r78 V (ix4 b h t r) = (P b h j.val).k t r :=
  (sliced5 V P j L A (ks V) sliceFits_S16x16x8x128x128_S1x16x8x128x128 _ b h t r).trans (L.k j b h t r)
theorem v79_apply (t r : Fin 128) : r79 V (ix4 b h t r) = (P b h j.val).v t r :=
  (sliced5 V P j L A (vs V) sliceFits_S16x16x8x128x128_S1x16x8x128x128 _ b h t r).trans (L.v j b h t r)
theorem v80_apply (t : Fin 128) : r80 V (ix3 b h t) = (P b h j.val).i t :=
  (sliced4 V P j L A (is V) sliceFits_S16x16x8x128_S1x16x8x128 _ b h t).trans (L.i j b h t)
theorem v81_apply (t : Fin 128) : r81 V (ix3 b h t) = (P b h j.val).b t :=
  (sliced4 V P j L A (bs V) sliceFits_S16x16x8x128_S1x16x8x128 _ b h t).trans (L.b j b h t)

theorem v88_apply (t s : Fin 128) : r88 V (ix4 b h t s) = Mlstm.logw sees (P b h j.val) s t := by
  have e : r88 V (ix4 b h t s) = if mask V (ix2 t s) = 1#1
      then r81 V (ix3 b h t) - (r81 V (ix3 b h s) - r80 V (ix3 b h s)) else Mlstm.unseen := by
    unfold r88 res_main_while0b_v88
    pointwise [Mlstm.unseen]
    all_goals first | rfl | skip
  rw [e, v81_apply V P j L A, v81_apply V P j L A, v80_apply V P j L A, L.m]
  unfold Mlstm.logw
  by_cases hs : sees s t
  · rw [if_pos hs, if_pos hs, if_pos rfl]
  · rw [if_neg hs, if_neg hs, if_neg (by decide)]

theorem v91_apply (t : Fin 128) : r91 V (ix3 b h t) = (P b h j.val).b t + (Mlstm.state 127 (P b h) j.val).m := by
  have e : r91 V (ix3 b h t) = r81 V (ix3 b h t) + ms V (ix2 b h) := by
    unfold r91 res_main_while0b_v91
    pointwise
    all_goals first | rfl | skip
  rw [e, v81_apply V P j L A, A.stM]

theorem v93_apply (t : Fin 128) : r93 V (ix3 b h t) = Mlstm.top sees (P b h j.val) (Mlstm.state 127 (P b h) j.val).m t := by
  have e : r93 V (ix3 b h t) = max (r91 V (ix3 b h t)) (Finset.univ.fold max Mlstm.unseen (fun s : Fin 128 => r88 V (ix4 b h t s))) :=
    top_plain b h t (r91 V) (r88 V)
  rw [e, v91_apply V P j L A]
  simp only [v88_apply V P j L A]
  rfl

theorem v99_apply (t s : Fin 128) : r99 V (ix4 b h t s) = Mlstm.pair sees (P b h j.val) (Mlstm.state 127 (P b h) j.val).m t s := by
  have e : r99 V (ix4 b h t s) = (∑ r : Fin 128, r77 V (ix4 b h t r) * r78 V (ix4 b h s r))
      * Ideal.exp (r88 V (ix4 b h t s) - r93 V (ix3 b h t)) := by
    unfold r99 res_main_while0b_v99
    pointwise
    all_goals first | rfl | skip
  rw [e, v88_apply V P j L A, v93_apply V P j L A]
  simp only [v77_apply V P j L A, v78_apply V P j L A]
  rfl

theorem v101_apply (t : Fin 128) : r101 V (ix3 b h t) = Mlstm.old sees (P b h j.val) (Mlstm.state 127 (P b h) j.val).m t := by
  have e : r101 V (ix3 b h t) = Ideal.exp (r91 V (ix3 b h t) - r93 V (ix3 b h t)) := by
    unfold r101 res_main_while0b_v101
    pointwise
    all_goals first | rfl | skip
  rw [e, v91_apply V P j L A, v93_apply V P j L A]
  rfl

theorem v120_apply : r120 V (ix2 b h) = (P b h j.val).b 127 := by
  have e : r120 V (ix2 b h) = r81 V (ix3 b h 127) := by
    unfold r120 res_main_while0b_v120
    pointwise
    all_goals first | rfl | skip
  rw [e, v81_apply V P j L A]

theorem v124_apply (s : Fin 128) : r124 V (ix3 b h s) = Mlstm.gain 127 (P b h j.val) s := by
  have e : r124 V (ix3 b h s) = r120 V (ix2 b h) - r81 V (ix3 b h s) + r80 V (ix3 b h s) := by
    unfold r124 res_main_while0b_v124
    pointwise
    all_goals first | rfl | skip
  rw [e, v81_apply V P j L A, v80_apply V P j L A, v120_apply V P j L A]
  rfl

theorem v127_apply : r127 V (ix2 b h) = Mlstm.mnew 127 (P b h j.val) (Mlstm.state 127 (P b h) j.val).m := by
  have e : r127 V (ix2 b h) = max (r120 V (ix2 b h) + ms V (ix2 b h)) (Finset.univ.fold max Mlstm.unseen (fun s : Fin 128 => r124 V (ix3 b h s))) :=
    mnew_plain b h (r120 V) (ms V) (r124 V)
  rw [e, v120_apply V P j L A, A.stM]
  simp only [v124_apply V P j L A]
  rfl

theorem v134_apply (s r : Fin 128) : r134 V (ix4 b h s r)
    = (P b h j.val).k s r * Ideal.exp (Mlstm.gain 127 (P b h j.val) s - Mlstm.mnew 127 (P b h j.val) (Mlstm.state 127 (P b h) j.val).m) := by
  have e : r134 V (ix4 b h s r) = r78 V (ix4 b h s r) * Ideal.exp (r124 V (ix3 b h s) - r127 V (ix2 b h)) := by
    unfold r134 res_main_while0b_v134
    pointwise
    all_goals first | rfl | skip
  rw [e, v78_apply V P j L A, v124_apply V P j L A, v127_apply V P j L A]

theorem v137_apply : r137 V (ix2 b h) = Mlstm.keep 127 (P b h j.val) (Mlstm.state 127 (P b h) j.val).m := by
  have e : r137 V (ix2 b h) = Ideal.exp (r120 V (ix2 b h) + ms V (ix2 b h) - r127 V (ix2 b h)) := by
    unfold r137 res_main_while0b_v137
    pointwise
    all_goals first | rfl | skip
  rw [e, v120_apply V P j L A, v127_apply V P j L A, A.stM]
  rfl

theorem C_apply (r x : Fin 128) : s7 V (ix4 b h r x) = (Mlstm.state 127 (P b h) (j.val + 1)).C r x := by
  have e : s7 V (ix4 b h r x) = r137 V (ix2 b h) * Cs V (ix4 b h r x)
      + ∑ s : Fin 128, r134 V (ix4 b h s r) * r79 V (ix4 b h s x) :=
    C_plain b h r x (r137 V) (Cs V) (r134 V) (r79 V)
  rw [e, v137_apply V P j L A, A.stC]
  simp only [v134_apply V P j L A, v79_apply V P j L A]
  rfl

theorem n_apply (r : Fin 128) : s8 V (ix3 b h r) = (Mlstm.state 127 (P b h) (j.val + 1)).n r := by
  have e : s8 V (ix3 b h r) = r137 V (ix2 b h) * ns V (ix3 b h r)
      + ∑ s : Fin 128, r134 V (ix4 b h s r) :=
    n_plain b h r (r137 V) (ns V) (r134 V)
  rw [e, v137_apply V P j L A, A.stN]
  simp only [v134_apply V P j L A]
  rfl

theorem m_apply : s9 V (ix2 b h) = (Mlstm.state 127 (P b h) (j.val + 1)).m :=
  v127_apply V P j L A b h

theorem updated5 (X : Vec Ideal S16x16x8x128x128 .f32) (D : Vec Ideal S16x8x128x128 .f32) (hfit) (j' : Fin 16) (t x : Fin 128) :
    Host.dynamicUpdateSlice X (broadcastInDim S1x16x8x128x128 ![1, 2, 3, 4] bcast_S16x8x128x128_S1x16x8x128x128_1_2_3_4 D) (fun k => (((![V (Proc.devRef .tc main_v45_6), constantI S_ 32 0#32, constantI S_ 32 0#32, constantI S_ 32 0#32, constantI S_ 32 0#32] : Fin 5 → (⟨S_, .i32⟩ : BufTy).Contents (Elt Ideal))) k (Shape.Idx.first h_S_)).toInt) hfit (ix5 j' b h t x)
      = if j'.val = j.val then D (ix4 b h t x) else X (ix5 j' b h t x) := by
  have hj : j.val < 16 := j.isLt
  rw [WordCmp.dynamicUpdateSlice_eq_update X _ _ hfit ![j.val, 0, 0, 0, 0] ⟨rfl, fun a => by fin_cases a <;> simp <;> omega⟩ (fun a => by
    match a with
    | ⟨0, _⟩ => exact (congrArg (fun f : IVec S_ 32 => (f (Shape.Idx.first h_S_)).toInt) A.count).trans (toInt_ofNat j)
    | ⟨1, _⟩ => rfl
    | ⟨2, _⟩ => rfl
    | ⟨3, _⟩ => rfl
    | ⟨4, _⟩ => rfl)]
  unfold updateSlice
  by_cases hjj : j'.val = j.val
  · rw [if_pos hjj, dif_pos (fun a => by
      match a with
      | ⟨0, _⟩ => exact ⟨by show j.val ≤ j'.val; omega, by show j'.val < j.val + 1; omega⟩
      | ⟨1, _⟩ => exact ⟨Nat.zero_le _, by show b.val < 0 + 16; omega⟩
      | ⟨2, _⟩ => exact ⟨Nat.zero_le _, by show h.val < 0 + 8; omega⟩
      | ⟨3, _⟩ => exact ⟨Nat.zero_le _, by show t.val < 0 + 128; omega⟩
      | ⟨4, _⟩ => exact ⟨Nat.zero_le _, by show x.val < 0 + 128; omega⟩)]
    pointwise
    all_goals first | rfl | skip
  · rw [if_neg hjj, dif_neg (fun hin => by
      have h0 := hin ⟨0, by decide⟩
      have h1 : j.val ≤ j'.val := h0.1
      have h2 : j'.val < j.val + 1 := h0.2
      omega)]

theorem read_apply (j' : Fin 16) (t x : Fin 128) : s10 V (ix5 j' b h t x)
    = if j'.val = j.val then Mlstm.out sees (P b h j.val) (Mlstm.state 127 (P b h) j.val) t x else hs V (ix5 j' b h t x) := by
  refine (updated5 V P j L A b h (hs V) _ updateFits_S16x16x8x128x128_S1x16x8x128x128 j' t x).trans ?_
  refine if_congr Iff.rfl ?_ rfl
  have e : ∀ (R99 R79 R77 C7 : FVec Ideal S16x8x128x128 .f32) (R101 R93 N8 : FVec Ideal S16x8x128 .f32), (Host.divf (addf (Host.dotGeneral dot_S16x8x128x128_S16x8x128x128_S16x8x128x128_3_2_2_3_01_01 none R99 R79) (mulf (broadcastInDim S16x8x128x128 ![0, 1, 2, 3] bcast_S16x8x128x1_S16x8x128x128_0_1_2_3 (broadcastInDim S16x8x128x1 ![0, 1, 2] bcast_S16x8x128_S16x8x128x1_0_1_2 R101)) (Host.dotGeneral dot_S16x8x128x128_S16x8x128x128_S16x8x128x128_3_2_2_3_01_01 none R77 C7))) (broadcastInDim S16x8x128x128 ![0, 1, 2, 3] bcast_S16x8x128x1_S16x8x128x128_0_1_2_3 (broadcastInDim S16x8x128x1 ![0, 1, 2] bcast_S16x8x128_S16x8x128x1_0_1_2 (maximumf (Host.absf (addf (Host.reduceAdd R99 (constant S_ .f32 0x00000000#32) reducesTo_S16x8x128x128_S16x8x128_d3 h_S_) (mulf R101 (Host.dotGeneral dot_S16x8x128x128_S16x8x128_S16x8x128_3_2_2_n_01_01 none R77 N8)))) (Host.exp (Host.negf R93))))) : FVec Ideal S16x8x128x128 .f32) (ix4 b h t x)
      = Ideal.div ((∑ s : Fin 128, R99 (ix4 b h t s) * R79 (ix4 b h s x)) + R101 (ix3 b h t) * ∑ r : Fin 128, R77 (ix4 b h t r) * C7 (ix4 b h r x))
        (max (max ((∑ s : Fin 128, R99 (ix4 b h t s)) + R101 (ix3 b h t) * ∑ r : Fin 128, R77 (ix4 b h t r) * N8 (ix3 b h r))
          (-((∑ s : Fin 128, R99 (ix4 b h t s)) + R101 (ix3 b h t) * ∑ r : Fin 128, R77 (ix4 b h t r) * N8 (ix3 b h r)))) (Ideal.exp (-(R93 (ix3 b h t))))) := by
    intro R99 R79 R77 C7 R101 R93 N8
    pointwise
    all_goals first | rfl | skip
  refine (e (r99 V) (r79 V) (r77 V) (Cs V) (r101 V) (r93 V) (ns V)).trans ?_
  simp only [v99_apply V P j L A, v79_apply V P j L A, v77_apply V P j L A, v101_apply V P j L A, v93_apply V P j L A, A.stC, A.stN]
  rfl

omit A in
theorem loads_STEP : Loads (STEP V) P where
  q j b h t r := (congrFun (STEP_main_v45_0 V) (ix5 j b h t r)).trans (L.q j b h t r)
  k j b h t r := (congrFun (STEP_main_v45_1 V) (ix5 j b h t r)).trans (L.k j b h t r)
  v j b h t r := (congrFun (STEP_main_v45_2 V) (ix5 j b h t r)).trans (L.v j b h t r)
  i j b h t := (congrFun (STEP_main_v45_3 V) (ix4 j b h t)).trans (L.i j b h t)
  b j b h t := (congrFun (STEP_main_v45_4 V) (ix4 j b h t)).trans (L.b j b h t)
  m t s := (congrFun (STEP_main_v45_5 V) (ix2 t s)).trans (L.m t s)

theorem at_STEP : At (STEP V) P (j.val + 1) where
  count := (STEP_main_v45_6 V).trans (by
    unfold step_main_v45_6
    have e : ∀ f : IVec S_ 32, f = (fun _ => BitVec.ofNat 32 j.val) → id (addi f (constantI S_ 32 1#32)) = fun _ => BitVec.ofNat 32 (j.val + 1) := by
      rintro f rfl
      funext i
      show BitVec.ofNat 32 j.val + 1#32 = _
      rw [BitVec.ofNat_add]
    exact e _ A.count)
  stC b h r x := (congrFun (STEP_main_v45_7 V) (ix4 b h r x)).trans (C_apply V P j L A b h r x)
  stN b h r := (congrFun (STEP_main_v45_8 V) (ix3 b h r)).trans (n_apply V P j L A b h r)
  stM b h := (congrFun (STEP_main_v45_9 V) (ix2 b h)).trans (m_apply V P j L A b h)
  out j' b h t x hlt := (congrFun (STEP_main_v45_10 V) (ix5 j' b h t x)).trans ((read_apply V P j L A b h j' t x).trans (by
    by_cases e : j'.val = j.val
    · rw [if_pos e, e]
    · rw [if_neg e]; exact A.out j' b h t x (by omega)))

end Step

/-- After `n` trips the scan is before chunk `n`. -/
theorem at_iterate (V : Valuation τ sig (Elt Ideal)) (P : Fin 16 → Fin 8 → Nat → Mlstm.Step) (L : Loads V P) (A : At V P 0) :
    ∀ n, n ≤ 16 → Loads (STEP^[n] V) P ∧ At (STEP^[n] V) P n := by
  intro n
  induction n with
  | zero => exact fun _ => ⟨L, A⟩
  | succ n ih =>
    intro hn
    obtain ⟨L', A'⟩ := ih (by omega)
    rw [Function.iterate_succ_apply']
    exact ⟨loads_STEP _ P L', at_STEP _ P ⟨n, by omega⟩ L' A'⟩

end Cert.MlstmRefIdeal.Point

end
-- ==== Proof.MlstmRefEntry.lean ====
/-
  What the reference's scan starts from: the queries, keys, values and gates of every chunk, in order for the forward
  direction and reversed for the backward one, the mask of a chunk, and the empty state.
-/
module

public import proofs.«01_k».proof.Proof.MlstmRefPoint

@[expose] public section

set_option maxRecDepth 16384

noncomputable section

namespace Cert.MlstmRefIdeal.Point

open Cert.MlstmRefIdeal Cert.MlstmRefIdeal.Value Cert.MlstmRefIdeal.Gen
open Idealize.ShloMosaic Idealize.ShloMosaic.TcCoe Idealize.SL.Sem Idealize.ShloMosaic.StableHlo Idealize.ShloMosaic.Pipeline

section Both

variable (j : Fin 16) (b h : Fin 8) (t r : Fin 128) (s : Fin 2048)

theorem chunk5 (Y : FVec Ideal S16x2048x8x128 .f32) (b : Fin 16) :
    transpose S16x16x8x128x128 [1, 0, 3, 2, 4] (shapeCast S16x16x128x8x128 Y shapeCasts_S16x2048x8x128_S16x16x128x8x128) transposes_S16x16x128x8x128_S16x16x8x128x128_1_0_3_2_4 (ix5 j b h t r)
      = Y (ix4 b ⟨j.val * 128 + t.val, by omega⟩ h r) := by
  pointwise

theorem chunk4 (Y : FVec Ideal S16x2048x8 .f32) (b : Fin 16) :
    transpose S16x16x8x128 [1, 0, 3, 2] (shapeCast S16x16x128x8 Y shapeCasts_S16x2048x8_S16x16x128x8) transposes_S16x16x128x8_S16x16x8x128_1_0_3_2 (ix4 j b h t)
      = Y (ix3 b ⟨j.val * 128 + t.val, by omega⟩ h) := by
  pointwise

theorem rev5 (T : FVec Ideal S8x2048x8x128 .f32) : Host.reverse [1] T (ix4 b s h r) = T (ix4 b ⟨2047 - s.val, by omega⟩ h r) := by
  rw [Host.reverse_apply]
  refine congrArg T ?_
  funext a
  apply Fin.ext
  match a with
  | ⟨0, _⟩ => rfl
  | ⟨1, _⟩ => show 2048 - (s.val + 1) = 2047 - s.val; omega
  | ⟨2, _⟩ => rfl
  | ⟨3, _⟩ => rfl

theorem rev4 (T : FVec Ideal S8x2048x8 .f32) : Host.reverse [1] T (ix3 b s h) = T (ix3 b ⟨2047 - s.val, by omega⟩ h) := by
  rw [Host.reverse_apply]
  refine congrArg T ?_
  funext a
  apply Fin.ext
  match a with
  | ⟨0, _⟩ => rfl
  | ⟨1, _⟩ => show 2048 - (s.val + 1) = 2047 - s.val; omega
  | ⟨2, _⟩ => rfl

theorem cat5_fst (T U : FVec Ideal S8x2048x8x128 .f32) :
    concatenate S16x2048x8x128 0 [⟨S8x2048x8x128, T⟩, ⟨S8x2048x8x128, U⟩] concatenates_S8x2048x8x128_S8x2048x8x128_S16x2048x8x128_d0 (ix4 ⟨b.val, by omega⟩ s h r) = T (ix4 b s h r) := by
  pointwise

theorem cat5_snd (T U : FVec Ideal S8x2048x8x128 .f32) :
    concatenate S16x2048x8x128 0 [⟨S8x2048x8x128, T⟩, ⟨S8x2048x8x128, U⟩] concatenates_S8x2048x8x128_S8x2048x8x128_S16x2048x8x128_d0 (ix4 ⟨8 + b.val, by omega⟩ s h r) = U (ix4 b s h r) := by
  pointwise

theorem cat4_fst (T U : FVec Ideal S8x2048x8 .f32) :
    concatenate S16x2048x8 0 [⟨S8x2048x8, T⟩, ⟨S8x2048x8, U⟩] concatenates_S8x2048x8_S8x2048x8_S16x2048x8_d0 (ix3 ⟨b.val, by omega⟩ s h) = T (ix3 b s h) := by
  pointwise

theorem cat4_snd (T U : FVec Ideal S8x2048x8 .f32) :
    concatenate S16x2048x8 0 [⟨S8x2048x8, T⟩, ⟨S8x2048x8, U⟩] concatenates_S8x2048x8_S8x2048x8_S16x2048x8_d0 (ix3 ⟨8 + b.val, by omega⟩ s h) = U (ix3 b s h) := by
  pointwise

end Both

variable (m : (ℓ : Loc nD τ sig) → Buf (Elt Ideal) ℓ) (c : Dev nD)

def proj : FVec Ideal S8x2048x10240 .bf16 := m ((c.tc : Thread nD τ).loc main_arg0)
def gate : FVec Ideal S8x2048x4x8 .f32 := m ((c.tc : Thread nD τ).loc main_arg1)

def both5 (T : FVec Ideal S8x2048x8x128 .f32) : FVec Ideal S16x16x8x128x128 .f32 :=
  transpose S16x16x8x128x128 [1, 0, 3, 2, 4] (shapeCast S16x16x128x8x128 (concatenate S16x2048x8x128 0 [⟨S8x2048x8x128, T⟩, ⟨S8x2048x8x128, Host.reverse [1] T⟩] concatenates_S8x2048x8x128_S8x2048x8x128_S16x2048x8x128_d0) shapeCasts_S16x2048x8x128_S16x16x128x8x128) transposes_S16x16x128x8x128_S16x16x8x128x128_1_0_3_2_4

def both4 (T U : FVec Ideal S8x2048x8 .f32) : FVec Ideal S16x16x8x128 .f32 :=
  transpose S16x16x8x128 [1, 0, 3, 2] (shapeCast S16x16x128x8 (concatenate S16x2048x8 0 [⟨S8x2048x8, T⟩, ⟨S8x2048x8, Host.reverse [1] U⟩] concatenates_S8x2048x8_S8x2048x8_S16x2048x8_d0) shapeCasts_S16x2048x8_S16x16x128x8) transposes_S16x16x128x8_S16x16x8x128_1_0_3_2

def heads (off : Fin 3 → Nat) (X : FVec Ideal S8x2048x10240 .bf16) (hs : S8x2048x10240.Slices off S8x2048x1024) : FVec Ideal S8x2048x8x128 .f32 :=
  shapeCast S8x2048x8x128 (extf .f32 (extractStridedSlice S8x2048x1024 off X hs) bitsLt_bf16_f32) shapeCasts_S8x2048x1024_S8x2048x8x128

def gateOf (off : Fin 4 → Nat) (X : FVec Ideal S8x2048x4x8 .f32) (hs : S8x2048x4x8.Slices off S8x2048x1x8) : FVec Ideal S8x2048x8 .f32 :=
  shapeCast S8x2048x8 (extractStridedSlice S8x2048x1x8 off X hs) shapeCasts_S8x2048x1x8_S8x2048x8

theorem entry_0 : entryContents (preI (F := Ideal)) m c (Proc.devRef .tc main_v45_0) = both5 (mulf (heads ![0, 0, 0] (proj m c) slices_S8x2048x10240_S8x2048x1024_0_0_0) (broadcastInDim S8x2048x8x128 ![] bcast_S_S8x2048x8x128 (constant (F := Ideal) S_ .f32 0x3DB504F3#32))) := by
  simp only [entryContents, afterL_cons, afterL_nil]
  after_reads_simp
  rfl

theorem entry_1 : entryContents (preI (F := Ideal)) m c (Proc.devRef .tc main_v45_1) = both5 (heads ![0, 0, 1024] (proj m c) slices_S8x2048x10240_S8x2048x1024_0_0_1024) := by
  simp only [entryContents, afterL_cons, afterL_nil]
  after_reads_simp
  rfl

theorem entry_2 : entryContents (preI (F := Ideal)) m c (Proc.devRef .tc main_v45_2) = both5 (heads ![0, 0, 2048] (proj m c) slices_S8x2048x10240_S8x2048x1024_0_0_2048) := by
  simp only [entryContents, afterL_cons, afterL_nil]
  after_reads_simp
  rfl

theorem entry_3 : entryContents (preI (F := Ideal)) m c (Proc.devRef .tc main_v45_3) = both4 (gateOf ![0, 0, 0, 0] (gate m c) slices_S8x2048x4x8_S8x2048x1x8_0_0_0_0) (gateOf ![0, 0, 2, 0] (gate m c) slices_S8x2048x4x8_S8x2048x1x8_0_0_2_0) := by
  simp only [entryContents, afterL_cons, afterL_nil]
  after_reads_simp
  rfl

theorem entry_4 : entryContents (preI (F := Ideal)) m c (Proc.devRef .tc main_v45_4) = both4 (gateOf ![0, 0, 1, 0] (gate m c) slices_S8x2048x4x8_S8x2048x1x8_0_0_1_0) (gateOf ![0, 0, 3, 0] (gate m c) slices_S8x2048x4x8_S8x2048x1x8_0_0_3_0) := by
  simp only [entryContents, afterL_cons, afterL_nil]
  after_reads_simp
  rfl

theorem entry_5 : entryContents (preI (F := Ideal)) m c (Proc.devRef .tc main_v45_5) = (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : IVec S128x128 1) := by
  simp only [entryContents, afterL_cons, afterL_nil]
  after_reads_simp
  rfl

theorem entry_6 : entryContents (preI (F := Ideal)) m c (Proc.devRef .tc main_v45_6) = (fun _ => (0#32 : BitVec 32)) := by
  simp only [entryContents, afterL_cons, afterL_nil]
  after_reads_simp
  rfl

theorem entry_7 : entryContents (preI (F := Ideal)) m c (Proc.devRef .tc main_v45_7) = (broadcastInDim S16x8x128x128 ![] bcast_S_S16x8x128x128 (constant (F := Ideal) S_ .f32 0x00000000#32) : FVec Ideal S16x8x128x128 .f32) := by
  simp only [entryContents, afterL_cons, afterL_nil]
  after_reads_simp
  rfl

theorem entry_8 : entryContents (preI (F := Ideal)) m c (Proc.devRef .tc main_v45_8) = (broadcastInDim S16x8x128 ![] bcast_S_S16x8x128 (constant (F := Ideal) S_ .f32 0x00000000#32) : FVec Ideal S16x8x128 .f32) := by
  simp only [entryContents, afterL_cons, afterL_nil]
  after_reads_simp
  rfl

theorem entry_9 : entryContents (preI (F := Ideal)) m c (Proc.devRef .tc main_v45_9) = (broadcastInDim S16x8 ![] bcast_S_S16x8 (constant (F := Ideal) S_ .f32 0x00000000#32) : FVec Ideal S16x8 .f32) := by
  simp only [entryContents, afterL_cons, afterL_nil]
  after_reads_simp
  rfl

/-! What they hold, element by element. -/

section Elements

variable (X : FVec Ideal S8x2048x10240 .bf16) (G : FVec Ideal S8x2048x4x8 .f32) (b h : Fin 8) (s : Fin 2048) (r : Fin 128)

theorem heads_q : mulf (heads ![0, 0, 0] X slices_S8x2048x10240_S8x2048x1024_0_0_0) (broadcastInDim S8x2048x8x128 ![] bcast_S_S8x2048x8x128 (constant (F := Ideal) S_ .f32 0x3DB504F3#32)) (ix4 b s h r)
    = X (ix3 b s ⟨h.val * 128 + r.val, by omega⟩) * Mlstm.factor := by
  pointwise [heads, Mlstm.factor]

theorem heads_k : heads ![0, 0, 1024] X slices_S8x2048x10240_S8x2048x1024_0_0_1024 (ix4 b s h r) = X (ix3 b s ⟨1024 + (h.val * 128 + r.val), by omega⟩) := by
  pointwise [heads]

theorem heads_v : heads ![0, 0, 2048] X slices_S8x2048x10240_S8x2048x1024_0_0_2048 (ix4 b s h r) = X (ix3 b s ⟨2048 + (h.val * 128 + r.val), by omega⟩) := by
  pointwise [heads]

theorem gate_0 : gateOf ![0, 0, 0, 0] G slices_S8x2048x4x8_S8x2048x1x8_0_0_0_0 (ix3 b s h) = G (ix4 b s 0 h) := by
  pointwise [gateOf]

theorem gate_1 : gateOf ![0, 0, 1, 0] G slices_S8x2048x4x8_S8x2048x1x8_0_0_1_0 (ix3 b s h) = G (ix4 b s 1 h) := by
  pointwise [gateOf]

theorem gate_2 : gateOf ![0, 0, 2, 0] G slices_S8x2048x4x8_S8x2048x1x8_0_0_2_0 (ix3 b s h) = G (ix4 b s 2 h) := by
  pointwise [gateOf]

theorem gate_3 : gateOf ![0, 0, 3, 0] G slices_S8x2048x4x8_S8x2048x1x8_0_0_3_0 (ix3 b s h) = G (ix4 b s 3 h) := by
  pointwise [gateOf]

/-- A chunk whose token `t` is token `at t` of the sequence, with the gates of lines `i` and `f`. -/
def chunkAt (at' : Fin 128 → Fin 2048) (i f : Fin 4) : Mlstm.Step where
  q t r := X (ix3 b (at' t) ⟨h.val * 128 + r.val, by omega⟩)
  k t r := X (ix3 b (at' t) ⟨1024 + (h.val * 128 + r.val), by omega⟩)
  v t r := X (ix3 b (at' t) ⟨2048 + (h.val * 128 + r.val), by omega⟩)
  i t := G (ix4 b (at' t) i h)
  b t := G (ix4 b (at' t) f h)

/-- Token `t` of the `j`-th chunk taken, forward and backward. -/
def atF (j : Fin 16) (t : Fin 128) : Fin 2048 := ⟨j.val * 128 + t.val, by omega⟩
def atB (j : Fin 16) (t : Fin 128) : Fin 2048 := ⟨2047 - (j.val * 128 + t.val), by omega⟩

/-- The chunks of a head in the order they are taken. -/
def chunksF (j : Nat) : Mlstm.Step := chunkAt X G b h (atF (Fin.ofNat 16 j)) 0 1
def chunksB (j : Nat) : Mlstm.Step := chunkAt X G b h (atB (Fin.ofNat 16 j)) 2 3

/-- The two directions as one batch of sixteen. -/
def chunksOf (d : Fin 16) (h : Fin 8) : Nat → Mlstm.Step :=
  if hd : d.val < 8 then chunksF X G ⟨d.val, hd⟩ h else chunksB X G ⟨d.val - 8, by omega⟩ h

theorem chunksOf_fwd : chunksOf X G ⟨b.val, by omega⟩ h = chunksF X G b h := dif_pos b.isLt
theorem chunksOf_bwd : chunksOf X G ⟨8 + b.val, by omega⟩ h = chunksB X G b h := by
  have e : (⟨(8 + b.val) - 8, by omega⟩ : Fin 8) = b := Fin.ext (by show (8 + b.val) - 8 = b.val; omega)
  refine (dif_neg (by show ¬ (8 + b.val < 8); omega)).trans ?_
  exact congrArg (fun z => chunksB X G z h) e

theorem ofNat_val (j : Fin 16) : Fin.ofNat 16 j.val = j := Fin.ext (Nat.mod_eq_of_lt j.isLt)

variable (j : Fin 16) (t : Fin 128)

theorem both5_fwd (T : FVec Ideal S8x2048x8x128 .f32) : both5 T (ix5 j ⟨b.val, by omega⟩ h t r) = T (ix4 b (atF j t) h r) :=
  (chunk5 j h t r _ _).trans (cat5_fst b h r _ T _)
theorem both5_bwd (T : FVec Ideal S8x2048x8x128 .f32) : both5 T (ix5 j ⟨8 + b.val, by omega⟩ h t r) = T (ix4 b (atB j t) h r) :=
  (chunk5 j h t r _ _).trans ((cat5_snd b h r _ T _).trans (rev5 b h r _ T))
theorem both4_fwd (T U : FVec Ideal S8x2048x8 .f32) : both4 T U (ix4 j ⟨b.val, by omega⟩ h t) = T (ix3 b (atF j t) h) :=
  (chunk4 j h t _ _).trans (cat4_fst b h _ T _)
theorem both4_bwd (T U : FVec Ideal S8x2048x8 .f32) : both4 T U (ix4 j ⟨8 + b.val, by omega⟩ h t) = U (ix3 b (atB j t) h) :=
  (chunk4 j h t _ _).trans ((cat4_snd b h _ T _).trans (rev4 b h _ U))

end Elements

/-- An index of the two directions is one of either. -/
theorem direction (p : Fin 16 → Prop) (hf : ∀ b : Fin 8, p ⟨b.val, by omega⟩) (hb : ∀ b : Fin 8, p ⟨8 + b.val, by omega⟩) (d : Fin 16) : p d := by
  by_cases hd : d.val < 8
  · exact hf ⟨d.val, hd⟩
  · have e : (⟨8 + (⟨d.val - 8, by omega⟩ : Fin 8).val, by omega⟩ : Fin 16) = d := Fin.ext (by show 8 + (d.val - 8) = d.val; omega)
    exact e ▸ hb ⟨d.val - 8, by omega⟩

theorem mask_apply (t s : Fin 128) : (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : IVec S128x128 1) (ix2 t s)
    = if sees s t then 1#1 else 0#1 := by
  pointwise
  have e0 : IntOp.addi (BitVec.ofNat 32 t.val) 0#32 = BitVec.ofNat 32 t.val := BitVec.add_zero _
  rw [e0]
  by_cases h : sees s t
  · rw [if_pos h, (WordCmp.cmpi_sge_ofNat_eq_one_iff (w := 32) (by omega) (by omega)).2 h]; rfl
  · rw [if_neg h, (WordCmp.cmpi_sge_ofNat_eq_zero_iff (w := 32) (by omega) (by omega)).2 h]; rfl

theorem loads_entry : Loads (entryContents (preI (F := Ideal)) m c) (chunksOf (proj m c) (gate m c)) where
  q j d h t r := by
    refine (congrFun (entry_0 m c) (ix5 j d h t r)).trans ?_
    revert d
    refine direction _ (fun b => ?_) (fun b => ?_)
    · rw [both5_fwd, heads_q, chunksOf_fwd]; unfold chunksF; rw [ofNat_val]; rfl
    · rw [both5_bwd, heads_q, chunksOf_bwd]; unfold chunksB; rw [ofNat_val]; rfl
  k j d h t r := by
    refine (congrFun (entry_1 m c) (ix5 j d h t r)).trans ?_
    revert d
    refine direction _ (fun b => ?_) (fun b => ?_)
    · rw [both5_fwd, heads_k, chunksOf_fwd]; unfold chunksF; rw [ofNat_val]; rfl
    · rw [both5_bwd, heads_k, chunksOf_bwd]; unfold chunksB; rw [ofNat_val]; rfl
  v j d h t r := by
    refine (congrFun (entry_2 m c) (ix5 j d h t r)).trans ?_
    revert d
    refine direction _ (fun b => ?_) (fun b => ?_)
    · rw [both5_fwd, heads_v, chunksOf_fwd]; unfold chunksF; rw [ofNat_val]; rfl
    · rw [both5_bwd, heads_v, chunksOf_bwd]; unfold chunksB; rw [ofNat_val]; rfl
  i j d h t := by
    refine (congrFun (entry_3 m c) (ix4 j d h t)).trans ?_
    revert d
    refine direction _ (fun b => ?_) (fun b => ?_)
    · rw [both4_fwd, gate_0, chunksOf_fwd]; unfold chunksF; rw [ofNat_val]; rfl
    · rw [both4_bwd, gate_2, chunksOf_bwd]; unfold chunksB; rw [ofNat_val]; rfl
  b j d h t := by
    refine (congrFun (entry_4 m c) (ix4 j d h t)).trans ?_
    revert d
    refine direction _ (fun b => ?_) (fun b => ?_)
    · rw [both4_fwd, gate_1, chunksOf_fwd]; unfold chunksF; rw [ofNat_val]; rfl
    · rw [both4_bwd, gate_3, chunksOf_bwd]; unfold chunksB; rw [ofNat_val]; rfl
  m t s := (congrFun (entry_5 m c) (ix2 t s)).trans (mask_apply t s)

theorem at_entry (P : Fin 16 → Fin 8 → Nat → Mlstm.Step) : At (entryContents (preI (F := Ideal)) m c) P 0 where
  count := entry_6 m c
  stC b h r x := (congrFun (entry_7 m c) (ix4 b h r x)).trans (by pointwise; all_goals first | rfl | skip)
  stN b h r := (congrFun (entry_8 m c) (ix3 b h r)).trans (by pointwise; all_goals first | rfl | skip)
  stM b h := (congrFun (entry_9 m c) (ix2 b h)).trans (by pointwise; all_goals first | rfl | skip)
  out j b h t x hlt := absurd hlt (Nat.not_lt_zero _)

end Cert.MlstmRefIdeal.Point

end
-- ==== Proof.MlstmRefOut.lean ====
/-
  What the reference makes of its scan's outputs: the sum of the two directions, the backward one reversed in time, normed
  over each head, weighted and gated.
-/
module

public import proofs.«01_k».proof.Proof.MlstmRefEntry

@[expose] public section

set_option maxRecDepth 16384

noncomputable section

namespace Cert.MlstmRefIdeal.Point

open Cert.MlstmRefIdeal Cert.MlstmRefIdeal.Value Cert.MlstmRefIdeal.Gen
open Idealize.ShloMosaic Idealize.ShloMosaic.TcCoe Idealize.SL.Sem Idealize.ShloMosaic.StableHlo Idealize.ShloMosaic.Pipeline

def ahead (H : FVec Ideal S16x16x8x128x128 .f32) : FVec Ideal S8x2048x8x128 .f32 :=
  extractStridedSlice S8x2048x8x128 ![0, 0, 0, 0] (shapeCast S16x2048x8x128 (transpose S16x16x128x8x128 [1, 0, 3, 2, 4] H transposes_S16x16x8x128x128_S16x16x128x8x128_1_0_3_2_4) shapeCasts_S16x16x128x8x128_S16x2048x8x128) slices_S16x2048x8x128_S8x2048x8x128_0_0_0_0

def back (H : FVec Ideal S16x16x8x128x128 .f32) : FVec Ideal S8x2048x8x128 .f32 :=
  extractStridedSlice S8x2048x8x128 ![8, 0, 0, 0] (shapeCast S16x2048x8x128 (transpose S16x16x128x8x128 [1, 0, 3, 2, 4] H transposes_S16x16x8x128x128_S16x16x128x8x128_1_0_3_2_4) shapeCasts_S16x16x128x8x128_S16x2048x8x128) slices_S16x2048x8x128_S8x2048x8x128_8_0_0_0

def finish (S : FVec Ideal S8x2048x8x128 .f32) (W : FVec Ideal S128 .f32) (X : FVec Ideal S8x2048x10240 .bf16) : FVec Ideal S8x2048x1024 .bf16 :=
  truncf .bf16 (shapeCast S8x2048x1024 (mulf (mulf (mulf S (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf S S) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 W))) (Host.divf (broadcastInDim S8x2048x8x128 ![] bcast_S_S8x2048x8x128 (constant S_ .f32 0x3F800000#32)) (addf (broadcastInDim S8x2048x8x128 ![] bcast_S_S8x2048x8x128 (constant S_ .f32 0x3F800000#32)) (Host.exp (Host.negf (shapeCast S8x2048x8x128 (extf .f32 (extractStridedSlice S8x2048x1024 ![0, 0, 3072] X slices_S8x2048x10240_S8x2048x1024_0_0_3072) bitsLt_bf16_f32) shapeCasts_S8x2048x1024_S8x2048x8x128)))))) shapeCasts_S8x2048x8x128_S8x2048x1024) bitsLt_bf16_f32

theorem out_eq (V0 : Valuation τ sig (Elt Ideal)) :
    out_main_v76 (F := Ideal) V0 = finish (addf (ahead (V0 (Proc.devRef .tc main_v45_10))) (Host.reverse [1] (back (V0 (Proc.devRef .tc main_v45_10)))))
      (V0 (Proc.devRef .tc main_arg2)) (V0 (Proc.devRef .tc main_arg0)) := rfl

/-- A sum over the heads' features, normed, times the weight, gated. -/
def gated (S : Fin 128 → EReal) (w o : EReal) (x : Fin 128) : EReal :=
  S x * Ideal.rsqrt (Ideal.div (∑ r, S r * S r) (Ideal.ofBits .f32 0x43000000#32) + Ideal.ofBits .f32 0x358637BD#32) * w
    * Ideal.div 1 (1 + Ideal.exp (-o))

section

variable (H : FVec Ideal S16x16x8x128x128 .f32) (S : FVec Ideal S8x2048x8x128 .f32) (W : FVec Ideal S128 .f32) (X : FVec Ideal S8x2048x10240 .bf16)
  (b : Fin 8) (j : Fin 16) (t : Fin 128) (s : Fin 2048) (h : Fin 8) (r : Fin 128)

theorem ahead_apply : ahead H (ix4 b ⟨j.val * 128 + t.val, by omega⟩ h r) = H (ix5 j ⟨b.val, by omega⟩ h t r) := by
  pointwise [ahead]

theorem back_apply : back H (ix4 b ⟨j.val * 128 + t.val, by omega⟩ h r) = H (ix5 j ⟨8 + b.val, by omega⟩ h t r) := by
  pointwise [back]

theorem reversed_apply : Host.reverse [1] (back H) (ix4 b ⟨j.val * 128 + t.val, by omega⟩ h r) = H (ix5 ⟨15 - j.val, by omega⟩ ⟨8 + b.val, by omega⟩ h ⟨127 - t.val, by omega⟩ r) := by
  rw [rev5]
  refine Eq.trans (congrArg (fun z => back H (ix4 b z h r)) (Fin.ext ?_)) (back_apply H b ⟨15 - j.val, by omega⟩ ⟨127 - t.val, by omega⟩ h r)
  show 2047 - (j.val * 128 + t.val) = (15 - j.val) * 128 + (127 - t.val)
  omega

theorem finish_apply : finish S W X (ix3 b s ⟨h.val * 128 + r.val, by omega⟩)
    = gated (fun x => S (ix4 b s h x)) (W (ix1 r)) (X (ix3 b s ⟨3072 + (h.val * 128 + r.val), by omega⟩)) r := by
  unfold gated
  pointwise [finish]

end

section

variable (X : FVec Ideal S8x2048x10240 .bf16) (G : FVec Ideal S8x2048x4x8 .f32) (W : FVec Ideal S128 .f32)

/-- What token `t` of chunk `j` reads, forward and backward. -/
def both (b h : Fin 8) (j : Fin 16) (t r : Fin 128) : EReal :=
  Mlstm.out sees (chunksF X G b h j.val) (Mlstm.state 127 (chunksF X G b h) j.val) t r
    + Mlstm.out sees (chunksB X G b h (15 - j.val)) (Mlstm.state 127 (chunksB X G b h) (15 - j.val)) ⟨127 - t.val, by omega⟩ r

/-- The layer's element of token `t` of chunk `j` and feature `x` of head `h`. -/
def token (b : Fin 8) (j : Fin 16) (t : Fin 128) (h : Fin 8) (x : Fin 128) : EReal :=
  gated (both X G b h j t) (W (ix1 x)) (X (ix3 b (atF j t) ⟨3072 + (h.val * 128 + x.val), by omega⟩)) x

/-- The layer, of the projection, the gates and the norm's weights. -/
def layer : FVec Ideal S8x2048x1024 .bf16 := fun y =>
  token X G W (y 0) ⟨(y 1).val / 128, by have : (y 1).val < 2048 := (y 1).isLt; omega⟩ ⟨(y 1).val % 128, by omega⟩
    ⟨(y 2).val / 128, by have : (y 2).val < 1024 := (y 2).isLt; omega⟩ ⟨(y 2).val % 128, by omega⟩

end

variable (m : (ℓ : Loc nD τ sig) → Buf (Elt Ideal) ℓ) (c : Dev nD)

def norm : FVec Ideal S128 .f32 := m ((c.tc : Thread nD τ).loc main_arg2)

theorem ref_token (b : Fin 8) (j : Fin 16) (t : Fin 128) (h : Fin 8) (x : Fin 128) :
    out_main_v76 (F := Ideal) (STEP^[16] (entryContents preI m c)) (ix3 b (atF j t) ⟨h.val * 128 + x.val, by omega⟩)
      = token (proj m c) (gate m c) (norm m c) b j t h x := by
  refine (congrFun (out_eq _) _).trans ?_
  refine (finish_apply _ _ _ b (atF j t) h x).trans ?_
  rw [iter_main_arg2 m c 16, iter_main_arg0 m c 16]
  have A := (at_iterate _ _ (loads_entry m c) (at_entry m c _) 16 le_rfl).2
  have e : (fun r => addf (ahead ((STEP^[16] (entryContents preI m c)) (Proc.devRef .tc main_v45_10)))
      (Host.reverse [1] (back ((STEP^[16] (entryContents preI m c)) (Proc.devRef .tc main_v45_10)))) (ix4 b (atF j t) h r))
      = both (proj m c) (gate m c) b h j t := by
    funext r
    refine congrArg₂ (· + ·) ((ahead_apply _ b j t h r).trans ?_) ((reversed_apply _ b j t h r).trans ?_)
    · refine (A.out j ⟨b.val, by omega⟩ h t r j.isLt).trans ?_
      rw [chunksOf_fwd]
    · refine (A.out ⟨15 - j.val, by omega⟩ ⟨8 + b.val, by omega⟩ h ⟨127 - t.val, by omega⟩ r (by show 15 - j.val < 16; omega)).trans ?_
      rw [chunksOf_bwd]
  rw [e]
  rfl

/-- The reference's result. -/
theorem ref_eq : out_main_v76 (F := Ideal) (STEP^[16] (entryContents preI m c)) = layer (proj m c) (gate m c) (norm m c) := by
  funext y
  have h0 : (y 0).val < 8 := (y 0).isLt
  have h1 : (y 1).val < 2048 := (y 1).isLt
  have h2 : (y 2).val < 1024 := (y 2).isLt
  have e : y = ix3 (y 0) (atF ⟨(y 1).val / 128, by omega⟩ ⟨(y 1).val % 128, by omega⟩)
      ⟨(⟨(y 2).val / 128, by omega⟩ : Fin 8).val * 128 + (⟨(y 2).val % 128, by omega⟩ : Fin 128).val, by show (y 2).val / 128 * 128 + (y 2).val % 128 < 1024; omega⟩ := by
    funext a
    apply Fin.ext
    match a with
    | ⟨0, _⟩ => rfl
    | ⟨1, _⟩ => show (y 1).val = (y 1).val / 128 * 128 + (y 1).val % 128; omega
    | ⟨2, _⟩ => show (y 2).val = (y 2).val / 128 * 128 + (y 2).val % 128; omega
  exact (congrArg (out_main_v76 (F := Ideal) (STEP^[16] (entryContents preI m c))) e).trans (ref_token m c (y 0) _ _ _ _)

end Cert.MlstmRefIdeal.Point

end
-- ==== Proof.MlstmValue.lean ====
/-
  The mLSTM kernel and the reference leave the same array: the kernel's chunks are the reference's, the backward
  direction's with the tokens of each chunk in the opposite order.
-/
module

public import proofs.«01_k».proof.Proof.MlstmWhole
public import proofs.«01_k».proof.Proof.MlstmRefOut

@[expose] public section

set_option maxRecDepth 16384

noncomputable section

namespace Mlstm

theorem state_congr (last : Fin 128) (p q : Nat → Step) (n : Nat) (h : ∀ j, j < n → p j = q j) : state last p n = state last q n := by
  induction n with
  | zero => rfl
  | succ n ih => simp only [state]; rw [ih fun j hj => h j (by omega), h n (by omega)]

end Mlstm

namespace Cert.MlstmIdeal.Whole

open Cert.MlstmIdeal Cert.MlstmIdeal.Gen Cert.MlstmIdeal.Run
open Cert.MlstmRefIdeal.Point (sees chunksF chunksB atF atB both token layer)
open Idealize.ShloMosaic Idealize.ShloMosaic.TcCoe Idealize.SL.Sem

variable (m : (ℓ : Loc nD τ sig) → Buf (Elt Ideal) ℓ) (ρ : Dev nD → PrngReg) (c : Dev nD)

theorem atF_tok (j : Fin 16) (t : Fin 128) : atF j t = tok j t := Fin.ext (by show j.val * 128 + t.val = 128 * j.val + t.val; omega)

theorem atB_tok (j : Fin 16) (t : Fin 128) : atB j t = tok ⟨15 - j.val, by omega⟩ (Fin.rev t) :=
  Fin.ext (by show 2047 - (j.val * 128 + t.val) = 128 * (15 - j.val) + (128 - (t.val + 1)); omega)

/-- The chunks of a point's heads, from the arguments. -/
abbrev fore (t : Fin cfg0.N) (h : Fin 2) : Nat → Mlstm.Step := chunksF (projA m c) (gateA m c) (batchOf t) (headAt t h)
abbrev aft (t : Fin cfg0.N) (h : Fin 2) : Nat → Mlstm.Step := chunksB (projA m c) (gateA m c) (batchOf t) (headAt t h)

theorem fore_eq (t : Fin cfg0.N) (h : Fin 2) (j : Nat) (hj : j < 16) :
    stepF (iblk m c 0 t) (iblk m c 1 t) (iblk m c 2 t) (iblk m c 5 t) h j = fore m c t h j := by
  have e : Fin.ofNat 16 j = ⟨j, hj⟩ := Fin.ext (Nat.mod_eq_of_lt hj)
  refine (dif_pos hj).trans ?_
  unfold fore chunksF
  rw [e]
  refine Mlstm.Step.ext ?_ ?_ ?_ ?_ ?_
  · funext s r; show _ = projA m c (ix3 _ (atF _ s) _); rw [atF_tok]; exact blk0 m c t _ h r
  · funext s r; show _ = projA m c (ix3 _ (atF _ s) _); rw [atF_tok]; exact blk1 m c t _ h r
  · funext s r; show _ = projA m c (ix3 _ (atF _ s) _); rw [atF_tok]; exact blk2 m c t _ h r
  · funext s; show _ = gateA m c (ix4 _ (atF _ s) _ _); rw [atF_tok]; exact blk5 m c t h _ s 0
  · funext s; show _ = gateA m c (ix4 _ (atF _ s) _ _); rw [atF_tok]; exact blk5 m c t h _ s 1

theorem aft_eq (t : Fin cfg0.N) (h : Fin 2) (j : Nat) (hj : j < 16) :
    (stepB (iblk m c 0 t) (iblk m c 1 t) (iblk m c 2 t) (iblk m c 5 t) h j).perm Fin.revPerm = aft m c t h j := by
  have e : Fin.ofNat 16 j = ⟨j, hj⟩ := Fin.ext (Nat.mod_eq_of_lt hj)
  refine (congrArg (fun p => Mlstm.Step.perm p Fin.revPerm) (dif_pos hj)).trans ?_
  unfold aft chunksB
  rw [e]
  refine Mlstm.Step.ext ?_ ?_ ?_ ?_ ?_
  · funext s r; show _ = projA m c (ix3 _ (atB _ s) _); rw [atB_tok]; exact blk0 m c t _ h r
  · funext s r; show _ = projA m c (ix3 _ (atB _ s) _); rw [atB_tok]; exact blk1 m c t _ h r
  · funext s r; show _ = projA m c (ix3 _ (atB _ s) _); rw [atB_tok]; exact blk2 m c t _ h r
  · funext s; show _ = gateA m c (ix4 _ (atB _ s) _ _); rw [atB_tok]; exact blk5 m c t h _ (Fin.rev s) 2
  · funext s; show _ = gateA m c (ix4 _ (atB _ s) _ _); rw [atB_tok]; exact blk5 m c t h _ (Fin.rev s) 3

theorem hK_fwd (x0 x1 x2 : Vec Ideal S1x2048x256 .bf16) (x5 : Vec Ideal S1x2x16x8x128 .f32) (h : Fin 2) (k : Fin 16) (x t : Fin 128) :
    hK x0 x1 x2 x5 (fwd h) k x t
      = Mlstm.out (fun s t => s ≤ t) (stepF x0 x1 x2 x5 h k.val) (Mlstm.state 127 (stepF x0 x1 x2 x5 h) k.val) t x := by
  fin_cases h <;> rfl

theorem hK_bwd (x0 x1 x2 : Vec Ideal S1x2048x256 .bf16) (x5 : Vec Ideal S1x2x16x8x128 .f32) (h : Fin 2) (k : Fin 16) (x t : Fin 128) :
    hK x0 x1 x2 x5 (bwd h) k x t
      = Mlstm.out (fun s t => t ≤ s) (stepB x0 x1 x2 x5 h (15 - k.val)) (Mlstm.state 0 (stepB x0 x1 x2 x5 h) (15 - k.val)) t x := by
  fin_cases h <;> rfl

theorem both_eq (t : Fin cfg0.N) (h : Fin 2) (k : Fin 16) (r x : Fin 128) :
    hK (iblk m c 0 t) (iblk m c 1 t) (iblk m c 2 t) (iblk m c 5 t) (fwd h) k x r
      + hK (iblk m c 0 t) (iblk m c 1 t) (iblk m c 2 t) (iblk m c 5 t) (bwd h) k x r
      = both (projA m c) (gateA m c) (batchOf t) (headAt t h) k r x := by
  refine congrArg₂ (· + ·) ((hK_fwd _ _ _ _ h k x r).trans ?_) ((hK_bwd _ _ _ _ h k x r).trans ?_)
  · rw [fore_eq m c t h k.val k.isLt, Mlstm.state_congr 127 _ (fore m c t h) k.val fun j hj => fore_eq m c t h j (by omega)]
  · have hk : 15 - k.val < 16 := by omega
    have es : Mlstm.state 127 (aft m c t h) (15 - k.val)
        = Mlstm.state 0 (stepB (iblk m c 0 t) (iblk m c 1 t) (iblk m c 2 t) (iblk m c 5 t) h) (15 - k.val) :=
      (Mlstm.state_congr 127 _ _ _ fun j hj => (aft_eq m c t h j (by omega)).symm).trans
        (Mlstm.state_perm 0 Fin.revPerm 127 (by decide) _ _)
    have ho := Mlstm.out_perm (fun s t => t ≤ s) (stepB (iblk m c 0 t) (iblk m c 1 t) (iblk m c 2 t) (iblk m c 5 t) h (15 - k.val))
      (Mlstm.state 0 (stepB (iblk m c 0 t) (iblk m c 1 t) (iblk m c 2 t) (iblk m c 5 t) h) (15 - k.val)) Fin.revPerm sees
      (fun s t => (Fin.rev_le_rev (i := t) (j := s)).symm) ⟨127 - r.val, by omega⟩ x
    have er : Fin.revPerm (⟨127 - r.val, by omega⟩ : Fin 128) = r := Fin.ext (by show 128 - (127 - r.val + 1) = r.val; omega)
    rw [er, aft_eq m c t h _ hk] at ho
    rw [← ho, ← es]

/-- The result array of the kernel. -/
abbrev result : Buf (Elt Ideal) ((c : Thread nD τ).loc main_v10) := layer (projA m c) (gateA m c) (normA m c)

theorem block_eq (t : Fin cfg0.N) (h : Fin 2) (k : Fin 16) (r x : Fin 128) :
    oK (hF (iblk m c 0 t) (iblk m c 1 t) (iblk m c 2 t) (iblk m c 5 t)) (iblk m c 3 t) (iblk m c 6 t) h k r x
      = token (projA m c) (gateA m c) (normA m c) (batchOf t) k r (headAt t h) x := by
  unfold oK token
  have e1 : (fun z => hF (iblk m c 0 t) (iblk m c 1 t) (iblk m c 2 t) (iblk m c 5 t) (ix4 (fwd h) k z r)
      + hF (iblk m c 0 t) (iblk m c 1 t) (iblk m c 2 t) (iblk m c 5 t) (ix4 (bwd h) k z r))
      = both (projA m c) (gateA m c) (batchOf t) (headAt t h) k r := funext fun z => both_eq m c t h k r z
  rw [e1, blk3, blk6, atF_tok]
  rfl

theorem block_apply (t : Fin cfg0.N) (s : Fin 2048) (q : Fin 256) :
    block m c t (ix3 0 s q) = result m c (ix3 (batchOf t) s ⟨t.val % 4 * 256 + q.val, by omega⟩) := by
  refine (block_eq m c t (headOf q) (chunkOf s) (tokOf s) (featOf q)).trans ?_
  refine congrArg₂ (token (projA m c) (gateA m c) (normA m c) (batchOf t) (chunkOf s) (tokOf s)) ?_ ?_
  · exact Fin.ext (by show 2 * (t.val % 4) + q.val / 128 = (t.val % 4 * 256 + q.val) / 128; omega)
  · exact Fin.ext (by show q.val % 128 = (t.val % 4 * 256 + q.val) % 128; omega)

/-- What point `t` writes back is its block of the result. -/
theorem flushed_eq (t : Fin cfg0.N) :
    (dats m 0 c).flushed 7 t = ((cfg0.win 7).blk t).view.read (Elt Ideal) (result m c) := by
  show (cfg0.win 7).cut (grid0.coords t) ((dats m 0 c).after 7 t) = _
  rw [after_7]
  funext j
  have hi := (idx t).2.2.2.2.2.2.2
  rw [View.read_apply]
  have hs : (j 1).val < 2048 := (j 1).isLt
  have hq : (j 2).val < 256 := (j 2).isLt
  have hj : (show S1x2048x256.Idx from j) = ix3 0 ⟨(j 1).val, hs⟩ ⟨(j 2).val, hq⟩ := by
    funext a
    apply Fin.ext
    match a with
    | ⟨0, _⟩ => show (j 0).val = 0; have : (j 0).val < 1 := (j 0).isLt; omega
    | ⟨1, _⟩ => rfl
    | ⟨2, _⟩ => rfl
  have e : ((cfg0.win 7).blk t).view.emb j = ix3 (batchOf t) ⟨(j 1).val, hs⟩ ⟨t.val % 4 * 256 + (j 2).val, by omega⟩ := by
    funext a
    apply Fin.ext
    match a with
    | ⟨0, _⟩ => show win0_7.index t 0 * 1 + 1 * (j 0).val = t.val / 4; rw [hi.1]; have : (j 0).val < 1 := (j 0).isLt; omega
    | ⟨1, _⟩ => show win0_7.index t 1 * 2048 + 1 * (j 1).val = (j 1).val; rw [hi.2.1]; omega
    | ⟨2, _⟩ => show win0_7.index t 2 * 256 + 1 * (j 2).val = t.val % 4 * 256 + (j 2).val; rw [hi.2.2]; omega
  rw [e]
  exact (congrArg (block m c t) hj).trans (block_apply m c t ⟨(j 1).val, hs⟩ ⟨(j 2).val, hq⟩)

theorem final : (dats m 0 c).arrAt 7 cfg0.N = result m c :=
  (dats m 0 c).arrAt_eq_of_cover 7 (result m c) (fun t _ => flushed_eq m c t) fun i => by
    have h0 : (i 0 : Nat) < 8 := (i 0).isLt
    have h1 : (i 1 : Nat) < 2048 := (i 1).isLt
    have h2 : (i 2 : Nat) < 1024 := (i 2).isLt
    have hN : cfg0.N = 32 := N_0
    obtain ⟨t, ht⟩ : ∃ t : Fin cfg0.N, t.val = (i 0 : Nat) * 4 + (i 2 : Nat) / 256 := ⟨⟨_, by omega⟩, rfl⟩
    have hi := (idx t).2.2.2.2.2.2.2
    refine ⟨t, flush0_7 t, ?_⟩
    show i ∈ ((View.whole main_v10).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [hi.1]; omega
    | ⟨1, _⟩ => show win0_7.index t 1 * 2048 ≤ (i 1 : Nat) ∧ (i 1 : Nat) < win0_7.index t 1 * 2048 + 2048
                rw [hi.2.1]; omega
    | ⟨2, _⟩ => show win0_7.index t 2 * 256 ≤ (i 2 : Nat) ∧ (i 2 : Nat) < win0_7.index t 2 * 256 + 256
                rw [hi.2.2]; omega

end Cert.MlstmIdeal.Whole

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Loops
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Loops
public import proofs.«01_k».proof.Proof.Gen.MlstmIdeal.Frame
public import proofs.«01_k».proof.Proof.FfnValue
public import proofs.«01_k».proof.Proof.MergeValue
public import proofs.«01_k».proof.Proof.ProjValue
public import proofs.«01_k».proof.Proof.AdaValue
public import proofs.«01_k».proof.Proof.MlstmFrame
public import proofs.«01_k».proof.Proof.MlstmValue
public import proofs.«01_k».proof.Proof.Gen.MlstmRefIdeal
public import proofs.«01_k».proof.Proof.Gen.MlstmRefIdeal.Run
public import proofs.«01_k».proof.Proof.Gen.FfnRefIdeal.Run
public import proofs.«01_k».proof.Proof.Gen.MergeRefIdeal.Run
public import Idealize.ShloMosaic.Adequacy
public import Idealize.ShloMosaic.Init

@[expose] public section

noncomputable section

namespace Cert.Proof

open Idealize.ShloMosaic Idealize.SL.Sem Cert.Ffn

theorem frame_ffn_kernel : Cert.quiescent_Ffn := fun m ρ _ => Cert.Ffn.Gen.frame m ρ

theorem frame_ffn_ideal : Cert.quiescent_FfnIdeal := fun m ρ _ => Cert.FfnIdeal.Gen.frame m ρ

theorem frame_ffn_reference : Cert.quiescent_FfnRefIdeal := fun m ρ _ =>
  (θ_run _ _ _).mono (fun r h => ⟨fun c => (h c).2, sem_eq_zero_of_no_sems (by decide) r.2⟩) (Cert.FfnRefIdeal.Value.run (F := Ideal) m ρ)

theorem frame_merge_kernel : Cert.quiescent_Merge := fun m ρ _ => Cert.Merge.Gen.frame m ρ

theorem frame_merge_ideal : Cert.quiescent_MergeIdeal := fun m ρ _ => Cert.MergeIdeal.Gen.frame m ρ

theorem frame_merge_reference : Cert.quiescent_MergeRefIdeal := fun m ρ _ =>
  (θ_run _ _ _).mono (fun r h => ⟨fun c => (h c).2, sem_eq_zero_of_no_sems (by decide) r.2⟩) (Cert.MergeRefIdeal.Value.run (F := Ideal) m ρ)

/-- The kernel's body table and its idealisation's are one, at the machine's floats. -/
theorem bodies_proj : Cert.Proj.defs₀ (F := Bits) = Cert.ProjIdeal.defs₀ (F := Bits) := by
  unfold Cert.Proj.defs₀ Cert.ProjIdeal.defs₀
  refine congrArg Defs.onTc ?_
  funext l x
  match l, x with
  | 0, (t, s) => rfl

theorem defs_proj : Cert.Proj.defs (F := Bits) = Cert.ProjIdeal.defs (F := Bits) :=
  congrArg (Pipeline.defs (Cert.ProjIdeal.pcfgs (F := Bits))) bodies_proj

/-- The run is stated for every reading of the floats, so the machine's program has the frame of its idealisation. -/
theorem frame_proj_kernel : Cert.quiescent_Proj := fun m ρ _ => by
  rw [defs_proj]
  exact Cert.ProjIdeal.Run.frame (F := Bits) m ρ

theorem frame_proj_ideal : Cert.quiescent_ProjIdeal := fun m ρ _ => Cert.ProjIdeal.Run.frame m ρ

theorem frame_proj_reference : Cert.quiescent_ProjRefIdeal := fun m ρ _ =>
  (θ_run _ _ _).mono (fun r h => ⟨fun c => (h c).2.2, sem_eq_zero_of_no_sems (by decide) r.2⟩) (Cert.ProjRefIdeal.Value.run (F := Ideal) m ρ)

theorem frame_ada_kernel : Cert.quiescent_Ada := fun m ρ _ => Cert.Ada.Gen.frame m ρ

theorem frame_ada_ideal : Cert.quiescent_AdaIdeal := fun m ρ _ => Cert.AdaIdeal.Gen.frame m ρ

theorem frame_ada_reference : Cert.quiescent_AdaRefIdeal := fun m ρ _ =>
  (θ_run _ _ _).mono (fun r h => ⟨fun c => (h c).2, sem_eq_zero_of_no_sems (by decide) r.2⟩) (Cert.AdaRefIdeal.Value.run (F := Ideal) m ρ)

/-- The kernel's body table and its idealisation's are one, at the machine's floats. -/
theorem bodies_mlstm : Cert.Mlstm.defs₀ (F := Bits) = Cert.MlstmIdeal.defs₀ (F := Bits) := by
  unfold Cert.Mlstm.defs₀ Cert.MlstmIdeal.defs₀
  refine congrArg Defs.onTc ?_
  funext l x
  match l, x with
  | 0, (t, s) => rfl

theorem defs_mlstm : Cert.Mlstm.defs (F := Bits) = Cert.MlstmIdeal.defs (F := Bits) :=
  congrArg (Pipeline.defs (Cert.MlstmIdeal.pcfgs (F := Bits))) bodies_mlstm

/-- The run is stated for every reading of the floats, so the machine's program has the frame of its idealisation. -/
theorem frame_mlstm_kernel : Cert.quiescent_Mlstm := fun m ρ _ => by
  rw [defs_mlstm]
  exact Cert.MlstmIdeal.Run.frame (F := Bits) m ρ

theorem frame_mlstm_ideal : Cert.quiescent_MlstmIdeal := fun m ρ _ => Cert.MlstmIdeal.Run.frame m ρ

theorem frame_mlstm_reference : Cert.quiescent_MlstmRefIdeal := fun m ρ _ =>
  (θ_run _ _ _).mono (fun r h => ⟨fun c => (h c).2, sem_eq_zero_of_no_sems (by decide) r.2⟩) (Cert.MlstmRefIdeal.Value.run (F := Ideal) m ρ)

/-- The kernel and the reference leave the same array. -/
theorem value_ffn : Cert.algebraic_FfnIdeal_FfnRefIdeal := fun m ρ m' ρ' _ hag =>
  ⟨fun c => Cert.FfnIdeal.Point.result m c,
    (θ_run _ _ _).mono (fun _ h c => ⟨(h c).1.trans (Cert.FfnIdeal.Point.final m c), (h c).2⟩)
      (Cert.FfnIdeal.Value.run_blocks (F := Ideal) m ρ),
    (θ_run _ _ _).mono (fun _ h c => ⟨(h c).1.trans (by
        rw [Cert.FfnRefIdeal.Read.val_main_v38_eq, Cert.FfnRefIdeal.Point.ref_eq, (hag c).1, (hag c).2.1, (hag c).2.2.1, (hag c).2.2.2.1, (hag c).2.2.2.2.1]), (h c).2⟩)
      (Cert.FfnRefIdeal.Value.run (F := Ideal) m' ρ')⟩

/-- The kernel and the reference leave the same array. -/
theorem value_merge : Cert.algebraic_MergeIdeal_MergeRefIdeal := fun m ρ m' ρ' _ hag =>
  ⟨fun c => Cert.MergeIdeal.Point.result m c,
    (θ_run _ _ _).mono (fun _ h c => ⟨(h c).1.trans (Cert.MergeIdeal.Point.final m c), (h c).2⟩)
      (Cert.MergeIdeal.Value.run_blocks (F := Ideal) m ρ),
    (θ_run _ _ _).mono (fun _ h c => ⟨(h c).1.trans (by
        rw [Cert.MergeRefIdeal.Read.val_main_v81_eq, Cert.MergeRefIdeal.Point.ref_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]), (h c).2⟩)
      (Cert.MergeRefIdeal.Value.run (F := Ideal) m' ρ')⟩

/-- The kernel and the reference leave the same two arrays. -/
theorem value_proj : Cert.algebraic_ProjIdeal_ProjRefIdeal := fun m ρ m' ρ' _ hag =>
  ⟨fun c => Cert.ProjIdeal.Point.wide m c, fun c => Cert.ProjIdeal.Point.narrow m c,
    (θ_run _ _ _).mono (fun _ h c => ⟨(h c).1.trans (Cert.ProjIdeal.Point.final_5 m c),
        (h c).2.1.trans (Cert.ProjIdeal.Point.final_6 m c), (h c).2.2⟩)
      (Cert.ProjIdeal.Run.run_values (F := Ideal) m ρ),
    (θ_run _ _ _).mono (fun _ h c => ⟨(h c).1.trans (by
        rw [Cert.ProjRefIdeal.Read.val_main_v26_eq, Cert.ProjRefIdeal.Point.ref_wide, (hag c).1, (hag c).2.1, (hag c).2.2.1, (hag c).2.2.2.1]),
        (h c).2.1.trans (by
        rw [Cert.ProjRefIdeal.Read.val_main_v27_eq, Cert.ProjRefIdeal.Point.ref_narrow, (hag c).1, (hag c).2.1, (hag c).2.2.1, (hag c).2.2.2.2]),
        (h c).2.2⟩)
      (Cert.ProjRefIdeal.Value.run (F := Ideal) m' ρ')⟩

/-- The kernel and the reference leave the same array. -/
theorem value_ada : Cert.algebraic_AdaIdeal_AdaRefIdeal := fun m ρ m' ρ' _ hag =>
  ⟨fun c => Cert.AdaIdeal.Point.result m c,
    (θ_run _ _ _).mono (fun _ h c => ⟨(h c).1.trans (Cert.AdaIdeal.Point.final m c), (h c).2⟩)
      (Cert.AdaIdeal.Value.run_blocks (F := Ideal) m ρ),
    (θ_run _ _ _).mono (fun _ h c => ⟨(h c).1.trans (by
        rw [Cert.AdaRefIdeal.Read.val_main_v4_eq, Cert.AdaRefIdeal.Point.ref_eq, (hag c).1, (hag c).2.1, (hag c).2.2]), (h c).2⟩)
      (Cert.AdaRefIdeal.Value.run (F := Ideal) m' ρ')⟩

/-- The kernel and the reference leave the same array. -/
theorem value_mlstm : Cert.algebraic_MlstmIdeal_MlstmRefIdeal := fun m ρ m' ρ' _ hag =>
  ⟨fun c => Cert.MlstmIdeal.Whole.result m c,
    (θ_run _ _ _).mono (fun _ h c => ⟨(h c).1.trans (Cert.MlstmIdeal.Whole.final m c), (h c).2⟩)
      (Cert.MlstmIdeal.Whole.run_values m ρ),
    (θ_run _ _ _).mono (fun _ h c => ⟨(h c).1.trans ((Cert.MlstmRefIdeal.Point.ref_eq m' c).trans (by
        unfold Cert.MlstmRefIdeal.Point.proj Cert.MlstmRefIdeal.Point.gate Cert.MlstmRefIdeal.Point.norm
        rw [(hag c).1, (hag c).2.1, (hag c).2.2]; rfl)), (h c).2⟩)
      (Cert.MlstmRefIdeal.Value.run (F := Ideal) m' ρ')⟩

theorem claim : Cert.Claim := ⟨Cert.Ffn.Gen.facts, Cert.FfnIdeal.Gen.facts, Cert.FfnRefIdeal.Gen.facts, Cert.Merge.Gen.facts,
  Cert.MergeIdeal.Gen.facts, Cert.MergeRefIdeal.Gen.facts, Cert.Proj.Gen.facts, Cert.ProjIdeal.Gen.facts, Cert.ProjRefIdeal.Gen.facts,
  Cert.Ada.Gen.facts, Cert.AdaIdeal.Gen.facts, Cert.AdaRefIdeal.Gen.facts, Cert.Mlstm.Gen.facts, Cert.MlstmIdeal.Gen.facts, Cert.MlstmRefIdeal.Gen.facts,
  frame_ffn_kernel, frame_ffn_ideal, frame_ffn_reference, frame_merge_kernel, frame_merge_ideal, frame_merge_reference,
  frame_proj_kernel, frame_proj_ideal, frame_proj_reference, frame_ada_kernel, frame_ada_ideal, frame_ada_reference,
  frame_mlstm_kernel, frame_mlstm_ideal, frame_mlstm_reference, trivial, value_ffn, trivial, value_merge, trivial, value_proj, trivial, value_ada, trivial,
  value_mlstm⟩

end Cert.Proof

end
